-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v68_0)) (v1 : (c : Dev Cert.KernelIdeal.nD) → Buf (Elt Ideal) ((c.tc : Thread Cert.KernelIdeal.nD Cert.KernelIdeal.τ).loc Cert.KernelIdeal.main_v68_1)) (v2 : (c : Dev Cert.KernelIdeal.nD) → Buf (Elt Ideal) ((c.tc : Thread Cert.KernelIdeal.nD Cert.KernelIdeal.τ).loc Cert.KernelIdeal.main_v68_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68_0) = v0 c
          ∧ r.2.mem ((c.tc : Thread Cert.KernelIdeal.nD Cert.KernelIdeal.τ).loc Cert.KernelIdeal.main_v68_1) = v1 c
          ∧ r.2.mem ((c.tc : Thread Cert.KernelIdeal.nD Cert.KernelIdeal.τ).loc Cert.KernelIdeal.main_v68_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_v137) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  IdealRules.named_const.Statement Cert.Kernel9Ideal.κ "log2e" .f32 0x3FB8AA3B#32 (((Real.log 2)⁻¹ : ℝ) : EReal)

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v6_0)) (v1 : (c : Dev Cert.Kernel9Ideal.nD) → Buf (Elt Ideal) ((c.tc : Thread Cert.Kernel9Ideal.nD Cert.Kernel9Ideal.τ).loc Cert.Kernel9Ideal.main_v6_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6_0) = v0 c
          ∧ r.2.mem ((c.tc : Thread Cert.Kernel9Ideal.nD Cert.Kernel9Ideal.τ).loc Cert.Kernel9Ideal.main_v6_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v60) = v0 c
          ∧ r.2.mem ((c.tc : Thread Cert.Reference9Ideal.nD Cert.Reference9Ideal.τ).loc Cert.Reference9Ideal.main_v61) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v13_0)) (v1 : (c : Dev Cert.Kernel10Ideal.nD) → Buf (Elt Ideal) ((c.tc : Thread Cert.Kernel10Ideal.nD Cert.Kernel10Ideal.τ).loc Cert.Kernel10Ideal.main_v13_1)) (v2 : (c : Dev Cert.Kernel10Ideal.nD) → Buf (Elt Ideal) ((c.tc : Thread Cert.Kernel10Ideal.nD Cert.Kernel10Ideal.τ).loc Cert.Kernel10Ideal.main_v13_2)) (v3 : (c : Dev Cert.Kernel10Ideal.nD) → Buf (Elt Ideal) ((c.tc : Thread Cert.Kernel10Ideal.nD Cert.Kernel10Ideal.τ).loc Cert.Kernel10Ideal.main_v13_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v13_0) = v0 c
          ∧ r.2.mem ((c.tc : Thread Cert.Kernel10Ideal.nD Cert.Kernel10Ideal.τ).loc Cert.Kernel10Ideal.main_v13_1) = v1 c
          ∧ r.2.mem ((c.tc : Thread Cert.Kernel10Ideal.nD Cert.Kernel10Ideal.τ).loc Cert.Kernel10Ideal.main_v13_2) = v2 c
          ∧ r.2.mem ((c.tc : Thread Cert.Kernel10Ideal.nD Cert.Kernel10Ideal.τ).loc Cert.Kernel10Ideal.main_v13_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v34) = v0 c
          ∧ r.2.mem ((c.tc : Thread Cert.Reference10Ideal.nD Cert.Reference10Ideal.τ).loc Cert.Reference10Ideal.main_v36) = v1 c
          ∧ r.2.mem ((c.tc : Thread Cert.Reference10Ideal.nD Cert.Reference10Ideal.τ).loc Cert.Reference10Ideal.main_v38) = v2 c
          ∧ r.2.mem ((c.tc : Thread Cert.Reference10Ideal.nD Cert.Reference10Ideal.τ).loc Cert.Reference10Ideal.main_v40) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v13_0)) (v1 : (c : Dev Cert.Kernel11Ideal.nD) → Buf (Elt Ideal) ((c.tc : Thread Cert.Kernel11Ideal.nD Cert.Kernel11Ideal.τ).loc Cert.Kernel11Ideal.main_v13_1)) (v2 : (c : Dev Cert.Kernel11Ideal.nD) → Buf (Elt Ideal) ((c.tc : Thread Cert.Kernel11Ideal.nD Cert.Kernel11Ideal.τ).loc Cert.Kernel11Ideal.main_v13_2)) (v3 : (c : Dev Cert.Kernel11Ideal.nD) → Buf (Elt Ideal) ((c.tc : Thread Cert.Kernel11Ideal.nD Cert.Kernel11Ideal.τ).loc Cert.Kernel11Ideal.main_v13_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v13_0) = v0 c
          ∧ r.2.mem ((c.tc : Thread Cert.Kernel11Ideal.nD Cert.Kernel11Ideal.τ).loc Cert.Kernel11Ideal.main_v13_1) = v1 c
          ∧ r.2.mem ((c.tc : Thread Cert.Kernel11Ideal.nD Cert.Kernel11Ideal.τ).loc Cert.Kernel11Ideal.main_v13_2) = v2 c
          ∧ r.2.mem ((c.tc : Thread Cert.Kernel11Ideal.nD Cert.Kernel11Ideal.τ).loc Cert.Kernel11Ideal.main_v13_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v34) = v0 c
          ∧ r.2.mem ((c.tc : Thread Cert.Reference11Ideal.nD Cert.Reference11Ideal.τ).loc Cert.Reference11Ideal.main_v36) = v1 c
          ∧ r.2.mem ((c.tc : Thread Cert.Reference11Ideal.nD Cert.Reference11Ideal.τ).loc Cert.Reference11Ideal.main_v38) = v2 c
          ∧ r.2.mem ((c.tc : Thread Cert.Reference11Ideal.nD Cert.Reference11Ideal.τ).loc Cert.Reference11Ideal.main_v40) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)) (v2 : (c : Dev Cert.Kernel12Ideal.nD) → Buf (Elt Ideal) ((c.tc : Thread Cert.Kernel12Ideal.nD Cert.Kernel12Ideal.τ).loc Cert.Kernel12Ideal.main_v3_2)) (v3 : (c : Dev Cert.Kernel12Ideal.nD) → Buf (Elt Ideal) ((c.tc : Thread Cert.Kernel12Ideal.nD Cert.Kernel12Ideal.τ).loc Cert.Kernel12Ideal.main_v3_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_v3_2) = v2 c
          ∧ r.2.mem ((c.tc : Thread Cert.Kernel12Ideal.nD Cert.Kernel12Ideal.τ).loc Cert.Kernel12Ideal.main_v3_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_v30) = v1 c
          ∧ r.2.mem ((c.tc : Thread Cert.Reference12Ideal.nD Cert.Reference12Ideal.τ).loc Cert.Reference12Ideal.main_v11) = v2 c
          ∧ r.2.mem ((c.tc : Thread Cert.Reference12Ideal.nD Cert.Reference12Ideal.τ).loc Cert.Reference12Ideal.main_v17) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)) (v3 : (c : Dev Cert.Kernel13Ideal.nD) → Buf (Elt Ideal) ((c.tc : Thread Cert.Kernel13Ideal.nD Cert.Kernel13Ideal.τ).loc Cert.Kernel13Ideal.main_v1_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_v1_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_arg0) = v0 c
          ∧ r.2.mem ((c.tc : Thread Cert.Reference13Ideal.nD Cert.Reference13Ideal.τ).loc Cert.Reference13Ideal.main_v23) = v1 c
          ∧ r.2.mem ((c.tc : Thread Cert.Reference13Ideal.nD Cert.Reference13Ideal.τ).loc Cert.Reference13Ideal.main_v4) = v2 c
          ∧ r.2.mem ((c.tc : Thread Cert.Reference13Ideal.nD Cert.Reference13Ideal.τ).loc Cert.Reference13Ideal.main_v10) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v61) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v51) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v22) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v28) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)) →
    ∃ (v0 : (c : Dev Cert.Kernel21Ideal.nD) → Buf (Elt Ideal) ((c.tc : Thread Cert.Kernel21Ideal.nD Cert.Kernel21Ideal.τ).loc Cert.Kernel21Ideal.main_v1_0)) (v1 : (c : Dev Cert.Kernel21Ideal.nD) → Buf (Elt Ideal) ((c.tc : Thread Cert.Kernel21Ideal.nD Cert.Kernel21Ideal.τ).loc Cert.Kernel21Ideal.main_v1_1)) (v2 : (c : Dev Cert.Kernel21Ideal.nD) → Buf (Elt Ideal) ((c.tc : Thread Cert.Kernel21Ideal.nD Cert.Kernel21Ideal.τ).loc Cert.Kernel21Ideal.main_v1_2)) (v3 : (c : Dev Cert.Kernel21Ideal.nD) → Buf (Elt Ideal) ((c.tc : Thread Cert.Kernel21Ideal.nD Cert.Kernel21Ideal.τ).loc Cert.Kernel21Ideal.main_v1_4)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1_0) = v0 c
          ∧ r.2.mem ((c.tc : Thread Cert.Kernel21Ideal.nD Cert.Kernel21Ideal.τ).loc Cert.Kernel21Ideal.main_v1_1) = v1 c
          ∧ r.2.mem ((c.tc : Thread Cert.Kernel21Ideal.nD Cert.Kernel21Ideal.τ).loc Cert.Kernel21Ideal.main_v1_2) = v2 c
          ∧ r.2.mem ((c.tc : Thread Cert.Kernel21Ideal.nD Cert.Kernel21Ideal.τ).loc Cert.Kernel21Ideal.main_v1_4) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v37) = v0 c
          ∧ r.2.mem ((c.tc : Thread Cert.Reference21Ideal.nD Cert.Reference21Ideal.τ).loc Cert.Reference21Ideal.main_v38) = v1 c
          ∧ r.2.mem ((c.tc : Thread Cert.Reference21Ideal.nD Cert.Reference21Ideal.τ).loc Cert.Reference21Ideal.main_v39) = v2 c
          ∧ r.2.mem ((c.tc : Thread Cert.Reference21Ideal.nD Cert.Reference21Ideal.τ).loc Cert.Reference21Ideal.main_v40) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v16) = v0 c
          ∧ r.2.mem ((c.tc : Thread Cert.Reference22Ideal.nD Cert.Reference22Ideal.τ).loc Cert.Reference22Ideal.main_v19) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v3) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v10) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite : Cert.Pre_finite.Facts) (hPre_finite9 : Cert.Pre_finite9.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Pre_finite.lean ====
abbrev S4352x1024 : Shape := ⟨2, ![4352, 1024]⟩
abbrev S4352x256 : Shape := ⟨2, ![4352, 256]⟩
abbrev S4352x13312 : Shape := ⟨2, ![4352, 13312]⟩
abbrev S_ : Shape := ⟨0, ![]⟩

class Facts : Prop where
  bcast_S_S4352x1024 : S_.BroadcastsInDim S4352x1024 (![] : Fin 0 → Fin S4352x1024.rank)
  reducesTo_S4352x1024_S_d0_1 : S4352x1024.ReducesTo [0, 1] S_
  h_S_ : 0 < S_.numel
  bitsLt_bf16_f32 : FTy.bits .bf16 < FTy.bits .f32
  bcast_S_S4352x256 : S_.BroadcastsInDim S4352x256 (![] : Fin 0 → Fin S4352x256.rank)
  reducesTo_S4352x256_S_d0_1 : S4352x256.ReducesTo [0, 1] S_
  bcast_S_S4352x13312 : S_.BroadcastsInDim S4352x13312 (![] : Fin 0 → Fin S4352x13312.rank)
  reducesTo_S4352x13312_S_d0_1 : S4352x13312.ReducesTo [0, 1] S_

variable [Facts]

def fn_part1 {F : FTy → Type} [FloatOps F] (main_v15 : IVec S_ 1) (main_v17 : FVec F S4352x1024 .f32) : IVec S_ 1 :=
  let main_cst_4 : FVec F S_ .f32 := constant S_ .f32 0x7F800000#32
  let main_v18 : FVec F S4352x1024 .f32 := broadcastInDim S4352x1024 ![] bcast_S_S4352x1024 main_cst_4
  let main_v19 : IVec S4352x1024 1 := cmpf .olt main_v17 main_v18
  let main_c_5 : IVec S_ 1 := constantI S_ 1 1#1
  let main_v20 : IVec S_ 1 := (fun x v => Host.reduce IntOp.andi x v reducesTo_S4352x1024_S_d0_1 h_S_) main_v19 main_c_5
  let main_v21 : IVec S_ 1 := andi main_v15 main_v20
  main_v21

def fn {F : FTy → Type} [FloatOps F] (main_arg0 : FVec F S4352x1024 .f32) (main_arg1 : FVec F S4352x256 .bf16) (main_arg2 : FVec F S4352x13312 .bf16) (main_arg3 : FVec F S4352x1024 .bf16) : IVec S_ 1 :=
  let main_v0 : FVec F S4352x1024 .f32 := Host.absf main_arg0
  let main_cst : FVec F S_ .f32 := constant S_ .f32 0x7F800000#32
  let main_v1 : FVec F S4352x1024 .f32 := broadcastInDim S4352x1024 ![] bcast_S_S4352x1024 main_cst
  let main_v2 : IVec S4352x1024 1 := cmpf .olt main_v0 main_v1
  let main_c : IVec S_ 1 := constantI S_ 1 1#1
  let main_v3 : IVec S_ 1 := (fun x v => Host.reduce IntOp.andi x v reducesTo_S4352x1024_S_d0_1 h_S_) main_v2 main_c
  let main_v4 : FVec F S4352x256 .f32 := (extf .f32 · bitsLt_bf16_f32) main_arg1
  let main_v5 : FVec F S4352x256 .f32 := Host.absf main_v4
  let main_cst_0 : FVec F S_ .f32 := constant S_ .f32 0x7F800000#32
  let main_v6 : FVec F S4352x256 .f32 := broadcastInDim S4352x256 ![] bcast_S_S4352x256 main_cst_0
  let main_v7 : IVec S4352x256 1 := cmpf .olt main_v5 main_v6
  let main_c_1 : IVec S_ 1 := constantI S_ 1 1#1
  let main_v8 : IVec S_ 1 := (fun x v => Host.reduce IntOp.andi x v reducesTo_S4352x256_S_d0_1 h_S_) main_v7 main_c_1
  let main_v9 : IVec S_ 1 := andi main_v3 main_v8
  let main_v10 : FVec F S4352x13312 .f32 := (extf .f32 · bitsLt_bf16_f32) main_arg2
  let main_v11 : FVec F S4352x13312 .f32 := Host.absf main_v10
  let main_cst_2 : FVec F S_ .f32 := constant S_ .f32 0x7F800000#32
  let main_v12 : FVec F S4352x13312 .f32 := broadcastInDim S4352x13312 ![] bcast_S_S4352x13312 main_cst_2
  let main_v13 : IVec S4352x13312 1 := cmpf .olt main_v11 main_v12
  let main_c_3 : IVec S_ 1 := constantI S_ 1 1#1
  let main_v14 : IVec S_ 1 := (fun x v => Host.reduce IntOp.andi x v reducesTo_S4352x13312_S_d0_1 h_S_) main_v13 main_c_3
  let main_v15 : IVec S_ 1 := andi main_v9 main_v14
  let main_v16 : FVec F S4352x1024 .f32 := (extf .f32 · bitsLt_bf16_f32) main_arg3
  let main_v17 : FVec F S4352x1024 .f32 := Host.absf main_v16
  fn_part1 (F := F) main_v15 main_v17
-- ==== Pre_finite9.lean ====
abbrev S4352x1024 : Shape := ⟨2, ![4352, 1024]⟩
abbrev S4352x256 : Shape := ⟨2, ![4352, 256]⟩
abbrev S4352x13312 : Shape := ⟨2, ![4352, 13312]⟩
abbrev S_ : Shape := ⟨0, ![]⟩

class Facts : Prop where
  bcast_S_S4352x1024 : S_.BroadcastsInDim S4352x1024 (![] : Fin 0 → Fin S4352x1024.rank)
  reducesTo_S4352x1024_S_d0_1 : S4352x1024.ReducesTo [0, 1] S_
  h_S_ : 0 < S_.numel
  bitsLt_bf16_f32 : FTy.bits .bf16 < FTy.bits .f32
  bcast_S_S4352x256 : S_.BroadcastsInDim S4352x256 (![] : Fin 0 → Fin S4352x256.rank)
  reducesTo_S4352x256_S_d0_1 : S4352x256.ReducesTo [0, 1] S_
  bcast_S_S4352x13312 : S_.BroadcastsInDim S4352x13312 (![] : Fin 0 → Fin S4352x13312.rank)
  reducesTo_S4352x13312_S_d0_1 : S4352x13312.ReducesTo [0, 1] S_

variable [Facts]

def fn {F : FTy → Type} [FloatOps F] (main_arg0 : FVec F S4352x1024 .f32) (main_arg1 : FVec F S4352x256 .bf16) (main_arg2 : FVec F S4352x13312 .bf16) : IVec S_ 1 :=
  let main_v0 : FVec F S4352x1024 .f32 := Host.absf main_arg0
  let main_cst : FVec F S_ .f32 := constant S_ .f32 0x7F800000#32
  let main_v1 : FVec F S4352x1024 .f32 := broadcastInDim S4352x1024 ![] bcast_S_S4352x1024 main_cst
  let main_v2 : IVec S4352x1024 1 := cmpf .olt main_v0 main_v1
  let main_c : IVec S_ 1 := constantI S_ 1 1#1
  let main_v3 : IVec S_ 1 := (fun x v => Host.reduce IntOp.andi x v reducesTo_S4352x1024_S_d0_1 h_S_) main_v2 main_c
  let main_v4 : FVec F S4352x256 .f32 := (extf .f32 · bitsLt_bf16_f32) main_arg1
  let main_v5 : FVec F S4352x256 .f32 := Host.absf main_v4
  let main_cst_0 : FVec F S_ .f32 := constant S_ .f32 0x7F800000#32
  let main_v6 : FVec F S4352x256 .f32 := broadcastInDim S4352x256 ![] bcast_S_S4352x256 main_cst_0
  let main_v7 : IVec S4352x256 1 := cmpf .olt main_v5 main_v6
  let main_c_1 : IVec S_ 1 := constantI S_ 1 1#1
  let main_v8 : IVec S_ 1 := (fun x v => Host.reduce IntOp.andi x v reducesTo_S4352x256_S_d0_1 h_S_) main_v7 main_c_1
  let main_v9 : IVec S_ 1 := andi main_v3 main_v8
  let main_v10 : FVec F S4352x13312 .f32 := (extf .f32 · bitsLt_bf16_f32) main_arg2
  let main_v11 : FVec F S4352x13312 .f32 := Host.absf main_v10
  let main_cst_2 : FVec F S_ .f32 := constant S_ .f32 0x7F800000#32
  let main_v12 : FVec F S4352x13312 .f32 := broadcastInDim S4352x13312 ![] bcast_S_S4352x13312 main_cst_2
  let main_v13 : IVec S4352x13312 1 := cmpf .olt main_v11 main_v12
  let main_c_3 : IVec S_ 1 := constantI S_ 1 1#1
  let main_v14 : IVec S_ 1 := (fun x v => Host.reduce IntOp.andi x v reducesTo_S4352x13312_S_d0_1 h_S_) main_v13 main_c_3
  let main_v15 : IVec S_ 1 := andi main_v9 main_v14
  main_v15
-- ==== Kernel.lean ====
abbrev S4352x1024 : Shape := ⟨2, ![4352, 1024]⟩
abbrev S4352x256 : Shape := ⟨2, ![4352, 256]⟩
abbrev S4352x13312 : Shape := ⟨2, ![4352, 13312]⟩
abbrev S256x1024 : Shape := ⟨2, ![256, 1024]⟩
abbrev S256x256 : Shape := ⟨2, ![256, 256]⟩
abbrev S256x2x4x128 : Shape := ⟨4, ![256, 2, 4, 128]⟩
abbrev S256x2x128 : Shape := ⟨3, ![256, 2, 128]⟩
abbrev S2x256x256x4 : Shape := ⟨4, ![2, 256, 256, 4]⟩
abbrev S2x4x256x256 : Shape := ⟨4, ![2, 4, 256, 256]⟩
abbrev S_ : Shape := ⟨0, ![]⟩
abbrev S2x4x256 : Shape := ⟨3, ![2, 4, 256]⟩
abbrev S2x4x256x1 : Shape := ⟨4, ![2, 4, 256, 1]⟩
abbrev S2x128x4x256 : Shape := ⟨4, ![2, 128, 4, 256]⟩
abbrev S2x256x4 : Shape := ⟨3, ![2, 256, 4]⟩
abbrev S4096x1024 : Shape := ⟨2, ![4096, 1024]⟩
abbrev S4096x2x4x128 : Shape := ⟨4, ![4096, 2, 4, 128]⟩
abbrev S4352x2x128 : Shape := ⟨3, ![4352, 2, 128]⟩
abbrev S2x4352x4096x4 : Shape := ⟨4, ![2, 4352, 4096, 4]⟩
abbrev S2x4x4096x4352 : Shape := ⟨4, ![2, 4, 4096, 4352]⟩
abbrev S2x4x4096 : Shape := ⟨3, ![2, 4, 4096]⟩
abbrev S2x4x4096x1 : Shape := ⟨4, ![2, 4, 4096, 1]⟩
abbrev S2x128x4x4096 : Shape := ⟨4, ![2, 128, 4, 4096]⟩
abbrev S2x4096x4 : Shape := ⟨3, ![2, 4096, 4]⟩
abbrev S2x4352x4 : Shape := ⟨3, ![2, 4352, 4]⟩
abbrev S256x512 : Shape := ⟨2, ![256, 512]⟩
abbrev S4352x128 : Shape := ⟨2, ![4352, 128]⟩
abbrev S1x256x4 : Shape := ⟨3, ![1, 256, 4]⟩
abbrev S256x128 : Shape := ⟨2, ![256, 128]⟩
abbrev S256 : Shape := ⟨1, ![256]⟩
abbrev S256x1 : Shape := ⟨2, ![256, 1]⟩
abbrev S1x256x1 : Shape := ⟨3, ![1, 256, 1]⟩

abbrev nBuf : Space → Nat
  | .hbm => 85
  | .vmem => 18
  | .smem => 0
  | _ => 0

abbrev bufTy : (tb : Table) → Fin (tcTables nBuf tb) → BufTy
  | .hbm, ⟨0, _⟩ => ⟨S4352x1024, .f32⟩
  | .hbm, ⟨1, _⟩ => ⟨S4352x256, .bf16⟩
  | .hbm, ⟨2, _⟩ => ⟨S4352x13312, .bf16⟩
  | .hbm, ⟨3, _⟩ => ⟨S4352x1024, .bf16⟩
  | .hbm, ⟨4, _⟩ => ⟨S4352x256, .f32⟩
  | .hbm, ⟨5, _⟩ => ⟨S4352x256, .bf16⟩
  | .hbm, ⟨6, _⟩ => ⟨S4352x256, .f32⟩
  | .hbm, ⟨7, _⟩ => ⟨S256x1024, .f32⟩
  | .hbm, ⟨8, _⟩ => ⟨S256x256, .f32⟩
  | .hbm, ⟨9, _⟩ => ⟨S256x256, .f32⟩
  | .hbm, ⟨10, _⟩ => ⟨S256x2x4x128, .f32⟩
  | .hbm, ⟨11, _⟩ => ⟨S256x2x128, .f32⟩
  | .hbm, ⟨12, _⟩ => ⟨S2x256x256x4, .f32⟩
  | .hbm, ⟨13, _⟩ => ⟨S2x4x256x256, .f32⟩
  | .hbm, ⟨14, _⟩ => ⟨S_, .f32⟩
  | .hbm, ⟨15, _⟩ => ⟨S2x4x256x256, .f32⟩
  | .hbm, ⟨16, _⟩ => ⟨S2x4x256x256, .f32⟩
  | .hbm, ⟨17, _⟩ => ⟨S_, .f32⟩
  | .hbm, ⟨18, _⟩ => ⟨S2x4x256, .f32⟩
  | .hbm, ⟨19, _⟩ => ⟨S2x4x256x1, .f32⟩
  | .hbm, ⟨20, _⟩ => ⟨S2x4x256x256, .f32⟩
  | .hbm, ⟨21, _⟩ => ⟨S2x4x256x256, .f32⟩
  | .hbm, ⟨22, _⟩ => ⟨S2x4x256x256, .f32⟩
  | .hbm, ⟨23, _⟩ => ⟨S_, .f32⟩
  | .hbm, ⟨24, _⟩ => ⟨S2x4x256, .f32⟩
  | .hbm, ⟨25, _⟩ => ⟨S2x4x256x1, .f32⟩
  | .hbm, ⟨26, _⟩ => ⟨S2x4x256x256, .f32⟩
  | .hbm, ⟨27, _⟩ => ⟨S2x4x256x256, .f32⟩
  | .hbm, ⟨28, _⟩ => ⟨S256x2x128, .f32⟩
  | .hbm, ⟨29, _⟩ => ⟨S2x128x4x256, .f32⟩
  | .hbm, ⟨30, _⟩ => ⟨S256x2x4x128, .f32⟩
  | .hbm, ⟨31, _⟩ => ⟨S256x1024, .f32⟩
  | .hbm, ⟨32, _⟩ => ⟨S2x4x256x1, .f32⟩
  | .hbm, ⟨33, _⟩ => ⟨S2x4x256x1, .f32⟩
  | .hbm, ⟨34, _⟩ => ⟨S_, .f32⟩
  | .hbm, ⟨35, _⟩ => ⟨S_, .f32⟩
  | .hbm, ⟨36, _⟩ => ⟨S2x4x256x1, .f32⟩
  | .hbm, ⟨37, _⟩ => ⟨S2x4x256x1, .f32⟩
  | .hbm, ⟨38, _⟩ => ⟨S2x4x256, .f32⟩
  | .hbm, ⟨39, _⟩ => ⟨S2x256x4, .f32⟩
  | .hbm, ⟨40, _⟩ => ⟨S4096x1024, .f32⟩
  | .hbm, ⟨41, _⟩ => ⟨S4096x2x4x128, .f32⟩
  | .hbm, ⟨42, _⟩ => ⟨S4352x2x128, .f32⟩
  | .hbm, ⟨43, _⟩ => ⟨S2x4352x4096x4, .f32⟩
  | .hbm, ⟨44, _⟩ => ⟨S2x4x4096x4352, .f32⟩
  | .hbm, ⟨45, _⟩ => ⟨S_, .f32⟩
  | .hbm, ⟨46, _⟩ => ⟨S2x4x4096x4352, .f32⟩
  | .hbm, ⟨47, _⟩ => ⟨S2x4x4096x4352, .f32⟩
  | .hbm, ⟨48, _⟩ => ⟨S_, .f32⟩
  | .hbm, ⟨49, _⟩ => ⟨S2x4x4096, .f32⟩
  | .hbm, ⟨50, _⟩ => ⟨S2x4x4096x1, .f32⟩
  | .hbm, ⟨51, _⟩ => ⟨S2x4x4096x4352, .f32⟩
  | .hbm, ⟨52, _⟩ => ⟨S2x4x4096x4352, .f32⟩
  | .hbm, ⟨53, _⟩ => ⟨S2x4x4096x4352, .f32⟩
  | .hbm, ⟨54, _⟩ => ⟨S_, .f32⟩
  | .hbm, ⟨55, _⟩ => ⟨S2x4x4096, .f32⟩
  | .hbm, ⟨56, _⟩ => ⟨S2x4x4096x1, .f32⟩
  | .hbm, ⟨57, _⟩ => ⟨S2x4x4096x4352, .f32⟩
  | .hbm, ⟨58, _⟩ => ⟨S2x4x4096x4352, .f32⟩
  | .hbm, ⟨59, _⟩ => ⟨S4352x2x128, .f32⟩
  | .hbm, ⟨60, _⟩ => ⟨S2x128x4x4096, .f32⟩
  | .hbm, ⟨61, _⟩ => ⟨S4096x2x4x128, .f32⟩
  | .hbm, ⟨62, _⟩ => ⟨S4096x1024, .f32⟩
  | .hbm, ⟨63, _⟩ => ⟨S2x4x4096x1, .f32⟩
  | .hbm, ⟨64, _⟩ => ⟨S2x4x4096x1, .f32⟩
  | .hbm, ⟨65, _⟩ => ⟨S_, .f32⟩
  | .hbm, ⟨66, _⟩ => ⟨S_, .f32⟩
  | .hbm, ⟨67, _⟩ => ⟨S2x4x4096x1, .f32⟩
  | .hbm, ⟨68, _⟩ => ⟨S2x4x4096x1, .f32⟩
  | .hbm, ⟨69, _⟩ => ⟨S2x4x4096, .f32⟩
  | .hbm, ⟨70, _⟩ => ⟨S2x4096x4, .f32⟩
  | .hbm, ⟨71, _⟩ => ⟨S4352x1024, .f32⟩
  | .hbm, ⟨72, _⟩ => ⟨S4352x1024, .bf16⟩
  | .hbm, ⟨73, _⟩ => ⟨S2x4352x4, .f32⟩
  | .hbm, ⟨74, _⟩ => ⟨S_, .f32⟩
  | .hbm, ⟨75, _⟩ => ⟨S4352x1024, .f32⟩
  | .hbm, ⟨76, _⟩ => ⟨S4352x1024, .f32⟩
  | .hbm, ⟨77, _⟩ => ⟨S_, .f32⟩
  | .hbm, ⟨78, _⟩ => ⟨S_, .f32⟩
  | .hbm, ⟨79, _⟩ => ⟨S4352x1024, .f32⟩
  | .hbm, ⟨80, _⟩ => ⟨S4352x1024, .f32⟩
  | .hbm, ⟨81, _⟩ => ⟨S4352x1024, .bf16⟩
  | .hbm, ⟨82, _⟩ => ⟨S4352x1024, .f32⟩
  | .hbm, ⟨83, _⟩ => ⟨S4352x256, .f32⟩
  | .hbm, ⟨84, _⟩ => ⟨S4352x256, .f32⟩
  | .local _ .vmem, ⟨0, _⟩ => ⟨S256x512, .bf16⟩
  | .local _ .vmem, ⟨1, _⟩ => ⟨S256x512, .bf16⟩
  | .local _ .vmem, ⟨2, _⟩ => ⟨S4352x128, .bf16⟩
  | .local _ .vmem, ⟨3, _⟩ => ⟨S4352x128, .bf16⟩
  | .local _ .vmem, ⟨4, _⟩ => ⟨S4352x128, .bf16⟩
  | .local _ .vmem, ⟨5, _⟩ => ⟨S4352x128, .bf16⟩
  | .local _ .vmem, ⟨6, _⟩ => ⟨S256x512, .bf16⟩
  | .local _ .vmem, ⟨7, _⟩ => ⟨S256x512, .bf16⟩
  | .local _ .vmem, ⟨8, _⟩ => ⟨S1x256x4, .f32⟩
  | .local _ .vmem, ⟨9, _⟩ => ⟨S1x256x4, .f32⟩
  | .local _ .vmem, ⟨10, _⟩ => ⟨S256x512, .bf16⟩
  | .local _ .vmem, ⟨11, _⟩ => ⟨S256x512, .bf16⟩
  | .local _ .vmem, ⟨12, _⟩ => ⟨S256x512, .f32⟩
  | .local _ .vmem, ⟨13, _⟩ => ⟨S256x512, .f32⟩
  | .local _ .vmem, ⟨14, _⟩ => ⟨S4352x128, .f32⟩
  | .local _ .vmem, ⟨15, _⟩ => ⟨S4352x128, .f32⟩
  | .local _ .vmem, ⟨16, _⟩ => ⟨S4352x128, .f32⟩
  | .local _ .vmem, ⟨17, _⟩ => ⟨S4352x128, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_6 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_7 : Ref sig .tc := ⟨.hbm, 74, rfl⟩
abbrev main_v62 : Ref sig .tc := ⟨.hbm, 75, rfl⟩
abbrev main_v63 : Ref sig .tc := ⟨.hbm, 76, rfl⟩
abbrev main_cst_8 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68_0 : Ref sig .tc := ⟨.hbm, 82, rfl⟩
abbrev main_v68_1 : Ref sig .tc := ⟨.hbm, 83, rfl⟩
abbrev main_v68_2 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 1, 17], ![false, false, false]⟩

def k0_cond2 (i : grid0.Coords) : BitVec 1 :=
  let arg2 : BitVec 32 := BitVec.ofNat 32 (i 2).val
  let c1_i32 : BitVec 32 := 1#32
  let v5 : BitVec 1 := Scalar.cmpi .slt arg2 c1_i32
  let v6 : BitVec 32 := Scalar.extui v5
  let c0_i32_2 : BitVec 32 := 0#32
  let v7 : BitVec 1 := Scalar.cmpi .ne v6 c0_i32_2
  v7

def k0_cond3 (i : grid0.Coords) : BitVec 1 :=
  let arg2 : BitVec 32 := BitVec.ofNat 32 (i 2).val
  let c1_i32_3 : BitVec 32 := 1#32
  let v8 : BitVec 1 := Scalar.cmpi .sge arg2 c1_i32_3
  let v9 : BitVec 32 := Scalar.extui v8
  let c0_i32_4 : BitVec 32 := 0#32
  let v10 : BitVec 1 := Scalar.cmpi .ne v9 c0_i32_4
  v10

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c98_i32 : BitVec 32 := 98#32
  let v0 : BitVec 32 := Scalar.addi c98_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S4352x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S4352x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== ReferenceIdeal.lean ====
abbrev S4352x1024 : Shape := ⟨2, ![4352, 1024]⟩
abbrev S4352x256 : Shape := ⟨2, ![4352, 256]⟩
abbrev S4352x13312 : Shape := ⟨2, ![4352, 13312]⟩
abbrev S_ : Shape := ⟨0, ![]⟩
abbrev S256x1024 : Shape := ⟨2, ![256, 1024]⟩
abbrev S256x256 : Shape := ⟨2, ![256, 256]⟩
abbrev S256x2x4x128 : Shape := ⟨4, ![256, 2, 4, 128]⟩
abbrev S256x2x128 : Shape := ⟨3, ![256, 2, 128]⟩
abbrev S2x256x256x4 : Shape := ⟨4, ![2, 256, 256, 4]⟩
abbrev S2x4x256x256 : Shape := ⟨4, ![2, 4, 256, 256]⟩
abbrev S2x4x256 : Shape := ⟨3, ![2, 4, 256]⟩
abbrev S2x4x256x1 : Shape := ⟨4, ![2, 4, 256, 1]⟩
abbrev S2x128x4x256 : Shape := ⟨4, ![2, 128, 4, 256]⟩
abbrev S4096x1024 : Shape := ⟨2, ![4096, 1024]⟩
abbrev S4096x2x4x128 : Shape := ⟨4, ![4096, 2, 4, 128]⟩
abbrev S4352x2x128 : Shape := ⟨3, ![4352, 2, 128]⟩
abbrev S2x4352x4096x4 : Shape := ⟨4, ![2, 4352, 4096, 4]⟩
abbrev S2x4x4096x4352 : Shape := ⟨4, ![2, 4, 4096, 4352]⟩
abbrev S2x4x4096 : Shape := ⟨3, ![2, 4, 4096]⟩
abbrev S2x4x4096x1 : Shape := ⟨4, ![2, 4, 4096, 1]⟩
abbrev S2x128x4x4096 : Shape := ⟨4, ![2, 128, 4, 4096]⟩
abbrev S2x128x4352 : Shape := ⟨3, ![2, 128, 4352]⟩
abbrev S2x4096x4x128 : Shape := ⟨4, ![2, 4096, 4, 128]⟩
abbrev S2x4352x128 : Shape := ⟨3, ![2, 4352, 128]⟩
abbrev S2x128x256 : Shape := ⟨3, ![2, 128, 256]⟩
abbrev S2x256x4x128 : Shape := ⟨4, ![2, 256, 4, 128]⟩
abbrev S2x256x128 : Shape := ⟨3, ![2, 256, 128]⟩

abbrev nBuf : Space → Nat
  | .hbm => 179
  | .vmem => 0
  | .smem => 0
  | _ => 0

abbrev hbmTy0_0 (i : Nat) : BufTy := match i % 128 with
  | 0 => ⟨S4352x1024, .f32⟩
  | 1 => ⟨S4352x256, .bf16⟩
  | 2 => ⟨S4352x13312, .bf16⟩
  | 3 => ⟨S4352x1024, .bf16⟩
  | 4 => ⟨S4352x256, .bf16⟩
  | 5 => ⟨S4352x256, .f32⟩
  | 6 => ⟨S_, .f32⟩
  | 7 => ⟨S4352x1024, .f32⟩
  | 8 => ⟨S4352x1024, .f32⟩
  | 9 => ⟨S4352x256, .f32⟩
  | 10 => ⟨S256x1024, .f32⟩
  | 11 => ⟨S256x256, .f32⟩
  | 12 => ⟨S256x256, .f32⟩
  | 13 => ⟨S256x2x4x128, .f32⟩
  | 14 => ⟨S256x2x128, .f32⟩
  | 15 => ⟨S2x256x256x4, .f32⟩
  | 16 => ⟨S2x4x256x256, .f32⟩
  | 17 => ⟨S_, .f32⟩
  | 18 => ⟨S2x4x256, .f32⟩
  | 19 => ⟨S2x4x256x1, .f32⟩
  | 20 => ⟨S2x4x256x256, .f32⟩
  | 21 => ⟨S2x4x256x256, .i1⟩
  | 22 => ⟨S2x4x256x256, .f32⟩
  | 23 => ⟨S_, .f32⟩
  | 24 => ⟨S2x4x256, .f32⟩
  | 25 => ⟨S_, .f32⟩
  | 26 => ⟨S2x4x256, .f32⟩
  | 27 => ⟨S2x4x256, .f32⟩
  | 28 => ⟨S_, .f32⟩
  | 29 => ⟨S2x4x256, .f32⟩
  | 30 => ⟨S2x4x256, .i1⟩
  | 31 => ⟨S_, .f32⟩
  | 32 => ⟨S2x4x256, .f32⟩
  | 33 => ⟨S2x4x256, .i1⟩
  | 34 => ⟨S_, .f32⟩
  | 35 => ⟨S2x4x256, .f32⟩
  | 36 => ⟨S_, .f32⟩
  | 37 => ⟨S2x4x256, .f32⟩
  | 38 => ⟨S_, .f32⟩
  | 39 => ⟨S2x4x256, .f32⟩
  | 40 => ⟨S2x4x256, .f32⟩
  | 41 => ⟨S2x4x256, .f32⟩
  | 42 => ⟨S2x4x256x1, .f32⟩
  | 43 => ⟨S2x4x256x256, .f32⟩
  | 44 => ⟨S2x4x256x256, .f32⟩
  | 45 => ⟨S2x4x256x256, .f32⟩
  | 46 => ⟨S_, .f32⟩
  | 47 => ⟨S2x4x256, .f32⟩
  | 48 => ⟨S2x4x256x1, .f32⟩
  | 49 => ⟨S2x4x256x256, .f32⟩
  | 50 => ⟨S2x4x256x256, .f32⟩
  | 51 => ⟨S2x4x256x1, .f32⟩
  | 52 => ⟨S_, .f32⟩
  | 53 => ⟨S2x4x256x1, .f32⟩
  | 54 => ⟨S2x4x256x1, .f32⟩
  | 55 => ⟨S256x2x128, .f32⟩
  | 56 => ⟨S2x128x4x256, .f32⟩
  | 57 => ⟨S256x2x4x128, .f32⟩
  | 58 => ⟨S256x1024, .f32⟩
  | 59 => ⟨S4096x1024, .f32⟩
  | 60 => ⟨S4096x2x4x128, .f32⟩
  | 61 => ⟨S4352x2x128, .f32⟩
  | 62 => ⟨S2x4352x4096x4, .f32⟩
  | 63 => ⟨S2x4x4096x4352, .f32⟩
  | 64 => ⟨S_, .f32⟩
  | 65 => ⟨S2x4x4096, .f32⟩
  | 66 => ⟨S2x4x4096x1, .f32⟩
  | 67 => ⟨S2x4x4096x4352, .f32⟩
  | 68 => ⟨S2x4x4096x4352, .i1⟩
  | 69 => ⟨S2x4x4096x4352, .f32⟩
  | 70 => ⟨S_, .f32⟩
  | 71 => ⟨S2x4x4096, .f32⟩
  | 72 => ⟨S_, .f32⟩
  | 73 => ⟨S2x4x4096, .f32⟩
  | 74 => ⟨S2x4x4096, .f32⟩
  | 75 => ⟨S_, .f32⟩
  | 76 => ⟨S2x4x4096, .f32⟩
  | 77 => ⟨S2x4x4096, .i1⟩
  | 78 => ⟨S_, .f32⟩
  | 79 => ⟨S2x4x4096, .f32⟩
  | 80 => ⟨S2x4x4096, .i1⟩
  | 81 => ⟨S_, .f32⟩
  | 82 => ⟨S2x4x4096, .f32⟩
  | 83 => ⟨S_, .f32⟩
  | 84 => ⟨S2x4x4096, .f32⟩
  | 85 => ⟨S_, .f32⟩
  | 86 => ⟨S2x4x4096, .f32⟩
  | 87 => ⟨S2x4x4096, .f32⟩
  | 88 => ⟨S2x4x4096, .f32⟩
  | 89 => ⟨S2x4x4096x1, .f32⟩
  | 90 => ⟨S2x4x4096x4352, .f32⟩
  | 91 => ⟨S2x4x4096x4352, .f32⟩
  | 92 => ⟨S2x4x4096x4352, .f32⟩
  | 93 => ⟨S_, .f32⟩
  | 94 => ⟨S2x4x4096, .f32⟩
  | 95 => ⟨S2x4x4096x1, .f32⟩
  | 96 => ⟨S2x4x4096x4352, .f32⟩
  | 97 => ⟨S2x4x4096x4352, .f32⟩
  | 98 => ⟨S2x4x4096x1, .f32⟩
  | 99 => ⟨S_, .f32⟩
  | 100 => ⟨S2x4x4096x1, .f32⟩
  | 101 => ⟨S2x4x4096x1, .f32⟩
  | 102 => ⟨S4352x2x128, .f32⟩
  | 103 => ⟨S2x128x4x4096, .f32⟩
  | 104 => ⟨S4096x2x4x128, .f32⟩
  | 105 => ⟨S4096x1024, .f32⟩
  | 106 => ⟨S4352x1024, .f32⟩
  | 107 => ⟨S4352x1024, .f32⟩
  | 108 => ⟨S256x1024, .f32⟩
  | 109 => ⟨S4096x1024, .f32⟩
  | 110 => ⟨S4096x2x4x128, .f32⟩
  | 111 => ⟨S2x128x4x4096, .f32⟩
  | 112 => ⟨S2x4x4096x4352, .f32⟩
  | 113 => ⟨S2x128x4352, .f32⟩
  | 114 => ⟨S4352x2x128, .f32⟩
  | 115 => ⟨S4352x256, .f32⟩
  | 116 => ⟨S2x4x4096x4352, .f32⟩
  | 117 => ⟨S2x4x4096x4352, .f32⟩
  | 118 => ⟨S2x4x4096x4352, .f32⟩
  | 119 => ⟨S_, .f32⟩
  | 120 => ⟨S2x4x4096, .f32⟩
  | 121 => ⟨S2x4x4096x1, .f32⟩
  | 122 => ⟨S2x4x4096x1, .f32⟩
  | 123 => ⟨S2x4x4096x4352, .f32⟩
  | 124 => ⟨S2x4x4096x4352, .f32⟩
  | 125 => ⟨S_, .f32⟩
  | 126 => ⟨S2x4x4096, .f32⟩
  | 127 => ⟨S2x4x4096x4352, .f32⟩
  | _ => ⟨S4352x1024, .f32⟩

abbrev hbmTy0_1 (i : Nat) : BufTy := match i % 128 with
  | 0 => ⟨S2x4x4096x4352, .f32⟩
  | 1 => ⟨S2x4x4096x4352, .f32⟩
  | 2 => ⟨S2x4352x4096x4, .f32⟩
  | 3 => ⟨S2x4096x4x128, .f32⟩
  | 4 => ⟨S4096x2x4x128, .f32⟩
  | 5 => ⟨S2x4352x128, .f32⟩
  | 6 => ⟨S4352x2x128, .f32⟩
  | 7 => ⟨S4352x256, .f32⟩
  | 8 => ⟨S4096x1024, .f32⟩
  | 9 => ⟨S_, .f32⟩
  | 10 => ⟨S4352x1024, .f32⟩
  | 11 => ⟨S256x2x4x128, .f32⟩
  | 12 => ⟨S2x128x4x256, .f32⟩
  | 13 => ⟨S2x4x256x256, .f32⟩
  | 14 => ⟨S2x128x256, .f32⟩
  | 15 => ⟨S256x2x128, .f32⟩
  | 16 => ⟨S256x256, .f32⟩
  | 17 => ⟨S2x4x256x256, .f32⟩
  | 18 => ⟨S2x4x256x256, .f32⟩
  | 19 => ⟨S2x4x256x256, .f32⟩
  | 20 => ⟨S_, .f32⟩
  | 21 => ⟨S2x4x256, .f32⟩
  | 22 => ⟨S2x4x256x1, .f32⟩
  | 23 => ⟨S2x4x256x1, .f32⟩
  | 24 => ⟨S2x4x256x256, .f32⟩
  | 25 => ⟨S2x4x256x256, .f32⟩
  | 26 => ⟨S_, .f32⟩
  | 27 => ⟨S2x4x256, .f32⟩
  | 28 => ⟨S2x4x256x256, .f32⟩
  | 29 => ⟨S2x4x256x256, .f32⟩
  | 30 => ⟨S2x4x256x256, .f32⟩
  | 31 => ⟨S2x256x256x4, .f32⟩
  | 32 => ⟨S2x256x4x128, .f32⟩
  | 33 => ⟨S256x2x4x128, .f32⟩
  | 34 => ⟨S2x256x128, .f32⟩
  | 35 => ⟨S256x2x128, .f32⟩
  | 36 => ⟨S256x256, .f32⟩
  | 37 => ⟨S256x1024, .f32⟩
  | 38 => ⟨S_, .f32⟩
  | 39 => ⟨S4352x256, .f32⟩
  | 40 => ⟨S4352x256, .f32⟩
  | 41 => ⟨S_, .f32⟩
  | 42 => ⟨S4352x256, .f32⟩
  | 43 => ⟨S4352x256, .f32⟩
  | 44 => ⟨S_, .f32⟩
  | 45 => ⟨S4352x1024, .f32⟩
  | 46 => ⟨S4352x1024, .f32⟩
  | 47 => ⟨S_, .f32⟩
  | 48 => ⟨S_, .f32⟩
  | 49 => ⟨S4352x256, .f32⟩
  | 50 => ⟨S4352x256, .f32⟩
  | _ => ⟨S4352x1024, .f32⟩

abbrev hbmTy (i : Nat) : BufTy := match i / 128 with
  | 0 => hbmTy0_0 i
  | 1 => hbmTy0_1 i
  | _ => ⟨S4352x1024, .f32⟩

abbrev bufTy : (tb : Table) → Fin (tcTables nBuf tb) → BufTy
  | .hbm, ⟨i, _⟩ => hbmTy i
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_cst_13 : Ref sig .tc := ⟨.hbm, 75, rfl⟩
abbrev main_v57 : Ref sig .tc := ⟨.hbm, 76, rfl⟩
abbrev main_v58 : Ref sig .tc := ⟨.hbm, 77, rfl⟩
abbrev main_cst_14 : Ref sig .tc := ⟨.hbm, 78, rfl⟩
abbrev main_v59 : Ref sig .tc := ⟨.hbm, 79, rfl⟩
abbrev main_v60 : Ref sig .tc := ⟨.hbm, 80, rfl⟩
abbrev main_cst_15 : Ref sig .tc := ⟨.hbm, 81, rfl⟩
abbrev main_v61 : Ref sig .tc := ⟨.hbm, 82, rfl⟩
abbrev main_cst_16 : Ref sig .tc := ⟨.hbm, 83, rfl⟩
abbrev main_v62 : Ref sig .tc := ⟨.hbm, 84, rfl⟩
abbrev main_cst_17 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_18 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_19 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_20 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_21 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_22 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_cst_23 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_cst_24 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_cst_25 : Ref sig .tc := ⟨.hbm, 166, rfl⟩
abbrev main_v136 : Ref sig .tc := ⟨.hbm, 167, rfl⟩
abbrev main_v137 : Ref sig .tc := ⟨.hbm, 168, rfl⟩
abbrev main_cst_26 : Ref sig .tc := ⟨.hbm, 169, rfl⟩
abbrev main_v138 : Ref sig .tc := ⟨.hbm, 170, rfl⟩
abbrev main_v139 : Ref sig .tc := ⟨.hbm, 171, rfl⟩
abbrev main_cst_27 : Ref sig .tc := ⟨.hbm, 172, rfl⟩
abbrev main_v140 : Ref sig .tc := ⟨.hbm, 173, rfl⟩
abbrev main_v141 : Ref sig .tc := ⟨.hbm, 174, rfl⟩
abbrev main_cst_28 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩

abbrev nD : Nat := 1
abbrev τ : Topo := Topo.v7x

variable {F : FTy → Type} [FloatOps F]
-- ==== Kernel2.lean ====
abbrev S4352x13312 : Shape := ⟨2, ![4352, 13312]⟩
abbrev S13312x1024 : Shape := ⟨2, ![13312, 1024]⟩
abbrev S4352x1024 : Shape := ⟨2, ![4352, 1024]⟩
abbrev S1088x3328 : Shape := ⟨2, ![1088, 3328]⟩
abbrev S3328x1024 : Shape := ⟨2, ![3328, 1024]⟩
abbrev S1088x1024 : Shape := ⟨2, ![1088, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x13312, .bf16⟩
  | .hbm, ⟨1, _⟩ => ⟨S13312x1024, .bf16⟩
  | .hbm, ⟨2, _⟩ => ⟨S4352x1024, .f32⟩
  | .local _ .vmem, ⟨0, _⟩ => ⟨S1088x3328, .bf16⟩
  | .local _ .vmem, ⟨1, _⟩ => ⟨S1088x3328, .bf16⟩
  | .local _ .vmem, ⟨2, _⟩ => ⟨S3328x1024, .bf16⟩
  | .local _ .vmem, ⟨3, _⟩ => ⟨S3328x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3328x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4352x13312 : Shape := ⟨2, ![4352, 13312]⟩
abbrev S13312x1024 : Shape := ⟨2, ![13312, 1024]⟩
abbrev S_ : Shape := ⟨0, ![]⟩
abbrev S4352x1024 : Shape := ⟨2, ![4352, 1024]⟩
abbrev S1024x13312 : Shape := ⟨2, ![1024, 13312]⟩

abbrev nBuf : Space → Nat
  | .hbm => 9
  | .vmem => 0
  | .smem => 0
  | _ => 0

abbrev bufTy : (tb : Table) → Fin (tcTables nBuf tb) → BufTy
  | .hbm, ⟨0, _⟩ => ⟨S4352x13312, .bf16⟩
  | .hbm, ⟨1, _⟩ => ⟨S13312x1024, .bf16⟩
  | .hbm, ⟨2, _⟩ => ⟨S_, .f32⟩
  | .hbm, ⟨3, _⟩ => ⟨S4352x1024, .f32⟩
  | .hbm, ⟨4, _⟩ => ⟨S13312x1024, .f32⟩
  | .hbm, ⟨5, _⟩ => ⟨S1024x13312, .f32⟩
  | .hbm, ⟨6, _⟩ => ⟨S4352x13312, .f32⟩
  | .hbm, ⟨7, _⟩ => ⟨S4352x13312, .f32⟩
  | .hbm, ⟨8, _⟩ => ⟨S4352x1024, .f32⟩
  | _, _ => ⟨S4352x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4352x13312 : Shape := ⟨2, ![4352, 13312]⟩
abbrev S4352x1024 : Shape := ⟨2, ![4352, 1024]⟩
abbrev S13312x1024 : Shape := ⟨2, ![13312, 1024]⟩
abbrev S2176x1024 : Shape := ⟨2, ![2176, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x13312, .bf16⟩
  | .hbm, ⟨1, _⟩ => ⟨S4352x1024, .bf16⟩
  | .hbm, ⟨2, _⟩ => ⟨S13312x1024, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4352x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4352x13312 : Shape := ⟨2, ![4352, 13312]⟩
abbrev S4352x1024 : Shape := ⟨2, ![4352, 1024]⟩
abbrev S_ : Shape := ⟨0, ![]⟩
abbrev S13312x1024 : Shape := ⟨2, ![13312, 1024]⟩
abbrev S1024x13312 : Shape := ⟨2, ![1024, 13312]⟩

abbrev nBuf : Space → Nat
  | .hbm => 12
  | .vmem => 0
  | .smem => 0
  | _ => 0

abbrev bufTy : (tb : Table) → Fin (tcTables nBuf tb) → BufTy
  | .hbm, ⟨0, _⟩ => ⟨S4352x13312, .bf16⟩
  | .hbm, ⟨1, _⟩ => ⟨S4352x1024, .bf16⟩
  | .hbm, ⟨2, _⟩ => ⟨S_, .f32⟩
  | .hbm, ⟨3, _⟩ => ⟨S13312x1024, .f32⟩
  | .hbm, ⟨4, _⟩ => ⟨S4352x1024, .f32⟩
  | .hbm, ⟨5, _⟩ => ⟨S1024x13312, .f32⟩
  | .hbm, ⟨6, _⟩ => ⟨S4352x13312, .f32⟩
  | .hbm, ⟨7, _⟩ => ⟨S4352x13312, .f32⟩
  | .hbm, ⟨8, _⟩ => ⟨S13312x1024, .f32⟩
  | .hbm, ⟨9, _⟩ => ⟨S1024x13312, .f32⟩
  | .hbm, ⟨10, _⟩ => ⟨S13312x1024, .f32⟩
  | .hbm, ⟨11, _⟩ => ⟨S13312x1024, .bf16⟩
  | _, _ => ⟨S4352x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .bf16⟩
  | .local _ .vmem, ⟨4, _⟩ => ⟨S1088x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4352x1024 : Shape := ⟨2, ![4352, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S_, .f32⟩
  | .hbm, ⟨3, _⟩ => ⟨S4352x1024, .f32⟩
  | .hbm, ⟨4, _⟩ => ⟨S1024x1024, .f32⟩
  | .hbm, ⟨5, _⟩ => ⟨S4352x1024, .f32⟩
  | .hbm, ⟨6, _⟩ => ⟨S4352x1024, .f32⟩
  | .hbm, ⟨7, _⟩ => ⟨S4352x1024, .f32⟩
  | .hbm, ⟨8, _⟩ => ⟨S4352x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S1024x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1088x1024, .bf16⟩
  | .local _ .vmem, ⟨3, _⟩ => ⟨S1088x1024, .bf16⟩
  | .local _ .vmem, ⟨4, _⟩ => ⟨S1024x1024, .bf16⟩
  | .local _ .vmem, ⟨5, _⟩ => ⟨S1024x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S4352x1024 : Shape := ⟨2, ![4352, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S_, .f32⟩
  | .hbm, ⟨3, _⟩ => ⟨S1024x1024, .f32⟩
  | .hbm, ⟨4, _⟩ => ⟨S4352x1024, .f32⟩
  | .hbm, ⟨5, _⟩ => ⟨S4352x1024, .f32⟩
  | .hbm, ⟨6, _⟩ => ⟨S4352x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4352x1024 : Shape := ⟨2, ![4352, 1024]⟩
abbrev S13312x1024 : Shape := ⟨2, ![13312, 1024]⟩
abbrev S4352x13312 : Shape := ⟨2, ![4352, 13312]⟩
abbrev S2176x1024 : Shape := ⟨2, ![2176, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S13312x1024, .bf16⟩
  | .hbm, ⟨2, _⟩ => ⟨S4352x13312, .bf16⟩
  | .local _ .vmem, ⟨0, _⟩ => ⟨S2176x1024, .bf16⟩
  | .local _ .vmem, ⟨1, _⟩ => ⟨S2176x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2176x1024, .bf16⟩
  | .local _ .vmem, ⟨5, _⟩ => ⟨S2176x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4352x1024 : Shape := ⟨2, ![4352, 1024]⟩
abbrev S13312x1024 : Shape := ⟨2, ![13312, 1024]⟩
abbrev S1024x13312 : Shape := ⟨2, ![1024, 13312]⟩
abbrev S4352x13312 : Shape := ⟨2, ![4352, 13312]⟩

abbrev nBuf : Space → Nat
  | .hbm => 7
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S13312x1024, .bf16⟩
  | .hbm, ⟨2, _⟩ => ⟨S4352x1024, .f32⟩
  | .hbm, ⟨3, _⟩ => ⟨S13312x1024, .f32⟩
  | .hbm, ⟨4, _⟩ => ⟨S1024x13312, .f32⟩
  | .hbm, ⟨5, _⟩ => ⟨S4352x13312, .f32⟩
  | .hbm, ⟨6, _⟩ => ⟨S4352x13312, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .bf16⟩
  | .local _ .vmem, ⟨4, _⟩ => ⟨S1088x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4352x1024 : Shape := ⟨2, ![4352, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .hbm, ⟨3, _⟩ => ⟨S1024x1024, .f32⟩
  | .hbm, ⟨4, _⟩ => ⟨S4352x1024, .f32⟩
  | .hbm, ⟨5, _⟩ => ⟨S4352x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .f32⟩
  | .local _ .vmem, ⟨4, _⟩ => ⟨S1088x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4352x1024 : Shape := ⟨2, ![4352, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .hbm, ⟨3, _⟩ => ⟨S1024x1024, .f32⟩
  | .hbm, ⟨4, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S4352x1024 : Shape := ⟨2, ![4352, 1024]⟩
abbrev S4352x256 : Shape := ⟨2, ![4352, 256]⟩
abbrev S4352x13312 : Shape := ⟨2, ![4352, 13312]⟩
abbrev S_ : Shape := ⟨0, ![]⟩
abbrev S2x4352x4 : Shape := ⟨3, ![2, 4352, 4]⟩
abbrev S256x512 : Shape := ⟨2, ![256, 512]⟩
abbrev S4352x128 : Shape := ⟨2, ![4352, 128]⟩
abbrev S1x256x4 : Shape := ⟨3, ![1, 256, 4]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x256x1 : Shape := ⟨3, ![1, 256, 1]⟩
abbrev S2176x128 : Shape := ⟨2, ![2176, 128]⟩
abbrev S256x2176 : Shape := ⟨2, ![256, 2176]⟩

abbrev nBuf : Space → Nat
  | .hbm => 13
  | .vmem => 10
  | .smem => 0
  | _ => 0

abbrev bufTy : (tb : Table) → Fin (tcTables nBuf tb) → BufTy
  | .hbm, ⟨0, _⟩ => ⟨S4352x1024, .f32⟩
  | .hbm, ⟨1, _⟩ => ⟨S4352x256, .bf16⟩
  | .hbm, ⟨2, _⟩ => ⟨S4352x13312, .bf16⟩
  | .hbm, ⟨3, _⟩ => ⟨S_, .f32⟩
  | .hbm, ⟨4, _⟩ => ⟨S4352x1024, .f32⟩
  | .hbm, ⟨5, _⟩ => ⟨S4352x1024, .f32⟩
  | .hbm, ⟨6, _⟩ => ⟨S_, .f32⟩
  | .hbm, ⟨7, _⟩ => ⟨S_, .f32⟩
  | .hbm, ⟨8, _⟩ => ⟨S4352x1024, .f32⟩
  | .hbm, ⟨9, _⟩ => ⟨S4352x1024, .f32⟩
  | .hbm, ⟨10, _⟩ => ⟨S4352x1024, .bf16⟩
  | .hbm, ⟨11, _⟩ => ⟨S4352x1024, .bf16⟩
  | .hbm, ⟨12, _⟩ => ⟨S2x4352x4, .f32⟩
  | .local _ .vmem, ⟨0, _⟩ => ⟨S256x512, .bf16⟩
  | .local _ .vmem, ⟨1, _⟩ => ⟨S256x512, .bf16⟩
  | .local _ .vmem, ⟨2, _⟩ => ⟨S4352x128, .bf16⟩
  | .local _ .vmem, ⟨3, _⟩ => ⟨S4352x128, .bf16⟩
  | .local _ .vmem, ⟨4, _⟩ => ⟨S4352x128, .bf16⟩
  | .local _ .vmem, ⟨5, _⟩ => ⟨S4352x128, .bf16⟩
  | .local _ .vmem, ⟨6, _⟩ => ⟨S256x512, .bf16⟩
  | .local _ .vmem, ⟨7, _⟩ => ⟨S256x512, .bf16⟩
  | .local _ .vmem, ⟨8, _⟩ => ⟨S1x256x4, .f32⟩
  | .local _ .vmem, ⟨9, _⟩ => ⟨S1x256x4, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 17], ![false, false]⟩

def k0_cond1 (i : grid0.Coords) : BitVec 1 :=
  let arg1 : BitVec 32 := BitVec.ofNat 32 (i 1).val
  let c1_i32 : BitVec 32 := 1#32
  let v0 : BitVec 1 := Scalar.cmpi .slt arg1 c1_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c1_i32_0 : BitVec 32 := 1#32
  let v3 : BitVec 1 := Scalar.cmpi .sge arg1 c1_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![c0_i32_5.toNat, v16.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c98_i32 : BitVec 32 := 98#32
  let v17 : BitVec 32 := Scalar.addi c98_i32 v16
  let c0_i32_5 : BitVec 32 := 0#32
  let c0_i32_6 : BitVec 32 := 0#32
  ![c0_i32_5.toNat, v17.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel9Ideal.lean ====
variable {F : FTy → Type} [FloatOps F] [Named F]
def κ : String → Option EReal := fun
  | "log2e" => some (((Real.log 2)⁻¹ : ℝ) : EReal)
  | _ => none
-- ==== Reference9Ideal.lean ====
abbrev S4352x1024 : Shape := ⟨2, ![4352, 1024]⟩
abbrev S4352x256 : Shape := ⟨2, ![4352, 256]⟩
abbrev S4352x13312 : Shape := ⟨2, ![4352, 13312]⟩
abbrev S256x1024 : Shape := ⟨2, ![256, 1024]⟩
abbrev S256x256 : Shape := ⟨2, ![256, 256]⟩
abbrev S256x2x4x128 : Shape := ⟨4, ![256, 2, 4, 128]⟩
abbrev S256x2x128 : Shape := ⟨3, ![256, 2, 128]⟩
abbrev S2x256x256x4 : Shape := ⟨4, ![2, 256, 256, 4]⟩
abbrev S2x4x256x256 : Shape := ⟨4, ![2, 4, 256, 256]⟩
abbrev S_ : Shape := ⟨0, ![]⟩
abbrev S2x4x256 : Shape := ⟨3, ![2, 4, 256]⟩
abbrev S2x4x256x1 : Shape := ⟨4, ![2, 4, 256, 1]⟩
abbrev S2x128x4x256 : Shape := ⟨4, ![2, 128, 4, 256]⟩
abbrev S2x256x4 : Shape := ⟨3, ![2, 256, 4]⟩
abbrev S4096x1024 : Shape := ⟨2, ![4096, 1024]⟩
abbrev S4096x2x4x128 : Shape := ⟨4, ![4096, 2, 4, 128]⟩
abbrev S4352x2x128 : Shape := ⟨3, ![4352, 2, 128]⟩
abbrev S2x4352x4096x4 : Shape := ⟨4, ![2, 4352, 4096, 4]⟩
abbrev S2x4x4096x4352 : Shape := ⟨4, ![2, 4, 4096, 4352]⟩
abbrev S2x4x4096 : Shape := ⟨3, ![2, 4, 4096]⟩
abbrev S2x4x4096x1 : Shape := ⟨4, ![2, 4, 4096, 1]⟩
abbrev S2x128x4x4096 : Shape := ⟨4, ![2, 128, 4, 4096]⟩
abbrev S2x4096x4 : Shape := ⟨3, ![2, 4096, 4]⟩
abbrev S2x4352x4 : Shape := ⟨3, ![2, 4352, 4]⟩

abbrev nBuf : Space → Nat
  | .hbm => 73
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x256, .bf16⟩
  | .hbm, ⟨2, _⟩ => ⟨S4352x13312, .bf16⟩
  | .hbm, ⟨3, _⟩ => ⟨S4352x256, .f32⟩
  | .hbm, ⟨4, _⟩ => ⟨S4352x256, .bf16⟩
  | .hbm, ⟨5, _⟩ => ⟨S4352x256, .f32⟩
  | .hbm, ⟨6, _⟩ => ⟨S256x1024, .f32⟩
  | .hbm, ⟨7, _⟩ => ⟨S256x256, .f32⟩
  | .hbm, ⟨8, _⟩ => ⟨S256x256, .f32⟩
  | .hbm, ⟨9, _⟩ => ⟨S256x2x4x128, .f32⟩
  | .hbm, ⟨10, _⟩ => ⟨S256x2x128, .f32⟩
  | .hbm, ⟨11, _⟩ => ⟨S2x256x256x4, .f32⟩
  | .hbm, ⟨12, _⟩ => ⟨S2x4x256x256, .f32⟩
  | .hbm, ⟨13, _⟩ => ⟨S_, .f32⟩
  | .hbm, ⟨14, _⟩ => ⟨S2x4x256x256, .f32⟩
  | .hbm, ⟨15, _⟩ => ⟨S2x4x256x256, .f32⟩
  | .hbm, ⟨16, _⟩ => ⟨S_, .f32⟩
  | .hbm, ⟨17, _⟩ => ⟨S2x4x256, .f32⟩
  | .hbm, ⟨18, _⟩ => ⟨S2x4x256x1, .f32⟩
  | .hbm, ⟨19, _⟩ => ⟨S2x4x256x256, .f32⟩
  | .hbm, ⟨20, _⟩ => ⟨S2x4x256x256, .f32⟩
  | .hbm, ⟨21, _⟩ => ⟨S2x4x256x256, .f32⟩
  | .hbm, ⟨22, _⟩ => ⟨S_, .f32⟩
  | .hbm, ⟨23, _⟩ => ⟨S2x4x256, .f32⟩
  | .hbm, ⟨24, _⟩ => ⟨S2x4x256x1, .f32⟩
  | .hbm, ⟨25, _⟩ => ⟨S2x4x256x256, .f32⟩
  | .hbm, ⟨26, _⟩ => ⟨S2x4x256x256, .f32⟩
  | .hbm, ⟨27, _⟩ => ⟨S256x2x128, .f32⟩
  | .hbm, ⟨28, _⟩ => ⟨S2x128x4x256, .f32⟩
  | .hbm, ⟨29, _⟩ => ⟨S256x2x4x128, .f32⟩
  | .hbm, ⟨30, _⟩ => ⟨S256x1024, .f32⟩
  | .hbm, ⟨31, _⟩ => ⟨S2x4x256x1, .f32⟩
  | .hbm, ⟨32, _⟩ => ⟨S2x4x256x1, .f32⟩
  | .hbm, ⟨33, _⟩ => ⟨S_, .f32⟩
  | .hbm, ⟨34, _⟩ => ⟨S_, .f32⟩
  | .hbm, ⟨35, _⟩ => ⟨S2x4x256x1, .f32⟩
  | .hbm, ⟨36, _⟩ => ⟨S2x4x256x1, .f32⟩
  | .hbm, ⟨37, _⟩ => ⟨S2x4x256, .f32⟩
  | .hbm, ⟨38, _⟩ => ⟨S2x256x4, .f32⟩
  | .hbm, ⟨39, _⟩ => ⟨S4096x1024, .f32⟩
  | .hbm, ⟨40, _⟩ => ⟨S4096x2x4x128, .f32⟩
  | .hbm, ⟨41, _⟩ => ⟨S4352x2x128, .f32⟩
  | .hbm, ⟨42, _⟩ => ⟨S2x4352x4096x4, .f32⟩
  | .hbm, ⟨43, _⟩ => ⟨S2x4x4096x4352, .f32⟩
  | .hbm, ⟨44, _⟩ => ⟨S_, .f32⟩
  | .hbm, ⟨45, _⟩ => ⟨S2x4x4096x4352, .f32⟩
  | .hbm, ⟨46, _⟩ => ⟨S2x4x4096x4352, .f32⟩
  | .hbm, ⟨47, _⟩ => ⟨S_, .f32⟩
  | .hbm, ⟨48, _⟩ => ⟨S2x4x4096, .f32⟩
  | .hbm, ⟨49, _⟩ => ⟨S2x4x4096x1, .f32⟩
  | .hbm, ⟨50, _⟩ => ⟨S2x4x4096x4352, .f32⟩
  | .hbm, ⟨51, _⟩ => ⟨S2x4x4096x4352, .f32⟩
  | .hbm, ⟨52, _⟩ => ⟨S2x4x4096x4352, .f32⟩
  | .hbm, ⟨53, _⟩ => ⟨S_, .f32⟩
  | .hbm, ⟨54, _⟩ => ⟨S2x4x4096, .f32⟩
  | .hbm, ⟨55, _⟩ => ⟨S2x4x4096x1, .f32⟩
  | .hbm, ⟨56, _⟩ => ⟨S2x4x4096x4352, .f32⟩
  | .hbm, ⟨57, _⟩ => ⟨S2x4x4096x4352, .f32⟩
  | .hbm, ⟨58, _⟩ => ⟨S4352x2x128, .f32⟩
  | .hbm, ⟨59, _⟩ => ⟨S2x128x4x4096, .f32⟩
  | .hbm, ⟨60, _⟩ => ⟨S4096x2x4x128, .f32⟩
  | .hbm, ⟨61, _⟩ => ⟨S4096x1024, .f32⟩
  | .hbm, ⟨62, _⟩ => ⟨S2x4x4096x1, .f32⟩
  | .hbm, ⟨63, _⟩ => ⟨S2x4x4096x1, .f32⟩
  | .hbm, ⟨64, _⟩ => ⟨S_, .f32⟩
  | .hbm, ⟨65, _⟩ => ⟨S_, .f32⟩
  | .hbm, ⟨66, _⟩ => ⟨S2x4x4096x1, .f32⟩
  | .hbm, ⟨67, _⟩ => ⟨S2x4x4096x1, .f32⟩
  | .hbm, ⟨68, _⟩ => ⟨S2x4x4096, .f32⟩
  | .hbm, ⟨69, _⟩ => ⟨S2x4096x4, .f32⟩
  | .hbm, ⟨70, _⟩ => ⟨S4352x1024, .f32⟩
  | .hbm, ⟨71, _⟩ => ⟨S4352x1024, .bf16⟩
  | .hbm, ⟨72, _⟩ => ⟨S2x4352x4, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_6 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩

abbrev nD : Nat := 1
abbrev τ : Topo := Topo.v7x

variable {F : FTy → Type} [FloatOps F]
-- ==== Kernel10.lean ====
abbrev S4x1604x1024 : Shape := ⟨3, ![4, 1604, 1024]⟩
abbrev S2x1024x1604 : Shape := ⟨3, ![2, 1024, 1604]⟩
abbrev S4x1x1604x1024 : Shape := ⟨4, ![4, 1, 1604, 1024]⟩
abbrev S1604x2x1024 : Shape := ⟨3, ![1604, 2, 1024]⟩
abbrev S1604x1x1024 : Shape := ⟨3, ![1604, 1, 1024]⟩
abbrev S1604x1024 : Shape := ⟨2, ![1604, 1024]⟩
abbrev S1x1604x1024 : Shape := ⟨3, ![1, 1604, 1024]⟩
abbrev S4x1x1604x256 : Shape := ⟨4, ![4, 1, 1604, 256]⟩
abbrev S1x1604x256 : Shape := ⟨3, ![1, 1604, 256]⟩
abbrev S1x1x1604x256 : Shape := ⟨4, ![1, 1, 1604, 256]⟩
abbrev S1604x256 : Shape := ⟨2, ![1604, 256]⟩

abbrev nBuf : Space → Nat
  | .hbm => 21
  | .vmem => 16
  | .smem => 0
  | _ => 0

abbrev bufTy : (tb : Table) → Fin (tcTables nBuf tb) → BufTy
  | .hbm, ⟨0, _⟩ => ⟨S4x1604x1024, .bf16⟩
  | .hbm, ⟨1, _⟩ => ⟨S2x1024x1604, .f32⟩
  | .hbm, ⟨2, _⟩ => ⟨S2x1024x1604, .f32⟩
  | .hbm, ⟨3, _⟩ => ⟨S2x1024x1604, .f32⟩
  | .hbm, ⟨4, _⟩ => ⟨S4x1x1604x1024, .bf16⟩
  | .hbm, ⟨5, _⟩ => ⟨S1604x2x1024, .f32⟩
  | .hbm, ⟨6, _⟩ => ⟨S1604x1x1024, .f32⟩
  | .hbm, ⟨7, _⟩ => ⟨S1604x1024, .f32⟩
  | .hbm, ⟨8, _⟩ => ⟨S1x1604x1024, .f32⟩
  | .hbm, ⟨9, _⟩ => ⟨S1604x2x1024, .f32⟩
  | .hbm, ⟨10, _⟩ => ⟨S1604x1x1024, .f32⟩
  | .hbm, ⟨11, _⟩ => ⟨S1604x1024, .f32⟩
  | .hbm, ⟨12, _⟩ => ⟨S1x1604x1024, .f32⟩
  | .hbm, ⟨13, _⟩ => ⟨S1604x2x1024, .f32⟩
  | .hbm, ⟨14, _⟩ => ⟨S1604x1x1024, .f32⟩
  | .hbm, ⟨15, _⟩ => ⟨S1604x1024, .f32⟩
  | .hbm, ⟨16, _⟩ => ⟨S1x1604x1024, .f32⟩
  | .hbm, ⟨17, _⟩ => ⟨S1x1604x1024, .f32⟩
  | .hbm, ⟨18, _⟩ => ⟨S1x1604x1024, .f32⟩
  | .hbm, ⟨19, _⟩ => ⟨S1x1604x1024, .f32⟩
  | .hbm, ⟨20, _⟩ => ⟨S1x1604x1024, .f32⟩
  | .local _ .vmem, ⟨0, _⟩ => ⟨S4x1x1604x256, .bf16⟩
  | .local _ .vmem, ⟨1, _⟩ => ⟨S4x1x1604x256, .bf16⟩
  | .local _ .vmem, ⟨2, _⟩ => ⟨S1x1604x256, .f32⟩
  | .local _ .vmem, ⟨3, _⟩ => ⟨S1x1604x256, .f32⟩
  | .local _ .vmem, ⟨4, _⟩ => ⟨S1x1604x256, .f32⟩
  | .local _ .vmem, ⟨5, _⟩ => ⟨S1x1604x256, .f32⟩
  | .local _ .vmem, ⟨6, _⟩ => ⟨S1x1604x256, .f32⟩
  | .local _ .vmem, ⟨7, _⟩ => ⟨S1x1604x256, .f32⟩
  | .local _ .vmem, ⟨8, _⟩ => ⟨S1x1604x256, .f32⟩
  | .local _ .vmem, ⟨9, _⟩ => ⟨S1x1604x256, .f32⟩
  | .local _ .vmem, ⟨10, _⟩ => ⟨S1x1604x256, .f32⟩
  | .local _ .vmem, ⟨11, _⟩ => ⟨S1x1604x256, .f32⟩
  | .local _ .vmem, ⟨12, _⟩ => ⟨S1x1604x256, .f32⟩
  | .local _ .vmem, ⟨13, _⟩ => ⟨S1x1604x256, .f32⟩
  | .local _ .vmem, ⟨14, _⟩ => ⟨S1x1604x256, .f32⟩
  | .local _ .vmem, ⟨15, _⟩ => ⟨S1x1604x256, .f32⟩
  | _, _ => ⟨S4x1604x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev main_v13_2 : Ref sig .tc := ⟨.hbm, 19, rfl⟩
abbrev main_v13_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S4x1x1604x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1604x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1604x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1604x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1604x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1604x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1604x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1604x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference10Ideal.lean ====
abbrev S4x1604x1024 : Shape := ⟨3, ![4, 1604, 1024]⟩
abbrev S2x1024x1604 : Shape := ⟨3, ![2, 1024, 1604]⟩
abbrev S_ : Shape := ⟨0, ![]⟩
abbrev S1604x1024 : Shape := ⟨2, ![1604, 1024]⟩
abbrev S1024x1604 : Shape := ⟨2, ![1024, 1604]⟩
abbrev S1x1024x1604 : Shape := ⟨3, ![1, 1024, 1604]⟩
abbrev S1x1604x1024 : Shape := ⟨3, ![1, 1604, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4x1604x1024, .bf16⟩
  | .hbm, ⟨1, _⟩ => ⟨S2x1024x1604, .f32⟩
  | .hbm, ⟨2, _⟩ => ⟨S2x1024x1604, .f32⟩
  | .hbm, ⟨3, _⟩ => ⟨S2x1024x1604, .f32⟩
  | .hbm, ⟨4, _⟩ => ⟨S4x1604x1024, .f32⟩
  | .hbm, ⟨5, _⟩ => ⟨S_, .f32⟩
  | .hbm, ⟨6, _⟩ => ⟨S1604x1024, .f32⟩
  | .hbm, ⟨7, _⟩ => ⟨S1024x1604, .f32⟩
  | .hbm, ⟨8, _⟩ => ⟨S1x1024x1604, .f32⟩
  | .hbm, ⟨9, _⟩ => ⟨S1024x1604, .f32⟩
  | .hbm, ⟨10, _⟩ => ⟨S1x1024x1604, .f32⟩
  | .hbm, ⟨11, _⟩ => ⟨S1024x1604, .f32⟩
  | .hbm, ⟨12, _⟩ => ⟨S1x1024x1604, .f32⟩
  | .hbm, ⟨13, _⟩ => ⟨S1024x1604, .f32⟩
  | .hbm, ⟨14, _⟩ => ⟨S_, .f32⟩
  | .hbm, ⟨15, _⟩ => ⟨S1024x1604, .f32⟩
  | .hbm, ⟨16, _⟩ => ⟨S1024x1604, .f32⟩
  | .hbm, ⟨17, _⟩ => ⟨S_, .f32⟩
  | .hbm, ⟨18, _⟩ => ⟨S1024x1604, .f32⟩
  | .hbm, ⟨19, _⟩ => ⟨S1024x1604, .f32⟩
  | .hbm, ⟨20, _⟩ => ⟨S1024x1604, .f32⟩
  | .hbm, ⟨21, _⟩ => ⟨S_, .f32⟩
  | .hbm, ⟨22, _⟩ => ⟨S1024x1604, .f32⟩
  | .hbm, ⟨23, _⟩ => ⟨S1024x1604, .f32⟩
  | .hbm, ⟨24, _⟩ => ⟨S1024x1604, .f32⟩
  | .hbm, ⟨25, _⟩ => ⟨S_, .f32⟩
  | .hbm, ⟨26, _⟩ => ⟨S1024x1604, .f32⟩
  | .hbm, ⟨27, _⟩ => ⟨S1024x1604, .f32⟩
  | .hbm, ⟨28, _⟩ => ⟨S1024x1604, .f32⟩
  | .hbm, ⟨29, _⟩ => ⟨S_, .f32⟩
  | .hbm, ⟨30, _⟩ => ⟨S1024x1604, .f32⟩
  | .hbm, ⟨31, _⟩ => ⟨S1024x1604, .f32⟩
  | .hbm, ⟨32, _⟩ => ⟨S_, .f32⟩
  | .hbm, ⟨33, _⟩ => ⟨S1024x1604, .f32⟩
  | .hbm, ⟨34, _⟩ => ⟨S1024x1604, .f32⟩
  | .hbm, ⟨35, _⟩ => ⟨S1024x1604, .f32⟩
  | .hbm, ⟨36, _⟩ => ⟨S_, .f32⟩
  | .hbm, ⟨37, _⟩ => ⟨S1024x1604, .f32⟩
  | .hbm, ⟨38, _⟩ => ⟨S1024x1604, .f32⟩
  | .hbm, ⟨39, _⟩ => ⟨S1024x1604, .f32⟩
  | .hbm, ⟨40, _⟩ => ⟨S_, .f32⟩
  | .hbm, ⟨41, _⟩ => ⟨S1024x1604, .f32⟩
  | .hbm, ⟨42, _⟩ => ⟨S1024x1604, .f32⟩
  | .hbm, ⟨43, _⟩ => ⟨S1024x1604, .f32⟩
  | .hbm, ⟨44, _⟩ => ⟨S_, .f32⟩
  | .hbm, ⟨45, _⟩ => ⟨S1024x1604, .f32⟩
  | .hbm, ⟨46, _⟩ => ⟨S1024x1604, .f32⟩
  | .hbm, ⟨47, _⟩ => ⟨S1604x1024, .f32⟩
  | .hbm, ⟨48, _⟩ => ⟨S1x1604x1024, .f32⟩
  | .hbm, ⟨49, _⟩ => ⟨S1604x1024, .f32⟩
  | .hbm, ⟨50, _⟩ => ⟨S1x1604x1024, .f32⟩
  | .hbm, ⟨51, _⟩ => ⟨S1604x1024, .f32⟩
  | .hbm, ⟨52, _⟩ => ⟨S1x1604x1024, .f32⟩
  | .hbm, ⟨53, _⟩ => ⟨S1604x1024, .f32⟩
  | .hbm, ⟨54, _⟩ => ⟨S1x1604x1024, .f32⟩
  | _, _ => ⟨S4x1604x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel11.lean ====
abbrev S8x1604x1024 : Shape := ⟨3, ![8, 1604, 1024]⟩
abbrev S2x1024x1604 : Shape := ⟨3, ![2, 1024, 1604]⟩
abbrev S8x1x1604x1024 : Shape := ⟨4, ![8, 1, 1604, 1024]⟩
abbrev S1604x2x1024 : Shape := ⟨3, ![1604, 2, 1024]⟩
abbrev S1604x1x1024 : Shape := ⟨3, ![1604, 1, 1024]⟩
abbrev S1604x1024 : Shape := ⟨2, ![1604, 1024]⟩
abbrev S1x1604x1024 : Shape := ⟨3, ![1, 1604, 1024]⟩
abbrev S8x1x1604x256 : Shape := ⟨4, ![8, 1, 1604, 256]⟩
abbrev S1x1604x256 : Shape := ⟨3, ![1, 1604, 256]⟩
abbrev S1x1x1604x256 : Shape := ⟨4, ![1, 1, 1604, 256]⟩
abbrev S1604x256 : Shape := ⟨2, ![1604, 256]⟩

abbrev nBuf : Space → Nat
  | .hbm => 21
  | .vmem => 16
  | .smem => 0
  | _ => 0

abbrev bufTy : (tb : Table) → Fin (tcTables nBuf tb) → BufTy
  | .hbm, ⟨0, _⟩ => ⟨S8x1604x1024, .bf16⟩
  | .hbm, ⟨1, _⟩ => ⟨S2x1024x1604, .f32⟩
  | .hbm, ⟨2, _⟩ => ⟨S2x1024x1604, .f32⟩
  | .hbm, ⟨3, _⟩ => ⟨S2x1024x1604, .f32⟩
  | .hbm, ⟨4, _⟩ => ⟨S8x1x1604x1024, .bf16⟩
  | .hbm, ⟨5, _⟩ => ⟨S1604x2x1024, .f32⟩
  | .hbm, ⟨6, _⟩ => ⟨S1604x1x1024, .f32⟩
  | .hbm, ⟨7, _⟩ => ⟨S1604x1024, .f32⟩
  | .hbm, ⟨8, _⟩ => ⟨S1x1604x1024, .f32⟩
  | .hbm, ⟨9, _⟩ => ⟨S1604x2x1024, .f32⟩
  | .hbm, ⟨10, _⟩ => ⟨S1604x1x1024, .f32⟩
  | .hbm, ⟨11, _⟩ => ⟨S1604x1024, .f32⟩
  | .hbm, ⟨12, _⟩ => ⟨S1x1604x1024, .f32⟩
  | .hbm, ⟨13, _⟩ => ⟨S1604x2x1024, .f32⟩
  | .hbm, ⟨14, _⟩ => ⟨S1604x1x1024, .f32⟩
  | .hbm, ⟨15, _⟩ => ⟨S1604x1024, .f32⟩
  | .hbm, ⟨16, _⟩ => ⟨S1x1604x1024, .f32⟩
  | .hbm, ⟨17, _⟩ => ⟨S1x1604x1024, .f32⟩
  | .hbm, ⟨18, _⟩ => ⟨S1x1604x1024, .f32⟩
  | .hbm, ⟨19, _⟩ => ⟨S1x1604x1024, .f32⟩
  | .hbm, ⟨20, _⟩ => ⟨S1x1604x1024, .f32⟩
  | .local _ .vmem, ⟨0, _⟩ => ⟨S8x1x1604x256, .bf16⟩
  | .local _ .vmem, ⟨1, _⟩ => ⟨S8x1x1604x256, .bf16⟩
  | .local _ .vmem, ⟨2, _⟩ => ⟨S1x1604x256, .f32⟩
  | .local _ .vmem, ⟨3, _⟩ => ⟨S1x1604x256, .f32⟩
  | .local _ .vmem, ⟨4, _⟩ => ⟨S1x1604x256, .f32⟩
  | .local _ .vmem, ⟨5, _⟩ => ⟨S1x1604x256, .f32⟩
  | .local _ .vmem, ⟨6, _⟩ => ⟨S1x1604x256, .f32⟩
  | .local _ .vmem, ⟨7, _⟩ => ⟨S1x1604x256, .f32⟩
  | .local _ .vmem, ⟨8, _⟩ => ⟨S1x1604x256, .f32⟩
  | .local _ .vmem, ⟨9, _⟩ => ⟨S1x1604x256, .f32⟩
  | .local _ .vmem, ⟨10, _⟩ => ⟨S1x1604x256, .f32⟩
  | .local _ .vmem, ⟨11, _⟩ => ⟨S1x1604x256, .f32⟩
  | .local _ .vmem, ⟨12, _⟩ => ⟨S1x1604x256, .f32⟩
  | .local _ .vmem, ⟨13, _⟩ => ⟨S1x1604x256, .f32⟩
  | .local _ .vmem, ⟨14, _⟩ => ⟨S1x1604x256, .f32⟩
  | .local _ .vmem, ⟨15, _⟩ => ⟨S1x1604x256, .f32⟩
  | _, _ => ⟨S8x1604x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev main_v13_2 : Ref sig .tc := ⟨.hbm, 19, rfl⟩
abbrev main_v13_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S8x1x1604x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1604x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1604x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1604x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1604x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1604x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1604x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1604x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference11Ideal.lean ====
abbrev S8x1604x1024 : Shape := ⟨3, ![8, 1604, 1024]⟩
abbrev S2x1024x1604 : Shape := ⟨3, ![2, 1024, 1604]⟩
abbrev S_ : Shape := ⟨0, ![]⟩
abbrev S1604x1024 : Shape := ⟨2, ![1604, 1024]⟩
abbrev S1024x1604 : Shape := ⟨2, ![1024, 1604]⟩
abbrev S1x1024x1604 : Shape := ⟨3, ![1, 1024, 1604]⟩
abbrev S1x1604x1024 : Shape := ⟨3, ![1, 1604, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8x1604x1024, .bf16⟩
  | .hbm, ⟨1, _⟩ => ⟨S2x1024x1604, .f32⟩
  | .hbm, ⟨2, _⟩ => ⟨S2x1024x1604, .f32⟩
  | .hbm, ⟨3, _⟩ => ⟨S2x1024x1604, .f32⟩
  | .hbm, ⟨4, _⟩ => ⟨S8x1604x1024, .f32⟩
  | .hbm, ⟨5, _⟩ => ⟨S_, .f32⟩
  | .hbm, ⟨6, _⟩ => ⟨S1604x1024, .f32⟩
  | .hbm, ⟨7, _⟩ => ⟨S1024x1604, .f32⟩
  | .hbm, ⟨8, _⟩ => ⟨S1x1024x1604, .f32⟩
  | .hbm, ⟨9, _⟩ => ⟨S1024x1604, .f32⟩
  | .hbm, ⟨10, _⟩ => ⟨S1x1024x1604, .f32⟩
  | .hbm, ⟨11, _⟩ => ⟨S1024x1604, .f32⟩
  | .hbm, ⟨12, _⟩ => ⟨S1x1024x1604, .f32⟩
  | .hbm, ⟨13, _⟩ => ⟨S1024x1604, .f32⟩
  | .hbm, ⟨14, _⟩ => ⟨S_, .f32⟩
  | .hbm, ⟨15, _⟩ => ⟨S1024x1604, .f32⟩
  | .hbm, ⟨16, _⟩ => ⟨S1024x1604, .f32⟩
  | .hbm, ⟨17, _⟩ => ⟨S_, .f32⟩
  | .hbm, ⟨18, _⟩ => ⟨S1024x1604, .f32⟩
  | .hbm, ⟨19, _⟩ => ⟨S1024x1604, .f32⟩
  | .hbm, ⟨20, _⟩ => ⟨S1024x1604, .f32⟩
  | .hbm, ⟨21, _⟩ => ⟨S_, .f32⟩
  | .hbm, ⟨22, _⟩ => ⟨S1024x1604, .f32⟩
  | .hbm, ⟨23, _⟩ => ⟨S1024x1604, .f32⟩
  | .hbm, ⟨24, _⟩ => ⟨S1024x1604, .f32⟩
  | .hbm, ⟨25, _⟩ => ⟨S_, .f32⟩
  | .hbm, ⟨26, _⟩ => ⟨S1024x1604, .f32⟩
  | .hbm, ⟨27, _⟩ => ⟨S1024x1604, .f32⟩
  | .hbm, ⟨28, _⟩ => ⟨S1024x1604, .f32⟩
  | .hbm, ⟨29, _⟩ => ⟨S_, .f32⟩
  | .hbm, ⟨30, _⟩ => ⟨S1024x1604, .f32⟩
  | .hbm, ⟨31, _⟩ => ⟨S1024x1604, .f32⟩
  | .hbm, ⟨32, _⟩ => ⟨S_, .f32⟩
  | .hbm, ⟨33, _⟩ => ⟨S1024x1604, .f32⟩
  | .hbm, ⟨34, _⟩ => ⟨S1024x1604, .f32⟩
  | .hbm, ⟨35, _⟩ => ⟨S1024x1604, .f32⟩
  | .hbm, ⟨36, _⟩ => ⟨S_, .f32⟩
  | .hbm, ⟨37, _⟩ => ⟨S1024x1604, .f32⟩
  | .hbm, ⟨38, _⟩ => ⟨S1024x1604, .f32⟩
  | .hbm, ⟨39, _⟩ => ⟨S1024x1604, .f32⟩
  | .hbm, ⟨40, _⟩ => ⟨S_, .f32⟩
  | .hbm, ⟨41, _⟩ => ⟨S1024x1604, .f32⟩
  | .hbm, ⟨42, _⟩ => ⟨S1024x1604, .f32⟩
  | .hbm, ⟨43, _⟩ => ⟨S1024x1604, .f32⟩
  | .hbm, ⟨44, _⟩ => ⟨S_, .f32⟩
  | .hbm, ⟨45, _⟩ => ⟨S1024x1604, .f32⟩
  | .hbm, ⟨46, _⟩ => ⟨S1024x1604, .f32⟩
  | .hbm, ⟨47, _⟩ => ⟨S1604x1024, .f32⟩
  | .hbm, ⟨48, _⟩ => ⟨S1x1604x1024, .f32⟩
  | .hbm, ⟨49, _⟩ => ⟨S1604x1024, .f32⟩
  | .hbm, ⟨50, _⟩ => ⟨S1x1604x1024, .f32⟩
  | .hbm, ⟨51, _⟩ => ⟨S1604x1024, .f32⟩
  | .hbm, ⟨52, _⟩ => ⟨S1x1604x1024, .f32⟩
  | .hbm, ⟨53, _⟩ => ⟨S1604x1024, .f32⟩
  | .hbm, ⟨54, _⟩ => ⟨S1x1604x1024, .f32⟩
  | _, _ => ⟨S8x1604x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel12.lean ====
abbrev S8x128x1024 : Shape := ⟨3, ![8, 128, 1024]⟩
abbrev S2x128x1024 : Shape := ⟨3, ![2, 128, 1024]⟩
abbrev S8x1x128x1024 : Shape := ⟨4, ![8, 1, 128, 1024]⟩
abbrev S8x2x128x1024 : Shape := ⟨4, ![8, 2, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x1x128x1024, .bf16⟩
  | .hbm, ⟨6, _⟩ => ⟨S8x1x128x1024, .bf16⟩
  | .hbm, ⟨7, _⟩ => ⟨S8x2x128x1024, .bf16⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .local _ .vmem, ⟨0, _⟩ => ⟨S8x1x128x1024, .bf16⟩
  | .local _ .vmem, ⟨1, _⟩ => ⟨S8x1x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S8x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference12Ideal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel13.lean ====
abbrev S2x1024x384 : Shape := ⟨3, ![2, 1024, 384]⟩
abbrev S1x2x1024x384 : Shape := ⟨4, ![1, 2, 1024, 384]⟩
abbrev S1x1x1024x384 : Shape := ⟨4, ![1, 1, 1024, 384]⟩
abbrev S1x1024x384 : Shape := ⟨3, ![1, 1024, 384]⟩
abbrev S1024x384 : Shape := ⟨2, ![1024, 384]⟩

abbrev nBuf : Space → Nat
  | .hbm => 9
  | .vmem => 16
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S1x2x1024x384, .f32⟩
  | .hbm, ⟨5, _⟩ => ⟨S2x1024x384, .f32⟩
  | .hbm, ⟨6, _⟩ => ⟨S2x1024x384, .f32⟩
  | .hbm, ⟨7, _⟩ => ⟨S2x1024x384, .f32⟩
  | .hbm, ⟨8, _⟩ => ⟨S2x1024x384, .f32⟩
  | .local _ .vmem, ⟨0, _⟩ => ⟨S1x1x1024x384, .f32⟩
  | .local _ .vmem, ⟨1, _⟩ => ⟨S1x1x1024x384, .f32⟩
  | .local _ .vmem, ⟨2, _⟩ => ⟨S1x1024x384, .f32⟩
  | .local _ .vmem, ⟨3, _⟩ => ⟨S1x1024x384, .f32⟩
  | .local _ .vmem, ⟨4, _⟩ => ⟨S1x1024x384, .f32⟩
  | .local _ .vmem, ⟨5, _⟩ => ⟨S1x1024x384, .f32⟩
  | .local _ .vmem, ⟨6, _⟩ => ⟨S1x1024x384, .f32⟩
  | .local _ .vmem, ⟨7, _⟩ => ⟨S1x1024x384, .f32⟩
  | .local _ .vmem, ⟨8, _⟩ => ⟨S1x1024x384, .f32⟩
  | .local _ .vmem, ⟨9, _⟩ => ⟨S1x1024x384, .f32⟩
  | .local _ .vmem, ⟨10, _⟩ => ⟨S1x1024x384, .f32⟩
  | .local _ .vmem, ⟨11, _⟩ => ⟨S1x1024x384, .f32⟩
  | .local _ .vmem, ⟨12, _⟩ => ⟨S1x1024x384, .f32⟩
  | .local _ .vmem, ⟨13, _⟩ => ⟨S1x1024x384, .f32⟩
  | .local _ .vmem, ⟨14, _⟩ => ⟨S1x1024x384, .f32⟩
  | .local _ .vmem, ⟨15, _⟩ => ⟨S1x1024x384, .f32⟩
  | _, _ => ⟨S2x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1x1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1024x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference13Ideal.lean ====
abbrev S2x1024x384 : Shape := ⟨3, ![2, 1024, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S_, .f32⟩
  | .hbm, ⟨5, _⟩ => ⟨S2x1024x384, .f32⟩
  | .hbm, ⟨6, _⟩ => ⟨S2x1024x384, .f32⟩
  | .hbm, ⟨7, _⟩ => ⟨S_, .f32⟩
  | .hbm, ⟨8, _⟩ => ⟨S2x1024x384, .f32⟩
  | .hbm, ⟨9, _⟩ => ⟨S2x1024x384, .f32⟩
  | .hbm, ⟨10, _⟩ => ⟨S2x1024x384, .f32⟩
  | .hbm, ⟨11, _⟩ => ⟨S_, .f32⟩
  | .hbm, ⟨12, _⟩ => ⟨S2x1024x384, .f32⟩
  | .hbm, ⟨13, _⟩ => ⟨S2x1024x384, .f32⟩
  | .hbm, ⟨14, _⟩ => ⟨S2x1024x384, .f32⟩
  | .hbm, ⟨15, _⟩ => ⟨S_, .f32⟩
  | .hbm, ⟨16, _⟩ => ⟨S2x1024x384, .f32⟩
  | .hbm, ⟨17, _⟩ => ⟨S2x1024x384, .f32⟩
  | .hbm, ⟨18, _⟩ => ⟨S2x1024x384, .f32⟩
  | .hbm, ⟨19, _⟩ => ⟨S_, .f32⟩
  | .hbm, ⟨20, _⟩ => ⟨S2x1024x384, .f32⟩
  | .hbm, ⟨21, _⟩ => ⟨S2x1024x384, .f32⟩
  | .hbm, ⟨22, _⟩ => ⟨S_, .f32⟩
  | .hbm, ⟨23, _⟩ => ⟨S2x1024x384, .f32⟩
  | .hbm, ⟨24, _⟩ => ⟨S2x1024x384, .f32⟩
  | .hbm, ⟨25, _⟩ => ⟨S2x1024x384, .f32⟩
  | .hbm, ⟨26, _⟩ => ⟨S_, .f32⟩
  | .hbm, ⟨27, _⟩ => ⟨S2x1024x384, .f32⟩
  | .hbm, ⟨28, _⟩ => ⟨S2x1024x384, .f32⟩
  | .hbm, ⟨29, _⟩ => ⟨S2x1024x384, .f32⟩
  | .hbm, ⟨30, _⟩ => ⟨S_, .f32⟩
  | .hbm, ⟨31, _⟩ => ⟨S2x1024x384, .f32⟩
  | .hbm, ⟨32, _⟩ => ⟨S2x1024x384, .f32⟩
  | .hbm, ⟨33, _⟩ => ⟨S2x1024x384, .f32⟩
  | .hbm, ⟨34, _⟩ => ⟨S_, .f32⟩
  | .hbm, ⟨35, _⟩ => ⟨S2x1024x384, .f32⟩
  | .hbm, ⟨36, _⟩ => ⟨S2x1024x384, .f32⟩
  | _, _ => ⟨S2x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S16x1024 : Shape := ⟨2, ![16, 1024]⟩
abbrev S16x384 : Shape := ⟨2, ![16, 384]⟩
abbrev S1024x384 : Shape := ⟨2, ![1024, 384]⟩

abbrev nBuf : Space → Nat
  | .hbm => 3
  | .vmem => 3
  | .smem => 0
  | _ => 0

abbrev bufTy : (tb : Table) → Fin (tcTables nBuf tb) → BufTy
  | .hbm, ⟨0, _⟩ => ⟨S16x1024, .f32⟩
  | .hbm, ⟨1, _⟩ => ⟨S16x384, .f32⟩
  | .hbm, ⟨2, _⟩ => ⟨S1024x384, .f32⟩
  | .local _ .vmem, ⟨0, _⟩ => ⟨S16x1024, .f32⟩
  | .local _ .vmem, ⟨1, _⟩ => ⟨S16x384, .f32⟩
  | .local _ .vmem, ⟨2, _⟩ => ⟨S1024x384, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S16x1024 : Shape := ⟨2, ![16, 1024]⟩
abbrev S16x384 : Shape := ⟨2, ![16, 384]⟩
abbrev S_ : Shape := ⟨0, ![]⟩
abbrev S1024x384 : Shape := ⟨2, ![1024, 384]⟩
abbrev S384x1024 : Shape := ⟨2, ![384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x384, .f32⟩
  | .hbm, ⟨2, _⟩ => ⟨S_, .f32⟩
  | .hbm, ⟨3, _⟩ => ⟨S1024x384, .f32⟩
  | .hbm, ⟨4, _⟩ => ⟨S16x384, .f32⟩
  | .hbm, ⟨5, _⟩ => ⟨S384x1024, .f32⟩
  | .hbm, ⟨6, _⟩ => ⟨S1024x384, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S8x1024 : Shape := ⟨2, ![8, 1024]⟩
abbrev S1024x3072 : Shape := ⟨2, ![1024, 3072]⟩
abbrev S3072 : Shape := ⟨1, ![3072]⟩
abbrev S1x3072 : Shape := ⟨2, ![1, 3072]⟩
abbrev S8x3072 : Shape := ⟨2, ![8, 3072]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x3072, .bf16⟩
  | .hbm, ⟨2, _⟩ => ⟨S3072, .f32⟩
  | .hbm, ⟨3, _⟩ => ⟨S1x3072, .f32⟩
  | .hbm, ⟨4, _⟩ => ⟨S8x3072, .f32⟩
  | .local _ .vmem, ⟨0, _⟩ => ⟨S8x1024, .f32⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S8x1024 : Shape := ⟨2, ![8, 1024]⟩
abbrev S1024x3072 : Shape := ⟨2, ![1024, 3072]⟩
abbrev S3072 : Shape := ⟨1, ![3072]⟩
abbrev S8x3072 : Shape := ⟨2, ![8, 3072]⟩
abbrev S1x3072 : Shape := ⟨2, ![1, 3072]⟩

abbrev nBuf : Space → Nat
  | .hbm => 8
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x3072, .bf16⟩
  | .hbm, ⟨2, _⟩ => ⟨S3072, .f32⟩
  | .hbm, ⟨3, _⟩ => ⟨S1024x3072, .f32⟩
  | .hbm, ⟨4, _⟩ => ⟨S8x3072, .f32⟩
  | .hbm, ⟨5, _⟩ => ⟨S1x3072, .f32⟩
  | .hbm, ⟨6, _⟩ => ⟨S8x3072, .f32⟩
  | .hbm, ⟨7, _⟩ => ⟨S8x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S8x3072 : Shape := ⟨2, ![8, 3072]⟩
abbrev S1024x3072 : Shape := ⟨2, ![1024, 3072]⟩
abbrev S8x1024 : Shape := ⟨2, ![8, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x3072, .f32⟩
  | .hbm, ⟨1, _⟩ => ⟨S1024x3072, .bf16⟩
  | .hbm, ⟨2, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S1024x1024, .bf16⟩
  | .local _ .vmem, ⟨3, _⟩ => ⟨S1024x1024, .bf16⟩
  | .local _ .vmem, ⟨4, _⟩ => ⟨S8x1024, .f32⟩
  | .local _ .vmem, ⟨5, _⟩ => ⟨S8x1024, .f32⟩
  | _, _ => ⟨S8x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S8x3072 : Shape := ⟨2, ![8, 3072]⟩
abbrev S1024x3072 : Shape := ⟨2, ![1024, 3072]⟩
abbrev S_ : Shape := ⟨0, ![]⟩
abbrev S8x1024 : Shape := ⟨2, ![8, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8x3072, .f32⟩
  | .hbm, ⟨1, _⟩ => ⟨S1024x3072, .bf16⟩
  | .hbm, ⟨2, _⟩ => ⟨S_, .f32⟩
  | .hbm, ⟨3, _⟩ => ⟨S8x1024, .f32⟩
  | .hbm, ⟨4, _⟩ => ⟨S1024x3072, .f32⟩
  | .hbm, ⟨5, _⟩ => ⟨S8x3072, .f32⟩
  | .hbm, ⟨6, _⟩ => ⟨S8x1024, .f32⟩
  | _, _ => ⟨S8x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S4352x1024 : Shape := ⟨2, ![4352, 1024]⟩
abbrev S1024 : Shape := ⟨1, ![1024]⟩
abbrev S2x3x1024 : Shape := ⟨3, ![2, 3, 1024]⟩
abbrev S1x1024 : Shape := ⟨2, ![1, 1024]⟩
abbrev S256x1024 : Shape := ⟨2, ![256, 1024]⟩
abbrev S1x3x1024 : Shape := ⟨3, ![1, 3, 1024]⟩
abbrev S256 : Shape := ⟨1, ![256]⟩
abbrev S256x1 : Shape := ⟨2, ![256, 1]⟩
abbrev S1x1x1024 : Shape := ⟨3, ![1, 1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S2x3x1024, .f32⟩
  | .hbm, ⟨3, _⟩ => ⟨S1x1024, .f32⟩
  | .hbm, ⟨4, _⟩ => ⟨S4352x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x3x1024, .f32⟩
  | .local _ .vmem, ⟨4, _⟩ => ⟨S1x3x1024, .f32⟩
  | .local _ .vmem, ⟨5, _⟩ => ⟨S256x1024, .bf16⟩
  | .local _ .vmem, ⟨6, _⟩ => ⟨S256x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference17Ideal.lean ====
abbrev S4352x1024 : Shape := ⟨2, ![4352, 1024]⟩
abbrev S1024 : Shape := ⟨1, ![1024]⟩
abbrev S2x3x1024 : Shape := ⟨3, ![2, 3, 1024]⟩
abbrev S256x1024 : Shape := ⟨2, ![256, 1024]⟩
abbrev S1x3x1024 : Shape := ⟨3, ![1, 3, 1024]⟩
abbrev S3x1024 : Shape := ⟨2, ![3, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S4096x1024 : Shape := ⟨2, ![4096, 1024]⟩
abbrev S4096 : Shape := ⟨1, ![4096]⟩
abbrev S4096x1 : Shape := ⟨2, ![4096, 1]⟩

abbrev nBuf : Space → Nat
  | .hbm => 73
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S2x3x1024, .f32⟩
  | .hbm, ⟨3, _⟩ => ⟨S256x1024, .f32⟩
  | .hbm, ⟨4, _⟩ => ⟨S1x3x1024, .f32⟩
  | .hbm, ⟨5, _⟩ => ⟨S3x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S256x1024, .f32⟩
  | .hbm, ⟨13, _⟩ => ⟨S_, .f32⟩
  | .hbm, ⟨14, _⟩ => ⟨S256, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S_, .f32⟩
  | .hbm, ⟨20, _⟩ => ⟨S256x1, .f32⟩
  | .hbm, ⟨21, _⟩ => ⟨S256x1, .f32⟩
  | .hbm, ⟨22, _⟩ => ⟨S256x1, .f32⟩
  | .hbm, ⟨23, _⟩ => ⟨S256x1024, .f32⟩
  | .hbm, ⟨24, _⟩ => ⟨S256x1024, .f32⟩
  | .hbm, ⟨25, _⟩ => ⟨S1x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1024, .f32⟩
  | .hbm, ⟨32, _⟩ => ⟨S256x1024, .f32⟩
  | .hbm, ⟨33, _⟩ => ⟨S256x1024, .f32⟩
  | .hbm, ⟨34, _⟩ => ⟨S1x1024, .f32⟩
  | .hbm, ⟨35, _⟩ => ⟨S256x1024, .f32⟩
  | .hbm, ⟨36, _⟩ => ⟨S256x1024, .f32⟩
  | .hbm, ⟨37, _⟩ => ⟨S4096x1024, .f32⟩
  | .hbm, ⟨38, _⟩ => ⟨S1x3x1024, .f32⟩
  | .hbm, ⟨39, _⟩ => ⟨S3x1024, .f32⟩
  | .hbm, ⟨40, _⟩ => ⟨S1x1024, .f32⟩
  | .hbm, ⟨41, _⟩ => ⟨S1024, .f32⟩
  | .hbm, ⟨42, _⟩ => ⟨S1x1024, .f32⟩
  | .hbm, ⟨43, _⟩ => ⟨S1024, .f32⟩
  | .hbm, ⟨44, _⟩ => ⟨S1x1024, .f32⟩
  | .hbm, ⟨45, _⟩ => ⟨S1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S1x1024, .f32⟩
  | .hbm, ⟨69, _⟩ => ⟨S4096x1024, .f32⟩
  | .hbm, ⟨70, _⟩ => ⟨S4096x1024, .f32⟩
  | .hbm, ⟨71, _⟩ => ⟨S4352x1024, .f32⟩
  | .hbm, ⟨72, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_6 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩

abbrev nD : Nat := 1
abbrev τ : Topo := Topo.v7x

variable {F : FTy → Type} [FloatOps F]
-- ==== Kernel18.lean ====
abbrev S4352x1024 : Shape := ⟨2, ![4352, 1024]⟩
abbrev S1024 : Shape := ⟨1, ![1024]⟩
abbrev S2x3x1024 : Shape := ⟨3, ![2, 3, 1024]⟩
abbrev S1x1024 : Shape := ⟨2, ![1, 1024]⟩
abbrev S256x1024 : Shape := ⟨2, ![256, 1024]⟩
abbrev S1x3x1024 : Shape := ⟨3, ![1, 3, 1024]⟩
abbrev S256 : Shape := ⟨1, ![256]⟩
abbrev S256x1 : Shape := ⟨2, ![256, 1]⟩
abbrev S1x1x1024 : Shape := ⟨3, ![1, 1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S1024, .f32⟩
  | .hbm, ⟨3, _⟩ => ⟨S2x3x1024, .f32⟩
  | .hbm, ⟨4, _⟩ => ⟨S1x1024, .f32⟩
  | .hbm, ⟨5, _⟩ => ⟨S4352x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x3x1024, .f32⟩
  | .local _ .vmem, ⟨6, _⟩ => ⟨S1x3x1024, .f32⟩
  | .local _ .vmem, ⟨7, _⟩ => ⟨S256x1024, .f32⟩
  | .local _ .vmem, ⟨8, _⟩ => ⟨S256x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference18Ideal.lean ====
abbrev S4352x1024 : Shape := ⟨2, ![4352, 1024]⟩
abbrev S1024 : Shape := ⟨1, ![1024]⟩
abbrev S2x3x1024 : Shape := ⟨3, ![2, 3, 1024]⟩
abbrev S256x1024 : Shape := ⟨2, ![256, 1024]⟩
abbrev S1x3x1024 : Shape := ⟨3, ![1, 3, 1024]⟩
abbrev S3x1024 : Shape := ⟨2, ![3, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S4096x1024 : Shape := ⟨2, ![4096, 1024]⟩
abbrev S4096 : Shape := ⟨1, ![4096]⟩
abbrev S4096x1 : Shape := ⟨2, ![4096, 1]⟩

abbrev nBuf : Space → Nat
  | .hbm => 62
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S1024, .f32⟩
  | .hbm, ⟨3, _⟩ => ⟨S2x3x1024, .f32⟩
  | .hbm, ⟨4, _⟩ => ⟨S256x1024, .f32⟩
  | .hbm, ⟨5, _⟩ => ⟨S1x3x1024, .f32⟩
  | .hbm, ⟨6, _⟩ => ⟨S3x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S256x1024, .f32⟩
  | .hbm, ⟨14, _⟩ => ⟨S_, .f32⟩
  | .hbm, ⟨15, _⟩ => ⟨S256, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S_, .f32⟩
  | .hbm, ⟨21, _⟩ => ⟨S256x1, .f32⟩
  | .hbm, ⟨22, _⟩ => ⟨S256x1, .f32⟩
  | .hbm, ⟨23, _⟩ => ⟨S256x1, .f32⟩
  | .hbm, ⟨24, _⟩ => ⟨S256x1024, .f32⟩
  | .hbm, ⟨25, _⟩ => ⟨S256x1024, .f32⟩
  | .hbm, ⟨26, _⟩ => ⟨S1x1024, .f32⟩
  | .hbm, ⟨27, _⟩ => ⟨S256x1024, .f32⟩
  | .hbm, ⟨28, _⟩ => ⟨S256x1024, .f32⟩
  | .hbm, ⟨29, _⟩ => ⟨S1x1024, .f32⟩
  | .hbm, ⟨30, _⟩ => ⟨S256x1024, .f32⟩
  | .hbm, ⟨31, _⟩ => ⟨S256x1024, .f32⟩
  | .hbm, ⟨32, _⟩ => ⟨S4096x1024, .f32⟩
  | .hbm, ⟨33, _⟩ => ⟨S1x3x1024, .f32⟩
  | .hbm, ⟨34, _⟩ => ⟨S3x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S1024, .f32⟩
  | .hbm, ⟨39, _⟩ => ⟨S1x1024, .f32⟩
  | .hbm, ⟨40, _⟩ => ⟨S1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4352x1024, .f32⟩
  | .hbm, ⟨61, _⟩ => ⟨S4352x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩

abbrev nD : Nat := 1
abbrev τ : Topo := Topo.v7x

variable {F : FTy → Type} [FloatOps F]
-- ==== Kernel19.lean ====
abbrev S4352x1024 : Shape := ⟨2, ![4352, 1024]⟩
abbrev S4352x13312 : Shape := ⟨2, ![4352, 13312]⟩
abbrev S3072 : Shape := ⟨1, ![3072]⟩
abbrev S1x3072 : Shape := ⟨2, ![1, 3072]⟩
abbrev S544x1024 : Shape := ⟨2, ![544, 1024]⟩
abbrev S1x1024 : Shape := ⟨2, ![1, 1024]⟩

abbrev nBuf : Space → Nat
  | .hbm => 7
  | .vmem => 15
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x1024, .bf16⟩
  | .hbm, ⟨3, _⟩ => ⟨S4352x13312, .bf16⟩
  | .hbm, ⟨4, _⟩ => ⟨S3072, .f32⟩
  | .hbm, ⟨5, _⟩ => ⟨S1x3072, .f32⟩
  | .hbm, ⟨6, _⟩ => ⟨S4352x1024, .bf16⟩
  | .local _ .vmem, ⟨0, _⟩ => ⟨S544x1024, .bf16⟩
  | .local _ .vmem, ⟨1, _⟩ => ⟨S544x1024, .bf16⟩
  | .local _ .vmem, ⟨2, _⟩ => ⟨S544x1024, .bf16⟩
  | .local _ .vmem, ⟨3, _⟩ => ⟨S544x1024, .bf16⟩
  | .local _ .vmem, ⟨4, _⟩ => ⟨S544x1024, .bf16⟩
  | .local _ .vmem, ⟨5, _⟩ => ⟨S544x1024, .bf16⟩
  | .local _ .vmem, ⟨6, _⟩ => ⟨S544x1024, .bf16⟩
  | .local _ .vmem, ⟨7, _⟩ => ⟨S544x1024, .bf16⟩
  | .local _ .vmem, ⟨8, _⟩ => ⟨S544x1024, .bf16⟩
  | .local _ .vmem, ⟨9, _⟩ => ⟨S544x1024, .bf16⟩
  | .local _ .vmem, ⟨10, _⟩ => ⟨S544x1024, .bf16⟩
  | .local _ .vmem, ⟨11, _⟩ => ⟨S544x1024, .bf16⟩
  | .local _ .vmem, ⟨12, _⟩ => ⟨S1x3072, .f32⟩
  | .local _ .vmem, ⟨13, _⟩ => ⟨S544x1024, .bf16⟩
  | .local _ .vmem, ⟨14, _⟩ => ⟨S544x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S544x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S4352x1024 : Shape := ⟨2, ![4352, 1024]⟩
abbrev S4352x13312 : Shape := ⟨2, ![4352, 13312]⟩
abbrev S3072 : Shape := ⟨1, ![3072]⟩
abbrev S4352x3072 : Shape := ⟨2, ![4352, 3072]⟩
abbrev S1x3072 : Shape := ⟨2, ![1, 3072]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x1024, .bf16⟩
  | .hbm, ⟨3, _⟩ => ⟨S4352x13312, .bf16⟩
  | .hbm, ⟨4, _⟩ => ⟨S3072, .f32⟩
  | .hbm, ⟨5, _⟩ => ⟨S4352x3072, .bf16⟩
  | .hbm, ⟨6, _⟩ => ⟨S4352x3072, .f32⟩
  | .hbm, ⟨7, _⟩ => ⟨S1x3072, .f32⟩
  | .hbm, ⟨8, _⟩ => ⟨S4352x3072, .f32⟩
  | .hbm, ⟨9, _⟩ => ⟨S4352x3072, .f32⟩
  | .hbm, ⟨10, _⟩ => ⟨S4352x3072, .f32⟩
  | .hbm, ⟨11, _⟩ => ⟨S4352x3072, .f32⟩
  | .hbm, ⟨12, _⟩ => ⟨S_, .f32⟩
  | .hbm, ⟨13, _⟩ => ⟨S4352x3072, .f32⟩
  | .hbm, ⟨14, _⟩ => ⟨S4352x3072, .f32⟩
  | .hbm, ⟨15, _⟩ => ⟨S_, .f32⟩
  | .hbm, ⟨16, _⟩ => ⟨S4352x3072, .f32⟩
  | .hbm, ⟨17, _⟩ => ⟨S4352x3072, .f32⟩
  | .hbm, ⟨18, _⟩ => ⟨S4352x1024, .f32⟩
  | .hbm, ⟨19, _⟩ => ⟨S4352x1024, .f32⟩
  | .hbm, ⟨20, _⟩ => ⟨S4352x1024, .f32⟩
  | .hbm, ⟨21, _⟩ => ⟨S4352x1024, .f32⟩
  | .hbm, ⟨22, _⟩ => ⟨S4352x1024, .f32⟩
  | .hbm, ⟨23, _⟩ => ⟨S4352x1024, .f32⟩
  | .hbm, ⟨24, _⟩ => ⟨S4352x1024, .f32⟩
  | .hbm, ⟨25, _⟩ => ⟨S4352x1024, .f32⟩
  | .hbm, ⟨26, _⟩ => ⟨S4352x1024, .f32⟩
  | .hbm, ⟨27, _⟩ => ⟨S4352x1024, .f32⟩
  | .hbm, ⟨28, _⟩ => ⟨S4352x1024, .f32⟩
  | .hbm, ⟨29, _⟩ => ⟨S4352x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel20.lean ====
abbrev S4352x1024 : Shape := ⟨2, ![4352, 1024]⟩
abbrev S4352x13312 : Shape := ⟨2, ![4352, 13312]⟩
abbrev S256 : Shape := ⟨1, ![256]⟩
abbrev S1x256 : Shape := ⟨2, ![1, 256]⟩
abbrev S544x1024 : Shape := ⟨2, ![544, 1024]⟩
abbrev S544x256 : Shape := ⟨2, ![544, 256]⟩
abbrev S544 : Shape := ⟨1, ![544]⟩
abbrev S544x1 : Shape := ⟨2, ![544, 1]⟩

abbrev nBuf : Space → Nat
  | .hbm => 8
  | .vmem => 15
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x1024, .bf16⟩
  | .hbm, ⟨3, _⟩ => ⟨S4352x13312, .bf16⟩
  | .hbm, ⟨4, _⟩ => ⟨S256, .f32⟩
  | .hbm, ⟨5, _⟩ => ⟨S1x256, .f32⟩
  | .hbm, ⟨6, _⟩ => ⟨S4352x1024, .bf16⟩
  | .hbm, ⟨7, _⟩ => ⟨S4352x1024, .bf16⟩
  | .local _ .vmem, ⟨0, _⟩ => ⟨S544x1024, .bf16⟩
  | .local _ .vmem, ⟨1, _⟩ => ⟨S544x1024, .bf16⟩
  | .local _ .vmem, ⟨2, _⟩ => ⟨S544x1024, .bf16⟩
  | .local _ .vmem, ⟨3, _⟩ => ⟨S544x1024, .bf16⟩
  | .local _ .vmem, ⟨4, _⟩ => ⟨S544x1024, .bf16⟩
  | .local _ .vmem, ⟨5, _⟩ => ⟨S544x1024, .bf16⟩
  | .local _ .vmem, ⟨6, _⟩ => ⟨S544x1024, .bf16⟩
  | .local _ .vmem, ⟨7, _⟩ => ⟨S544x1024, .bf16⟩
  | .local _ .vmem, ⟨8, _⟩ => ⟨S544x1024, .bf16⟩
  | .local _ .vmem, ⟨9, _⟩ => ⟨S544x1024, .bf16⟩
  | .local _ .vmem, ⟨10, _⟩ => ⟨S1x256, .f32⟩
  | .local _ .vmem, ⟨11, _⟩ => ⟨S544x1024, .bf16⟩
  | .local _ .vmem, ⟨12, _⟩ => ⟨S544x1024, .bf16⟩
  | .local _ .vmem, ⟨13, _⟩ => ⟨S544x1024, .bf16⟩
  | .local _ .vmem, ⟨14, _⟩ => ⟨S544x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S544x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S4352x1024 : Shape := ⟨2, ![4352, 1024]⟩
abbrev S4352x13312 : Shape := ⟨2, ![4352, 13312]⟩
abbrev S256 : Shape := ⟨1, ![256]⟩
abbrev S4352x4x256 : Shape := ⟨3, ![4352, 4, 256]⟩
abbrev S_ : Shape := ⟨0, ![]⟩
abbrev S4352x4 : Shape := ⟨2, ![4352, 4]⟩
abbrev S4352x4x1 : Shape := ⟨3, ![4352, 4, 1]⟩
abbrev S1x1x256 : Shape := ⟨3, ![1, 1, 256]⟩

abbrev nBuf : Space → Nat
  | .hbm => 53
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x1024, .bf16⟩
  | .hbm, ⟨3, _⟩ => ⟨S4352x13312, .bf16⟩
  | .hbm, ⟨4, _⟩ => ⟨S256, .f32⟩
  | .hbm, ⟨5, _⟩ => ⟨S4352x1024, .f32⟩
  | .hbm, ⟨6, _⟩ => ⟨S4352x1024, .f32⟩
  | .hbm, ⟨7, _⟩ => ⟨S4352x1024, .f32⟩
  | .hbm, ⟨8, _⟩ => ⟨S4352x4x256, .f32⟩
  | .hbm, ⟨9, _⟩ => ⟨S4352x4x256, .f32⟩
  | .hbm, ⟨10, _⟩ => ⟨S_, .f32⟩
  | .hbm, ⟨11, _⟩ => ⟨S4352x4, .f32⟩
  | .hbm, ⟨12, _⟩ => ⟨S4352x4x1, .f32⟩
  | .hbm, ⟨13, _⟩ => ⟨S_, .f32⟩
  | .hbm, ⟨14, _⟩ => ⟨S4352x4x1, .f32⟩
  | .hbm, ⟨15, _⟩ => ⟨S4352x4x1, .f32⟩
  | .hbm, ⟨16, _⟩ => ⟨S_, .f32⟩
  | .hbm, ⟨17, _⟩ => ⟨S4352x4x1, .f32⟩
  | .hbm, ⟨18, _⟩ => ⟨S4352x4x1, .f32⟩
  | .hbm, ⟨19, _⟩ => ⟨S4352x4x1, .f32⟩
  | .hbm, ⟨20, _⟩ => ⟨S4352x4x256, .f32⟩
  | .hbm, ⟨21, _⟩ => ⟨S4352x4x256, .f32⟩
  | .hbm, ⟨22, _⟩ => ⟨S1x1x256, .f32⟩
  | .hbm, ⟨23, _⟩ => ⟨S4352x4x256, .f32⟩
  | .hbm, ⟨24, _⟩ => ⟨S4352x4x256, .f32⟩
  | .hbm, ⟨25, _⟩ => ⟨S4352x1024, .f32⟩
  | .hbm, ⟨26, _⟩ => ⟨S4352x1024, .f32⟩
  | .hbm, ⟨27, _⟩ => ⟨S4352x1024, .bf16⟩
  | .hbm, ⟨28, _⟩ => ⟨S4352x1024, .f32⟩
  | .hbm, ⟨29, _⟩ => ⟨S4352x1024, .f32⟩
  | .hbm, ⟨30, _⟩ => ⟨S4352x1024, .f32⟩
  | .hbm, ⟨31, _⟩ => ⟨S_, .f32⟩
  | .hbm, ⟨32, _⟩ => ⟨S4352x1024, .f32⟩
  | .hbm, ⟨33, _⟩ => ⟨S4352x1024, .f32⟩
  | .hbm, ⟨34, _⟩ => ⟨S_, .f32⟩
  | .hbm, ⟨35, _⟩ => ⟨S4352x1024, .f32⟩
  | .hbm, ⟨36, _⟩ => ⟨S4352x1024, .f32⟩
  | .hbm, ⟨37, _⟩ => ⟨S4352x1024, .f32⟩
  | .hbm, ⟨38, _⟩ => ⟨S4352x1024, .f32⟩
  | .hbm, ⟨39, _⟩ => ⟨S4352x1024, .bf16⟩
  | .hbm, ⟨40, _⟩ => ⟨S4352x1024, .bf16⟩
  | .hbm, ⟨41, _⟩ => ⟨S4352x1024, .f32⟩
  | .hbm, ⟨42, _⟩ => ⟨S4352x1024, .f32⟩
  | .hbm, ⟨43, _⟩ => ⟨S4352x1024, .f32⟩
  | .hbm, ⟨44, _⟩ => ⟨S_, .f32⟩
  | .hbm, ⟨45, _⟩ => ⟨S4352x1024, .f32⟩
  | .hbm, ⟨46, _⟩ => ⟨S4352x1024, .f32⟩
  | .hbm, ⟨47, _⟩ => ⟨S_, .f32⟩
  | .hbm, ⟨48, _⟩ => ⟨S4352x1024, .f32⟩
  | .hbm, ⟨49, _⟩ => ⟨S4352x1024, .f32⟩
  | .hbm, ⟨50, _⟩ => ⟨S4352x1024, .f32⟩
  | .hbm, ⟨51, _⟩ => ⟨S4352x1024, .f32⟩
  | .hbm, ⟨52, _⟩ => ⟨S4352x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩

abbrev nD : Nat := 1
abbrev τ : Topo := Topo.v7x

variable {F : FTy → Type} [FloatOps F]
-- ==== Kernel21.lean ====
abbrev S4352x1024 : Shape := ⟨2, ![4352, 1024]⟩
abbrev S4352x13312 : Shape := ⟨2, ![4352, 13312]⟩
abbrev S3072 : Shape := ⟨1, ![3072]⟩
abbrev S1x3072 : Shape := ⟨2, ![1, 3072]⟩
abbrev S8x3072 : Shape := ⟨2, ![8, 3072]⟩
abbrev S544x1024 : Shape := ⟨2, ![544, 1024]⟩
abbrev S544x3072 : Shape := ⟨2, ![544, 3072]⟩
abbrev S1x1024 : Shape := ⟨2, ![1, 1024]⟩
abbrev S8x1024 : Shape := ⟨2, ![8, 1024]⟩
abbrev S1024 : Shape := ⟨1, ![1024]⟩

abbrev nBuf : Space → Nat
  | .hbm => 12
  | .vmem => 24
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x1024, .bf16⟩
  | .hbm, ⟨3, _⟩ => ⟨S4352x1024, .bf16⟩
  | .hbm, ⟨4, _⟩ => ⟨S4352x13312, .bf16⟩
  | .hbm, ⟨5, _⟩ => ⟨S3072, .f32⟩
  | .hbm, ⟨6, _⟩ => ⟨S1x3072, .f32⟩
  | .hbm, ⟨7, _⟩ => ⟨S4352x1024, .bf16⟩
  | .hbm, ⟨8, _⟩ => ⟨S4352x1024, .bf16⟩
  | .hbm, ⟨9, _⟩ => ⟨S4352x1024, .bf16⟩
  | .hbm, ⟨10, _⟩ => ⟨S4352x13312, .bf16⟩
  | .hbm, ⟨11, _⟩ => ⟨S8x3072, .f32⟩
  | .local _ .vmem, ⟨0, _⟩ => ⟨S544x1024, .bf16⟩
  | .local _ .vmem, ⟨1, _⟩ => ⟨S544x1024, .bf16⟩
  | .local _ .vmem, ⟨2, _⟩ => ⟨S544x1024, .bf16⟩
  | .local _ .vmem, ⟨3, _⟩ => ⟨S544x1024, .bf16⟩
  | .local _ .vmem, ⟨4, _⟩ => ⟨S544x1024, .bf16⟩
  | .local _ .vmem, ⟨5, _⟩ => ⟨S544x1024, .bf16⟩
  | .local _ .vmem, ⟨6, _⟩ => ⟨S544x1024, .bf16⟩
  | .local _ .vmem, ⟨7, _⟩ => ⟨S544x1024, .bf16⟩
  | .local _ .vmem, ⟨8, _⟩ => ⟨S544x1024, .bf16⟩
  | .local _ .vmem, ⟨9, _⟩ => ⟨S544x1024, .bf16⟩
  | .local _ .vmem, ⟨10, _⟩ => ⟨S544x1024, .bf16⟩
  | .local _ .vmem, ⟨11, _⟩ => ⟨S544x1024, .bf16⟩
  | .local _ .vmem, ⟨12, _⟩ => ⟨S544x1024, .bf16⟩
  | .local _ .vmem, ⟨13, _⟩ => ⟨S544x1024, .bf16⟩
  | .local _ .vmem, ⟨14, _⟩ => ⟨S1x3072, .f32⟩
  | .local _ .vmem, ⟨15, _⟩ => ⟨S544x1024, .bf16⟩
  | .local _ .vmem, ⟨16, _⟩ => ⟨S544x1024, .bf16⟩
  | .local _ .vmem, ⟨17, _⟩ => ⟨S544x1024, .bf16⟩
  | .local _ .vmem, ⟨18, _⟩ => ⟨S544x1024, .bf16⟩
  | .local _ .vmem, ⟨19, _⟩ => ⟨S544x1024, .bf16⟩
  | .local _ .vmem, ⟨20, _⟩ => ⟨S544x1024, .bf16⟩
  | .local _ .vmem, ⟨21, _⟩ => ⟨S544x3072, .bf16⟩
  | .local _ .vmem, ⟨22, _⟩ => ⟨S544x3072, .bf16⟩
  | .local _ .vmem, ⟨23, _⟩ => ⟨S8x3072, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S544x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S544x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S544x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S544x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference21Ideal.lean ====
abbrev S4352x1024 : Shape := ⟨2, ![4352, 1024]⟩
abbrev S4352x13312 : Shape := ⟨2, ![4352, 13312]⟩
abbrev S3072 : Shape := ⟨1, ![3072]⟩
abbrev S4352x3072 : Shape := ⟨2, ![4352, 3072]⟩
abbrev S1x3072 : Shape := ⟨2, ![1, 3072]⟩
abbrev S_ : Shape := ⟨0, ![]⟩
abbrev S8x3072 : Shape := ⟨2, ![8, 3072]⟩

abbrev nBuf : Space → Nat
  | .hbm => 52
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x1024, .bf16⟩
  | .hbm, ⟨3, _⟩ => ⟨S4352x1024, .bf16⟩
  | .hbm, ⟨4, _⟩ => ⟨S4352x13312, .bf16⟩
  | .hbm, ⟨5, _⟩ => ⟨S3072, .f32⟩
  | .hbm, ⟨6, _⟩ => ⟨S4352x1024, .f32⟩
  | .hbm, ⟨7, _⟩ => ⟨S4352x1024, .f32⟩
  | .hbm, ⟨8, _⟩ => ⟨S4352x1024, .f32⟩
  | .hbm, ⟨9, _⟩ => ⟨S4352x3072, .bf16⟩
  | .hbm, ⟨10, _⟩ => ⟨S4352x3072, .f32⟩
  | .hbm, ⟨11, _⟩ => ⟨S1x3072, .f32⟩
  | .hbm, ⟨12, _⟩ => ⟨S4352x3072, .f32⟩
  | .hbm, ⟨13, _⟩ => ⟨S4352x3072, .f32⟩
  | .hbm, ⟨14, _⟩ => ⟨S4352x3072, .f32⟩
  | .hbm, ⟨15, _⟩ => ⟨S4352x3072, .f32⟩
  | .hbm, ⟨16, _⟩ => ⟨S_, .f32⟩
  | .hbm, ⟨17, _⟩ => ⟨S4352x3072, .f32⟩
  | .hbm, ⟨18, _⟩ => ⟨S4352x3072, .f32⟩
  | .hbm, ⟨19, _⟩ => ⟨S_, .f32⟩
  | .hbm, ⟨20, _⟩ => ⟨S4352x3072, .f32⟩
  | .hbm, ⟨21, _⟩ => ⟨S4352x3072, .f32⟩
  | .hbm, ⟨22, _⟩ => ⟨S_, .f32⟩
  | .hbm, ⟨23, _⟩ => ⟨S4352x3072, .f32⟩
  | .hbm, ⟨24, _⟩ => ⟨S4352x3072, .f32⟩
  | .hbm, ⟨25, _⟩ => ⟨S4352x3072, .f32⟩
  | .hbm, ⟨26, _⟩ => ⟨S4352x1024, .f32⟩
  | .hbm, ⟨27, _⟩ => ⟨S4352x1024, .f32⟩
  | .hbm, ⟨28, _⟩ => ⟨S4352x1024, .f32⟩
  | .hbm, ⟨29, _⟩ => ⟨S4352x1024, .f32⟩
  | .hbm, ⟨30, _⟩ => ⟨S4352x1024, .f32⟩
  | .hbm, ⟨31, _⟩ => ⟨S4352x1024, .f32⟩
  | .hbm, ⟨32, _⟩ => ⟨S4352x1024, .f32⟩
  | .hbm, ⟨33, _⟩ => ⟨S4352x1024, .f32⟩
  | .hbm, ⟨34, _⟩ => ⟨S4352x1024, .f32⟩
  | .hbm, ⟨35, _⟩ => ⟨S4352x1024, .f32⟩
  | .hbm, ⟨36, _⟩ => ⟨S4352x1024, .f32⟩
  | .hbm, ⟨37, _⟩ => ⟨S4352x1024, .f32⟩
  | .hbm, ⟨38, _⟩ => ⟨S4352x1024, .f32⟩
  | .hbm, ⟨39, _⟩ => ⟨S4352x1024, .f32⟩
  | .hbm, ⟨40, _⟩ => ⟨S4352x1024, .f32⟩
  | .hbm, ⟨41, _⟩ => ⟨S4352x3072, .f32⟩
  | .hbm, ⟨42, _⟩ => ⟨S4352x3072, .f32⟩
  | .hbm, ⟨43, _⟩ => ⟨S_, .f32⟩
  | .hbm, ⟨44, _⟩ => ⟨S3072, .f32⟩
  | .hbm, ⟨45, _⟩ => ⟨S1x3072, .f32⟩
  | .hbm, ⟨46, _⟩ => ⟨S_, .f32⟩
  | .hbm, ⟨47, _⟩ => ⟨S3072, .f32⟩
  | .hbm, ⟨48, _⟩ => ⟨S4352x1024, .bf16⟩
  | .hbm, ⟨49, _⟩ => ⟨S4352x1024, .bf16⟩
  | .hbm, ⟨50, _⟩ => ⟨S4352x1024, .bf16⟩
  | .hbm, ⟨51, _⟩ => ⟨S8x3072, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Kernel22.lean ====
abbrev S4352x1024 : Shape := ⟨2, ![4352, 1024]⟩
abbrev S4096x1024 : Shape := ⟨2, ![4096, 1024]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4352x1024, .f32⟩
  | .hbm, ⟨1, _⟩ => ⟨S4096x1024, .f32⟩
  | .hbm, ⟨2, _⟩ => ⟨S4352x1024, .f32⟩
  | .hbm, ⟨3, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x128, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c1_i32 : BitVec 32 := 1#32
  let v3 : BitVec 1 := Scalar.cmpi .slt arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c1_i32_2 : BitVec 32 := 1#32
  let v6 : BitVec 1 := Scalar.cmpi .sge arg0 c1_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference22Ideal.lean ====
abbrev S4352x1024 : Shape := ⟨2, ![4352, 1024]⟩
abbrev S4096x1024 : Shape := ⟨2, ![4096, 1024]⟩
abbrev S_ : Shape := ⟨0, ![]⟩
abbrev S8x128 : Shape := ⟨2, ![8, 128]⟩

abbrev nBuf : Space → Nat
  | .hbm => 31
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4352x1024, .f32⟩
  | .hbm, ⟨27, _⟩ => ⟨S4096x1024, .f32⟩
  | .hbm, ⟨28, _⟩ => ⟨S_, .f32⟩
  | .hbm, ⟨29, _⟩ => ⟨S_, .f32⟩
  | .hbm, ⟨30, _⟩ => ⟨S8x128, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_cst_4 : Ref sig .tc := ⟨.hbm, 18, rfl⟩
abbrev main_v11 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel23.lean ====
abbrev S8x1024 : Shape := ⟨2, ![8, 1024]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference23Ideal.lean ====
abbrev S8x1024 : Shape := ⟨2, ![8, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S_, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S_, .f32⟩
  | .hbm, ⟨16, _⟩ => ⟨S8x1024, .f32⟩
  | .hbm, ⟨17, _⟩ => ⟨S8x1024, .f32⟩
  | .hbm, ⟨18, _⟩ => ⟨S_, .f32⟩
  | .hbm, ⟨19, _⟩ => ⟨S8x1024, .f32⟩
  | .hbm, ⟨20, _⟩ => ⟨S8x1024, .f32⟩
  | .hbm, ⟨21, _⟩ => ⟨S8x1024, .f32⟩
  | .hbm, ⟨22, _⟩ => ⟨S8x1024, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S8x1024, .f32⟩
  | .hbm, ⟨29, _⟩ => ⟨S8x1024, .f32⟩
  | .hbm, ⟨30, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩
abbrev main_call1_v0 : Ref sig .tc := ⟨.hbm, 10, rfl⟩
abbrev main_call1_v1 : Ref sig .tc := ⟨.hbm, 11, rfl⟩
abbrev main_call1_cst : Ref sig .tc := ⟨.hbm, 12, rfl⟩
abbrev main_call1_v2 : Ref sig .tc := ⟨.hbm, 13, rfl⟩
abbrev main_call1_v3 : Ref sig .tc := ⟨.hbm, 14, rfl⟩
abbrev main_call1_cst_0 : Ref sig .tc := ⟨.hbm, 15, rfl⟩
abbrev main_call1_v4 : Ref sig .tc := ⟨.hbm, 16, rfl⟩
abbrev main_v1_2 : Ref sig .tc := ⟨.hbm, 17, rfl⟩
abbrev main_call1_cst_1 : Ref sig .tc := ⟨.hbm, 18, rfl⟩
abbrev main_call1_v6 : Ref sig .tc := ⟨.hbm, 19, rfl⟩
abbrev main_call1_v7 : Ref sig .tc := ⟨.hbm, 20, rfl⟩
abbrev main_v1_1 : Ref sig .tc := ⟨.hbm, 21, rfl⟩
abbrev main_v1_0 : Ref sig .tc := ⟨.hbm, 22, rfl⟩
abbrev main_cst : Ref sig .tc := ⟨.hbm, 23, rfl⟩
abbrev main_v2 : Ref sig .tc := ⟨.hbm, 24, rfl⟩
abbrev main_cst_0 : Ref sig .tc := ⟨.hbm, 25, rfl⟩
abbrev main_v3 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_v4 : Ref sig .tc := ⟨.hbm, 30, rfl⟩

abbrev nD : Nat := 1
abbrev τ : Topo := Topo.v7x

variable {F : FTy → Type} [FloatOps F]
-- ==== Kernel24.lean ====
abbrev S8x1024 : Shape := ⟨2, ![8, 1024]⟩

abbrev nBuf : Space → Nat
  | .hbm => 4
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference24Ideal.lean ====
abbrev S8x1024 : Shape := ⟨2, ![8, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel25.lean ====
abbrev S4x1604x1024 : Shape := ⟨3, ![4, 1604, 1024]⟩
abbrev S1x1604x256 : Shape := ⟨3, ![1, 1604, 256]⟩
abbrev S1604x256 : Shape := ⟨2, ![1604, 256]⟩

abbrev nBuf : Space → Nat
  | .hbm => 3
  | .vmem => 6
  | .smem => 0
  | _ => 0

abbrev bufTy : (tb : Table) → Fin (tcTables nBuf tb) → BufTy
  | .hbm, ⟨0, _⟩ => ⟨S4x1604x1024, .bf16⟩
  | .hbm, ⟨1, _⟩ => ⟨S4x1604x1024, .bf16⟩
  | .hbm, ⟨2, _⟩ => ⟨S4x1604x1024, .bf16⟩
  | .local _ .vmem, ⟨0, _⟩ => ⟨S1x1604x256, .bf16⟩
  | .local _ .vmem, ⟨1, _⟩ => ⟨S1x1604x256, .bf16⟩
  | .local _ .vmem, ⟨2, _⟩ => ⟨S1x1604x256, .bf16⟩
  | .local _ .vmem, ⟨3, _⟩ => ⟨S1x1604x256, .bf16⟩
  | .local _ .vmem, ⟨4, _⟩ => ⟨S1x1604x256, .bf16⟩
  | .local _ .vmem, ⟨5, _⟩ => ⟨S1x1604x256, .bf16⟩
  | _, _ => ⟨S4x1604x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1604x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1604x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1604x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference25Ideal.lean ====
abbrev S4x1604x1024 : Shape := ⟨3, ![4, 1604, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x1604x1024, .bf16⟩
  | .hbm, ⟨1, _⟩ => ⟨S4x1604x1024, .bf16⟩
  | .hbm, ⟨2, _⟩ => ⟨S4x1604x1024, .f32⟩
  | .hbm, ⟨3, _⟩ => ⟨S4x1604x1024, .f32⟩
  | .hbm, ⟨4, _⟩ => ⟨S4x1604x1024, .f32⟩
  | .hbm, ⟨5, _⟩ => ⟨S4x1604x1024, .bf16⟩
  | _, _ => ⟨S4x1604x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel26.lean ====
abbrev S4352x1024 : Shape := ⟨2, ![4352, 1024]⟩
abbrev S4352x13312 : Shape := ⟨2, ![4352, 13312]⟩
abbrev S544x1024 : Shape := ⟨2, ![544, 1024]⟩
abbrev S544x2048 : Shape := ⟨2, ![544, 2048]⟩

abbrev nBuf : Space → Nat
  | .hbm => 6
  | .vmem => 12
  | .smem => 0
  | _ => 0

abbrev bufTy : (tb : Table) → Fin (tcTables nBuf tb) → BufTy
  | .hbm, ⟨0, _⟩ => ⟨S4352x1024, .bf16⟩
  | .hbm, ⟨1, _⟩ => ⟨S4352x13312, .bf16⟩
  | .hbm, ⟨2, _⟩ => ⟨S4352x1024, .bf16⟩
  | .hbm, ⟨3, _⟩ => ⟨S4352x13312, .bf16⟩
  | .hbm, ⟨4, _⟩ => ⟨S4352x1024, .f32⟩
  | .hbm, ⟨5, _⟩ => ⟨S4352x13312, .bf16⟩
  | .local _ .vmem, ⟨0, _⟩ => ⟨S544x1024, .bf16⟩
  | .local _ .vmem, ⟨1, _⟩ => ⟨S544x1024, .bf16⟩
  | .local _ .vmem, ⟨2, _⟩ => ⟨S544x1024, .bf16⟩
  | .local _ .vmem, ⟨3, _⟩ => ⟨S544x1024, .bf16⟩
  | .local _ .vmem, ⟨4, _⟩ => ⟨S544x1024, .bf16⟩
  | .local _ .vmem, ⟨5, _⟩ => ⟨S544x1024, .bf16⟩
  | .local _ .vmem, ⟨6, _⟩ => ⟨S544x1024, .bf16⟩
  | .local _ .vmem, ⟨7, _⟩ => ⟨S544x1024, .bf16⟩
  | .local _ .vmem, ⟨8, _⟩ => ⟨S544x1024, .f32⟩
  | .local _ .vmem, ⟨9, _⟩ => ⟨S544x1024, .f32⟩
  | .local _ .vmem, ⟨10, _⟩ => ⟨S544x2048, .bf16⟩
  | .local _ .vmem, ⟨11, _⟩ => ⟨S544x2048, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference26Ideal.lean ====
abbrev S4352x1024 : Shape := ⟨2, ![4352, 1024]⟩
abbrev S4352x13312 : Shape := ⟨2, ![4352, 13312]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x13312, .bf16⟩
  | .hbm, ⟨2, _⟩ => ⟨S4352x1024, .bf16⟩
  | .hbm, ⟨3, _⟩ => ⟨S4352x13312, .bf16⟩
  | .hbm, ⟨4, _⟩ => ⟨S4352x1024, .f32⟩
  | .hbm, ⟨5, _⟩ => ⟨S4352x1024, .bf16⟩
  | .hbm, ⟨6, _⟩ => ⟨S4352x1024, .f32⟩
  | .hbm, ⟨7, _⟩ => ⟨S4352x1024, .f32⟩
  | .hbm, ⟨8, _⟩ => ⟨S4352x1024, .bf16⟩
  | .hbm, ⟨9, _⟩ => ⟨S4352x1024, .f32⟩
  | .hbm, ⟨10, _⟩ => ⟨S4352x1024, .f32⟩
  | .hbm, ⟨11, _⟩ => ⟨S4352x1024, .f32⟩
  | .hbm, ⟨12, _⟩ => ⟨S_, .f32⟩
  | .hbm, ⟨13, _⟩ => ⟨S4352x1024, .f32⟩
  | .hbm, ⟨14, _⟩ => ⟨S4352x1024, .f32⟩
  | .hbm, ⟨15, _⟩ => ⟨S_, .f32⟩
  | .hbm, ⟨16, _⟩ => ⟨S4352x1024, .f32⟩
  | .hbm, ⟨17, _⟩ => ⟨S4352x1024, .f32⟩
  | .hbm, ⟨18, _⟩ => ⟨S4352x1024, .f32⟩
  | .hbm, ⟨19, _⟩ => ⟨S4352x1024, .f32⟩
  | .hbm, ⟨20, _⟩ => ⟨S4352x1024, .f32⟩
  | .hbm, ⟨21, _⟩ => ⟨S4352x1024, .f32⟩
  | .hbm, ⟨22, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.Softmax.lean ====
/- The mathematics of one softmax row and of its gradient, over the reals; and the columns of the attention's heads. -/
module

public import Mathlib.Analysis.SpecialFunctions.Pow.Real
public import Mathlib.Analysis.SpecialFunctions.Log.Basic
public import Mathlib.Algebra.BigOperators.Field
public import Mathlib.Data.EReal.Basic
public import Mathlib.Data.EReal.Operations

@[expose] public section

noncomputable section

namespace Cert.Soft

/-! ## Heads and rows -/

/-- Column `d` of query head `g` of key head `n`. -/
def qc (n : Fin 2) (g : Fin 4) (d : Fin 128) : Fin 1024 := ⟨n.val * 512 + g.val * 128 + d.val, by omega⟩
/-- Column `d` of key head `n`. -/
def kc (n : Fin 2) (d : Fin 128) : Fin 256 := ⟨n.val * 128 + d.val, by omega⟩
/-- The key head, the query head under it and the column within the head, of a query column. -/
def nq (j : Fin 1024) : Fin 2 := ⟨j.val / 512, by omega⟩
def gq (j : Fin 1024) : Fin 4 := ⟨j.val / 128 % 4, by omega⟩
def dq (j : Fin 1024) : Fin 128 := ⟨j.val % 128, by omega⟩
/-- The key head and the column within the head, of a key column. -/
def nk (j : Fin 256) : Fin 2 := ⟨j.val / 128, by omega⟩
def dk (j : Fin 256) : Fin 128 := ⟨j.val % 128, by omega⟩
theorem nk_kc (n : Fin 2) (d : Fin 128) : nk (kc n d) = n := Fin.ext (by show (n.val * 128 + d.val) / 128 = _; omega)
theorem dk_kc (n : Fin 2) (d : Fin 128) : dk (kc n d) = d := Fin.ext (by show (n.val * 128 + d.val) % 128 = _; omega)

/-- Column `j` of the values in the packed projections. -/
def vc (j : Fin 256) : Fin 13312 := ⟨12544 + j.val, by omega⟩
/-- A context row and a latent row among all rows. -/
def cx (r : Fin 256) : Fin 4352 := ⟨r.val, by omega⟩
def lx (r : Fin 4096) : Fin 4352 := ⟨256 + r.val, by omega⟩

/-- A sum over all rows is one over the context's and one over the latent's. -/
theorem sum_cx_lx (f : Fin 4352 → ℝ) : ∑ r, f r = ∑ r, f (cx r) + ∑ r, f (lx r) :=
  Fin.sum_univ_add (a := 256) (b := 4096) f

/-! ## Extended reals -/

/-- The greatest of finitely many reals, at least one, is a real. -/
theorem fold_max_real {ι : Type*} (S : Finset ι) (f : ι → ℝ) (h : S.Nonempty) :
    ∃ x : ℝ, S.fold max (⊥ : EReal) (fun k => (f k : EReal)) = x := by
  classical
  induction S using Finset.induction_on with
  | empty => exact absurd h Finset.not_nonempty_empty
  | insert a S ha ih =>
    rw [Finset.fold_insert ha]
    rcases S.eq_empty_or_nonempty with rfl | hS
    · exact ⟨f a, by simp⟩
    · obtain ⟨x, hx⟩ := ih hS
      exact ⟨max (f a) x, by rw [hx]; exact (EReal.coe_strictMono.monotone.map_max).symm⟩

/-! ## One row -/

section Row
variable {ι : Type*} [Fintype ι]

/-- The softmax of a row. -/
def pr (s : ι → ℝ) (i : ι) : ℝ := Real.exp (s i) / ∑ j, Real.exp (s j)

theorem sum_exp_pos [Nonempty ι] (s : ι → ℝ) : 0 < ∑ j, Real.exp (s j) :=
  Finset.sum_pos (fun _ _ => Real.exp_pos _) Finset.univ_nonempty

theorem sum_shift (s : ι → ℝ) (x : ℝ) : ∑ j, Real.exp (s j - x) = (∑ j, Real.exp (s j)) / Real.exp x := by
  simp only [Real.exp_sub, ← Finset.sum_div]

/-- Taking a number off every score changes nothing. -/
theorem pr_shift (s : ι → ℝ) (x : ℝ) (i : ι) : Real.exp (s i - x) / ∑ j, Real.exp (s j - x) = pr s i := by
  have hx := (Real.exp_pos x).ne'
  rw [sum_shift, Real.exp_sub, pr]
  by_cases hZ : ∑ j, Real.exp (s j) = 0
  · rw [hZ]; simp
  · field_simp

/-- The gradient of the softmax as a division's and a sum's backward passes spell it. -/
theorem ds_eq [Nonempty ι] (s dp : ι → ℝ) (x : ℝ) (i : ι) :
    (dp i * (1 / ∑ j, Real.exp (s j - x)) + -∑ j, dp j * (1 / ((∑ k, Real.exp (s k - x)) * ∑ k, Real.exp (s k - x))) * Real.exp (s j - x))
        * Real.exp (s i - x)
      = pr s i * (dp i - ∑ j, pr s j * dp j) := by
  have hZ := (sum_exp_pos (fun j => s j - x)).ne'
  have e : ∀ j, pr s j = Real.exp (s j - x) / ∑ k, Real.exp (s k - x) := fun j => (pr_shift s x j).symm
  simp only [e]
  generalize (∑ k, Real.exp (s k - x)) = Z at *
  have : ∑ j, dp j * (1 / (Z * Z)) * Real.exp (s j - x) = (∑ j, Real.exp (s j - x) / Z * dp j) / Z := by
    rw [Finset.sum_div]
    refine Finset.sum_congr rfl fun j _ => ?_
    field_simp
  rw [this]
  field_simp
  ring

/-- The softmax from a saved logarithm of the sum, in base 2. -/
theorem pr_of_lse [Nonempty ι] (s : ι → ℝ) (x : ℝ) (y : ℝ) (i : ι) (hy : y * Real.log 2 = s i) :
    Real.rpow 2 (y - (x + Real.log (∑ j, Real.exp (s j - x))) * (1 / Real.log 2)) = pr s i := by
  have h2 : Real.log 2 ≠ 0 := (Real.log_pos one_lt_two).ne'
  have hZ := sum_exp_pos s
  rw [show Real.rpow 2 _ = Real.exp (Real.log 2 * _) from Real.rpow_def_of_pos two_pos _]
  rw [sum_shift, Real.log_div hZ.ne' (Real.exp_pos x).ne', Real.log_exp]
  have : Real.log 2 * (y - (x + (Real.log (∑ j, Real.exp (s j)) - x)) * (1 / Real.log 2))
      = s i - Real.log (∑ j, Real.exp (s j)) := by
    rw [← hy]; field_simp; ring
  rw [this, Real.exp_sub, Real.exp_log hZ, pr]

end Row

/-! ## An attention: rows `R` of queries, rows `C` of keys and values -/

section Attention
variable {R C : Type*} [Fintype R] [Fintype C]
  (Q D : R → Fin 2 → Fin 4 → Fin 128 → ℝ) (K V : C → Fin 2 → Fin 128 → ℝ)

/-- The scores of a query. -/
def sc (n : Fin 2) (g : Fin 4) (r : R) (s : C) : ℝ := ∑ d, K s n d * Q r n g d
/-- Its probabilities. -/
def prob (n : Fin 2) (g : Fin 4) (r : R) (s : C) : ℝ := pr (sc Q K n g r) s
/-- Their gradients. -/
def dpr (n : Fin 2) (g : Fin 4) (r : R) (s : C) : ℝ := ∑ d, D r n g d * V s n d
/-- The scores' gradients. -/
def dsc (n : Fin 2) (g : Fin 4) (r : R) (s : C) : ℝ :=
  prob Q K n g r s * (dpr D V n g r s - ∑ t, prob Q K n g r t * dpr D V n g r t)
/-- The attention's output. -/
def att (n : Fin 2) (g : Fin 4) (r : R) (d : Fin 128) : ℝ := ∑ s, V s n d * prob Q K n g r s

/-- The softmax's own term is the output's product with its gradient. -/
theorem sum_att (n : Fin 2) (g : Fin 4) (r : R) :
    ∑ d, D r n g d * att Q K V n g r d = ∑ t, prob Q K n g r t * dpr D V n g r t := by
  simp only [att, dpr, Finset.mul_sum]
  rw [Finset.sum_comm]
  refine Finset.sum_congr rfl fun s _ => Finset.sum_congr rfl fun d _ => ?_
  ring

end Attention

end Cert.Soft

end
-- ==== Proof.Tile.lean ====
/- One grid point of the backward kernel, in terms of its input blocks: the softmax weights of a block of queries
   against 256 keys, the gradient of the scores, and the three products made of them. -/
module

public import proofs.«01_k».proof.Proof.Gen.KernelIdeal.Frame
public import Idealize.ShloMosaic.Lib.Pipeline.ValueKit.Acc
public import Idealize.ShloMosaic.Lib.Pipeline.ReadBack

@[expose] public section

set_option maxRecDepth 16384

noncomputable section

namespace Cert.KernelIdeal.Tile

open Idealize.ShloMosaic Idealize.ShloMosaic.TcCoe Cert.KernelIdeal.Gen

variable {F : FTy → Type} [FloatOps F]

/-- The 128 columns from `o` of a block of 256 rows. -/
def cols (x : Vec F S256x512 .bf16) (o : ℕ) (inb : ∀ a, (![0, o] : Fin 2 → ℕ) a + S256x128.size a ≤ S256x512.size a) :
    Vec F S256x128 .bf16 :=
  View.ld x (Rect.unit (s := S256x512) ![0, o] S256x128.size inb)

/-- The 256 rows from `o` of all keys (or of all values). -/
def rows {e : EltTy} (x : Vec F S4352x128 e) (o : ℕ)
    (inb : ∀ a, (![o, 0] : Fin 2 → ℕ) a + S256x128.size a ≤ S4352x128.size a) : Vec F S256x128 e :=
  View.ld x (Rect.unit (s := S4352x128) ![o, 0] S256x128.size inb)

/-- Column `o` of the saved log-sums. -/
def lcol (x : Vec F S1x256x4 .f32) (o : ℕ)
    (inb : ∀ a, (![0, 0, o] : Fin 3 → ℕ) a + S1x256x1.size a ≤ S1x256x4.size a) : Vec F S1x256x1 .f32 :=
  View.ld x (Rect.unit (s := S1x256x4) ![0, 0, o] S1x256x1.size inb)

/-- The sum along each row of the product of the output's gradient and the output. -/
def rowDot (o dO : Vec F S256x128 .bf16) : FVec F S256x1 .f32 :=
  shapeCast S256x1 (multiReduction .add [1] S256 (mulf (extf .f32 dO bitsLt_bf16_f32)
    (extf .f32 (shapeCast S256x128 o shapeCasts_S256x128_S256x128) bitsLt_bf16_f32)) 0x00000000#32
    reduces_S256x128_S256 (.inl rfl) rfl) shapeCasts_S256_S256x1

/-- The softmax weights, from the scores in base 2 and the saved log-sums. -/
def prob (q k : Vec F S256x128 .bf16) (l : Vec F S1x256x1 .f32) : FVec F S256x256 .f32 :=
  exp2 (subf (matmul dot_S256x128_S256x128_S256x256_1_1_0_0_n_n none
      (shapeCast S256x128 q shapeCasts_S256x128_S256x128) k (constant S256x256 .f32 0x00000000#32))
    (broadcastTo S256x256 (shapeCast S256x1 l shapeCasts_S1x256x1_S256x1) broadcasts_S256x1_S256x256))

/-- The gradient of the scores. -/
def dss (q k v o dO : Vec F S256x128 .bf16) (l : Vec F S1x256x1 .f32) : FVec F S256x256 .bf16 :=
  truncf .bf16 (mulf (prob q k l)
    (subf (matmul dot_S256x128_S256x128_S256x256_1_1_0_0_n_n none dO v (constant S256x256 .f32 0x00000000#32))
      (broadcastTo S256x256 (rowDot o dO) broadcasts_S256x1_S256x256))) bitsLt_bf16_f32

/-- What 256 keys add to the gradient of the queries. -/
def dqc (q k v o dO : Vec F S256x128 .bf16) (l : Vec F S1x256x1 .f32) : FVec F S256x128 .f32 :=
  matmul dot_S256x256_S256x128_S256x128_1_0_0_1_n_n none (dss q k v o dO l) k (constant S256x128 .f32 0x00000000#32)

/-- What 256 queries of one head add to the gradient of 256 keys. -/
def dkc (q k v o dO : Vec F S256x128 .bf16) (l : Vec F S1x256x1 .f32) : FVec F S256x128 .f32 :=
  matmul dot_S256x256_S256x128_S256x128_0_0_1_1_n_n none (dss q k v o dO l)
    (shapeCast S256x128 q shapeCasts_S256x128_S256x128) (constant S256x128 .f32 0x00000000#32)

/-- What 256 queries of one head add to the gradient of 256 values. -/
def dvc (q k dO : Vec F S256x128 .bf16) (l : Vec F S1x256x1 .f32) : FVec F S256x128 .f32 :=
  matmul dot_S256x256_S256x128_S256x128_0_0_1_1_n_n none (truncf .bf16 (prob q k l) bitsLt_bf16_f32) dO
    (constant S256x128 .f32 0x00000000#32)

section Blocks

variable (x0 : Vec F S256x512 .bf16) (x1 x2 : Vec F S4352x128 .bf16) (x3 : Vec F S256x512 .bf16)
  (x4 : Vec F S1x256x4 .f32) (x5 : Vec F S256x512 .bf16)

/-- What the 256 keys from row `o` add to the gradient of the queries of the head at column `h`, `l` being the head's
number. -/
def dqPart (h l o : ℕ) (inh : ∀ a, (![0, h] : Fin 2 → ℕ) a + S256x128.size a ≤ S256x512.size a)
    (inl : ∀ a, (![0, 0, l] : Fin 3 → ℕ) a + S1x256x1.size a ≤ S1x256x4.size a)
    (ino : ∀ a, (![o, 0] : Fin 2 → ℕ) a + S256x128.size a ≤ S4352x128.size a) : FVec F S256x128 .f32 :=
  dqc (cols x0 h inh) (rows x1 o ino) (rows x2 o ino) (cols x3 h inh) (cols x5 h inh) (lcol x4 l inl)

/-- What one head's queries add to the gradient of the 256 keys from row `o`. -/
def dkPart (h l o : ℕ) (inh : ∀ a, (![0, h] : Fin 2 → ℕ) a + S256x128.size a ≤ S256x512.size a)
    (inl : ∀ a, (![0, 0, l] : Fin 3 → ℕ) a + S1x256x1.size a ≤ S1x256x4.size a)
    (ino : ∀ a, (![o, 0] : Fin 2 → ℕ) a + S256x128.size a ≤ S4352x128.size a) : FVec F S256x128 .f32 :=
  dkc (cols x0 h inh) (rows x1 o ino) (rows x2 o ino) (cols x3 h inh) (cols x5 h inh) (lcol x4 l inl)

/-- What one head's queries add to the gradient of the 256 values from row `o`. -/
def dvPart (h l o : ℕ) (inh : ∀ a, (![0, h] : Fin 2 → ℕ) a + S256x128.size a ≤ S256x512.size a)
    (inl : ∀ a, (![0, 0, l] : Fin 3 → ℕ) a + S1x256x1.size a ≤ S1x256x4.size a)
    (ino : ∀ a, (![o, 0] : Fin 2 → ℕ) a + S256x128.size a ≤ S4352x128.size a) : FVec F S256x128 .f32 :=
  dvc (cols x0 h inh) (rows x1 o ino) (cols x5 h inh) (lcol x4 l inl)

/-- What the four heads add to the gradient of the 256 keys from row `o`, on top of what is there. -/
def dkStep (old : Vec F S256x128 .f32) (o : ℕ)
    (ino : ∀ a, (![o, 0] : Fin 2 → ℕ) a + S256x128.size a ≤ S4352x128.size a) : FVec F S256x128 .f32 :=
  addf (shapeCast S256x128 old shapeCasts_S256x128_S256x128)
    (addf (addf (addf (dkPart x0 x1 x2 x3 x4 x5 0 0 o inb_S256x512_S256x128_0_0 inb_S1x256x4_S1x256x1_0_0_0 ino)
        (dkPart x0 x1 x2 x3 x4 x5 128 1 o inb_S256x512_S256x128_0_128 inb_S1x256x4_S1x256x1_0_0_1 ino))
      (dkPart x0 x1 x2 x3 x4 x5 256 2 o inb_S256x512_S256x128_0_256 inb_S1x256x4_S1x256x1_0_0_2 ino))
    (dkPart x0 x1 x2 x3 x4 x5 384 3 o inb_S256x512_S256x128_0_384 inb_S1x256x4_S1x256x1_0_0_3 ino))

/-- What the four heads add to the gradient of the 256 values from row `o`, on top of what is there. -/
def dvStep (old : Vec F S256x128 .f32) (o : ℕ)
    (ino : ∀ a, (![o, 0] : Fin 2 → ℕ) a + S256x128.size a ≤ S4352x128.size a) : FVec F S256x128 .f32 :=
  addf (shapeCast S256x128 old shapeCasts_S256x128_S256x128)
    (addf (addf (addf (dvPart x0 x1 x4 x5 0 0 o inb_S256x512_S256x128_0_0 inb_S1x256x4_S1x256x1_0_0_0 ino)
        (dvPart x0 x1 x4 x5 128 1 o inb_S256x512_S256x128_0_128 inb_S1x256x4_S1x256x1_0_0_1 ino))
      (dvPart x0 x1 x4 x5 256 2 o inb_S256x512_S256x128_0_256 inb_S1x256x4_S1x256x1_0_0_2 ino))
    (dvPart x0 x1 x4 x5 384 3 o inb_S256x512_S256x128_0_384 inb_S1x256x4_S1x256x1_0_0_3 ino))

/-- What all keys add up to in the gradient of one head's queries, 256 keys after 256 keys. -/
def dqSum (h l : ℕ) (inh : ∀ a, (![0, h] : Fin 2 → ℕ) a + S256x128.size a ≤ S256x512.size a)
    (inl : ∀ a, (![0, 0, l] : Fin 3 → ℕ) a + S1x256x1.size a ≤ S1x256x4.size a) : FVec F S256x128 .f32 :=
  addf (addf (addf (addf (addf (addf (addf (addf (addf (addf (addf (addf (addf (addf (addf (addf (dqPart x0 x1 x2 x3 x4 x5 h l 0 inh inl inb_S4352x128_S256x128_0_0)
    (dqPart x0 x1 x2 x3 x4 x5 h l 256 inh inl inb_S4352x128_S256x128_256_0))
    (dqPart x0 x1 x2 x3 x4 x5 h l 512 inh inl inb_S4352x128_S256x128_512_0))
    (dqPart x0 x1 x2 x3 x4 x5 h l 768 inh inl inb_S4352x128_S256x128_768_0))
    (dqPart x0 x1 x2 x3 x4 x5 h l 1024 inh inl inb_S4352x128_S256x128_1024_0))
    (dqPart x0 x1 x2 x3 x4 x5 h l 1280 inh inl inb_S4352x128_S256x128_1280_0))
    (dqPart x0 x1 x2 x3 x4 x5 h l 1536 inh inl inb_S4352x128_S256x128_1536_0))
    (dqPart x0 x1 x2 x3 x4 x5 h l 1792 inh inl inb_S4352x128_S256x128_1792_0))
    (dqPart x0 x1 x2 x3 x4 x5 h l 2048 inh inl inb_S4352x128_S256x128_2048_0))
    (dqPart x0 x1 x2 x3 x4 x5 h l 2304 inh inl inb_S4352x128_S256x128_2304_0))
    (dqPart x0 x1 x2 x3 x4 x5 h l 2560 inh inl inb_S4352x128_S256x128_2560_0))
    (dqPart x0 x1 x2 x3 x4 x5 h l 2816 inh inl inb_S4352x128_S256x128_2816_0))
    (dqPart x0 x1 x2 x3 x4 x5 h l 3072 inh inl inb_S4352x128_S256x128_3072_0))
    (dqPart x0 x1 x2 x3 x4 x5 h l 3328 inh inl inb_S4352x128_S256x128_3328_0))
    (dqPart x0 x1 x2 x3 x4 x5 h l 3584 inh inl inb_S4352x128_S256x128_3584_0))
    (dqPart x0 x1 x2 x3 x4 x5 h l 3840 inh inl inb_S4352x128_S256x128_3840_0))
    (dqPart x0 x1 x2 x3 x4 x5 h l 4096 inh inl inb_S4352x128_S256x128_4096_0)

end Blocks

variable (c : Dev nD) (i : grid0.Coords) (arg3 : Memref sig .tc .vmem S256x512 .bf16) (harg3 : arg3.IsWhole) (arg4 : Memref sig .tc .vmem S4352x128 .bf16) (harg4 : arg4.IsWhole) (arg5 : Memref sig .tc .vmem S4352x128 .bf16) (harg5 : arg5.IsWhole) (arg6 : Memref sig .tc .vmem S256x512 .bf16) (harg6 : arg6.IsWhole) (arg7 : Memref sig .tc .vmem S1x256x4 .f32) (harg7 : arg7.IsWhole) (arg8 : Memref sig .tc .vmem S256x512 .bf16) (harg8 : arg8.IsWhole) (arg9 : Memref sig .tc .vmem S256x512 .f32) (harg9 : arg9.IsWhole) (arg10 : Memref sig .tc .vmem S4352x128 .f32) (harg10 : arg10.IsWhole) (arg11 : Memref sig .tc .vmem S4352x128 .f32) (harg11 : arg11.IsWhole)

/-- The gradient of the queries at a first point of the grid: the 256 context keys only. -/
theorem outA6 (hc0 : cond0_0 i) (hc1 : cond0_1 i) (hc2 : ¬ cond0_2 i) (x0 : Vec F S256x512 .bf16) (x1 x2 : Vec F S4352x128 .bf16) (x3 : Vec F S256x512 .bf16)
    (x4 : Vec F S1x256x4 .f32) (x5 : Vec F S256x512 .bf16) :
    out0_A_6 c i arg3 harg3 arg4 harg4 arg5 harg5 arg6 harg6 arg7 harg7 arg8 harg8 arg9 harg9 arg10 harg10 arg11 harg11 hc0 hc1 hc2 x0 x1 x2 x3 x4 x5 = View.canon [
      ⟨Rect.unit (s := S256x512) ![0, 384] S256x128.size inb_S256x512_S256x128_0_384, dqPart x0 x1 x2 x3 x4 x5 384 3 0 inb_S256x512_S256x128_0_384 inb_S1x256x4_S1x256x1_0_0_3 inb_S4352x128_S256x128_0_0⟩,
      ⟨Rect.unit (s := S256x512) ![0, 256] S256x128.size inb_S256x512_S256x128_0_256, dqPart x0 x1 x2 x3 x4 x5 256 2 0 inb_S256x512_S256x128_0_256 inb_S1x256x4_S1x256x1_0_0_2 inb_S4352x128_S256x128_0_0⟩,
      ⟨Rect.unit (s := S256x512) ![0, 128] S256x128.size inb_S256x512_S256x128_0_128, dqPart x0 x1 x2 x3 x4 x5 128 1 0 inb_S256x512_S256x128_0_128 inb_S1x256x4_S1x256x1_0_0_1 inb_S4352x128_S256x128_0_0⟩,
      ⟨Rect.unit (s := S256x512) ![0, 0] S256x128.size inb_S256x512_S256x128_0_0, dqPart x0 x1 x2 x3 x4 x5 0 0 0 inb_S256x512_S256x128_0_0 inb_S1x256x4_S1x256x1_0_0_0 inb_S4352x128_S256x128_0_0⟩] := by
  frame_out
  rfl

/-- The gradient of the queries at a later point: all keys. -/
theorem outB6 (hc0 : ¬ cond0_0 i) (hc1 : ¬ cond0_1 i) (hc2 : cond0_2 i) (x0 : Vec F S256x512 .bf16) (x1 x2 : Vec F S4352x128 .bf16) (x3 : Vec F S256x512 .bf16)
    (x4 : Vec F S1x256x4 .f32) (x5 : Vec F S256x512 .bf16) (xo7 xo8 : Vec F S4352x128 .f32) :
    out0_B_6 c i arg3 harg3 arg4 harg4 arg5 harg5 arg6 harg6 arg7 harg7 arg8 harg8 arg9 harg9 arg10 harg10 arg11 harg11 hc0 hc1 hc2 x0 x1 x2 x3 x4 x5 xo7 xo8 = View.canon [
      ⟨Rect.unit (s := S256x512) ![0, 384] S256x128.size inb_S256x512_S256x128_0_384, dqSum x0 x1 x2 x3 x4 x5 384 3 inb_S256x512_S256x128_0_384 inb_S1x256x4_S1x256x1_0_0_3⟩,
      ⟨Rect.unit (s := S256x512) ![0, 256] S256x128.size inb_S256x512_S256x128_0_256, dqSum x0 x1 x2 x3 x4 x5 256 2 inb_S256x512_S256x128_0_256 inb_S1x256x4_S1x256x1_0_0_2⟩,
      ⟨Rect.unit (s := S256x512) ![0, 128] S256x128.size inb_S256x512_S256x128_0_128, dqSum x0 x1 x2 x3 x4 x5 128 1 inb_S256x512_S256x128_0_128 inb_S1x256x4_S1x256x1_0_0_1⟩,
      ⟨Rect.unit (s := S256x512) ![0, 0] S256x128.size inb_S256x512_S256x128_0_0, dqSum x0 x1 x2 x3 x4 x5 0 0 inb_S256x512_S256x128_0_0 inb_S1x256x4_S1x256x1_0_0_0⟩] := by
  frame_out
  rfl

/-- The gradient of the keys at a first point: zero, and the context's queries' contribution to the context's rows. -/
theorem outA7 (hc0 : cond0_0 i) (hc1 : cond0_1 i) (hc2 : ¬ cond0_2 i) (x0 : Vec F S256x512 .bf16) (x1 x2 : Vec F S4352x128 .bf16) (x3 : Vec F S256x512 .bf16)
    (x4 : Vec F S1x256x4 .f32) (x5 : Vec F S256x512 .bf16) :
    out0_A_7 c i arg3 harg3 arg4 harg4 arg5 harg5 arg6 harg6 arg7 harg7 arg8 harg8 arg9 harg9 arg10 harg10 arg11 harg11 hc0 hc1 hc2 x0 x1 x2 x3 x4 x5 = View.canon [
      ⟨Rect.unit (s := S4352x128) ![0, 0] S256x128.size inb_S4352x128_S256x128_0_0, dkStep x0 x1 x2 x3 x4 x5 (rows k0_pay1 0 inb_S4352x128_S256x128_0_0) 0 inb_S4352x128_S256x128_0_0⟩,
      ⟨Rect.unit (s := S4352x128) ![0, 0] S4352x128.size inb_S4352x128_S4352x128_0_0, k0_pay1⟩] := by
  frame_out
  simp (disch := decide) only [View.readCov_eq_canon', View.canon_cons_unit_lit']
  rfl

/-- The gradient of the keys at a later point: what was there, and the block's queries' contribution. -/
theorem outB7 (hc0 : ¬ cond0_0 i) (hc1 : ¬ cond0_1 i) (hc2 : cond0_2 i) (x0 : Vec F S256x512 .bf16) (x1 x2 : Vec F S4352x128 .bf16) (x3 : Vec F S256x512 .bf16)
    (x4 : Vec F S1x256x4 .f32) (x5 : Vec F S256x512 .bf16) (xo7 xo8 : Vec F S4352x128 .f32) :
    out0_B_7 c i arg3 harg3 arg4 harg4 arg5 harg5 arg6 harg6 arg7 harg7 arg8 harg8 arg9 harg9 arg10 harg10 arg11 harg11 hc0 hc1 hc2 x0 x1 x2 x3 x4 x5 xo7 xo8 = View.canon [
      ⟨Rect.unit (s := S4352x128) ![4096, 0] S256x128.size inb_S4352x128_S256x128_4096_0, dkStep x0 x1 x2 x3 x4 x5 (rows xo7 4096 inb_S4352x128_S256x128_4096_0) 4096 inb_S4352x128_S256x128_4096_0⟩,
      ⟨Rect.unit (s := S4352x128) ![3840, 0] S256x128.size inb_S4352x128_S256x128_3840_0, dkStep x0 x1 x2 x3 x4 x5 (rows xo7 3840 inb_S4352x128_S256x128_3840_0) 3840 inb_S4352x128_S256x128_3840_0⟩,
      ⟨Rect.unit (s := S4352x128) ![3584, 0] S256x128.size inb_S4352x128_S256x128_3584_0, dkStep x0 x1 x2 x3 x4 x5 (rows xo7 3584 inb_S4352x128_S256x128_3584_0) 3584 inb_S4352x128_S256x128_3584_0⟩,
      ⟨Rect.unit (s := S4352x128) ![3328, 0] S256x128.size inb_S4352x128_S256x128_3328_0, dkStep x0 x1 x2 x3 x4 x5 (rows xo7 3328 inb_S4352x128_S256x128_3328_0) 3328 inb_S4352x128_S256x128_3328_0⟩,
      ⟨Rect.unit (s := S4352x128) ![3072, 0] S256x128.size inb_S4352x128_S256x128_3072_0, dkStep x0 x1 x2 x3 x4 x5 (rows xo7 3072 inb_S4352x128_S256x128_3072_0) 3072 inb_S4352x128_S256x128_3072_0⟩,
      ⟨Rect.unit (s := S4352x128) ![2816, 0] S256x128.size inb_S4352x128_S256x128_2816_0, dkStep x0 x1 x2 x3 x4 x5 (rows xo7 2816 inb_S4352x128_S256x128_2816_0) 2816 inb_S4352x128_S256x128_2816_0⟩,
      ⟨Rect.unit (s := S4352x128) ![2560, 0] S256x128.size inb_S4352x128_S256x128_2560_0, dkStep x0 x1 x2 x3 x4 x5 (rows xo7 2560 inb_S4352x128_S256x128_2560_0) 2560 inb_S4352x128_S256x128_2560_0⟩,
      ⟨Rect.unit (s := S4352x128) ![2304, 0] S256x128.size inb_S4352x128_S256x128_2304_0, dkStep x0 x1 x2 x3 x4 x5 (rows xo7 2304 inb_S4352x128_S256x128_2304_0) 2304 inb_S4352x128_S256x128_2304_0⟩,
      ⟨Rect.unit (s := S4352x128) ![2048, 0] S256x128.size inb_S4352x128_S256x128_2048_0, dkStep x0 x1 x2 x3 x4 x5 (rows xo7 2048 inb_S4352x128_S256x128_2048_0) 2048 inb_S4352x128_S256x128_2048_0⟩,
      ⟨Rect.unit (s := S4352x128) ![1792, 0] S256x128.size inb_S4352x128_S256x128_1792_0, dkStep x0 x1 x2 x3 x4 x5 (rows xo7 1792 inb_S4352x128_S256x128_1792_0) 1792 inb_S4352x128_S256x128_1792_0⟩,
      ⟨Rect.unit (s := S4352x128) ![1536, 0] S256x128.size inb_S4352x128_S256x128_1536_0, dkStep x0 x1 x2 x3 x4 x5 (rows xo7 1536 inb_S4352x128_S256x128_1536_0) 1536 inb_S4352x128_S256x128_1536_0⟩,
      ⟨Rect.unit (s := S4352x128) ![1280, 0] S256x128.size inb_S4352x128_S256x128_1280_0, dkStep x0 x1 x2 x3 x4 x5 (rows xo7 1280 inb_S4352x128_S256x128_1280_0) 1280 inb_S4352x128_S256x128_1280_0⟩,
      ⟨Rect.unit (s := S4352x128) ![1024, 0] S256x128.size inb_S4352x128_S256x128_1024_0, dkStep x0 x1 x2 x3 x4 x5 (rows xo7 1024 inb_S4352x128_S256x128_1024_0) 1024 inb_S4352x128_S256x128_1024_0⟩,
      ⟨Rect.unit (s := S4352x128) ![768, 0] S256x128.size inb_S4352x128_S256x128_768_0, dkStep x0 x1 x2 x3 x4 x5 (rows xo7 768 inb_S4352x128_S256x128_768_0) 768 inb_S4352x128_S256x128_768_0⟩,
      ⟨Rect.unit (s := S4352x128) ![512, 0] S256x128.size inb_S4352x128_S256x128_512_0, dkStep x0 x1 x2 x3 x4 x5 (rows xo7 512 inb_S4352x128_S256x128_512_0) 512 inb_S4352x128_S256x128_512_0⟩,
      ⟨Rect.unit (s := S4352x128) ![256, 0] S256x128.size inb_S4352x128_S256x128_256_0, dkStep x0 x1 x2 x3 x4 x5 (rows xo7 256 inb_S4352x128_S256x128_256_0) 256 inb_S4352x128_S256x128_256_0⟩,
      ⟨Rect.unit (s := S4352x128) ![0, 0] S256x128.size inb_S4352x128_S256x128_0_0, dkStep x0 x1 x2 x3 x4 x5 (rows xo7 0 inb_S4352x128_S256x128_0_0) 0 inb_S4352x128_S256x128_0_0⟩] := by
  frame_out
  rfl

/-- The gradient of the values at a first point: zero, and the context's queries' contribution to the context's rows. -/
theorem outA8 (hc0 : cond0_0 i) (hc1 : cond0_1 i) (hc2 : ¬ cond0_2 i) (x0 : Vec F S256x512 .bf16) (x1 x2 : Vec F S4352x128 .bf16) (x3 : Vec F S256x512 .bf16)
    (x4 : Vec F S1x256x4 .f32) (x5 : Vec F S256x512 .bf16) :
    out0_A_8 c i arg3 harg3 arg4 harg4 arg5 harg5 arg6 harg6 arg7 harg7 arg8 harg8 arg9 harg9 arg10 harg10 arg11 harg11 hc0 hc1 hc2 x0 x1 x2 x3 x4 x5 = View.canon [
      ⟨Rect.unit (s := S4352x128) ![0, 0] S256x128.size inb_S4352x128_S256x128_0_0, dvStep x0 x1 x4 x5 (rows k0_pay2 0 inb_S4352x128_S256x128_0_0) 0 inb_S4352x128_S256x128_0_0⟩,
      ⟨Rect.unit (s := S4352x128) ![0, 0] S4352x128.size inb_S4352x128_S4352x128_0_0, k0_pay2⟩] := by
  frame_out
  simp (disch := decide) only [View.readCov_eq_canon', View.canon_cons_unit_lit']
  rfl

/-- The gradient of the values at a later point: what was there, and the block's queries' contribution. -/
theorem outB8 (hc0 : ¬ cond0_0 i) (hc1 : ¬ cond0_1 i) (hc2 : cond0_2 i) (x0 : Vec F S256x512 .bf16) (x1 x2 : Vec F S4352x128 .bf16) (x3 : Vec F S256x512 .bf16)
    (x4 : Vec F S1x256x4 .f32) (x5 : Vec F S256x512 .bf16) (xo7 xo8 : Vec F S4352x128 .f32) :
    out0_B_8 c i arg3 harg3 arg4 harg4 arg5 harg5 arg6 harg6 arg7 harg7 arg8 harg8 arg9 harg9 arg10 harg10 arg11 harg11 hc0 hc1 hc2 x0 x1 x2 x3 x4 x5 xo7 xo8 = View.canon [
      ⟨Rect.unit (s := S4352x128) ![4096, 0] S256x128.size inb_S4352x128_S256x128_4096_0, dvStep x0 x1 x4 x5 (rows xo8 4096 inb_S4352x128_S256x128_4096_0) 4096 inb_S4352x128_S256x128_4096_0⟩,
      ⟨Rect.unit (s := S4352x128) ![3840, 0] S256x128.size inb_S4352x128_S256x128_3840_0, dvStep x0 x1 x4 x5 (rows xo8 3840 inb_S4352x128_S256x128_3840_0) 3840 inb_S4352x128_S256x128_3840_0⟩,
      ⟨Rect.unit (s := S4352x128) ![3584, 0] S256x128.size inb_S4352x128_S256x128_3584_0, dvStep x0 x1 x4 x5 (rows xo8 3584 inb_S4352x128_S256x128_3584_0) 3584 inb_S4352x128_S256x128_3584_0⟩,
      ⟨Rect.unit (s := S4352x128) ![3328, 0] S256x128.size inb_S4352x128_S256x128_3328_0, dvStep x0 x1 x4 x5 (rows xo8 3328 inb_S4352x128_S256x128_3328_0) 3328 inb_S4352x128_S256x128_3328_0⟩,
      ⟨Rect.unit (s := S4352x128) ![3072, 0] S256x128.size inb_S4352x128_S256x128_3072_0, dvStep x0 x1 x4 x5 (rows xo8 3072 inb_S4352x128_S256x128_3072_0) 3072 inb_S4352x128_S256x128_3072_0⟩,
      ⟨Rect.unit (s := S4352x128) ![2816, 0] S256x128.size inb_S4352x128_S256x128_2816_0, dvStep x0 x1 x4 x5 (rows xo8 2816 inb_S4352x128_S256x128_2816_0) 2816 inb_S4352x128_S256x128_2816_0⟩,
      ⟨Rect.unit (s := S4352x128) ![2560, 0] S256x128.size inb_S4352x128_S256x128_2560_0, dvStep x0 x1 x4 x5 (rows xo8 2560 inb_S4352x128_S256x128_2560_0) 2560 inb_S4352x128_S256x128_2560_0⟩,
      ⟨Rect.unit (s := S4352x128) ![2304, 0] S256x128.size inb_S4352x128_S256x128_2304_0, dvStep x0 x1 x4 x5 (rows xo8 2304 inb_S4352x128_S256x128_2304_0) 2304 inb_S4352x128_S256x128_2304_0⟩,
      ⟨Rect.unit (s := S4352x128) ![2048, 0] S256x128.size inb_S4352x128_S256x128_2048_0, dvStep x0 x1 x4 x5 (rows xo8 2048 inb_S4352x128_S256x128_2048_0) 2048 inb_S4352x128_S256x128_2048_0⟩,
      ⟨Rect.unit (s := S4352x128) ![1792, 0] S256x128.size inb_S4352x128_S256x128_1792_0, dvStep x0 x1 x4 x5 (rows xo8 1792 inb_S4352x128_S256x128_1792_0) 1792 inb_S4352x128_S256x128_1792_0⟩,
      ⟨Rect.unit (s := S4352x128) ![1536, 0] S256x128.size inb_S4352x128_S256x128_1536_0, dvStep x0 x1 x4 x5 (rows xo8 1536 inb_S4352x128_S256x128_1536_0) 1536 inb_S4352x128_S256x128_1536_0⟩,
      ⟨Rect.unit (s := S4352x128) ![1280, 0] S256x128.size inb_S4352x128_S256x128_1280_0, dvStep x0 x1 x4 x5 (rows xo8 1280 inb_S4352x128_S256x128_1280_0) 1280 inb_S4352x128_S256x128_1280_0⟩,
      ⟨Rect.unit (s := S4352x128) ![1024, 0] S256x128.size inb_S4352x128_S256x128_1024_0, dvStep x0 x1 x4 x5 (rows xo8 1024 inb_S4352x128_S256x128_1024_0) 1024 inb_S4352x128_S256x128_1024_0⟩,
      ⟨Rect.unit (s := S4352x128) ![768, 0] S256x128.size inb_S4352x128_S256x128_768_0, dvStep x0 x1 x4 x5 (rows xo8 768 inb_S4352x128_S256x128_768_0) 768 inb_S4352x128_S256x128_768_0⟩,
      ⟨Rect.unit (s := S4352x128) ![512, 0] S256x128.size inb_S4352x128_S256x128_512_0, dvStep x0 x1 x4 x5 (rows xo8 512 inb_S4352x128_S256x128_512_0) 512 inb_S4352x128_S256x128_512_0⟩,
      ⟨Rect.unit (s := S4352x128) ![256, 0] S256x128.size inb_S4352x128_S256x128_256_0, dvStep x0 x1 x4 x5 (rows xo8 256 inb_S4352x128_S256x128_256_0) 256 inb_S4352x128_S256x128_256_0⟩,
      ⟨Rect.unit (s := S4352x128) ![0, 0] S256x128.size inb_S4352x128_S256x128_0_0, dvStep x0 x1 x4 x5 (rows xo8 0 inb_S4352x128_S256x128_0_0) 0 inb_S4352x128_S256x128_0_0⟩] := by
  frame_out
  rfl

end Cert.KernelIdeal.Tile

end
-- ==== Proof.TileIdeal.lean ====
/- One grid point of the backward kernel over the extended reals: where its input blocks hold real numbers, so do the
   blocks it writes, and this module says which. -/
module

public import proofs.«01_k».proof.Proof.Tile
public import Idealize.ShloMosaic.Lib.Pipeline.ValueKit
public import Idealize.ShloMosaic.PureOps.Ideal.Laws

@[expose] public section

set_option maxRecDepth 16384

noncomputable section

namespace Cert.KernelIdeal.Tile

open Idealize.ShloMosaic Idealize.ShloMosaic.TcCoe Cert.KernelIdeal.Gen

/-! ## 256 queries of one head against 256 keys -/

/-- The softmax weight of key `s` for query `a`, in base 2. -/
def pB (Q K : Fin 256 → Fin 128 → ℝ) (L : Fin 256 → ℝ) (a s : Fin 256) : ℝ :=
  Real.rpow 2 (∑ d, Q a d * K s d - L a)

/-- The gradient of the score of key `s` for query `a`. -/
def dB (Q K V O D : Fin 256 → Fin 128 → ℝ) (L : Fin 256 → ℝ) (a s : Fin 256) : ℝ :=
  pB Q K L a s * (∑ d, D a d * V s d - ∑ d, D a d * O a d)

theorem coe_sum {ι : Type*} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

section Real

variable {q k v o dO : Vec Ideal S256x128 .bf16} {l : Vec Ideal S1x256x1 .f32}
  {Q K V O D : Fin 256 → Fin 128 → ℝ} {L : Fin 256 → ℝ}
  (hq : ∀ a d, q (ix2 a d) = (Q a d : EReal)) (hk : ∀ a d, k (ix2 a d) = (K a d : EReal))
  (hv : ∀ a d, v (ix2 a d) = (V a d : EReal)) (ho : ∀ a d, o (ix2 a d) = (O a d : EReal))
  (hd : ∀ a d, dO (ix2 a d) = (D a d : EReal)) (hl : ∀ a, l (ix3 0 a 0) = (L a : EReal))

include hq hk hl in
theorem prob_real (a s : Fin 256) : prob q k l (ix2 a s) = (pB Q K L a s : EReal) := by
  unfold prob
  pointwise
  simp only [hq, hk, hl, ← EReal.coe_mul, coe_sum, ← EReal.coe_sub, Ideal.exp2_coe]
  rfl

include hq hk hv ho hd hl in
theorem dss_real (a s : Fin 256) : dss q k v o dO l (ix2 a s) = (dB Q K V O D L a s : EReal) := by
  unfold dss rowDot
  pointwise
  simp only [prob_real hq hk hl, hv, ho, hd, ← EReal.coe_mul, coe_sum, ← EReal.coe_sub]
  rfl

include hq hk hv ho hd hl in
theorem dqc_real (a : Fin 256) (e : Fin 128) :
    dqc q k v o dO l (ix2 a e) = ((∑ s, dB Q K V O D L a s * K s e : ℝ) : EReal) := by
  unfold dqc
  pointwise
  simp only [dss_real hq hk hv ho hd hl, hk, ← EReal.coe_mul, coe_sum]

include hq hk hv ho hd hl in
theorem dkc_real (s : Fin 256) (e : Fin 128) :
    dkc q k v o dO l (ix2 s e) = ((∑ a, dB Q K V O D L a s * Q a e : ℝ) : EReal) := by
  unfold dkc
  pointwise
  simp only [dss_real hq hk hv ho hd hl, hq, ← EReal.coe_mul, coe_sum]

include hq hk hd hl in
theorem dvc_real (s : Fin 256) (e : Fin 128) :
    dvc q k dO l (ix2 s e) = ((∑ a, pB Q K L a s * D a e : ℝ) : EReal) := by
  unfold dvc
  pointwise
  simp only [prob_real hq hk hl, hd, ← EReal.coe_mul, coe_sum]

end Real

end Cert.KernelIdeal.Tile

end
-- ==== Proof.TileWin.lean ====
/- The blocks one grid point of the backward kernel writes, over the extended reals: real formulas in the point's
   input blocks, whole windows at a time. -/
module

public import proofs.«01_k».proof.Proof.TileIdeal

@[expose] public section

set_option maxRecDepth 16384

noncomputable section

namespace Cert.KernelIdeal.Tile

open Idealize.ShloMosaic Idealize.ShloMosaic.TcCoe Cert.KernelIdeal.Gen

/-- Column `d` of head `g` among the four heads' columns. -/
def hc (g : Fin 4) (d : Fin 128) : Fin 512 := ⟨128 * g.val + d.val, by omega⟩

/-- Row `a` of the `j`-th block of 256 rows. -/
def rw17 (j : Fin 17) (a : Fin 256) : Fin 4352 := ⟨256 * j.val + a.val, by omega⟩

theorem sum17 (f : Fin 17 → ℝ) : ∑ j, f j = f 0 + f 1 + f 2 + f 3 + f 4 + f 5 + f 6 + f 7 + f 8 + f 9 + f 10 + f 11
    + f 12 + f 13 + f 14 + f 15 + f 16 := by
  simp only [Fin.sum_univ_castSucc, Finset.univ_eq_empty, Finset.sum_empty, zero_add]
  rfl

theorem sum_rows (f : Fin 4352 → ℝ) : ∑ s, f s = ∑ j : Fin 17, ∑ a : Fin 256, f (rw17 j a) := by
  rw [← Fintype.sum_prod_type']
  refine (Fintype.sum_equiv (finProdFinEquiv (m := 17) (n := 256)) (fun x => f (rw17 x.1 x.2)) f fun x => ?_).symm
  congr 1
  apply Fin.ext
  show 256 * x.1.val + x.2.val = x.2.val + 256 * x.1.val
  omega

section Win

variable (X0 X3 X5 : Fin 256 → Fin 512 → ℝ) (X1 X2 : Fin 4352 → Fin 128 → ℝ) (X4 : Fin 256 → Fin 4 → ℝ)

/-- The softmax weight of key `s` for query `a` of head `g`. -/
def pW (g : Fin 4) (a : Fin 256) (s : Fin 4352) : ℝ :=
  Real.rpow 2 (∑ d, X0 a (hc g d) * X1 s d - X4 a g)

/-- The gradient of that key's score. -/
def dW (g : Fin 4) (a : Fin 256) (s : Fin 4352) : ℝ :=
  pW X0 X1 X4 g a s * (∑ d, X5 a (hc g d) * X2 s d - ∑ d, X5 a (hc g d) * X3 a (hc g d))

variable {X0 X3 X5 X1 X2 X4}
  {x0 : Vec Ideal S256x512 .bf16} {x1 x2 : Vec Ideal S4352x128 .bf16} {x3 : Vec Ideal S256x512 .bf16}
  {x4 : Vec Ideal S1x256x4 .f32} {x5 : Vec Ideal S256x512 .bf16}
  (h0 : ∀ a d, x0 (ix2 a d) = (X0 a d : EReal)) (h1 : ∀ a d, x1 (ix2 a d) = (X1 a d : EReal))
  (h2 : ∀ a d, x2 (ix2 a d) = (X2 a d : EReal)) (h3 : ∀ a d, x3 (ix2 a d) = (X3 a d : EReal))
  (h4 : ∀ a g, x4 (ix3 0 a g) = (X4 a g : EReal)) (h5 : ∀ a d, x5 (ix2 a d) = (X5 a d : EReal))

theorem cols_real {x : Vec Ideal S256x512 .bf16} {X : Fin 256 → Fin 512 → ℝ}
    (hx : ∀ a d, x (ix2 a d) = (X a d : EReal)) (g : Fin 4) (h : ℕ) (eh : h = 128 * g.val) (inh) (a : Fin 256)
    (d : Fin 128) : cols x h inh (ix2 a d) = (X a (hc g d) : EReal) := by
  subst eh
  unfold cols
  pointwise
  exact hx _ _

theorem rows_apply {e : EltTy} (x : Vec Ideal S4352x128 e) (j : Fin 17) (o : ℕ) (eo : o = 256 * j.val) (ino)
    (a : Fin 256) (d : Fin 128) : rows x o ino (ix2 a d) = x (ix2 (rw17 j a) d) := by
  subst eo
  unfold rows
  pointwise
  rfl

theorem lcol_real (g : Fin 4) (l : ℕ) (el : l = g.val) (inl) (a : Fin 256)
    (h4 : ∀ a g, x4 (ix3 0 a g) = (X4 a g : EReal)) : lcol x4 l inl (ix3 0 a 0) = (X4 a g : EReal) := by
  subst el
  unfold lcol
  pointwise
  exact h4 _ _

include h0 h1 h2 h3 h4 h5 in
theorem dqPart_real (g : Fin 4) (j : Fin 17) (h l o : ℕ) (eh : h = 128 * g.val) (el : l = g.val)
    (eo : o = 256 * j.val) (inh inl ino) (a : Fin 256) (e : Fin 128) :
    dqPart x0 x1 x2 x3 x4 x5 h l o inh inl ino (ix2 a e)
      = ((∑ s, dW X0 X3 X5 X1 X2 X4 g a (rw17 j s) * X1 (rw17 j s) e : ℝ) : EReal) :=
  dqc_real (cols_real h0 g h eh inh) (fun a d => (rows_apply x1 j o eo ino a d).trans (h1 _ _))
    (fun a d => (rows_apply x2 j o eo ino a d).trans (h2 _ _)) (cols_real h3 g h eh inh) (cols_real h5 g h eh inh)
    (fun a => lcol_real g l el inl a h4) a e

include h0 h1 h2 h3 h4 h5 in
theorem dkPart_real (g : Fin 4) (j : Fin 17) (h l o : ℕ) (eh : h = 128 * g.val) (el : l = g.val)
    (eo : o = 256 * j.val) (inh inl ino) (s : Fin 256) (e : Fin 128) :
    dkPart x0 x1 x2 x3 x4 x5 h l o inh inl ino (ix2 s e)
      = ((∑ a, dW X0 X3 X5 X1 X2 X4 g a (rw17 j s) * X0 a (hc g e) : ℝ) : EReal) :=
  dkc_real (cols_real h0 g h eh inh) (fun a d => (rows_apply x1 j o eo ino a d).trans (h1 _ _))
    (fun a d => (rows_apply x2 j o eo ino a d).trans (h2 _ _)) (cols_real h3 g h eh inh) (cols_real h5 g h eh inh)
    (fun a => lcol_real g l el inl a h4) s e

include h0 h1 h4 h5 in
theorem dvPart_real (g : Fin 4) (j : Fin 17) (h l o : ℕ) (eh : h = 128 * g.val) (el : l = g.val)
    (eo : o = 256 * j.val) (inh inl ino) (s : Fin 256) (e : Fin 128) :
    dvPart x0 x1 x4 x5 h l o inh inl ino (ix2 s e)
      = ((∑ a, pW X0 X1 X4 g a (rw17 j s) * X5 a (hc g e) : ℝ) : EReal) :=
  dvc_real (cols_real h0 g h eh inh) (fun a d => (rows_apply x1 j o eo ino a d).trans (h1 _ _))
    (cols_real h5 g h eh inh) (fun a => lcol_real g l el inl a h4) s e

include h0 h1 h2 h3 h4 h5 in
theorem dkStep_real (old : Vec Ideal S256x128 .f32) (j : Fin 17) (o : ℕ) (eo : o = 256 * j.val) (ino) (s : Fin 256)
    (e : Fin 128) : dkStep x0 x1 x2 x3 x4 x5 old o ino (ix2 s e)
      = old (ix2 s e) + ((∑ g, ∑ a, dW X0 X3 X5 X1 X2 X4 g a (rw17 j s) * X0 a (hc g e) : ℝ) : EReal) := by
  unfold dkStep
  pointwise
  rw [dkPart_real h0 h1 h2 h3 h4 h5 0 j 0 0 _ rfl rfl eo, dkPart_real h0 h1 h2 h3 h4 h5 1 j 128 1 _ rfl rfl eo,
    dkPart_real h0 h1 h2 h3 h4 h5 2 j 256 2 _ rfl rfl eo, dkPart_real h0 h1 h2 h3 h4 h5 3 j 384 3 _ rfl rfl eo,
    ← EReal.coe_add, ← EReal.coe_add, ← EReal.coe_add, Fin.sum_univ_four]

include h0 h1 h4 h5 in
theorem dvStep_real (old : Vec Ideal S256x128 .f32) (j : Fin 17) (o : ℕ) (eo : o = 256 * j.val) (ino) (s : Fin 256)
    (e : Fin 128) : dvStep x0 x1 x4 x5 old o ino (ix2 s e)
      = old (ix2 s e) + ((∑ g, ∑ a, pW X0 X1 X4 g a (rw17 j s) * X5 a (hc g e) : ℝ) : EReal) := by
  unfold dvStep
  pointwise
  rw [dvPart_real h0 h1 h4 h5 0 j 0 0 _ rfl rfl eo, dvPart_real h0 h1 h4 h5 1 j 128 1 _ rfl rfl eo,
    dvPart_real h0 h1 h4 h5 2 j 256 2 _ rfl rfl eo, dvPart_real h0 h1 h4 h5 3 j 384 3 _ rfl rfl eo,
    ← EReal.coe_add, ← EReal.coe_add, ← EReal.coe_add, Fin.sum_univ_four]

include h0 h1 h2 h3 h4 h5 in
theorem dqSum_real (g : Fin 4) (h l : ℕ) (eh : h = 128 * g.val) (el : l = g.val) (inh inl) (a : Fin 256)
    (e : Fin 128) : dqSum x0 x1 x2 x3 x4 x5 h l inh inl (ix2 a e)
      = ((∑ s, dW X0 X3 X5 X1 X2 X4 g a s * X1 s e : ℝ) : EReal) := by
  have P := fun (j : Fin 17) (o : ℕ) (eo : o = 256 * j.val) (ino) =>
    dqPart_real h0 h1 h2 h3 h4 h5 g j h l o eh el eo inh inl ino a e
  unfold dqSum
  pointwise
  rw [P 0 0 rfl, P 1 256 rfl, P 2 512 rfl, P 3 768 rfl, P 4 1024 rfl, P 5 1280 rfl, P 6 1536 rfl, P 7 1792 rfl, P 8 2048 rfl, P 9 2304 rfl,
    P 10 2560 rfl, P 11 2816 rfl, P 12 3072 rfl, P 13 3328 rfl, P 14 3584 rfl, P 15 3840 rfl, P 16 4096 rfl, sum_rows, sum17]
  simp only [EReal.coe_add]

end Win

end Cert.KernelIdeal.Tile

end
-- ==== Proof.TileOut.lean ====
/- What the two kinds of grid point of the backward kernel leave in the three output windows, over the extended reals. -/
module

public import proofs.«01_k».proof.Proof.TileWin

@[expose] public section

set_option maxRecDepth 16384

noncomputable section

namespace Cert.KernelIdeal.Tile

open Idealize.ShloMosaic Idealize.ShloMosaic.TcCoe Cert.KernelIdeal.Gen

/-- The head of a column. -/
def hd (c : Fin 512) : Fin 4 := ⟨c.val / 128, by omega⟩

/-- The column within its head. -/
def lo (c : Fin 512) : Fin 128 := ⟨c.val % 128, by omega⟩

theorem hd_hc (g : Fin 4) (d : Fin 128) : hd (hc g d) = g := Fin.ext (by show (128 * g.val + d.val) / 128 = _; omega)
theorem lo_hc (g : Fin 4) (d : Fin 128) : lo (hc g d) = d := Fin.ext (by show (128 * g.val + d.val) % 128 = _; omega)
theorem hc_hd_lo (c : Fin 512) : hc (hd c) (lo c) = c := Fin.ext (by show 128 * (c.val / 128) + c.val % 128 = _; omega)

/-- Where a block of one head's columns lies. -/
theorem emb_cols (g : Fin 4) (h : ℕ) (eh : h = 128 * g.val) (inh) (a : Fin 256) (d : Fin 128) :
    (Rect.unit (s := S256x512) ![0, h] S256x128.size inh).emb (ix2 a d) = ix2 a (hc g d) := by
  subst eh
  funext b
  fin_cases b
  · exact Fin.ext (by show 0 + 1 * a.val = a.val; omega)
  · exact Fin.ext (by show 128 * g.val + 1 * d.val = 128 * g.val + d.val; omega)

/-- Where a block of 256 rows lies. -/
theorem emb_rows (j : Fin 17) (o : ℕ) (eo : o = 256 * j.val) (ino) (a : Fin 256) (d : Fin 128) :
    (Rect.unit (s := S4352x128) ![o, 0] S256x128.size ino).emb (ix2 a d) = ix2 (rw17 j a) d := by
  subst eo
  funext b
  fin_cases b
  · exact Fin.ext (by show 256 * j.val + 1 * a.val = 256 * j.val + a.val; omega)
  · exact Fin.ext (by show 0 + 1 * d.val = d.val; omega)

/-- Four pieces of columns, one to a head, read at an element. -/
theorem canon_cols (P : Fin 4 → FVec Ideal S256x128 .f32) (a : Fin 256) (c : Fin 512) :
    View.canon (Val := Elt Ideal) (s := S256x512) (e := .f32) [
      ⟨Rect.unit (s := S256x512) ![0, 384] S256x128.size inb_S256x512_S256x128_0_384, P 3⟩,
      ⟨Rect.unit (s := S256x512) ![0, 256] S256x128.size inb_S256x512_S256x128_0_256, P 2⟩,
      ⟨Rect.unit (s := S256x512) ![0, 128] S256x128.size inb_S256x512_S256x128_0_128, P 1⟩,
      ⟨Rect.unit (s := S256x512) ![0, 0] S256x128.size inb_S256x512_S256x128_0_0, P 0⟩] (ix2 a c)
      = P (hd c) (ix2 a (lo c)) := by
  have key := View.canon_apply_of_pieces (Val := Elt Ideal) (S := S256x512) (e := .f32)
    (fun y => P (hd (y 1)) (ix2 (y 0) (lo (y 1)))) [
      ⟨Rect.unit (s := S256x512) ![0, 384] S256x128.size inb_S256x512_S256x128_0_384, P 3⟩,
      ⟨Rect.unit (s := S256x512) ![0, 256] S256x128.size inb_S256x512_S256x128_0_256, P 2⟩,
      ⟨Rect.unit (s := S256x512) ![0, 128] S256x128.size inb_S256x512_S256x128_0_128, P 1⟩,
      ⟨Rect.unit (s := S256x512) ![0, 0] S256x128.size inb_S256x512_S256x128_0_0, P 0⟩] ?_ (ix2 a c)
    ?_
  · exact key
  · have one : ∀ (g : Fin 4) (h : ℕ) (eh : h = 128 * g.val) (inh), ∀ x : S256x128.Idx,
        P g x = (fun y : S256x512.Idx => P (hd (y 1)) (ix2 (y 0) (lo (y 1))))
          ((Rect.unit (s := S256x512) ![0, h] S256x128.size inh).emb x) := by
      intro g h eh inh x
      idx_vars x
      erw [emb_cols g h eh inh]
      show _ = P (hd (hc g x1)) (ix2 x0 (lo (hc g x1)))
      rw [hd_hc, lo_hc]
    simp only [List.forall_mem_cons]
    exact ⟨one 3 384 rfl _, one 2 256 rfl _, one 1 128 rfl _, one 0 0 rfl _, fun p hp => absurd hp List.not_mem_nil⟩
  · refine View.cover_of_tiledL (s := S256x512) _ S256x128.size ?_ _
    rfl

/-- The row's block of 256 rows, and the row within it. -/
def bk (s : Fin 4352) : Fin 17 := ⟨s.val / 256, by omega⟩
def bl (s : Fin 4352) : Fin 256 := ⟨s.val % 256, by omega⟩
theorem bk_rw (j : Fin 17) (a : Fin 256) : bk (rw17 j a) = j := Fin.ext (by show (256 * j.val + a.val) / 256 = _; omega)
theorem bl_rw (j : Fin 17) (a : Fin 256) : bl (rw17 j a) = a := Fin.ext (by show (256 * j.val + a.val) % 256 = _; omega)
theorem rw_bk_bl (s : Fin 4352) : rw17 (bk s) (bl s) = s :=
  Fin.ext (by show 256 * (s.val / 256) + s.val % 256 = _; omega)

/-- Seventeen pieces of 256 rows read at an element. -/
theorem canon_rows (P : Fin 17 → FVec Ideal S256x128 .f32) (r : Fin 4352) (d : Fin 128) :
    View.canon (Val := Elt Ideal) (s := S4352x128) (e := .f32) [
      ⟨Rect.unit (s := S4352x128) ![4096, 0] S256x128.size inb_S4352x128_S256x128_4096_0, P 16⟩,
      ⟨Rect.unit (s := S4352x128) ![3840, 0] S256x128.size inb_S4352x128_S256x128_3840_0, P 15⟩,
      ⟨Rect.unit (s := S4352x128) ![3584, 0] S256x128.size inb_S4352x128_S256x128_3584_0, P 14⟩,
      ⟨Rect.unit (s := S4352x128) ![3328, 0] S256x128.size inb_S4352x128_S256x128_3328_0, P 13⟩,
      ⟨Rect.unit (s := S4352x128) ![3072, 0] S256x128.size inb_S4352x128_S256x128_3072_0, P 12⟩,
      ⟨Rect.unit (s := S4352x128) ![2816, 0] S256x128.size inb_S4352x128_S256x128_2816_0, P 11⟩,
      ⟨Rect.unit (s := S4352x128) ![2560, 0] S256x128.size inb_S4352x128_S256x128_2560_0, P 10⟩,
      ⟨Rect.unit (s := S4352x128) ![2304, 0] S256x128.size inb_S4352x128_S256x128_2304_0, P 9⟩,
      ⟨Rect.unit (s := S4352x128) ![2048, 0] S256x128.size inb_S4352x128_S256x128_2048_0, P 8⟩,
      ⟨Rect.unit (s := S4352x128) ![1792, 0] S256x128.size inb_S4352x128_S256x128_1792_0, P 7⟩,
      ⟨Rect.unit (s := S4352x128) ![1536, 0] S256x128.size inb_S4352x128_S256x128_1536_0, P 6⟩,
      ⟨Rect.unit (s := S4352x128) ![1280, 0] S256x128.size inb_S4352x128_S256x128_1280_0, P 5⟩,
      ⟨Rect.unit (s := S4352x128) ![1024, 0] S256x128.size inb_S4352x128_S256x128_1024_0, P 4⟩,
      ⟨Rect.unit (s := S4352x128) ![768, 0] S256x128.size inb_S4352x128_S256x128_768_0, P 3⟩,
      ⟨Rect.unit (s := S4352x128) ![512, 0] S256x128.size inb_S4352x128_S256x128_512_0, P 2⟩,
      ⟨Rect.unit (s := S4352x128) ![256, 0] S256x128.size inb_S4352x128_S256x128_256_0, P 1⟩,
      ⟨Rect.unit (s := S4352x128) ![0, 0] S256x128.size inb_S4352x128_S256x128_0_0, P 0⟩] (ix2 r d)
      = P (bk r) (ix2 (bl r) d) := by
  have key := View.canon_apply_of_pieces (Val := Elt Ideal) (S := S4352x128) (e := .f32)
    (fun y => P (bk (y 0)) (ix2 (bl (y 0)) (y 1))) [
      ⟨Rect.unit (s := S4352x128) ![4096, 0] S256x128.size inb_S4352x128_S256x128_4096_0, P 16⟩,
      ⟨Rect.unit (s := S4352x128) ![3840, 0] S256x128.size inb_S4352x128_S256x128_3840_0, P 15⟩,
      ⟨Rect.unit (s := S4352x128) ![3584, 0] S256x128.size inb_S4352x128_S256x128_3584_0, P 14⟩,
      ⟨Rect.unit (s := S4352x128) ![3328, 0] S256x128.size inb_S4352x128_S256x128_3328_0, P 13⟩,
      ⟨Rect.unit (s := S4352x128) ![3072, 0] S256x128.size inb_S4352x128_S256x128_3072_0, P 12⟩,
      ⟨Rect.unit (s := S4352x128) ![2816, 0] S256x128.size inb_S4352x128_S256x128_2816_0, P 11⟩,
      ⟨Rect.unit (s := S4352x128) ![2560, 0] S256x128.size inb_S4352x128_S256x128_2560_0, P 10⟩,
      ⟨Rect.unit (s := S4352x128) ![2304, 0] S256x128.size inb_S4352x128_S256x128_2304_0, P 9⟩,
      ⟨Rect.unit (s := S4352x128) ![2048, 0] S256x128.size inb_S4352x128_S256x128_2048_0, P 8⟩,
      ⟨Rect.unit (s := S4352x128) ![1792, 0] S256x128.size inb_S4352x128_S256x128_1792_0, P 7⟩,
      ⟨Rect.unit (s := S4352x128) ![1536, 0] S256x128.size inb_S4352x128_S256x128_1536_0, P 6⟩,
      ⟨Rect.unit (s := S4352x128) ![1280, 0] S256x128.size inb_S4352x128_S256x128_1280_0, P 5⟩,
      ⟨Rect.unit (s := S4352x128) ![1024, 0] S256x128.size inb_S4352x128_S256x128_1024_0, P 4⟩,
      ⟨Rect.unit (s := S4352x128) ![768, 0] S256x128.size inb_S4352x128_S256x128_768_0, P 3⟩,
      ⟨Rect.unit (s := S4352x128) ![512, 0] S256x128.size inb_S4352x128_S256x128_512_0, P 2⟩,
      ⟨Rect.unit (s := S4352x128) ![256, 0] S256x128.size inb_S4352x128_S256x128_256_0, P 1⟩,
      ⟨Rect.unit (s := S4352x128) ![0, 0] S256x128.size inb_S4352x128_S256x128_0_0, P 0⟩] ?_ (ix2 r d)
    ?_
  · exact key
  · have one : ∀ (j : Fin 17) (o : ℕ) (eo : o = 256 * j.val) (ino), ∀ x : S256x128.Idx,
        P j x = (fun y : S4352x128.Idx => P (bk (y 0)) (ix2 (bl (y 0)) (y 1)))
          ((Rect.unit (s := S4352x128) ![o, 0] S256x128.size ino).emb x) := by
      intro j o eo ino x
      idx_vars x
      erw [emb_rows j o eo ino]
      show _ = P (bk (rw17 j x0)) (ix2 (bl (rw17 j x0)) x1)
      rw [bk_rw, bl_rw]
    simp only [List.forall_mem_cons]
    exact ⟨one 16 4096 rfl _, one 15 3840 rfl _, one 14 3584 rfl _, one 13 3328 rfl _, one 12 3072 rfl _, one 11 2816 rfl _, one 10 2560 rfl _, one 9 2304 rfl _, one 8 2048 rfl _, one 7 1792 rfl _, one 6 1536 rfl _, one 5 1280 rfl _, one 4 1024 rfl _, one 3 768 rfl _, one 2 512 rfl _, one 1 256 rfl _, one 0 0 rfl _, fun p hp => absurd hp List.not_mem_nil⟩
  · refine View.cover_of_tiledL (s := S4352x128) _ S256x128.size ?_ _
    rfl

/-- A piece of the first 256 rows over a whole buffer. -/
theorem canon_first (p : FVec Ideal S256x128 .f32) (w : FVec Ideal S4352x128 .f32) (r : Fin 4352) (d : Fin 128) :
    View.canon (Val := Elt Ideal) (s := S4352x128) (e := .f32) [
      ⟨Rect.unit (s := S4352x128) ![0, 0] S256x128.size inb_S4352x128_S256x128_0_0, p⟩,
      ⟨Rect.unit (s := S4352x128) ![0, 0] S4352x128.size inb_S4352x128_S4352x128_0_0, w⟩] (ix2 r d)
      = if r.val < 256 then p (ix2 (bl r) d) else w (ix2 r d) := by
  split
  · rename_i h
    have e : (ix2 r d : S4352x128.Idx) = (Rect.unit (s := S4352x128) ![0, 0] S256x128.size
        inb_S4352x128_S256x128_0_0).emb (ix2 (bl r) d) := by
      refine Eq.trans ?_ (emb_rows 0 0 rfl _ (bl r) d).symm
      congr 1
      exact Fin.ext (by show r.val = 256 * 0 + r.val % 256; omega)
    rw [e]
    exact View.canon_cons_emb _ _ _ _
  · rename_i h
    rw [View.canon_cons_of_not_mem]
    · exact congrFun (View.canon_cons_unit_lit (Val := Elt Ideal) (S := S4352x128) (e := .f32) (off := ![0, 0])
        inb_S4352x128_S4352x128_0_0 w [] (by decide)) _
    · rw [Rect.mem_set_unit]
      intro hall
      have := (hall 0).2
      exact h (by simpa using this)

variable (c : Dev nD) (i : grid0.Coords) (arg3 : Memref sig .tc .vmem S256x512 .bf16) (harg3 : arg3.IsWhole) (arg4 : Memref sig .tc .vmem S4352x128 .bf16) (harg4 : arg4.IsWhole) (arg5 : Memref sig .tc .vmem S4352x128 .bf16) (harg5 : arg5.IsWhole) (arg6 : Memref sig .tc .vmem S256x512 .bf16) (harg6 : arg6.IsWhole) (arg7 : Memref sig .tc .vmem S1x256x4 .f32) (harg7 : arg7.IsWhole) (arg8 : Memref sig .tc .vmem S256x512 .bf16) (harg8 : arg8.IsWhole) (arg9 : Memref sig .tc .vmem S256x512 .f32) (harg9 : arg9.IsWhole) (arg10 : Memref sig .tc .vmem S4352x128 .f32) (harg10 : arg10.IsWhole) (arg11 : Memref sig .tc .vmem S4352x128 .f32) (harg11 : arg11.IsWhole)

variable {X0 X3 X5 : Fin 256 → Fin 512 → ℝ} {X1 X2 : Fin 4352 → Fin 128 → ℝ} {X4 : Fin 256 → Fin 4 → ℝ}
  {x0 : Vec Ideal S256x512 .bf16} {x1 x2 : Vec Ideal S4352x128 .bf16} {x3 : Vec Ideal S256x512 .bf16}
  {x4 : Vec Ideal S1x256x4 .f32} {x5 : Vec Ideal S256x512 .bf16}
  (h0 : ∀ a d, x0 (ix2 a d) = (X0 a d : EReal)) (h1 : ∀ a d, x1 (ix2 a d) = (X1 a d : EReal))
  (h2 : ∀ a d, x2 (ix2 a d) = (X2 a d : EReal)) (h3 : ∀ a d, x3 (ix2 a d) = (X3 a d : EReal))
  (h4 : ∀ a g, x4 (ix3 0 a g) = (X4 a g : EReal)) (h5 : ∀ a d, x5 (ix2 a d) = (X5 a d : EReal))

include h0 h1 h2 h3 h4 h5

/-- The context's queries' gradient: a sum over the 256 context keys. -/
theorem outA6_real (c0 : cond0_0 i) (c1 : cond0_1 i) (c2 : ¬ cond0_2 i) (a : Fin 256) (d : Fin 512) :
    out0_A_6 c i arg3 harg3 arg4 harg4 arg5 harg5 arg6 harg6 arg7 harg7 arg8 harg8 arg9 harg9 arg10 harg10 arg11 harg11 c0 c1 c2 x0 x1 x2 x3 x4 x5 (ix2 a d)
      = ((∑ s, dW X0 X3 X5 X1 X2 X4 (hd d) a (rw17 0 s) * X1 (rw17 0 s) (lo d) : ℝ) : EReal) := by
  rw [outA6]
  have P : ∀ g : Fin 4, ∃ p : FVec Ideal S256x128 .f32, p = (![dqPart x0 x1 x2 x3 x4 x5 0 0 0 inb_S256x512_S256x128_0_0 inb_S1x256x4_S1x256x1_0_0_0 inb_S4352x128_S256x128_0_0, dqPart x0 x1 x2 x3 x4 x5 128 1 0 inb_S256x512_S256x128_0_128 inb_S1x256x4_S1x256x1_0_0_1 inb_S4352x128_S256x128_0_0, dqPart x0 x1 x2 x3 x4 x5 256 2 0 inb_S256x512_S256x128_0_256 inb_S1x256x4_S1x256x1_0_0_2 inb_S4352x128_S256x128_0_0, dqPart x0 x1 x2 x3 x4 x5 384 3 0 inb_S256x512_S256x128_0_384 inb_S1x256x4_S1x256x1_0_0_3 inb_S4352x128_S256x128_0_0] : Fin 4 → FVec Ideal S256x128 .f32) g
      ∧ ∀ a e, p (ix2 a e) = ((∑ s, dW X0 X3 X5 X1 X2 X4 g a (rw17 0 s) * X1 (rw17 0 s) e : ℝ) : EReal) := by
    intro g
    refine ⟨_, rfl, ?_⟩
    fin_cases g
    · exact dqPart_real h0 h1 h2 h3 h4 h5 0 0 0 0 0 rfl rfl rfl _ _ _
    · exact dqPart_real h0 h1 h2 h3 h4 h5 1 0 128 1 0 rfl rfl rfl _ _ _
    · exact dqPart_real h0 h1 h2 h3 h4 h5 2 0 256 2 0 rfl rfl rfl _ _ _
    · exact dqPart_real h0 h1 h2 h3 h4 h5 3 0 384 3 0 rfl rfl rfl _ _ _
  obtain ⟨p, rfl, hp⟩ := P (hd d)
  exact (canon_cols ![dqPart x0 x1 x2 x3 x4 x5 0 0 0 inb_S256x512_S256x128_0_0 inb_S1x256x4_S1x256x1_0_0_0 inb_S4352x128_S256x128_0_0, dqPart x0 x1 x2 x3 x4 x5 128 1 0 inb_S256x512_S256x128_0_128 inb_S1x256x4_S1x256x1_0_0_1 inb_S4352x128_S256x128_0_0, dqPart x0 x1 x2 x3 x4 x5 256 2 0 inb_S256x512_S256x128_0_256 inb_S1x256x4_S1x256x1_0_0_2 inb_S4352x128_S256x128_0_0, dqPart x0 x1 x2 x3 x4 x5 384 3 0 inb_S256x512_S256x128_0_384 inb_S1x256x4_S1x256x1_0_0_3 inb_S4352x128_S256x128_0_0] a d).trans (hp a (lo d))

/-- A later block's queries' gradient: a sum over all keys. -/
theorem outB6_real (c0 : ¬ cond0_0 i) (c1 : ¬ cond0_1 i) (c2 : cond0_2 i) (y7 y8 : Vec Ideal S4352x128 .f32) (a : Fin 256) (d : Fin 512) :
    out0_B_6 c i arg3 harg3 arg4 harg4 arg5 harg5 arg6 harg6 arg7 harg7 arg8 harg8 arg9 harg9 arg10 harg10 arg11 harg11 c0 c1 c2 x0 x1 x2 x3 x4 x5 y7 y8 (ix2 a d)
      = ((∑ s, dW X0 X3 X5 X1 X2 X4 (hd d) a s * X1 s (lo d) : ℝ) : EReal) := by
  rw [outB6]
  have P : ∀ g : Fin 4, ∃ p : FVec Ideal S256x128 .f32, p = (![dqSum x0 x1 x2 x3 x4 x5 0 0 inb_S256x512_S256x128_0_0 inb_S1x256x4_S1x256x1_0_0_0, dqSum x0 x1 x2 x3 x4 x5 128 1 inb_S256x512_S256x128_0_128 inb_S1x256x4_S1x256x1_0_0_1, dqSum x0 x1 x2 x3 x4 x5 256 2 inb_S256x512_S256x128_0_256 inb_S1x256x4_S1x256x1_0_0_2, dqSum x0 x1 x2 x3 x4 x5 384 3 inb_S256x512_S256x128_0_384 inb_S1x256x4_S1x256x1_0_0_3] : Fin 4 → FVec Ideal S256x128 .f32) g
      ∧ ∀ a e, p (ix2 a e) = ((∑ s, dW X0 X3 X5 X1 X2 X4 g a s * X1 s e : ℝ) : EReal) := by
    intro g
    refine ⟨_, rfl, ?_⟩
    fin_cases g
    · exact dqSum_real h0 h1 h2 h3 h4 h5 0 0 0 rfl rfl _ _
    · exact dqSum_real h0 h1 h2 h3 h4 h5 1 128 1 rfl rfl _ _
    · exact dqSum_real h0 h1 h2 h3 h4 h5 2 256 2 rfl rfl _ _
    · exact dqSum_real h0 h1 h2 h3 h4 h5 3 384 3 rfl rfl _ _
  obtain ⟨p, rfl, hp⟩ := P (hd d)
  exact (canon_cols ![dqSum x0 x1 x2 x3 x4 x5 0 0 inb_S256x512_S256x128_0_0 inb_S1x256x4_S1x256x1_0_0_0, dqSum x0 x1 x2 x3 x4 x5 128 1 inb_S256x512_S256x128_0_128 inb_S1x256x4_S1x256x1_0_0_1, dqSum x0 x1 x2 x3 x4 x5 256 2 inb_S256x512_S256x128_0_256 inb_S1x256x4_S1x256x1_0_0_2, dqSum x0 x1 x2 x3 x4 x5 384 3 inb_S256x512_S256x128_0_384 inb_S1x256x4_S1x256x1_0_0_3] a d).trans (hp a (lo d))

/-- The gradient of the keys after a first point: only the context's rows have one. -/
theorem outA7_real (c0 : cond0_0 i) (c1 : cond0_1 i) (c2 : ¬ cond0_2 i) (r : Fin 4352) (d : Fin 128) :
    out0_A_7 c i arg3 harg3 arg4 harg4 arg5 harg5 arg6 harg6 arg7 harg7 arg8 harg8 arg9 harg9 arg10 harg10 arg11 harg11 c0 c1 c2 x0 x1 x2 x3 x4 x5 (ix2 r d)
      = if r.val < 256 then ((∑ g, ∑ a, dW X0 X3 X5 X1 X2 X4 g a r * X0 a (hc g d) : ℝ) : EReal) else 0 := by
  rw [outA7]
  refine (canon_first _ _ r d).trans ?_
  refine if_ctx_congr Iff.rfl (fun h => ?_) (fun _ => ?_)
  · have e : rw17 0 (bl r) = r := Fin.ext (by show 256 * 0 + r.val % 256 = r.val; omega)
    rw [dkStep_real h0 h1 h2 h3 h4 h5 _ 0 0 rfl, rows_apply _ 0 0 rfl, e]
    unfold k0_pay1
    pointwise
  · unfold k0_pay1
    pointwise

/-- The gradient of the keys after a later point: what was there and the block's queries' part. -/
theorem outB7_real (c0 : ¬ cond0_0 i) (c1 : ¬ cond0_1 i) (c2 : cond0_2 i) (y7 y8 : Vec Ideal S4352x128 .f32) (r : Fin 4352) (d : Fin 128) :
    out0_B_7 c i arg3 harg3 arg4 harg4 arg5 harg5 arg6 harg6 arg7 harg7 arg8 harg8 arg9 harg9 arg10 harg10 arg11 harg11 c0 c1 c2 x0 x1 x2 x3 x4 x5 y7 y8 (ix2 r d)
      = y7 (ix2 r d) + ((∑ g, ∑ a, dW X0 X3 X5 X1 X2 X4 g a r * X0 a (hc g d) : ℝ) : EReal) := by
  rw [outB7]
  have ino : ∀ (j : Fin 17) (a : Fin 2), (![256 * j.val, 0] : Fin 2 → ℕ) a + S256x128.size a ≤ S4352x128.size a := by
    intro j a
    fin_cases a
    · show 256 * j.val + 256 ≤ 4352
      omega
    · show 0 + 128 ≤ 128
      omega
  refine (canon_rows (fun j => dkStep x0 x1 x2 x3 x4 x5 (rows y7 (256 * j.val) (ino j)) (256 * j.val) (ino j)) r d).trans ?_
  show dkStep x0 x1 x2 x3 x4 x5 (rows y7 (256 * (bk r).val) (ino (bk r))) (256 * (bk r).val) (ino (bk r)) (ix2 (bl r) d) = _
  rw [dkStep_real h0 h1 h2 h3 h4 h5 _ (bk r) _ rfl, rows_apply _ (bk r) _ rfl, rw_bk_bl]

/-- The gradient of the values after a first point: only the context's rows have one. -/
theorem outA8_real (c0 : cond0_0 i) (c1 : cond0_1 i) (c2 : ¬ cond0_2 i) (r : Fin 4352) (d : Fin 128) :
    out0_A_8 c i arg3 harg3 arg4 harg4 arg5 harg5 arg6 harg6 arg7 harg7 arg8 harg8 arg9 harg9 arg10 harg10 arg11 harg11 c0 c1 c2 x0 x1 x2 x3 x4 x5 (ix2 r d)
      = if r.val < 256 then ((∑ g, ∑ a, pW X0 X1 X4 g a r * X5 a (hc g d) : ℝ) : EReal) else 0 := by
  rw [outA8]
  refine (canon_first _ _ r d).trans ?_
  refine if_ctx_congr Iff.rfl (fun h => ?_) (fun _ => ?_)
  · have e : rw17 0 (bl r) = r := Fin.ext (by show 256 * 0 + r.val % 256 = r.val; omega)
    rw [dvStep_real h0 h1 h4 h5 _ 0 0 rfl, rows_apply _ 0 0 rfl, e]
    unfold k0_pay2
    pointwise
  · unfold k0_pay2
    pointwise

/-- The gradient of the values after a later point: what was there and the block's queries' part. -/
theorem outB8_real (c0 : ¬ cond0_0 i) (c1 : ¬ cond0_1 i) (c2 : cond0_2 i) (y7 y8 : Vec Ideal S4352x128 .f32) (r : Fin 4352) (d : Fin 128) :
    out0_B_8 c i arg3 harg3 arg4 harg4 arg5 harg5 arg6 harg6 arg7 harg7 arg8 harg8 arg9 harg9 arg10 harg10 arg11 harg11 c0 c1 c2 x0 x1 x2 x3 x4 x5 y7 y8 (ix2 r d)
      = y8 (ix2 r d) + ((∑ g, ∑ a, pW X0 X1 X4 g a r * X5 a (hc g d) : ℝ) : EReal) := by
  rw [outB8]
  have ino : ∀ (j : Fin 17) (a : Fin 2), (![256 * j.val, 0] : Fin 2 → ℕ) a + S256x128.size a ≤ S4352x128.size a := by
    intro j a
    fin_cases a
    · show 256 * j.val + 256 ≤ 4352
      omega
    · show 0 + 128 ≤ 128
      omega
  refine (canon_rows (fun j => dvStep x0 x1 x4 x5 (rows y8 (256 * j.val) (ino j)) (256 * j.val) (ino j)) r d).trans ?_
  show dvStep x0 x1 x4 x5 (rows y8 (256 * (bk r).val) (ino (bk r))) (256 * (bk r).val) (ino (bk r)) (ix2 (bl r) d) = _
  rw [dvStep_real h0 h1 h4 h5 _ (bk r) _ rfl, rows_apply _ (bk r) _ rfl, rw_bk_bl]

end Cert.KernelIdeal.Tile

end
-- ==== Proof.Arr.lean ====
/- The backward kernel's input blocks in the arrays they are cut from, and its three results as sums over the grid. -/
module

public import proofs.«01_k».proof.Proof.Softmax
public import proofs.«01_k».proof.Proof.TileOut
public import proofs.«01_k».proof.Proof.Gen.KernelIdeal.Value

@[expose] public section

set_option maxRecDepth 16384

noncomputable section

namespace Cert.KernelIdeal.Tile

open Idealize.ShloMosaic Idealize.ShloMosaic.TcCoe Cert.KernelIdeal.Gen
open Idealize.ShloMosaic.Pipeline (Dat Cfg Window)

variable (m : (ℓ : Loc nD τ sig) → Buf (Elt Ideal) ℓ) (c : Dev nD)

theorem idx_all : ∀ t : Fin grid0.N,
    win0_0.index t = ![t.val % 17, t.val / 17] ∧ win0_1.index t = ![0, t.val / 17]
    ∧ win0_2.index t = ![0, 98 + t.val / 17] ∧ win0_3.index t = ![t.val % 17, t.val / 17]
    ∧ win0_4.index t = ![t.val / 17, t.val % 17, 0] ∧ win0_5.index t = ![t.val % 17, t.val / 17]
    ∧ win0_6.index t = ![t.val % 17, t.val / 17] ∧ win0_7.index t = ![0, t.val / 17]
    ∧ win0_8.index t = ![0, t.val / 17] := by decide +kernel

theorem t_lt (t : Fin cfg0.N) : t.val < 34 := t.isLt

/-- Row `a` of the query block of grid point `t`. -/
def qrow (t : Fin cfg0.N) (a : Fin 256) : Fin 4352 := ⟨256 * (t.val % 17) + a.val, by omega⟩
/-- Column `d` of its four heads. -/
def qcol (t : Fin cfg0.N) (d : Fin 512) : Fin 1024 := ⟨512 * (t.val / 17) + d.val, by have := t_lt t; omega⟩
/-- Column `d` of its key head. -/
def kcol (t : Fin cfg0.N) (d : Fin 128) : Fin 256 := ⟨128 * (t.val / 17) + d.val, by have := t_lt t; omega⟩
/-- Its key head. -/
def kvh (t : Fin cfg0.N) : Fin 2 := ⟨t.val / 17, by have := t_lt t; omega⟩

theorem blk0 (t : Fin cfg0.N) (a : Fin 256) (d : Fin 512) :
    iblk m c 0 t (ix2 a d) = V m c main_v67 (ix2 (qrow t a) (qcol t d)) := by
  obtain ⟨e, -⟩ := idx_all t
  blk_ext [iblk, qrow, qcol, e]
theorem blk1 (t : Fin cfg0.N) (a : Fin 4352) (d : Fin 128) :
    iblk m c 1 t (ix2 a d) = V m c main_arg1 (ix2 a (kcol t d)) := by
  obtain ⟨-, e, -⟩ := idx_all t
  blk_ext [iblk, kcol, e]
theorem blk2 (t : Fin cfg0.N) (a : Fin 4352) (d : Fin 128) :
    iblk m c 2 t (ix2 a d) = V m c main_arg2 (ix2 a (Cert.Soft.vc (kcol t d))) := by
  obtain ⟨-, -, e, -⟩ := idx_all t
  blk_ext [iblk, kcol, e] <;> simp only [Cert.Soft.vc] <;> omega
theorem blk3 (t : Fin cfg0.N) (a : Fin 256) (d : Fin 512) :
    iblk m c 3 t (ix2 a d) = V m c main_v60 (ix2 (qrow t a) (qcol t d)) := by
  obtain ⟨-, -, -, e, -⟩ := idx_all t
  blk_ext [iblk, qrow, qcol, e]
theorem blk4 (t : Fin cfg0.N) (a : Fin 256) (g : Fin 4) :
    iblk m c 4 t (ix3 0 a g) = V m c main_v61 (ix3 (kvh t) (qrow t a) g) := by
  obtain ⟨-, -, -, -, e, -⟩ := idx_all t
  blk_ext [iblk, qrow, kvh, e]
theorem blk5 (t : Fin cfg0.N) (a : Fin 256) (d : Fin 512) :
    iblk m c 5 t (ix2 a d) = V m c main_arg3 (ix2 (qrow t a) (qcol t d)) := by
  obtain ⟨-, -, -, -, -, e, -⟩ := idx_all t
  blk_ext [iblk, qrow, qcol, e]

end Cert.KernelIdeal.Tile

end
-- ==== Proof.Grid.lean ====
/- The backward kernel's three results as sums over the rows of its arrays. -/
module

public import proofs.«01_k».proof.Proof.Arr

@[expose] public section

set_option maxRecDepth 16384

noncomputable section

namespace Cert.KernelIdeal.Tile

open Idealize.ShloMosaic Idealize.ShloMosaic.TcCoe Cert.KernelIdeal.Gen
open Idealize.ShloMosaic.Pipeline (Dat Cfg Window)

/-- Column `d` of query head `g` of key head `n`. -/
def qc (n : Fin 2) (g : Fin 4) (d : Fin 128) : Fin 1024 := ⟨512 * n.val + 128 * g.val + d.val, by omega⟩
/-- Column `d` of key head `n`. -/
def kc (n : Fin 2) (d : Fin 128) : Fin 256 := ⟨128 * n.val + d.val, by omega⟩
/-- The key head, the query head under it and the column within the head, of a query column. -/
def nq (j : Fin 1024) : Fin 2 := ⟨j.val / 512, by omega⟩
def gq (j : Fin 1024) : Fin 4 := ⟨j.val % 512 / 128, by omega⟩
def dq (j : Fin 1024) : Fin 128 := ⟨j.val % 128, by omega⟩
/-- The key head and the column within the head, of a key column. -/
def nk (j : Fin 256) : Fin 2 := ⟨j.val / 128, by omega⟩
def dk (j : Fin 256) : Fin 128 := ⟨j.val % 128, by omega⟩

section Real
variable (Q O D : Fin 4352 → Fin 1024 → ℝ) (K W : Fin 4352 → Fin 256 → ℝ) (L : Fin 2 → Fin 4352 → Fin 4 → ℝ)

/-- The probability of key `s` for query `r` of head `n, g`. -/
def gP (n : Fin 2) (g : Fin 4) (r s : Fin 4352) : ℝ :=
  Real.rpow 2 (∑ d, Q r (qc n g d) * K s (kc n d) - L n r g)
/-- The gradient of its score. -/
def gS (n : Fin 2) (g : Fin 4) (r s : Fin 4352) : ℝ :=
  gP Q K L n g r s * (∑ d, D r (qc n g d) * W s (kc n d) - ∑ d, D r (qc n g d) * O r (qc n g d))
/-- The queries' gradient. -/
def gQ (r : Fin 4352) (j : Fin 1024) : ℝ :=
  if r.val < 256 then ∑ s : Fin 256, gS Q O D K W L (nq j) (gq j) r (rw17 0 s) * K (rw17 0 s) (kc (nq j) (dq j))
  else ∑ s : Fin 4352, gS Q O D K W L (nq j) (gq j) r s * K s (kc (nq j) (dq j))
/-- Whether query row `r` may look at key row `s`: a context row looks at the context only. -/
def sees (r s : Fin 4352) : Prop := r.val < 256 → s.val < 256
instance (r s : Fin 4352) : Decidable (sees r s) := by unfold sees; infer_instance
/-- The keys' gradient. -/
def gK (s : Fin 4352) (j : Fin 256) : ℝ :=
  ∑ r : Fin 4352, ∑ g, if sees r s then gS Q O D K W L (nk j) g r s * Q r (qc (nk j) g (dk j)) else 0
/-- The values' gradient. -/
def gV (s : Fin 4352) (j : Fin 256) : ℝ :=
  ∑ r : Fin 4352, ∑ g, if sees r s then gP Q K L (nk j) g r s * D r (qc (nk j) g (dk j)) else 0
end Real

theorem qcol_hc (t : Fin cfg0.N) (g : Fin 4) (d : Fin 128) : qcol t (hc g d) = qc (kvh t) g d := by
  refine Fin.ext ?_; show 512 * (t.val / 17) + (128 * g.val + d.val) = 512 * (t.val / 17) + 128 * g.val + d.val; omega
theorem kcol_eq (t : Fin cfg0.N) (d : Fin 128) : kcol t d = kc (kvh t) d := rfl

/-- The part of grid point `t` in the keys' gradient. -/
def tK (Q O D : Fin 4352 → Fin 1024 → ℝ) (K W : Fin 4352 → Fin 256 → ℝ) (L : Fin 2 → Fin 4352 → Fin 4 → ℝ)
    (t : Fin cfg0.N) (s : Fin 4352) (d : Fin 128) : ℝ :=
  ∑ g, ∑ a, if sees (qrow t a) s then gS Q O D K W L (kvh t) g (qrow t a) s * Q (qrow t a) (qc (kvh t) g d) else 0
/-- The part of grid point `t` in the values' gradient. -/
def tV (Q D : Fin 4352 → Fin 1024 → ℝ) (K : Fin 4352 → Fin 256 → ℝ) (L : Fin 2 → Fin 4352 → Fin 4 → ℝ)
    (t : Fin cfg0.N) (s : Fin 4352) (d : Fin 128) : ℝ :=
  ∑ g, ∑ a, if sees (qrow t a) s then gP Q K L (kvh t) g (qrow t a) s * D (qrow t a) (qc (kvh t) g d) else 0

/-- A sum over the 17 points of a run and their 256 rows is a sum over all rows. -/
theorem sum_run (n : Fin 2) (t : Fin cfg0.N) (ht : t.val / 17 = n.val) (h : ∀ s : Fin 17, 17 * (t.val / 17) + s.val < cfg0.N)
    (f : Fin 2 → Fin 4352 → Fin 4 → ℝ) :
    ∑ s : Fin 17, ∑ g, ∑ a, f (kvh ⟨17 * (t.val / 17) + s.val, h s⟩) (qrow ⟨17 * (t.val / 17) + s.val, h s⟩ a) g
      = ∑ r, ∑ g, f n r g := by
  rw [sum_rows]
  refine Finset.sum_congr rfl fun s _ => ?_
  rw [Finset.sum_comm]
  refine Finset.sum_congr rfl fun a _ => Finset.sum_congr rfl fun g _ => ?_
  have e1 : kvh ⟨17 * (t.val / 17) + s.val, h s⟩ = n := Fin.ext (by show (17 * (t.val / 17) + s.val) / 17 = _; omega)
  have e2 : qrow ⟨17 * (t.val / 17) + s.val, h s⟩ a = rw17 s a :=
    Fin.ext (by show 256 * ((17 * (t.val / 17) + s.val) % 17) + a.val = 256 * s.val + a.val; omega)
  rw [e1, e2]

theorem emb7 (t : Fin cfg0.N) (y : S4352x128.Idx) :
    ((win0_7.blk t).view.emb y 0 : Fin 4352) = y 0 ∧ ((win0_7.blk t).view.emb y 1 : Fin 256) = kc (kvh t) (y 1) := by
  have e : win0_7.index t = ![0, t.val / 17] := (idx_all t).2.2.2.2.2.2.2.1
  constructor
  · refine Fin.ext ?_
    blk_simp [e]
  · refine Fin.ext ?_
    blk_simp [e]
    exact congrArg (· + _) (Nat.mul_comm _ _)
theorem emb8 (t : Fin cfg0.N) (y : S4352x128.Idx) :
    ((win0_8.blk t).view.emb y 0 : Fin 4352) = y 0 ∧ ((win0_8.blk t).view.emb y 1 : Fin 256) = kc (kvh t) (y 1) := by
  have e : win0_8.index t = ![0, t.val / 17] := (idx_all t).2.2.2.2.2.2.2.2
  constructor
  · refine Fin.ext ?_
    blk_simp [e]
  · refine Fin.ext ?_
    blk_simp [e]
    exact congrArg (· + _) (Nat.mul_comm _ _)
theorem nk_kc (n : Fin 2) (d : Fin 128) : nk (kc n d) = n := Fin.ext (by show (128 * n.val + d.val) / 128 = _; omega)
theorem dk_kc (n : Fin 2) (d : Fin 128) : dk (kc n d) = d := Fin.ext (by show (128 * n.val + d.val) % 128 = _; omega)

section Arr
variable {m : (ℓ : Loc nD τ sig) → Buf (Elt Ideal) ℓ} {c : Dev nD}
  {Q O D : Fin 4352 → Fin 1024 → ℝ} {K W : Fin 4352 → Fin 256 → ℝ} {L : Fin 2 → Fin 4352 → Fin 4 → ℝ}

theorem dW_eq (t : Fin cfg0.N) (g : Fin 4) (a : Fin 256) (s : Fin 4352) :
    dW (fun a d => Q (qrow t a) (qcol t d)) (fun a d => O (qrow t a) (qcol t d)) (fun a d => D (qrow t a) (qcol t d))
      (fun s d => K s (kcol t d)) (fun s d => W s (kcol t d)) (fun a g => L (kvh t) (qrow t a) g) g a s
      = gS Q O D K W L (kvh t) g (qrow t a) s := by
  unfold dW pW gS gP
  simp only [qcol_hc, kcol_eq]
theorem pW_eq (t : Fin cfg0.N) (g : Fin 4) (a : Fin 256) (s : Fin 4352) :
    pW (fun a d => Q (qrow t a) (qcol t d)) (fun s d => K s (kcol t d)) (fun a g => L (kvh t) (qrow t a) g) g a s
      = gP Q K L (kvh t) g (qrow t a) s := by
  unfold pW gP
  simp only [qcol_hc, kcol_eq]

theorem runK (t : Fin cfg0.N) (s : Fin 4352) (d : Fin 128) (h : ∀ s : Fin 17, 17 * (t.val / 17) + s.val < cfg0.N) :
    ∑ i : Fin 17, tK Q O D K W L ⟨17 * (t.val / 17) + i.val, h i⟩ s d = gK Q O D K W L s (kc (kvh t) d) := by
  unfold gK
  rw [nk_kc, dk_kc]
  exact sum_run (kvh t) t rfl h (fun n r g => if sees r s then gS Q O D K W L n g r s * Q r (qc n g d) else 0)
theorem runV (t : Fin cfg0.N) (s : Fin 4352) (d : Fin 128) (h : ∀ s : Fin 17, 17 * (t.val / 17) + s.val < cfg0.N) :
    ∑ i : Fin 17, tV Q D K L ⟨17 * (t.val / 17) + i.val, h i⟩ s d = gV Q D K L s (kc (kvh t) d) := by
  unfold gV
  rw [nk_kc, dk_kc]
  exact sum_run (kvh t) t rfl h (fun n r g => if sees r s then gP Q K L n g r s * D r (qc n g d) else 0)

variable (hQ : ∀ r j, V m c main_v67 (ix2 r j) = (Q r j : EReal)) (hO : ∀ r j, V m c main_v60 (ix2 r j) = (O r j : EReal))
  (hD : ∀ r j, V m c main_arg3 (ix2 r j) = (D r j : EReal)) (hK : ∀ s j, V m c main_arg1 (ix2 s j) = (K s j : EReal))
  (hW : ∀ s (j : Fin 256), V m c main_arg2 (ix2 s (Cert.Soft.vc j)) = (W s j : EReal))
  (hL : ∀ n r g, V m c main_v61 (ix3 n r g) = (L n r g : EReal))
include hQ hO hD hK hW hL

set_option maxHeartbeats 4000000 in
theorem pt6 (t : Fin cfg0.N) (a : Fin 256) (d : Fin 512) :
    (outsAt0 m c t.val t.isLt).1 (ix2 a d) = ((gQ Q O D K W L (qrow t a) (qcol t d) : ℝ) : EReal) := by
  have h0 : ∀ a d, iblk m c 0 t (ix2 a d) = ((Q (qrow t a) (qcol t d) : ℝ) : EReal) := fun a d => (blk0 m c t a d).trans (hQ _ _)
  have h1 : ∀ a d, iblk m c 1 t (ix2 a d) = ((K a (kcol t d) : ℝ) : EReal) := fun a d => (blk1 m c t a d).trans (hK _ _)
  have h2 : ∀ a d, iblk m c 2 t (ix2 a d) = ((W a (kcol t d) : ℝ) : EReal) := fun a d => (blk2 m c t a d).trans (hW _ _)
  have h3 : ∀ a d, iblk m c 3 t (ix2 a d) = ((O (qrow t a) (qcol t d) : ℝ) : EReal) := fun a d => (blk3 m c t a d).trans (hO _ _)
  have h4 : ∀ a d, iblk m c 4 t (ix3 0 a d) = ((L (kvh t) (qrow t a) d : ℝ) : EReal) := fun a d => (blk4 m c t a d).trans (hL _ _ _)
  have h5 : ∀ a d, iblk m c 5 t (ix2 a d) = ((D (qrow t a) (qcol t d) : ℝ) : EReal) := fun a d => (blk5 m c t a d).trans (hD _ _)
  have en : nq (qcol t d) = kvh t := Fin.ext (by show (512 * (t.val / 17) + d.val) / 512 = t.val / 17; omega)
  have eg : gq (qcol t d) = hd d := Fin.ext (by show (512 * (t.val / 17) + d.val) % 512 / 128 = d.val / 128; omega)
  have ed : dq (qcol t d) = lo d := Fin.ext (by show (512 * (t.val / 17) + d.val) % 128 = d.val % 128; omega)
  by_cases h : t.val % 17 = 0
  · refine (congrArg (fun p => p.1 (ix2 a d)) (outsAt0_A m c t h h (by omega))).trans ?_
    refine (outA6_real c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) h0 h1 h2 h3 h4 h5 ((hcond0_0 t).mpr h) ((hcond0_1 t).mpr h) (fun w => by have := (hcond0_2 t).mp w; omega) a d).trans (congrArg _ ?_)
    have hr : (qrow t a).val < 256 := by show 256 * (t.val % 17) + a.val < 256; omega
    unfold gQ
    rw [if_pos hr, en, eg, ed]
    exact Finset.sum_congr rfl fun s _ => congrArg (· * _) (dW_eq t _ a _)
  · refine (congrArg (fun p => p.1 (ix2 a d)) (outsAt0_B m c t h h (by omega))).trans ?_
    refine (outB6_real c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) h0 h1 h2 h3 h4 h5 (fun w => h ((hcond0_0 t).mp w)) (fun w => h ((hcond0_1 t).mp w)) ((hcond0_2 t).mpr (by omega)) (outsAt0 m c (t.val - 1) (Nat.lt_of_le_of_lt (Nat.sub_le _ _) t.isLt)).2.1
      (outsAt0 m c (t.val - 1) (Nat.lt_of_le_of_lt (Nat.sub_le _ _) t.isLt)).2.2 a d).trans (congrArg _ ?_)
    have hr : ¬(qrow t a).val < 256 := by show ¬(256 * (t.val % 17) + a.val < 256); omega
    unfold gQ
    rw [if_neg hr, en, eg, ed]
    exact Finset.sum_congr rfl fun s _ => congrArg (· * _) (dW_eq t _ a _)

/-- The queries' gradient, as the kernel leaves it. -/
theorem arr6 : (dats m 0 c).arrAt 6 cfg0.N = fun j : S4352x1024.Idx => ((gQ Q O D K W L (j 0) (j 1) : ℝ) : EReal) := by
  refine (dats m 0 c).arrAt_eq_of_covers 6 _ (by decide +kernel) fun t hf y => ?_
  have e : win0_6.index t = ![t.val % 17, t.val / 17] := (idx_all t).2.2.2.2.2.2.1
  blk_simp
  rw [after0_6]
  have e0 : ((win0_6.blk t).view.emb y 0 : Fin 4352) = qrow t (y 0) := by
    refine Fin.ext ?_
    blk_simp [e]
    exact congrArg (· + _) (Nat.mul_comm _ _)
  have e1 : ((win0_6.blk t).view.emb y 1 : Fin 1024) = qcol t (y 1) := by
    refine Fin.ext ?_
    blk_simp [e]
    exact congrArg (· + _) (Nat.mul_comm _ _)
  rw [e0, e1]
  exact (congrArg _ (eq_ix2 y)).trans (pt6 hQ hO hD hK hW hL t (y 0) (y 1))

set_option maxHeartbeats 4000000 in
theorem pt7A (t : Fin cfg0.N) (h : t.val % 17 = 0) (s : Fin 4352) (d : Fin 128) :
    (outsAt0 m c t.val t.isLt).2.1 (ix2 s d) = ((tK Q O D K W L t s d : ℝ) : EReal)
    ∧ (outsAt0 m c t.val t.isLt).2.2 (ix2 s d) = ((tV Q D K L t s d : ℝ) : EReal) := by
  have h0 : ∀ a d, iblk m c 0 t (ix2 a d) = ((Q (qrow t a) (qcol t d) : ℝ) : EReal) := fun a d => (blk0 m c t a d).trans (hQ _ _)
  have h1 : ∀ a d, iblk m c 1 t (ix2 a d) = ((K a (kcol t d) : ℝ) : EReal) := fun a d => (blk1 m c t a d).trans (hK _ _)
  have h2 : ∀ a d, iblk m c 2 t (ix2 a d) = ((W a (kcol t d) : ℝ) : EReal) := fun a d => (blk2 m c t a d).trans (hW _ _)
  have h3 : ∀ a d, iblk m c 3 t (ix2 a d) = ((O (qrow t a) (qcol t d) : ℝ) : EReal) := fun a d => (blk3 m c t a d).trans (hO _ _)
  have h4 : ∀ a d, iblk m c 4 t (ix3 0 a d) = ((L (kvh t) (qrow t a) d : ℝ) : EReal) := fun a d => (blk4 m c t a d).trans (hL _ _ _)
  have h5 : ∀ a d, iblk m c 5 t (ix2 a d) = ((D (qrow t a) (qcol t d) : ℝ) : EReal) := fun a d => (blk5 m c t a d).trans (hD _ _)
  have hr : ∀ a, (qrow t a).val < 256 := fun a => by show 256 * (t.val % 17) + a.val < 256; omega
  have E := outsAt0_A m c t h h (by omega)
  refine ⟨?_, ?_⟩
  · refine (congrArg (fun p => p.2.1 (ix2 s d)) E).trans ?_
    refine (outA7_real c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) h0 h1 h2 h3 h4 h5 ((hcond0_0 t).mpr h) ((hcond0_1 t).mpr h) (fun w => by have := (hcond0_2 t).mp w; omega) s d).trans ?_
    by_cases hs : s.val < 256
    · rw [if_pos hs]
      refine congrArg _ (Finset.sum_congr rfl fun g _ => Finset.sum_congr rfl fun a _ => ?_)
      rw [if_pos (show sees (qrow t a) s from fun _ => hs), dW_eq, qcol_hc]
    · rw [if_neg hs]
      refine (congrArg (fun x : ℝ => (x : EReal)) (Finset.sum_eq_zero fun g _ => Finset.sum_eq_zero fun a _ => ?_)).symm
      exact if_neg (show ¬sees (qrow t a) s from fun w => hs (w (hr a)))
  · refine (congrArg (fun p => p.2.2 (ix2 s d)) E).trans ?_
    refine (outA8_real c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) h0 h1 h2 h3 h4 h5 ((hcond0_0 t).mpr h) ((hcond0_1 t).mpr h) (fun w => by have := (hcond0_2 t).mp w; omega) s d).trans ?_
    by_cases hs : s.val < 256
    · rw [if_pos hs]
      refine congrArg _ (Finset.sum_congr rfl fun g _ => Finset.sum_congr rfl fun a _ => ?_)
      rw [if_pos (show sees (qrow t a) s from fun _ => hs), pW_eq, qcol_hc]
    · rw [if_neg hs]
      refine (congrArg (fun x : ℝ => (x : EReal)) (Finset.sum_eq_zero fun g _ => Finset.sum_eq_zero fun a _ => ?_)).symm
      exact if_neg (show ¬sees (qrow t a) s from fun w => hs (w (hr a)))

set_option maxHeartbeats 4000000 in
theorem pt7B (t : Fin cfg0.N) (h : ¬t.val % 17 = 0) (s : Fin 4352) (d : Fin 128) :
    (outsAt0 m c t.val t.isLt).2.1 (ix2 s d)
      = (outsAt0 m c (t.val - 1) (Nat.lt_of_le_of_lt (Nat.sub_le _ _) t.isLt)).2.1 (ix2 s d) + ((tK Q O D K W L t s d : ℝ) : EReal)
    ∧ (outsAt0 m c t.val t.isLt).2.2 (ix2 s d)
      = (outsAt0 m c (t.val - 1) (Nat.lt_of_le_of_lt (Nat.sub_le _ _) t.isLt)).2.2 (ix2 s d) + ((tV Q D K L t s d : ℝ) : EReal) := by
  have h0 : ∀ a d, iblk m c 0 t (ix2 a d) = ((Q (qrow t a) (qcol t d) : ℝ) : EReal) := fun a d => (blk0 m c t a d).trans (hQ _ _)
  have h1 : ∀ a d, iblk m c 1 t (ix2 a d) = ((K a (kcol t d) : ℝ) : EReal) := fun a d => (blk1 m c t a d).trans (hK _ _)
  have h2 : ∀ a d, iblk m c 2 t (ix2 a d) = ((W a (kcol t d) : ℝ) : EReal) := fun a d => (blk2 m c t a d).trans (hW _ _)
  have h3 : ∀ a d, iblk m c 3 t (ix2 a d) = ((O (qrow t a) (qcol t d) : ℝ) : EReal) := fun a d => (blk3 m c t a d).trans (hO _ _)
  have h4 : ∀ a d, iblk m c 4 t (ix3 0 a d) = ((L (kvh t) (qrow t a) d : ℝ) : EReal) := fun a d => (blk4 m c t a d).trans (hL _ _ _)
  have h5 : ∀ a d, iblk m c 5 t (ix2 a d) = ((D (qrow t a) (qcol t d) : ℝ) : EReal) := fun a d => (blk5 m c t a d).trans (hD _ _)
  have hr : ∀ a, ¬(qrow t a).val < 256 := fun a => by show ¬(256 * (t.val % 17) + a.val < 256); omega
  have E := outsAt0_B m c t h h (by omega)
  refine ⟨?_, ?_⟩
  · refine (congrArg (fun p => p.2.1 (ix2 s d)) E).trans ?_
    refine (outB7_real c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) h0 h1 h2 h3 h4 h5 (fun w => h ((hcond0_0 t).mp w)) (fun w => h ((hcond0_1 t).mp w)) ((hcond0_2 t).mpr (by omega)) (outsAt0 m c (t.val - 1) (Nat.lt_of_le_of_lt (Nat.sub_le _ _) t.isLt)).2.1
      (outsAt0 m c (t.val - 1) (Nat.lt_of_le_of_lt (Nat.sub_le _ _) t.isLt)).2.2 s d).trans ?_
    refine congrArg (fun x : ℝ => _ + (x : EReal)) (Finset.sum_congr rfl fun g _ => Finset.sum_congr rfl fun a _ => ?_)
    rw [if_pos (show sees (qrow t a) s from fun w => absurd w (hr a)), dW_eq, qcol_hc]
  · refine (congrArg (fun p => p.2.2 (ix2 s d)) E).trans ?_
    refine (outB8_real c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) h0 h1 h2 h3 h4 h5 (fun w => h ((hcond0_0 t).mp w)) (fun w => h ((hcond0_1 t).mp w)) ((hcond0_2 t).mpr (by omega)) (outsAt0 m c (t.val - 1) (Nat.lt_of_le_of_lt (Nat.sub_le _ _) t.isLt)).2.1
      (outsAt0 m c (t.val - 1) (Nat.lt_of_le_of_lt (Nat.sub_le _ _) t.isLt)).2.2 s d).trans ?_
    refine congrArg (fun x : ℝ => _ + (x : EReal)) (Finset.sum_congr rfl fun g _ => Finset.sum_congr rfl fun a _ => ?_)
    rw [if_pos (show sees (qrow t a) s from fun w => absurd w (hr a)), pW_eq, qcol_hc]

/-- The keys' gradient, as the kernel leaves it. -/
theorem arr7 : (dats m 0 c).arrAt 7 cfg0.N = fun j : S4352x256.Idx => ((gK Q O D K W L (j 0) (j 1) : ℝ) : EReal) := by
  refine (dats m 0 c).arrAt_eq_of_covers 7 _ (by decide +kernel) fun t hf y => ?_
  blk_simp
  rw [after0_7]
  obtain ⟨e0, e1⟩ := emb7 t y
  rw [e0, e1]
  have hr : t.val % 17 = 17 - 1 := (flush0_7 t).mp hf
  refine (Pipeline.eq_sum_fin_of_reset_step_apply_of_flush (N := cfg0.N) (fun n h => (outsAt0 m c n h).2.1) 17 0
    (fun t y => ((tK Q O D K W L t (y 0) (y 1) : ℝ) : EReal))
    (fun t h i => ?_) (fun t h i => ?_) t hr y).trans ?_
  · rw [eq_ix2 i]
    exact (pt7A hQ hO hD hK hW hL t h (i 0) (i 1)).1.trans (zero_add _).symm
  · rw [eq_ix2 i]
    exact (pt7B hQ hO hD hK hW hL t h (i 0) (i 1)).1
  · refine (zero_add _).trans ((coe_sum _ _).trans (congrArg _ ?_))
    exact runK t (y 0) (y 1) _

/-- The values' gradient, as the kernel leaves it. -/
theorem arr8 : (dats m 0 c).arrAt 8 cfg0.N = fun j : S4352x256.Idx => ((gV Q D K L (j 0) (j 1) : ℝ) : EReal) := by
  refine (dats m 0 c).arrAt_eq_of_covers 8 _ (by decide +kernel) fun t hf y => ?_
  blk_simp
  rw [after0_8]
  obtain ⟨e0, e1⟩ := emb8 t y
  rw [e0, e1]
  have hr : t.val % 17 = 17 - 1 := (flush0_8 t).mp hf
  refine (Pipeline.eq_sum_fin_of_reset_step_apply_of_flush (N := cfg0.N) (fun n h => (outsAt0 m c n h).2.2) 17 0
    (fun t y => ((tV Q D K L t (y 0) (y 1) : ℝ) : EReal))
    (fun t h i => ?_) (fun t h i => ?_) t hr y).trans ?_
  · rw [eq_ix2 i]
    exact (pt7A hQ hO hD hK hW hL t h (i 0) (i 1)).2.trans (zero_add _).symm
  · rw [eq_ix2 i]
    exact (pt7B hQ hO hD hK hW hL t h (i 0) (i 1)).2
  · refine (zero_add _).trans ((coe_sum _ _).trans (congrArg _ ?_))
    exact runV t (y 0) (y 1) _

end Arr
end Cert.KernelIdeal.Tile

end
-- ==== Proof.Words.lean ====
/- The constants of the two programs and sums of reals, as extended reals. -/
module

public import proofs.«01_k».proof.Proof.Softmax
public import Idealize.ShloMosaic.Lib.Pipeline.ValueKit
public import Idealize.ShloMosaic.PureOps.Ideal.Laws
public import Idealize.ShloMosaic.Lib.IdealHost

@[expose] public section

noncomputable section

namespace Cert.Soft

open Idealize.ShloMosaic

theorem coe_sum {ι : Type*} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- The scale of the scores: the float nearest `128 ^ (-1/2)`. -/
def sigma : ℝ := 11863283 * (2 ^ 27)⁻¹

theorem word_sigma : Ideal.ofBits .f32 0x3DB504F3#32 = (sigma : EReal) := by
  simp [Ideal.ofBits, Ideal.ieee]
  exact (EReal.coe_mul _ _).symm

theorem word_bot : Ideal.ofBits .f32 0xFF800000#32 = ⊥ := by
  simp [Ideal.ofBits, Ideal.ieee]

theorem word_two : Ideal.ofBits .f32 0x40000000#32 = ((2 : ℝ) : EReal) := by
  simp [Ideal.ofBits, Ideal.ieee]
  rw [← EReal.coe_mul]
  norm_num

theorem log_word_two : Ideal.log (Ideal.ofBits .f32 0x40000000#32) = ((Real.log 2 : ℝ) : EReal) := by
  rw [word_two, Ideal.log_coe, if_neg (by norm_num)]

theorem log_two_ne : Real.log 2 ≠ 0 := (Real.log_pos one_lt_two).ne'

/-- The scaled queries (and the output's gradient) and the keys (or values) by head, of the rows that `row` names. -/
def Qr {ι : Type*} (row : ι → Fin 4352) (A : Fin 4352 → Fin 1024 → ℝ) (r : ι) (n : Fin 2) (g : Fin 4) (d : Fin 128) : ℝ := A (row r) (qc n g d) * sigma
def Dr {ι : Type*} (row : ι → Fin 4352) (A : Fin 4352 → Fin 1024 → ℝ) (r : ι) (n : Fin 2) (g : Fin 4) (d : Fin 128) : ℝ := A (row r) (qc n g d)
def Kr {ι : Type*} (row : ι → Fin 4352) (A : Fin 4352 → Fin 256 → ℝ) (s : ι) (n : Fin 2) (d : Fin 128) : ℝ := A (row s) (kc n d)

/-- A division by a nonzero real. -/
theorem div_real (x y : ℝ) (h : y ≠ 0) : Ideal.div (x : EReal) (y : EReal) = ((x * (1 / y) : ℝ) : EReal) := by
  rw [Ideal.div_coe h, ← EReal.coe_mul]

theorem div_one_real (y : ℝ) (h : y ≠ 0) : Ideal.div (1 : EReal) (y : EReal) = ((1 / y : ℝ) : EReal) := by
  rw [Ideal.div_coe h, one_mul]

/-- The greatest of a row's scores, from minus infinity. -/
theorem max_real {ι : Type*} [Fintype ι] [Nonempty ι] (f : ι → ℝ) :
    ∃ x : ℝ, Finset.univ.fold max (⊥ : EReal) (fun k => (f k : EReal)) = x := fold_max_real _ f Finset.univ_nonempty

/-- A row's greatest score in a reduction along one axis from minus infinity: a real, where the scores are. -/
theorem reduce_max_real {s t u : Shape} {a : Fin s.rank} (x : FVec Ideal s .f32) (init : FVec Ideal u .f32)
    (h' : s.ReducesTo [a] t) (h : s.Reduces [a] t) (hu : 0 < u.numel) (hn : 0 < s.size a) (hi : ∀ i, init i = (⊥ : EReal))
    (hx : ∀ i, ∃ r : ℝ, x i = (r : EReal)) (j : t.Idx) :
    ∃ r : ℝ, Host.reduce (FloatOps.maximumf (F := Ideal) (φ := .f32)) x init h' hu j = (r : EReal) := by
  choose f hf using hx
  haveI : Nonempty (Fin (s.size a)) := ⟨⟨0, hn⟩⟩
  obtain ⟨r, hr⟩ := max_real fun k => f (h.lift j k)
  refine ⟨r, ?_⟩
  rw [Host.reduce_eq_fold_single _ x init h' h hu j, hi, show x ∘ h.lift j = fun k => (f (h.lift j k) : EReal) from funext fun k => hf _]
  exact hr

/-- Its maximum with minus infinity is a real too. -/
theorem max_bot_real {s : Shape} (x y : FVec Ideal s .f32) (j : s.Idx) (hx : x j = (⊥ : EReal)) (hy : ∃ r : ℝ, y j = (r : EReal)) :
    ∃ r : ℝ, maximumf x y j = (r : EReal) := by
  obtain ⟨r, hr⟩ := hy
  refine ⟨r, ?_⟩
  show max (x j) (y j) = _
  rw [hx, hr]
  exact max_eq_right bot_le

end Cert.Soft

end
-- ==== Proof.HostLat.lean ====
/- The forward pass of the latent rows, as the kernel's host code computes it before the launch: each step read at an element. -/
module

public import proofs.«01_k».proof.Proof.Gen.KernelIdeal.Value
public import proofs.«01_k».proof.Proof.Words
public import Idealize.ShloMosaic.Lib.Pipeline.ValueKit
public import Idealize.ShloMosaic.PureOps.Ideal.Laws

@[expose] public section

set_option maxRecDepth 16384

noncomputable section

namespace Cert.KernelIdeal.HLat

open Idealize.ShloMosaic Idealize.ShloMosaic.TcCoe Cert.KernelIdeal Cert.KernelIdeal.Gen Cert.Soft

/-- The queries. -/
def qv (a0 : Vec Ideal S4352x1024 .f32) : FVec Ideal S4096x2x4x128 .f32 :=
  shapeCast _ (extractStridedSlice S4096x1024 ![256, 0] a0 slices_S4352x1024_S4096x1024_256_0) shapeCasts_S4096x1024_S4096x2x4x128
/-- The keys. -/
def kv (a1 : Vec Ideal S4352x256 .bf16) : FVec Ideal S4352x2x128 .f32 :=
  shapeCast _ (extf .f32 a1 bitsLt_bf16_f32) shapeCasts_S4352x256_S4352x2x128
/-- The values. -/
def vv (a2 : Vec Ideal S4352x13312 .bf16) : FVec Ideal S4352x2x128 .f32 :=
  shapeCast _ (extf .f32 (extractStridedSlice S4352x256 ![0, 12544] a2 slices_S4352x13312_S4352x256_0_12544) bitsLt_bf16_f32) shapeCasts_S4352x256_S4352x2x128
/-- The scores. -/
def sv (k : FVec Ideal S4352x2x128 .f32) (q : FVec Ideal S4096x2x4x128 .f32) : FVec Ideal S2x4x4096x4352 .f32 :=
  mulf (transpose S2x4x4096x4352 [0, 3, 2, 1] (Host.dotGeneral dot_S4352x2x128_S4096x2x4x128_S2x4352x4096x4_2_3_0_02_1_1 none k q) transposes_S2x4352x4096x4_S2x4x4096x4352_0_3_2_1)
    (broadcastInDim S2x4x4096x4352 ![] bcast_S_S2x4x4096x4352 (constant S_ .f32 0x3DB504F3#32))
/-- Each query's greatest score. -/
def mv (s : FVec Ideal S2x4x4096x4352 .f32) : FVec Ideal S2x4x4096 .f32 :=
  Host.reduce FloatOps.maximumf s (constant S_ .f32 0xFF800000#32) reducesTo_S2x4x4096x4352_S2x4x4096_d3 h_S_
/-- The exponentials. -/
def ev (s : FVec Ideal S2x4x4096x4352 .f32) (mx : FVec Ideal S2x4x4096 .f32) : FVec Ideal S2x4x4096x4352 .f32 :=
  Host.exp (subf s (broadcastInDim S2x4x4096x4352 ![0, 1, 2, 3] bcast_S2x4x4096x1_S2x4x4096x4352_0_1_2_3 (broadcastInDim S2x4x4096x1 ![0, 1, 2] bcast_S2x4x4096_S2x4x4096x1_0_1_2 mx)))
/-- Their sums. -/
def zv (e : FVec Ideal S2x4x4096x4352 .f32) : FVec Ideal S2x4x4096x1 .f32 :=
  broadcastInDim S2x4x4096x1 ![0, 1, 2] bcast_S2x4x4096_S2x4x4096x1_0_1_2 (Host.reduceAdd e (constant S_ .f32 0x00000000#32) reducesTo_S2x4x4096x4352_S2x4x4096_d3 h_S_)
/-- The attention. -/
def ov (v : FVec Ideal S4352x2x128 .f32) (e : FVec Ideal S2x4x4096x4352 .f32) (z : FVec Ideal S2x4x4096x1 .f32) : FVec Ideal S4096x1024 .f32 :=
  shapeCast _ (transpose S4096x2x4x128 [3, 0, 2, 1] (Host.dotGeneral dot_S4352x2x128_S2x4x4096x4352_S2x128x4x4096_0_3_2_12_1_0 none v
    (Host.divf e (broadcastInDim S2x4x4096x4352 ![0, 1, 2, 3] bcast_S2x4x4096x1_S2x4x4096x4352_0_1_2_3 z))) transposes_S2x128x4x4096_S4096x2x4x128_3_0_2_1) shapeCasts_S4096x2x4x128_S4096x1024
/-- The logarithms of the sums, in base two. -/
def lv (mx : FVec Ideal S2x4x4096 .f32) (z : FVec Ideal S2x4x4096x1 .f32) : FVec Ideal S2x4096x4 .f32 :=
  transpose S2x4096x4 [0, 2, 1] (shapeCast S2x4x4096 (Host.divf (addf (broadcastInDim S2x4x4096x1 ![0, 1, 2] bcast_S2x4x4096_S2x4x4096x1_0_1_2 mx) (Host.log z))
    (broadcastInDim S2x4x4096x1 ![] bcast_S_S2x4x4096x1 (Host.log (constant S_ .f32 0x40000000#32)))) shapeCasts_S2x4x4096x1_S2x4x4096) transposes_S2x4x4096_S2x4096x4_0_2_1

section
variable {A0 : Fin 4352 → Fin 1024 → ℝ} {A1 A2 : Fin 4352 → Fin 256 → ℝ}
  {a0 : Vec Ideal S4352x1024 .f32} {a1 : Vec Ideal S4352x256 .bf16} {a2 : Vec Ideal S4352x13312 .bf16}

theorem qv_real (h : ∀ r j, a0 (ix2 r j) = (A0 r j : EReal)) (r : Fin 4096) (n : Fin 2) (g : Fin 4) (d : Fin 128) :
    qv a0 (ix4 r n g d) = (Dr lx A0 r n g d : EReal) := by
  unfold qv
  pointwise
  exact h (lx r) (qc n g d)
theorem kv_real (h : ∀ r j, a1 (ix2 r j) = (A1 r j : EReal)) (s : Fin 4352) (n : Fin 2) (d : Fin 128) :
    kv a1 (ix3 s n d) = (Kr id A1 s n d : EReal) := by
  unfold kv
  pointwise
  exact h s (kc n d)
theorem vv_real (h : ∀ r (j : Fin 256), a2 (ix2 r (vc j)) = (A2 r j : EReal)) (s : Fin 4352) (n : Fin 2) (d : Fin 128) :
    vv a2 (ix3 s n d) = (Kr id A2 s n d : EReal) := by
  unfold vv
  pointwise
  exact h s (kc n d)
end

section
variable {A : Fin 4352 → Fin 1024 → ℝ} {K W : Fin 4352 → Fin 2 → Fin 128 → ℝ}
  {S E : Fin 2 → Fin 4 → Fin 4096 → Fin 4352 → ℝ} {X Z : Fin 2 → Fin 4 → Fin 4096 → ℝ}
  {k v : FVec Ideal S4352x2x128 .f32} {q : FVec Ideal S4096x2x4x128 .f32} {s e : FVec Ideal S2x4x4096x4352 .f32}
  {mx : FVec Ideal S2x4x4096 .f32} {z : FVec Ideal S2x4x4096x1 .f32}

theorem sv_real (hk : ∀ s n d, k (ix3 s n d) = (K s n d : EReal)) (hq : ∀ r n g d, q (ix4 r n g d) = (Dr lx A r n g d : EReal)) (n g r t) :
    sv k q (ix4 n g r t) = (sc (Qr lx A) K n g r t : EReal) := by
  unfold sv
  pointwise
  simp only [hk, hq, ← EReal.coe_mul, coe_sum, word_sigma]
  unfold sc Qr Dr
  rw [Finset.sum_mul]
  simp only [mul_assoc]
theorem mv_real (hs : ∀ n g r t, s (ix4 n g r t) = (S n g r t : EReal)) :
    ∃ X : Fin 2 → Fin 4 → Fin 4096 → ℝ, ∀ n g r, mv s (ix3 n g r) = (X n g r : EReal) := by
  have h : ∀ n g r, ∃ x : ℝ, mv s (ix3 n g r) = (x : EReal) := by
    intro n g r
    unfold mv
    exact reduce_max_real s (constant S_ .f32 0xFF800000#32) reducesTo_S2x4x4096x4352_S2x4x4096_d3 (by decide) h_S_ (by decide)
      (fun _ => word_bot) (fun i => ⟨_, (congrArg s (eq_ix4 i)).trans (hs (i 0) (i 1) (i 2) (i 3))⟩) (ix3 n g r)
  choose X hX using h
  exact ⟨X, hX⟩
theorem ev_real (hs : ∀ n g r t, s (ix4 n g r t) = (S n g r t : EReal)) (hm : ∀ n g r, mx (ix3 n g r) = (X n g r : EReal)) (n g r t) :
    ev s mx (ix4 n g r t) = (Real.exp (S n g r t - X n g r) : EReal) := by
  unfold ev
  pointwise
  simp only [hs, hm, ← EReal.coe_sub, Ideal.exp_coe]
theorem zv_real (he : ∀ n g r t, e (ix4 n g r t) = (E n g r t : EReal)) (n g r) :
    zv e (ix4 n g r 0) = ((∑ t, E n g r t : ℝ) : EReal) := by
  unfold zv
  pointwise
  simp only [he, coe_sum]
theorem ov_real (hv : ∀ s n d, v (ix3 s n d) = (W s n d : EReal)) (he : ∀ n g r t, e (ix4 n g r t) = (E n g r t : EReal))
    (hz : ∀ n g r, z (ix4 n g r 0) = (Z n g r : EReal)) (h0 : ∀ n g r, Z n g r ≠ 0) (r : Fin 4096) (j : Fin 1024) :
    ov v e z (ix2 r j) = ((∑ s, W s (nq j) (dq j) * (E (nq j) (gq j) r s * (1 / Z (nq j) (gq j) r)) : ℝ) : EReal) := by
  unfold ov
  pointwise
  simp only [hv, he, hz, div_real _ _ (h0 _ _ _), ← EReal.coe_mul, coe_sum]
  rfl
theorem lv_real (hm : ∀ n g r, mx (ix3 n g r) = (X n g r : EReal)) (hz : ∀ n g r, z (ix4 n g r 0) = (Z n g r : EReal)) (h0 : ∀ n g r, 0 < Z n g r) (n r g) :
    lv mx z (ix3 n r g) = (((X n g r + Real.log (Z n g r)) * (1 / Real.log 2) : ℝ) : EReal) := by
  unfold lv
  pointwise
  simp only [hm, hz, log_word_two]
  rw [Ideal.log_coe, if_neg (not_le.2 (h0 n g r)), ← EReal.coe_add, div_real _ _ log_two_ne]

/-- The attention and the logarithms of the sums, from the queries, keys and values. -/
theorem fwd (hq : ∀ r n g d, q (ix4 r n g d) = (Dr lx A r n g d : EReal)) (hk : ∀ s n d, k (ix3 s n d) = (K s n d : EReal))
    (hv : ∀ s n d, v (ix3 s n d) = (W s n d : EReal)) :
    (∀ (r : Fin 4096) (j : Fin 1024), ov v (ev (sv k q) (mv (sv k q))) (zv (ev (sv k q) (mv (sv k q)))) (ix2 r j)
      = (att (Qr lx A) K W (nq j) (gq j) r (dq j) : EReal))
    ∧ ∃ X : Fin 2 → Fin 4 → Fin 4096 → ℝ, ∀ n r g, lv (mv (sv k q)) (zv (ev (sv k q) (mv (sv k q)))) (ix3 n r g)
      = (((X n g r + Real.log (∑ t, Real.exp (sc (Qr lx A) K n g r t - X n g r))) * (1 / Real.log 2) : ℝ) : EReal) := by
  have hs := sv_real hk hq
  obtain ⟨X, hm⟩ := mv_real hs
  have he := ev_real hs hm
  have hz := zv_real he
  have h0 : ∀ n g r, 0 < ∑ t, Real.exp (sc (Qr lx A) K n g r t - X n g r) := fun n g r => sum_exp_pos (fun t => sc (Qr lx A) K n g r t - X n g r)
  refine ⟨fun r j => ?_, X, fun n r g => lv_real hm hz h0 n r g⟩
  rw [ov_real hv he hz fun n g r => (h0 n g r).ne']
  refine congrArg _ (Finset.sum_congr rfl fun s _ => ?_)
  rw [mul_one_div, pr_shift]
  rfl
end

end Cert.KernelIdeal.HLat

end
-- ==== Proof.HostCtx.lean ====
/- The forward pass of the context rows, as the kernel's host code computes it before the launch: each step read at an element. -/
module

public import proofs.«01_k».proof.Proof.Gen.KernelIdeal.Value
public import proofs.«01_k».proof.Proof.Words
public import Idealize.ShloMosaic.Lib.Pipeline.ValueKit
public import Idealize.ShloMosaic.PureOps.Ideal.Laws

@[expose] public section

set_option maxRecDepth 16384

noncomputable section

namespace Cert.KernelIdeal.HCtx

open Idealize.ShloMosaic Idealize.ShloMosaic.TcCoe Cert.KernelIdeal Cert.KernelIdeal.Gen Cert.Soft

/-- The queries. -/
def qv (a0 : Vec Ideal S4352x1024 .f32) : FVec Ideal S256x2x4x128 .f32 :=
  shapeCast _ (extractStridedSlice S256x1024 ![0, 0] a0 slices_S4352x1024_S256x1024_0_0) shapeCasts_S256x1024_S256x2x4x128
/-- The keys. -/
def kv (a1 : Vec Ideal S4352x256 .bf16) : FVec Ideal S256x2x128 .f32 :=
  shapeCast _ (extractStridedSlice S256x256 ![0, 0] (extf .f32 a1 bitsLt_bf16_f32) slices_S4352x256_S256x256_0_0) shapeCasts_S256x256_S256x2x128
/-- The values. -/
def vv (a2 : Vec Ideal S4352x13312 .bf16) : FVec Ideal S256x2x128 .f32 :=
  shapeCast _ (extractStridedSlice S256x256 ![0, 0] (extf .f32 (extractStridedSlice S4352x256 ![0, 12544] a2 slices_S4352x13312_S4352x256_0_12544) bitsLt_bf16_f32) slices_S4352x256_S256x256_0_0) shapeCasts_S256x256_S256x2x128
/-- The scores. -/
def sv (k : FVec Ideal S256x2x128 .f32) (q : FVec Ideal S256x2x4x128 .f32) : FVec Ideal S2x4x256x256 .f32 :=
  mulf (transpose S2x4x256x256 [0, 3, 2, 1] (Host.dotGeneral dot_S256x2x128_S256x2x4x128_S2x256x256x4_2_3_0_02_1_1 none k q) transposes_S2x256x256x4_S2x4x256x256_0_3_2_1)
    (broadcastInDim S2x4x256x256 ![] bcast_S_S2x4x256x256 (constant S_ .f32 0x3DB504F3#32))
/-- Each query's greatest score. -/
def mv (s : FVec Ideal S2x4x256x256 .f32) : FVec Ideal S2x4x256 .f32 :=
  Host.reduce FloatOps.maximumf s (constant S_ .f32 0xFF800000#32) reducesTo_S2x4x256x256_S2x4x256_d3 h_S_
/-- The exponentials. -/
def ev (s : FVec Ideal S2x4x256x256 .f32) (mx : FVec Ideal S2x4x256 .f32) : FVec Ideal S2x4x256x256 .f32 :=
  Host.exp (subf s (broadcastInDim S2x4x256x256 ![0, 1, 2, 3] bcast_S2x4x256x1_S2x4x256x256_0_1_2_3 (broadcastInDim S2x4x256x1 ![0, 1, 2] bcast_S2x4x256_S2x4x256x1_0_1_2 mx)))
/-- Their sums. -/
def zv (e : FVec Ideal S2x4x256x256 .f32) : FVec Ideal S2x4x256x1 .f32 :=
  broadcastInDim S2x4x256x1 ![0, 1, 2] bcast_S2x4x256_S2x4x256x1_0_1_2 (Host.reduceAdd e (constant S_ .f32 0x00000000#32) reducesTo_S2x4x256x256_S2x4x256_d3 h_S_)
/-- The attention. -/
def ov (v : FVec Ideal S256x2x128 .f32) (e : FVec Ideal S2x4x256x256 .f32) (z : FVec Ideal S2x4x256x1 .f32) : FVec Ideal S256x1024 .f32 :=
  shapeCast _ (transpose S256x2x4x128 [3, 0, 2, 1] (Host.dotGeneral dot_S256x2x128_S2x4x256x256_S2x128x4x256_0_3_2_12_1_0 none v
    (Host.divf e (broadcastInDim S2x4x256x256 ![0, 1, 2, 3] bcast_S2x4x256x1_S2x4x256x256_0_1_2_3 z))) transposes_S2x128x4x256_S256x2x4x128_3_0_2_1) shapeCasts_S256x2x4x128_S256x1024
/-- The logarithms of the sums, in base two. -/
def lv (mx : FVec Ideal S2x4x256 .f32) (z : FVec Ideal S2x4x256x1 .f32) : FVec Ideal S2x256x4 .f32 :=
  transpose S2x256x4 [0, 2, 1] (shapeCast S2x4x256 (Host.divf (addf (broadcastInDim S2x4x256x1 ![0, 1, 2] bcast_S2x4x256_S2x4x256x1_0_1_2 mx) (Host.log z))
    (broadcastInDim S2x4x256x1 ![] bcast_S_S2x4x256x1 (Host.log (constant S_ .f32 0x40000000#32)))) shapeCasts_S2x4x256x1_S2x4x256) transposes_S2x4x256_S2x256x4_0_2_1

section
variable {A0 : Fin 4352 → Fin 1024 → ℝ} {A1 A2 : Fin 4352 → Fin 256 → ℝ}
  {a0 : Vec Ideal S4352x1024 .f32} {a1 : Vec Ideal S4352x256 .bf16} {a2 : Vec Ideal S4352x13312 .bf16}

theorem qv_real (h : ∀ r j, a0 (ix2 r j) = (A0 r j : EReal)) (r : Fin 256) (n : Fin 2) (g : Fin 4) (d : Fin 128) :
    qv a0 (ix4 r n g d) = (Dr cx A0 r n g d : EReal) := by
  unfold qv
  pointwise
  exact h (cx r) (qc n g d)
theorem kv_real (h : ∀ r j, a1 (ix2 r j) = (A1 r j : EReal)) (s : Fin 256) (n : Fin 2) (d : Fin 128) :
    kv a1 (ix3 s n d) = (Kr cx A1 s n d : EReal) := by
  unfold kv
  pointwise
  exact h (cx s) (kc n d)
theorem vv_real (h : ∀ r (j : Fin 256), a2 (ix2 r (vc j)) = (A2 r j : EReal)) (s : Fin 256) (n : Fin 2) (d : Fin 128) :
    vv a2 (ix3 s n d) = (Kr cx A2 s n d : EReal) := by
  unfold vv
  pointwise
  exact h (cx s) (kc n d)
end

section
variable {A : Fin 4352 → Fin 1024 → ℝ} {K W : Fin 256 → Fin 2 → Fin 128 → ℝ}
  {S E : Fin 2 → Fin 4 → Fin 256 → Fin 256 → ℝ} {X Z : Fin 2 → Fin 4 → Fin 256 → ℝ}
  {k v : FVec Ideal S256x2x128 .f32} {q : FVec Ideal S256x2x4x128 .f32} {s e : FVec Ideal S2x4x256x256 .f32}
  {mx : FVec Ideal S2x4x256 .f32} {z : FVec Ideal S2x4x256x1 .f32}

theorem sv_real (hk : ∀ s n d, k (ix3 s n d) = (K s n d : EReal)) (hq : ∀ r n g d, q (ix4 r n g d) = (Dr cx A r n g d : EReal)) (n g r t) :
    sv k q (ix4 n g r t) = (sc (Qr cx A) K n g r t : EReal) := by
  unfold sv
  pointwise
  simp only [hk, hq, ← EReal.coe_mul, coe_sum, word_sigma]
  unfold sc Qr Dr
  rw [Finset.sum_mul]
  simp only [mul_assoc]
theorem mv_real (hs : ∀ n g r t, s (ix4 n g r t) = (S n g r t : EReal)) :
    ∃ X : Fin 2 → Fin 4 → Fin 256 → ℝ, ∀ n g r, mv s (ix3 n g r) = (X n g r : EReal) := by
  have h : ∀ n g r, ∃ x : ℝ, mv s (ix3 n g r) = (x : EReal) := by
    intro n g r
    unfold mv
    exact reduce_max_real s (constant S_ .f32 0xFF800000#32) reducesTo_S2x4x256x256_S2x4x256_d3 (by decide) h_S_ (by decide)
      (fun _ => word_bot) (fun i => ⟨_, (congrArg s (eq_ix4 i)).trans (hs (i 0) (i 1) (i 2) (i 3))⟩) (ix3 n g r)
  choose X hX using h
  exact ⟨X, hX⟩
theorem ev_real (hs : ∀ n g r t, s (ix4 n g r t) = (S n g r t : EReal)) (hm : ∀ n g r, mx (ix3 n g r) = (X n g r : EReal)) (n g r t) :
    ev s mx (ix4 n g r t) = (Real.exp (S n g r t - X n g r) : EReal) := by
  unfold ev
  pointwise
  simp only [hs, hm, ← EReal.coe_sub, Ideal.exp_coe]
theorem zv_real (he : ∀ n g r t, e (ix4 n g r t) = (E n g r t : EReal)) (n g r) :
    zv e (ix4 n g r 0) = ((∑ t, E n g r t : ℝ) : EReal) := by
  unfold zv
  pointwise
  simp only [he, coe_sum]
theorem ov_real (hv : ∀ s n d, v (ix3 s n d) = (W s n d : EReal)) (he : ∀ n g r t, e (ix4 n g r t) = (E n g r t : EReal))
    (hz : ∀ n g r, z (ix4 n g r 0) = (Z n g r : EReal)) (h0 : ∀ n g r, Z n g r ≠ 0) (r : Fin 256) (j : Fin 1024) :
    ov v e z (ix2 r j) = ((∑ s, W s (nq j) (dq j) * (E (nq j) (gq j) r s * (1 / Z (nq j) (gq j) r)) : ℝ) : EReal) := by
  unfold ov
  pointwise
  simp only [hv, he, hz, div_real _ _ (h0 _ _ _), ← EReal.coe_mul, coe_sum]
  rfl
theorem lv_real (hm : ∀ n g r, mx (ix3 n g r) = (X n g r : EReal)) (hz : ∀ n g r, z (ix4 n g r 0) = (Z n g r : EReal)) (h0 : ∀ n g r, 0 < Z n g r) (n r g) :
    lv mx z (ix3 n r g) = (((X n g r + Real.log (Z n g r)) * (1 / Real.log 2) : ℝ) : EReal) := by
  unfold lv
  pointwise
  simp only [hm, hz, log_word_two]
  rw [Ideal.log_coe, if_neg (not_le.2 (h0 n g r)), ← EReal.coe_add, div_real _ _ log_two_ne]

/-- The attention and the logarithms of the sums, from the queries, keys and values. -/
theorem fwd (hq : ∀ r n g d, q (ix4 r n g d) = (Dr cx A r n g d : EReal)) (hk : ∀ s n d, k (ix3 s n d) = (K s n d : EReal))
    (hv : ∀ s n d, v (ix3 s n d) = (W s n d : EReal)) :
    (∀ (r : Fin 256) (j : Fin 1024), ov v (ev (sv k q) (mv (sv k q))) (zv (ev (sv k q) (mv (sv k q)))) (ix2 r j)
      = (att (Qr cx A) K W (nq j) (gq j) r (dq j) : EReal))
    ∧ ∃ X : Fin 2 → Fin 4 → Fin 256 → ℝ, ∀ n r g, lv (mv (sv k q)) (zv (ev (sv k q) (mv (sv k q)))) (ix3 n r g)
      = (((X n g r + Real.log (∑ t, Real.exp (sc (Qr cx A) K n g r t - X n g r))) * (1 / Real.log 2) : ℝ) : EReal) := by
  have hs := sv_real hk hq
  obtain ⟨X, hm⟩ := mv_real hs
  have he := ev_real hs hm
  have hz := zv_real he
  have h0 : ∀ n g r, 0 < ∑ t, Real.exp (sc (Qr cx A) K n g r t - X n g r) := fun n g r => sum_exp_pos (fun t => sc (Qr cx A) K n g r t - X n g r)
  refine ⟨fun r j => ?_, X, fun n r g => lv_real hm hz h0 n r g⟩
  rw [ov_real hv he hz fun n g r => (h0 n g r).ne']
  refine congrArg _ (Finset.sum_congr rfl fun s _ => ?_)
  rw [mul_one_div, pr_shift]
  rfl
end

end Cert.KernelIdeal.HCtx

end
-- ==== Proof.Host.lean ====
/- What the kernel's host code hands to the launch: the folded queries, the attention and the logarithms of its sums. -/
module

public import proofs.«01_k».proof.Proof.HostLat
public import proofs.«01_k».proof.Proof.HostCtx
public import Idealize.ShloMosaic.Lib.StableHlo.RunRead

@[expose] public section

set_option maxRecDepth 16384

noncomputable section

namespace Cert.KernelIdeal

open Idealize.ShloMosaic Idealize.ShloMosaic.TcCoe Cert.KernelIdeal Cert.KernelIdeal.Gen Cert.Soft

abbrev Mem : Type := (ℓ : Loc nD τ sig) → Buf (Elt Ideal) ℓ

/-- The arguments. -/
def a0 (m : Mem) (c : Dev nD) : Vec Ideal S4352x1024 .f32 := m ((c.tc : Thread nD τ).loc main_arg0)
def a1 (m : Mem) (c : Dev nD) : Vec Ideal S4352x256 .bf16 := m ((c.tc : Thread nD τ).loc main_arg1)
def a2 (m : Mem) (c : Dev nD) : Vec Ideal S4352x13312 .bf16 := m ((c.tc : Thread nD τ).loc main_arg2)
def a3 (m : Mem) (c : Dev nD) : Vec Ideal S4352x1024 .bf16 := m ((c.tc : Thread nD τ).loc main_arg3)

namespace HLat
def ex (m : Mem) (c : Dev nD) : FVec Ideal S2x4x4096x4352 .f32 := ev (sv (kv (a1 m c)) (qv (a0 m c))) (mv (sv (kv (a1 m c)) (qv (a0 m c))))
def o (m : Mem) (c : Dev nD) : FVec Ideal S4096x1024 .f32 := ov (vv (a2 m c)) (ex m c) (zv (ex m c))
def l (m : Mem) (c : Dev nD) : FVec Ideal S2x4096x4 .f32 := lv (mv (sv (kv (a1 m c)) (qv (a0 m c)))) (zv (ex m c))
end HLat

namespace HCtx
def ex (m : Mem) (c : Dev nD) : FVec Ideal S2x4x256x256 .f32 := ev (sv (kv (a1 m c)) (qv (a0 m c))) (mv (sv (kv (a1 m c)) (qv (a0 m c))))
def o (m : Mem) (c : Dev nD) : FVec Ideal S256x1024 .f32 := ov (vv (a2 m c)) (ex m c) (zv (ex m c))
def l (m : Mem) (c : Dev nD) : FVec Ideal S2x256x4 .f32 := lv (mv (sv (kv (a1 m c)) (qv (a0 m c)))) (zv (ex m c))
end HCtx

theorem V_q (m : Mem) (c : Dev nD) : @Eq (FVec Ideal S4352x1024 .bf16) (V (F := Ideal) m c main_v67)
    (truncf .bf16 (Host.divf (mulf (a0 m c) (broadcastInDim S4352x1024 ![] bcast_S_S4352x1024 (constant S_ .f32 0x3DB504F3#32)))
        (broadcastInDim S4352x1024 ![] bcast_S_S4352x1024 (Host.log (constant S_ .f32 0x40000000#32)))) bitsLt_bf16_f32) := by
  unfold V
  after_reads_simp <;> rfl
theorem V_o (m : Mem) (c : Dev nD) : @Eq (FVec Ideal S4352x1024 .bf16) (V (F := Ideal) m c main_v60)
    <| truncf .bf16 (concatenate S4352x1024 0 [⟨S256x1024, HCtx.o m c⟩, ⟨S4096x1024, HLat.o m c⟩] concatenates_S256x1024_S4096x1024_S4352x1024_d0) bitsLt_bf16_f32 := by
  unfold V
  after_reads_simp
  refine congrArg₂ (fun a b => truncf .bf16 (concatenate S4352x1024 0 [⟨S256x1024, a⟩, ⟨S4096x1024, b⟩] concatenates_S256x1024_S4096x1024_S4352x1024_d0) bitsLt_bf16_f32) ?_ ?_ <;> after_reads_simp <;> rfl
theorem V_l (m : Mem) (c : Dev nD) : @Eq (FVec Ideal S2x4352x4 .f32) (V (F := Ideal) m c main_v61)
    <| concatenate S2x4352x4 1 [⟨S2x256x4, HCtx.l m c⟩, ⟨S2x4096x4, HLat.l m c⟩] concatenates_S2x256x4_S2x4096x4_S2x4352x4_d1 := by
  unfold V
  after_reads_simp
  refine congrArg₂ (fun a b => concatenate S2x4352x4 1 [⟨S2x256x4, a⟩, ⟨S2x4096x4, b⟩] concatenates_S2x256x4_S2x4096x4_S2x4352x4_d1) ?_ ?_ <;> after_reads_simp <;> rfl

section
variable {m : Mem} {c : Dev nD} {A0 A3 : Fin 4352 → Fin 1024 → ℝ} {A1 A2 : Fin 4352 → Fin 256 → ℝ}
  (h0 : ∀ r j, a0 m c (ix2 r j) = (A0 r j : EReal)) (h1 : ∀ r j, a1 m c (ix2 r j) = (A1 r j : EReal))
  (h2 : ∀ r (j : Fin 256), a2 m c (ix2 r (vc j)) = (A2 r j : EReal))

include h0 in
theorem q_real (r j) : V (F := Ideal) m c main_v67 (ix2 r j) = ((A0 r j * sigma * (1 / Real.log 2) : ℝ) : EReal) := by
  rw [V_q]
  pointwise
  rw [h0, word_sigma, log_word_two, ← EReal.coe_mul, div_real _ _ log_two_ne]

include h0 h1 h2
theorem o_ctx (r : Fin 256) (j : Fin 1024) : V (F := Ideal) m c main_v60 (ix2 (cx r) j)
    = ((att (Qr cx A0) (Kr cx A1) (Kr cx A2) (nq j) (gq j) r (dq j) : ℝ) : EReal) := by
  have h := (HCtx.fwd (HCtx.qv_real h0) (HCtx.kv_real h1) (HCtx.vv_real h2)).1 r j
  rw [V_o]
  pointwise
  have hlt : (cx r).val < 256 := r.isLt
  rw [dif_pos hlt]
  exact h
theorem o_lat (r : Fin 4096) (j : Fin 1024) : V (F := Ideal) m c main_v60 (ix2 (lx r) j)
    = ((att (Qr lx A0) (Kr id A1) (Kr id A2) (nq j) (gq j) r (dq j) : ℝ) : EReal) := by
  have h := (HLat.fwd (HLat.qv_real h0) (HLat.kv_real h1) (HLat.vv_real h2)).1 r j
  rw [V_o]
  pointwise
  have hv : (lx r).val = 256 + r.val := rfl
  have hr := r.isLt
  rw [dif_neg (by omega)]
  have e : (⟨(lx r).val - 256, by omega⟩ : Fin 4096) = r := Fin.ext (by show (lx r).val - 256 = r.val; omega)
  exact (congrArg (fun x => HLat.o m c (ix2 x j)) e).trans h

/-- A query's logarithm of its sum, in base two. -/
def lse {ι : Type*} [Fintype ι] (s : ι → ℝ) (x : ℝ) : ℝ := (x + Real.log (∑ t, Real.exp (s t - x))) * (1 / Real.log 2)

theorem l_ctx : ∃ X : Fin 2 → Fin 4 → Fin 256 → ℝ, ∀ n r g, V (F := Ideal) m c main_v61 (ix3 n (cx r) g)
    = ((lse (sc (Qr cx A0) (Kr cx A1) n g r) (X n g r) : ℝ) : EReal) := by
  obtain ⟨X, h⟩ := (HCtx.fwd (HCtx.qv_real h0) (HCtx.kv_real h1) (HCtx.vv_real h2)).2
  refine ⟨X, fun n r g => ?_⟩
  rw [V_l]
  pointwise
  have hlt : (cx r).val < 256 := r.isLt
  rw [dif_pos hlt]
  exact h n r g
theorem l_lat : ∃ X : Fin 2 → Fin 4 → Fin 4096 → ℝ, ∀ n r g, V (F := Ideal) m c main_v61 (ix3 n (lx r) g)
    = ((lse (sc (Qr lx A0) (Kr id A1) n g r) (X n g r) : ℝ) : EReal) := by
  obtain ⟨X, h⟩ := (HLat.fwd (HLat.qv_real h0) (HLat.kv_real h1) (HLat.vv_real h2)).2
  refine ⟨X, fun n r g => ?_⟩
  rw [V_l]
  pointwise
  have hv : (lx r).val = 256 + r.val := rfl
  have hr := r.isLt
  rw [dif_neg (by omega)]
  have e : (⟨(lx r).val - 256, by omega⟩ : Fin 4096) = r := Fin.ext (by show (lx r).val - 256 = r.val; omega)
  exact (congrArg (fun x => HLat.l m c (ix3 n x g)) e).trans (h n r g)
end

end Cert.KernelIdeal

end
-- ==== Proof.Equal.lean ====
/- The kernel's sums over the grid are the attention's gradients. -/
module

public import proofs.«01_k».proof.Proof.Grid
public import proofs.«01_k».proof.Proof.Host

@[expose] public section

noncomputable section

namespace Cert.Attn

open Cert.Soft (sigma Qr Kr Dr cx lx sc prob dpr dsc att sum_cx_lx)
open Cert.KernelIdeal (lse)
open Cert.KernelIdeal.Tile (qc kc nq gq dq nk dk gP gS gQ gK gV sees rw17)

theorem qc_eq (n g d) : qc n g d = Cert.Soft.qc n g d := Fin.ext (by show 512 * n.val + 128 * g.val + d.val = n.val * 512 + g.val * 128 + d.val; omega)
theorem kc_eq (n d) : kc n d = Cert.Soft.kc n d := Fin.ext (by show 128 * n.val + d.val = n.val * 128 + d.val; omega)
theorem gq_eq (j) : gq j = Cert.Soft.gq j := Fin.ext (by show j.val % 512 / 128 = j.val / 128 % 4; omega)
theorem nq_qc (n g d) : Cert.Soft.nq (Cert.Soft.qc n g d) = n := Fin.ext (by show (n.val * 512 + g.val * 128 + d.val) / 512 = n.val; omega)
theorem gq_qc (n g d) : Cert.Soft.gq (Cert.Soft.qc n g d) = g := Fin.ext (by show (n.val * 512 + g.val * 128 + d.val) / 128 % 4 = g.val; omega)
theorem dq_qc (n g d) : Cert.Soft.dq (Cert.Soft.qc n g d) = d := Fin.ext (by show (n.val * 512 + g.val * 128 + d.val) % 128 = d.val; omega)
theorem rw17_zero (s : Fin 256) : rw17 0 s = cx s := Fin.ext (by simp [rw17, cx])

theorem row_cases (r : Fin 4352) : (∃ r', r = cx r') ∨ ∃ r', r = lx r' := by
  by_cases h : r.val < 256
  · exact .inl ⟨⟨r.val, h⟩, rfl⟩
  · exact .inr ⟨⟨r.val - 256, by omega⟩, Fin.ext (by show r.val = 256 + (r.val - 256); omega)⟩

theorem sees_lx (r : Fin 4096) (s : Fin 4352) : sees (lx r) s := fun h => absurd (show 256 + r.val < 256 from h) (by omega)
theorem sees_cx (r s : Fin 256) : sees (cx r) (cx s) := fun _ => s.isLt
theorem not_sees (r : Fin 256) (s : Fin 4096) : ¬sees (cx r) (lx s) := fun h => absurd (show 256 + s.val < 256 from h r.isLt) (by omega)

/-- The queries as the kernel takes them: scaled, and divided by the logarithm of two. -/
def fold (A : Fin 4352 → Fin 1024 → ℝ) (r : Fin 4352) (j : Fin 1024) : ℝ := A r j * sigma * (1 / Real.log 2)

section
variable {A0 A3 O : Fin 4352 → Fin 1024 → ℝ} {A1 A2 : Fin 4352 → Fin 256 → ℝ} {L : Fin 2 → Fin 4352 → Fin 4 → ℝ}

/-- The kernel's score is the score over the logarithm of two. -/
theorem score {ι κ : Type*} (a : ι → Fin 4352) (b : κ → Fin 4352) (n g) (r : ι) (s : κ) :
    (∑ d, fold A0 (a r) (qc n g d) * A1 (b s) (kc n d)) * Real.log 2 = sc (Qr a A0) (Kr b A1) n g r s := by
  rw [Finset.sum_mul]
  refine Finset.sum_congr rfl fun d _ => ?_
  rw [qc_eq, kc_eq]
  unfold fold Qr Kr
  have h := Cert.Soft.log_two_ne
  field_simp

section
variable {ι κ : Type*} [Fintype ι] [Fintype κ] [Nonempty κ] {a : ι → Fin 4352} {b : κ → Fin 4352}
  (hL : ∀ n r g, ∃ x, L n (a r) g = lse (sc (Qr a A0) (Kr b A1) n g r) x)
  (hO : ∀ r j, O (a r) j = att (Qr a A0) (Kr b A1) (Kr b A2) (Cert.Soft.nq j) (Cert.Soft.gq j) r (Cert.Soft.dq j))
include hL
theorem gP_eq (n g) (r : ι) (s : κ) : gP (fold A0) A1 L n g (a r) (b s) = prob (Qr a A0) (Kr b A1) n g r s := by
  obtain ⟨x, hx⟩ := hL n r g
  unfold gP
  rw [hx]
  exact Cert.Soft.pr_of_lse _ _ _ _ (score a b n g r s)
include hO
theorem gS_eq (n g) (r : ι) (s : κ) : gS (fold A0) O A3 A1 A2 L n g (a r) (b s) = dsc (Qr a A0) (Dr a A3) (Kr b A1) (Kr b A2) n g r s := by
  unfold gS dsc
  rw [gP_eq hL, ← Cert.Soft.sum_att]
  simp only [hO, qc_eq, kc_eq]
  simp only [nq_qc, gq_qc, dq_qc]
  rfl
end

variable
  (hLc : ∀ n r g, ∃ x, L n (cx r) g = lse (sc (Qr cx A0) (Kr cx A1) n g r) x)
  (hLl : ∀ n r g, ∃ x, L n (lx r) g = lse (sc (Qr lx A0) (Kr id A1) n g r) x)

section
variable
  (hOc : ∀ r j, O (cx r) j = att (Qr cx A0) (Kr cx A1) (Kr cx A2) (Cert.Soft.nq j) (Cert.Soft.gq j) r (Cert.Soft.dq j))
  (hOl : ∀ r j, O (lx r) j = att (Qr lx A0) (Kr id A1) (Kr id A2) (Cert.Soft.nq j) (Cert.Soft.gq j) r (Cert.Soft.dq j))

include hLc hOc in
theorem gQ_ctx (r j) : gQ (fold A0) O A3 A1 A2 L (cx r) j
    = ∑ s, dsc (Qr cx A0) (Dr cx A3) (Kr cx A1) (Kr cx A2) (Cert.Soft.nq j) (Cert.Soft.gq j) r s * Kr cx A1 s (Cert.Soft.nq j) (Cert.Soft.dq j) := by
  rw [← gq_eq]
  unfold gQ
  rw [if_pos (show (cx r).val < 256 from r.isLt)]
  refine Finset.sum_congr rfl fun s _ => ?_
  rw [rw17_zero, gS_eq hLc hOc, kc_eq]
  rfl
include hLl hOl in
theorem gQ_lat (r j) : gQ (fold A0) O A3 A1 A2 L (lx r) j
    = ∑ s, dsc (Qr lx A0) (Dr lx A3) (Kr id A1) (Kr id A2) (Cert.Soft.nq j) (Cert.Soft.gq j) r s * Kr id A1 s (Cert.Soft.nq j) (Cert.Soft.dq j) := by
  rw [← gq_eq]
  unfold gQ
  rw [if_neg (show ¬(lx r).val < 256 from fun h => absurd (show 256 + r.val < 256 from h) (by omega))]
  refine Finset.sum_congr rfl fun s _ => ?_
  rw [kc_eq]
  exact congrArg (· * _) (gS_eq (b := id) hLl hOl _ _ r s)

theorem fold_eq {ι : Type*} (a : ι → Fin 4352) (r : ι) (n g d) : fold A0 (a r) (qc n g d) = Qr a A0 r n g d * (1 / Real.log 2) := by
  rw [qc_eq]
  rfl

include hLl hOl in
theorem lat_K (s : Fin 4352) (j) : (∑ r, ∑ g, if sees (lx r) s then gS (fold A0) O A3 A1 A2 L (nk j) g (lx r) s * fold A0 (lx r) (qc (nk j) g (dk j)) else 0)
    = (∑ r, ∑ g, dsc (Qr lx A0) (Dr lx A3) (Kr id A1) (Kr id A2) (nk j) g r s * Qr lx A0 r (nk j) g (dk j)) * (1 / Real.log 2) := by
  rw [Finset.sum_mul]
  refine Finset.sum_congr rfl fun r _ => ?_
  rw [Finset.sum_mul]
  refine Finset.sum_congr rfl fun g _ => ?_
  rw [if_pos (sees_lx r s), fold_eq lx, ← mul_assoc]
  exact congrArg (· * _ * _) (gS_eq (b := id) hLl hOl _ _ r s)
include hLc hLl hOc hOl in
theorem gK_ctx (s : Fin 256) (j) : gK (fold A0) O A3 A1 A2 L (cx s) j
    = ((∑ r, ∑ g, dsc (Qr lx A0) (Dr lx A3) (Kr id A1) (Kr id A2) (nk j) g r (cx s) * Qr lx A0 r (nk j) g (dk j))
      + ∑ r, ∑ g, dsc (Qr cx A0) (Dr cx A3) (Kr cx A1) (Kr cx A2) (nk j) g r s * Qr cx A0 r (nk j) g (dk j)) * (1 / Real.log 2) := by
  unfold gK
  rw [sum_cx_lx, lat_K hLl hOl, add_comm, add_mul]
  congr 1
  rw [Finset.sum_mul]
  refine Finset.sum_congr rfl fun r _ => ?_
  rw [Finset.sum_mul]
  refine Finset.sum_congr rfl fun g _ => ?_
  rw [if_pos (sees_cx r s), fold_eq cx, ← mul_assoc, gS_eq hLc hOc]
include hLl hOl in
theorem gK_lat (s : Fin 4096) (j) : gK (fold A0) O A3 A1 A2 L (lx s) j
    = (∑ r, ∑ g, dsc (Qr lx A0) (Dr lx A3) (Kr id A1) (Kr id A2) (nk j) g r (lx s) * Qr lx A0 r (nk j) g (dk j)) * (1 / Real.log 2) := by
  unfold gK
  rw [sum_cx_lx, lat_K hLl hOl]
  simp only [if_neg (not_sees _ s), Finset.sum_const_zero, zero_add]
end

include hLl in
theorem lat_V (s : Fin 4352) (j) : (∑ r, ∑ g, if sees (lx r) s then gP (fold A0) A1 L (nk j) g (lx r) s * A3 (lx r) (qc (nk j) g (dk j)) else 0)
    = ∑ r, ∑ g, prob (Qr lx A0) (Kr id A1) (nk j) g r s * Dr lx A3 r (nk j) g (dk j) := by
  refine Finset.sum_congr rfl fun r _ => Finset.sum_congr rfl fun g _ => ?_
  rw [if_pos (sees_lx r s), qc_eq]
  exact congrArg (· * _) (gP_eq (b := id) hLl _ _ r s)
include hLc hLl in
theorem gV_ctx (s : Fin 256) (j) : gV (fold A0) A3 A1 L (cx s) j
    = (∑ r, ∑ g, prob (Qr lx A0) (Kr id A1) (nk j) g r (cx s) * Dr lx A3 r (nk j) g (dk j))
      + ∑ r, ∑ g, prob (Qr cx A0) (Kr cx A1) (nk j) g r s * Dr cx A3 r (nk j) g (dk j) := by
  unfold gV
  rw [sum_cx_lx, lat_V hLl, add_comm]
  congr 1
  refine Finset.sum_congr rfl fun r _ => Finset.sum_congr rfl fun g _ => ?_
  rw [if_pos (sees_cx r s), gP_eq hLc, qc_eq]
  rfl
include hLl in
theorem gV_lat (s : Fin 4096) (j) : gV (fold A0) A3 A1 L (lx s) j
    = ∑ r, ∑ g, prob (Qr lx A0) (Kr id A1) (nk j) g r (lx s) * Dr lx A3 r (nk j) g (dk j) := by
  unfold gV
  rw [sum_cx_lx, lat_V hLl]
  simp only [if_neg (not_sees _ s), Finset.sum_const_zero, zero_add]
end

end Cert.Attn

end
-- ==== Proof.RefLat.lean ====
/- The reference's attention of the latent rows: each step of its backward pass read at an element. -/
module

public import proofs.«01_k».proof.Proof.Gen.ReferenceIdeal.Run
public import proofs.«01_k».proof.Proof.Words
public import Idealize.ShloMosaic.Lib.Tactic.ValueTie
public import Idealize.ShloMosaic.Lib.Pipeline.ValueKit
public import Idealize.ShloMosaic.PureOps.Ideal.Laws

@[expose] public section

set_option maxRecDepth 16384

noncomputable section

namespace Cert.ReferenceIdeal.Lat

open Idealize.ShloMosaic Idealize.ShloMosaic.TcCoe Cert.ReferenceIdeal Cert.ReferenceIdeal.Gen Cert.Soft

/-- The scaled queries. -/
def qv (a0 : Vec Ideal S4352x1024 .f32) : FVec Ideal S4096x2x4x128 .f32 :=
  shapeCast _ (extractStridedSlice S4096x1024 ![256, 0] (mulf a0 (broadcastInDim S4352x1024 ![] bcast_S_S4352x1024 (constant S_ .f32 0x3DB504F3#32))) slices_S4352x1024_S4096x1024_256_0) shapeCasts_S4096x1024_S4096x2x4x128
/-- The keys. -/
def kv (a1 : Vec Ideal S4352x256 .bf16) : FVec Ideal S4352x2x128 .f32 :=
  shapeCast _ (extf .f32 a1 bitsLt_bf16_f32) shapeCasts_S4352x256_S4352x2x128
/-- The values. -/
def vv (a2 : Vec Ideal S4352x13312 .bf16) : FVec Ideal S4352x2x128 .f32 :=
  shapeCast _ (extf .f32 (extractStridedSlice S4352x256 ![0, 12544] a2 slices_S4352x13312_S4352x256_0_12544) bitsLt_bf16_f32) shapeCasts_S4352x256_S4352x2x128
/-- The output's gradient. -/
def dov (a3 : Vec Ideal S4352x1024 .bf16) : FVec Ideal S2x128x4x4096 .f32 :=
  transpose S2x128x4x4096 [1, 3, 2, 0] (shapeCast _ (extractStridedSlice S4096x1024 ![256, 0] (extf .f32 a3 bitsLt_bf16_f32) slices_S4352x1024_S4096x1024_256_0) shapeCasts_S4096x1024_S4096x2x4x128) transposes_S4096x2x4x128_S2x128x4x4096_1_3_2_0
/-- The scores. -/
def sv (k : FVec Ideal S4352x2x128 .f32) (q : FVec Ideal S4096x2x4x128 .f32) : FVec Ideal S2x4x4096x4352 .f32 :=
  transpose S2x4x4096x4352 [0, 3, 2, 1] (Host.dotGeneral dot_S4352x2x128_S4096x2x4x128_S2x4352x4096x4_2_3_0_02_1_1 none k q) transposes_S2x4352x4096x4_S2x4x4096x4352_0_3_2_1
/-- Each query's greatest score. -/
def mv (s : FVec Ideal S2x4x4096x4352 .f32) : FVec Ideal S2x4x4096 .f32 :=
  maximumf (broadcastInDim S2x4x4096 ![] bcast_S_S2x4x4096 (constant S_ .f32 0xFF800000#32)) (Host.reduce FloatOps.maximumf s (constant S_ .f32 0xFF800000#32) reducesTo_S2x4x4096x4352_S2x4x4096_d3 h_S_)
/-- The exponentials. -/
def ev (s : FVec Ideal S2x4x4096x4352 .f32) (mx : FVec Ideal S2x4x4096 .f32) : FVec Ideal S2x4x4096x4352 .f32 :=
  Host.exp (subf s (broadcastInDim S2x4x4096x4352 ![0, 1, 2, 3] bcast_S2x4x4096x1_S2x4x4096x4352_0_1_2_3 (broadcastInDim S2x4x4096x1 ![0, 1, 2] bcast_S2x4x4096_S2x4x4096x1_0_1_2 mx)))
/-- Their sums. -/
def zv (e : FVec Ideal S2x4x4096x4352 .f32) : FVec Ideal S2x4x4096x1 .f32 :=
  broadcastInDim S2x4x4096x1 ![0, 1, 2] bcast_S2x4x4096_S2x4x4096x1_0_1_2 (Host.reduceAdd e (constant S_ .f32 0x00000000#32) reducesTo_S2x4x4096x4352_S2x4x4096_d3 h_S_)
/-- The gradients of the probabilities. -/
def dpv (d : FVec Ideal S2x128x4x4096 .f32) (v : FVec Ideal S4352x2x128 .f32) : FVec Ideal S2x4x4096x4352 .f32 :=
  Host.dotGeneral dot_S2x128x4x4096_S4352x2x128_S2x4x4096x4352_1_2_23_0_0_1 none d v
/-- The softmax's own term: each query's weighted sum of them. -/
def wv (dp e : FVec Ideal S2x4x4096x4352 .f32) (z : FVec Ideal S2x4x4096x1 .f32) : FVec Ideal S2x4x4096 .f32 :=
  Host.reduceAdd (Host.negf (shapeCast _ (Host.reduceAdd (mulf (mulf dp (broadcastInDim S2x4x4096x4352 ![0, 1, 2, 3] bcast_S2x4x4096x1_S2x4x4096x4352_0_1_2_3 (Host.divf (broadcastInDim S2x4x4096x1 ![] bcast_S_S2x4x4096x1 (constant S_ .f32 0x3F800000#32)) (mulf z z)))) e) (constant S_ .f32 0x00000000#32) reducesTo_S2x4x4096x4352_S2x4x4096_d3 h_S_) shapeCasts_S2x4x4096_S2x4x4096x1)) (constant S_ .f32 0x00000000#32) reducesTo_S2x4x4096x1_S2x4x4096_d3 h_S_
/-- The gradients of the scores. -/
def dsv (dp e : FVec Ideal S2x4x4096x4352 .f32) (z : FVec Ideal S2x4x4096x1 .f32) (w : FVec Ideal S2x4x4096 .f32) : FVec Ideal S2x4352x4096x4 .f32 :=
  transpose S2x4352x4096x4 [0, 3, 2, 1] (mulf (addf (Host.divf dp (broadcastInDim S2x4x4096x4352 ![0, 1, 2, 3] bcast_S2x4x4096x1_S2x4x4096x4352_0_1_2_3 z)) (broadcastInDim S2x4x4096x4352 ![0, 1, 2] bcast_S2x4x4096_S2x4x4096x4352_0_1_2 w)) e) transposes_S2x4x4096x4352_S2x4352x4096x4_0_3_2_1
/-- The queries' gradient. -/
def rq (ds : FVec Ideal S2x4352x4096x4 .f32) (k : FVec Ideal S4352x2x128 .f32) : FVec Ideal S4096x1024 .f32 :=
  shapeCast _ (transpose S4096x2x4x128 [1, 0, 2, 3] (Host.dotGeneral dot_S2x4352x4096x4_S4352x2x128_S2x4096x4x128_1_0_23_2_0_1 none ds k) transposes_S2x4096x4x128_S4096x2x4x128_1_0_2_3) shapeCasts_S4096x2x4x128_S4096x1024
/-- The keys' gradient. -/
def rk (ds : FVec Ideal S2x4352x4096x4 .f32) (q : FVec Ideal S4096x2x4x128 .f32) : FVec Ideal S4352x256 .f32 :=
  shapeCast _ (transpose S4352x2x128 [1, 0, 2] (Host.dotGeneral dot_S2x4352x4096x4_S4096x2x4x128_S2x4352x128_23_02_1_3_0_1 none ds q) transposes_S2x4352x128_S4352x2x128_1_0_2) shapeCasts_S4352x2x128_S4352x256
/-- The values' gradient. -/
def rv (d : FVec Ideal S2x128x4x4096 .f32) (e : FVec Ideal S2x4x4096x4352 .f32) (z : FVec Ideal S2x4x4096x1 .f32) : FVec Ideal S4352x256 .f32 :=
  shapeCast _ (transpose S4352x2x128 [2, 0, 1] (Host.dotGeneral dot_S2x128x4x4096_S2x4x4096x4352_S2x128x4352_23_12_1_3_0_0 none d (Host.divf e (broadcastInDim S2x4x4096x4352 ![0, 1, 2, 3] bcast_S2x4x4096x1_S2x4x4096x4352_0_1_2_3 z))) transposes_S2x128x4352_S4352x2x128_2_0_1) shapeCasts_S4352x2x128_S4352x256

section
variable {A0 A3 : Fin 4352 → Fin 1024 → ℝ} {A1 A2 : Fin 4352 → Fin 256 → ℝ}
  {a0 : Vec Ideal S4352x1024 .f32} {a1 : Vec Ideal S4352x256 .bf16} {a2 : Vec Ideal S4352x13312 .bf16} {a3 : Vec Ideal S4352x1024 .bf16}

theorem qv_real (h : ∀ r j, a0 (ix2 r j) = (A0 r j : EReal)) (r : Fin 4096) (n : Fin 2) (g : Fin 4) (d : Fin 128) :
    qv a0 (ix4 r n g d) = (Qr lx A0 r n g d : EReal) := by
  unfold qv
  pointwise
  rw [word_sigma]
  exact (congrArg (· * _) (h (lx r) (qc n g d))).trans (EReal.coe_mul _ _).symm
theorem kv_real (h : ∀ r j, a1 (ix2 r j) = (A1 r j : EReal)) (s : Fin 4352) (n : Fin 2) (d : Fin 128) :
    kv a1 (ix3 s n d) = (Kr id A1 s n d : EReal) := by
  unfold kv
  pointwise
  exact h s (kc n d)
theorem vv_real (h : ∀ r (j : Fin 256), a2 (ix2 r (vc j)) = (A2 r j : EReal)) (s : Fin 4352) (n : Fin 2) (d : Fin 128) :
    vv a2 (ix3 s n d) = (Kr id A2 s n d : EReal) := by
  unfold vv
  pointwise
  exact h s (kc n d)
theorem dov_real (h : ∀ r j, a3 (ix2 r j) = (A3 r j : EReal)) (r : Fin 4096) (n : Fin 2) (g : Fin 4) (d : Fin 128) :
    dov a3 (ix4 n d g r) = (Dr lx A3 r n g d : EReal) := by
  unfold dov
  pointwise
  exact h (lx r) (qc n g d)
end

section
variable {Q D : Fin 4096 → Fin 2 → Fin 4 → Fin 128 → ℝ} {K W : Fin 4352 → Fin 2 → Fin 128 → ℝ}
  {S DP E DS : Fin 2 → Fin 4 → Fin 4096 → Fin 4352 → ℝ} {X Z Y : Fin 2 → Fin 4 → Fin 4096 → ℝ}
  {k v : FVec Ideal S4352x2x128 .f32} {q : FVec Ideal S4096x2x4x128 .f32} {s dp e : FVec Ideal S2x4x4096x4352 .f32}
  {mx w : FVec Ideal S2x4x4096 .f32} {z : FVec Ideal S2x4x4096x1 .f32} {dO : FVec Ideal S2x128x4x4096 .f32} {ds : FVec Ideal S2x4352x4096x4 .f32}

theorem sv_real (hk : ∀ s n d, k (ix3 s n d) = (K s n d : EReal)) (hq : ∀ r n g d, q (ix4 r n g d) = (Q r n g d : EReal)) (n g r t) :
    sv k q (ix4 n g r t) = (sc Q K n g r t : EReal) := by
  unfold sv
  pointwise
  simp only [hk, hq, ← EReal.coe_mul, coe_sum]
  rfl
theorem mv_real (hs : ∀ n g r t, s (ix4 n g r t) = (S n g r t : EReal)) :
    ∃ X : Fin 2 → Fin 4 → Fin 4096 → ℝ, ∀ n g r, mv s (ix3 n g r) = (X n g r : EReal) := by
  have h : ∀ n g r, ∃ x : ℝ, mv s (ix3 n g r) = (x : EReal) := by
    intro n g r
    unfold mv
    exact max_bot_real _ _ _ word_bot (reduce_max_real s (constant S_ .f32 0xFF800000#32) reducesTo_S2x4x4096x4352_S2x4x4096_d3 (by decide) h_S_ (by decide)
      (fun _ => word_bot) (fun i => ⟨_, (congrArg s (eq_ix4 i)).trans (hs (i 0) (i 1) (i 2) (i 3))⟩) (ix3 n g r))
  choose X hX using h
  exact ⟨X, hX⟩
theorem ev_real (hs : ∀ n g r t, s (ix4 n g r t) = (S n g r t : EReal)) (hm : ∀ n g r, mx (ix3 n g r) = (X n g r : EReal)) (n g r t) :
    ev s mx (ix4 n g r t) = (Real.exp (S n g r t - X n g r) : EReal) := by
  unfold ev
  pointwise
  simp only [hs, hm, ← EReal.coe_sub, Ideal.exp_coe]
theorem zv_real (he : ∀ n g r t, e (ix4 n g r t) = (E n g r t : EReal)) (n g r) :
    zv e (ix4 n g r 0) = ((∑ t, E n g r t : ℝ) : EReal) := by
  unfold zv
  pointwise
  simp only [he, coe_sum]
theorem dpv_real (hd : ∀ r n g d, dO (ix4 n d g r) = (D r n g d : EReal)) (hv : ∀ s n d, v (ix3 s n d) = (W s n d : EReal)) (n g r t) :
    dpv dO v (ix4 n g r t) = (dpr D W n g r t : EReal) := by
  unfold dpv
  pointwise
  simp only [hd, hv, ← EReal.coe_mul, coe_sum]
  rfl
theorem wv_real (hdp : ∀ n g r t, dp (ix4 n g r t) = (DP n g r t : EReal)) (he : ∀ n g r t, e (ix4 n g r t) = (E n g r t : EReal))
    (hz : ∀ n g r, z (ix4 n g r 0) = (Z n g r : EReal)) (h0 : ∀ n g r, Z n g r ≠ 0) (n g r) :
    wv dp e z (ix3 n g r) = ((-∑ t, DP n g r t * (1 / (Z n g r * Z n g r)) * E n g r t : ℝ) : EReal) := by
  unfold wv
  pointwise
  simp only [hdp, he, hz, ← EReal.coe_mul, div_one_real _ (mul_ne_zero (h0 n g r) (h0 n g r)), coe_sum, ← EReal.coe_neg]
  simp
theorem dsv_real (hdp : ∀ n g r t, dp (ix4 n g r t) = (DP n g r t : EReal)) (he : ∀ n g r t, e (ix4 n g r t) = (E n g r t : EReal))
    (hz : ∀ n g r, z (ix4 n g r 0) = (Z n g r : EReal)) (h0 : ∀ n g r, Z n g r ≠ 0) (hw : ∀ n g r, w (ix3 n g r) = (Y n g r : EReal)) (n g r t) :
    dsv dp e z w (ix4 n t r g) = (((DP n g r t * (1 / Z n g r) + Y n g r) * E n g r t : ℝ) : EReal) := by
  unfold dsv
  pointwise
  simp only [hdp, he, hz, hw, ← EReal.coe_mul, div_real _ _ (h0 n g r), ← EReal.coe_add]
theorem rq_real (hds : ∀ n g r t, ds (ix4 n t r g) = (DS n g r t : EReal)) (hk : ∀ s n d, k (ix3 s n d) = (K s n d : EReal)) (r : Fin 4096) (j : Fin 1024) :
    rq ds k (ix2 r j) = ((∑ s, DS (nq j) (gq j) r s * K s (nq j) (dq j) : ℝ) : EReal) := by
  unfold rq
  pointwise
  simp only [hds, hk, ← EReal.coe_mul, coe_sum]
  rfl
theorem rk_real (hds : ∀ n g r t, ds (ix4 n t r g) = (DS n g r t : EReal)) (hq : ∀ r n g d, q (ix4 r n g d) = (Q r n g d : EReal)) (s : Fin 4352) (j : Fin 256) :
    rk ds q (ix2 s j) = ((∑ r, ∑ g, DS (nk j) g r s * Q r (nk j) g (dk j) : ℝ) : EReal) := by
  unfold rk
  pointwise
  simp only [hds, hq, ← EReal.coe_mul, coe_sum]
  rfl
theorem rv_real (hd : ∀ r n g d, dO (ix4 n d g r) = (D r n g d : EReal)) (he : ∀ n g r t, e (ix4 n g r t) = (E n g r t : EReal))
    (hz : ∀ n g r, z (ix4 n g r 0) = (Z n g r : EReal)) (h0 : ∀ n g r, Z n g r ≠ 0) (s : Fin 4352) (j : Fin 256) :
    rv dO e z (ix2 s j) = ((∑ g, ∑ r, D r (nk j) g (dk j) * (E (nk j) g r s * (1 / Z (nk j) g r)) : ℝ) : EReal) := by
  unfold rv
  pointwise
  simp only [hd, he, hz, div_real _ _ (h0 _ _ _), ← EReal.coe_mul, coe_sum]
  rfl

/-- The scores' gradients and the probabilities, from the queries, keys, values and the output's gradient. -/
theorem back (hq : ∀ r n g d, q (ix4 r n g d) = (Q r n g d : EReal)) (hk : ∀ s n d, k (ix3 s n d) = (K s n d : EReal))
    (hv : ∀ s n d, v (ix3 s n d) = (W s n d : EReal)) (hd : ∀ r n g d, dO (ix4 n d g r) = (D r n g d : EReal)) :
    (∀ (r : Fin 4096) (j : Fin 1024), rq (dsv (dpv dO v) (ev (sv k q) (mv (sv k q))) (zv (ev (sv k q) (mv (sv k q))))
        (wv (dpv dO v) (ev (sv k q) (mv (sv k q))) (zv (ev (sv k q) (mv (sv k q)))))) k (ix2 r j)
      = ((∑ s, dsc Q D K W (nq j) (gq j) r s * K s (nq j) (dq j) : ℝ) : EReal))
    ∧ (∀ (s : Fin 4352) (j : Fin 256), rk (dsv (dpv dO v) (ev (sv k q) (mv (sv k q))) (zv (ev (sv k q) (mv (sv k q))))
        (wv (dpv dO v) (ev (sv k q) (mv (sv k q))) (zv (ev (sv k q) (mv (sv k q)))))) q (ix2 s j)
      = ((∑ r, ∑ g, dsc Q D K W (nk j) g r s * Q r (nk j) g (dk j) : ℝ) : EReal))
    ∧ (∀ (s : Fin 4352) (j : Fin 256), rv dO (ev (sv k q) (mv (sv k q))) (zv (ev (sv k q) (mv (sv k q)))) (ix2 s j)
      = ((∑ r, ∑ g, prob Q K (nk j) g r s * D r (nk j) g (dk j) : ℝ) : EReal)) := by
  have hs := sv_real hk hq
  obtain ⟨X, hm⟩ := mv_real hs
  have he := ev_real hs hm
  have hz := zv_real he
  have h0 : ∀ n g r, ∑ t, Real.exp (sc Q K n g r t - X n g r) ≠ 0 := fun n g r => (sum_exp_pos (fun t => sc Q K n g r t - X n g r)).ne'
  have hdp := dpv_real hd hv
  have hw := wv_real hdp he hz h0
  have hds : ∀ n g r t, dsv (dpv dO v) (ev (sv k q) (mv (sv k q))) (zv (ev (sv k q) (mv (sv k q))))
        (wv (dpv dO v) (ev (sv k q) (mv (sv k q))) (zv (ev (sv k q) (mv (sv k q))))) (ix4 n t r g) = (dsc Q D K W n g r t : EReal) := by
    intro n g r t
    rw [dsv_real hdp he hz h0 hw]
    exact congrArg _ (ds_eq (sc Q K n g r) (dpr D W n g r) (X n g r) t)
  refine ⟨rq_real hds hk, rk_real hds hq, fun s j => ?_⟩
  rw [rv_real hd he hz h0, Finset.sum_comm]
  refine congrArg _ (Finset.sum_congr rfl fun r _ => Finset.sum_congr rfl fun g _ => ?_)
  rw [mul_comm, mul_one_div, pr_shift]
  rfl
end

end Cert.ReferenceIdeal.Lat

end
-- ==== Proof.RefCtx.lean ====
/- The reference's attention of the context rows: each step of its backward pass read at an element. -/
module

public import proofs.«01_k».proof.Proof.Gen.ReferenceIdeal.Run
public import proofs.«01_k».proof.Proof.Words
public import Idealize.ShloMosaic.Lib.Tactic.ValueTie
public import Idealize.ShloMosaic.Lib.Pipeline.ValueKit
public import Idealize.ShloMosaic.PureOps.Ideal.Laws

@[expose] public section

set_option maxRecDepth 16384

noncomputable section

namespace Cert.ReferenceIdeal.Ctx

open Idealize.ShloMosaic Idealize.ShloMosaic.TcCoe Cert.ReferenceIdeal Cert.ReferenceIdeal.Gen Cert.Soft

/-- The scaled queries. -/
def qv (a0 : Vec Ideal S4352x1024 .f32) : FVec Ideal S256x2x4x128 .f32 :=
  shapeCast _ (extractStridedSlice S256x1024 ![0, 0] (mulf a0 (broadcastInDim S4352x1024 ![] bcast_S_S4352x1024 (constant S_ .f32 0x3DB504F3#32))) slices_S4352x1024_S256x1024_0_0) shapeCasts_S256x1024_S256x2x4x128
/-- The keys. -/
def kv (a1 : Vec Ideal S4352x256 .bf16) : FVec Ideal S256x2x128 .f32 :=
  shapeCast _ (extractStridedSlice S256x256 ![0, 0] (extf .f32 a1 bitsLt_bf16_f32) slices_S4352x256_S256x256_0_0) shapeCasts_S256x256_S256x2x128
/-- The values. -/
def vv (a2 : Vec Ideal S4352x13312 .bf16) : FVec Ideal S256x2x128 .f32 :=
  shapeCast _ (extractStridedSlice S256x256 ![0, 0] (extf .f32 (extractStridedSlice S4352x256 ![0, 12544] a2 slices_S4352x13312_S4352x256_0_12544) bitsLt_bf16_f32) slices_S4352x256_S256x256_0_0) shapeCasts_S256x256_S256x2x128
/-- The output's gradient. -/
def dov (a3 : Vec Ideal S4352x1024 .bf16) : FVec Ideal S2x128x4x256 .f32 :=
  transpose S2x128x4x256 [1, 3, 2, 0] (shapeCast _ (extractStridedSlice S256x1024 ![0, 0] (extf .f32 a3 bitsLt_bf16_f32) slices_S4352x1024_S256x1024_0_0) shapeCasts_S256x1024_S256x2x4x128) transposes_S256x2x4x128_S2x128x4x256_1_3_2_0
/-- The scores. -/
def sv (k : FVec Ideal S256x2x128 .f32) (q : FVec Ideal S256x2x4x128 .f32) : FVec Ideal S2x4x256x256 .f32 :=
  transpose S2x4x256x256 [0, 3, 2, 1] (Host.dotGeneral dot_S256x2x128_S256x2x4x128_S2x256x256x4_2_3_0_02_1_1 none k q) transposes_S2x256x256x4_S2x4x256x256_0_3_2_1
/-- Each query's greatest score. -/
def mv (s : FVec Ideal S2x4x256x256 .f32) : FVec Ideal S2x4x256 .f32 :=
  maximumf (broadcastInDim S2x4x256 ![] bcast_S_S2x4x256 (constant S_ .f32 0xFF800000#32)) (Host.reduce FloatOps.maximumf s (constant S_ .f32 0xFF800000#32) reducesTo_S2x4x256x256_S2x4x256_d3 h_S_)
/-- The exponentials. -/
def ev (s : FVec Ideal S2x4x256x256 .f32) (mx : FVec Ideal S2x4x256 .f32) : FVec Ideal S2x4x256x256 .f32 :=
  Host.exp (subf s (broadcastInDim S2x4x256x256 ![0, 1, 2, 3] bcast_S2x4x256x1_S2x4x256x256_0_1_2_3 (broadcastInDim S2x4x256x1 ![0, 1, 2] bcast_S2x4x256_S2x4x256x1_0_1_2 mx)))
/-- Their sums. -/
def zv (e : FVec Ideal S2x4x256x256 .f32) : FVec Ideal S2x4x256x1 .f32 :=
  broadcastInDim S2x4x256x1 ![0, 1, 2] bcast_S2x4x256_S2x4x256x1_0_1_2 (Host.reduceAdd e (constant S_ .f32 0x00000000#32) reducesTo_S2x4x256x256_S2x4x256_d3 h_S_)
/-- The gradients of the probabilities. -/
def dpv (d : FVec Ideal S2x128x4x256 .f32) (v : FVec Ideal S256x2x128 .f32) : FVec Ideal S2x4x256x256 .f32 :=
  Host.dotGeneral dot_S2x128x4x256_S256x2x128_S2x4x256x256_1_2_23_0_0_1 none d v
/-- The softmax's own term: each query's weighted sum of them. -/
def wv (dp e : FVec Ideal S2x4x256x256 .f32) (z : FVec Ideal S2x4x256x1 .f32) : FVec Ideal S2x4x256 .f32 :=
  Host.reduceAdd (Host.negf (shapeCast _ (Host.reduceAdd (mulf (mulf dp (broadcastInDim S2x4x256x256 ![0, 1, 2, 3] bcast_S2x4x256x1_S2x4x256x256_0_1_2_3 (Host.divf (broadcastInDim S2x4x256x1 ![] bcast_S_S2x4x256x1 (constant S_ .f32 0x3F800000#32)) (mulf z z)))) e) (constant S_ .f32 0x00000000#32) reducesTo_S2x4x256x256_S2x4x256_d3 h_S_) shapeCasts_S2x4x256_S2x4x256x1)) (constant S_ .f32 0x00000000#32) reducesTo_S2x4x256x1_S2x4x256_d3 h_S_
/-- The gradients of the scores. -/
def dsv (dp e : FVec Ideal S2x4x256x256 .f32) (z : FVec Ideal S2x4x256x1 .f32) (w : FVec Ideal S2x4x256 .f32) : FVec Ideal S2x256x256x4 .f32 :=
  transpose S2x256x256x4 [0, 3, 2, 1] (mulf (addf (Host.divf dp (broadcastInDim S2x4x256x256 ![0, 1, 2, 3] bcast_S2x4x256x1_S2x4x256x256_0_1_2_3 z)) (broadcastInDim S2x4x256x256 ![0, 1, 2] bcast_S2x4x256_S2x4x256x256_0_1_2 w)) e) transposes_S2x4x256x256_S2x256x256x4_0_3_2_1
/-- The queries' gradient. -/
def rq (ds : FVec Ideal S2x256x256x4 .f32) (k : FVec Ideal S256x2x128 .f32) : FVec Ideal S256x1024 .f32 :=
  shapeCast _ (transpose S256x2x4x128 [1, 0, 2, 3] (Host.dotGeneral dot_S2x256x256x4_S256x2x128_S2x256x4x128_1_0_23_2_0_1 none ds k) transposes_S2x256x4x128_S256x2x4x128_1_0_2_3) shapeCasts_S256x2x4x128_S256x1024
/-- The keys' gradient. -/
def rk (ds : FVec Ideal S2x256x256x4 .f32) (q : FVec Ideal S256x2x4x128 .f32) : FVec Ideal S256x256 .f32 :=
  shapeCast _ (transpose S256x2x128 [1, 0, 2] (Host.dotGeneral dot_S2x256x256x4_S256x2x4x128_S2x256x128_23_02_1_3_0_1 none ds q) transposes_S2x256x128_S256x2x128_1_0_2) shapeCasts_S256x2x128_S256x256
/-- The values' gradient. -/
def rv (d : FVec Ideal S2x128x4x256 .f32) (e : FVec Ideal S2x4x256x256 .f32) (z : FVec Ideal S2x4x256x1 .f32) : FVec Ideal S256x256 .f32 :=
  shapeCast _ (transpose S256x2x128 [2, 0, 1] (Host.dotGeneral dot_S2x128x4x256_S2x4x256x256_S2x128x256_23_12_1_3_0_0 none d (Host.divf e (broadcastInDim S2x4x256x256 ![0, 1, 2, 3] bcast_S2x4x256x1_S2x4x256x256_0_1_2_3 z))) transposes_S2x128x256_S256x2x128_2_0_1) shapeCasts_S256x2x128_S256x256

section
variable {A0 A3 : Fin 4352 → Fin 1024 → ℝ} {A1 A2 : Fin 4352 → Fin 256 → ℝ}
  {a0 : Vec Ideal S4352x1024 .f32} {a1 : Vec Ideal S4352x256 .bf16} {a2 : Vec Ideal S4352x13312 .bf16} {a3 : Vec Ideal S4352x1024 .bf16}

theorem qv_real (h : ∀ r j, a0 (ix2 r j) = (A0 r j : EReal)) (r : Fin 256) (n : Fin 2) (g : Fin 4) (d : Fin 128) :
    qv a0 (ix4 r n g d) = (Qr cx A0 r n g d : EReal) := by
  unfold qv
  pointwise
  rw [word_sigma]
  exact (congrArg (· * _) (h (cx r) (qc n g d))).trans (EReal.coe_mul _ _).symm
theorem kv_real (h : ∀ r j, a1 (ix2 r j) = (A1 r j : EReal)) (s : Fin 256) (n : Fin 2) (d : Fin 128) :
    kv a1 (ix3 s n d) = (Kr cx A1 s n d : EReal) := by
  unfold kv
  pointwise
  exact h (cx s) (kc n d)
theorem vv_real (h : ∀ r (j : Fin 256), a2 (ix2 r (vc j)) = (A2 r j : EReal)) (s : Fin 256) (n : Fin 2) (d : Fin 128) :
    vv a2 (ix3 s n d) = (Kr cx A2 s n d : EReal) := by
  unfold vv
  pointwise
  exact h (cx s) (kc n d)
theorem dov_real (h : ∀ r j, a3 (ix2 r j) = (A3 r j : EReal)) (r : Fin 256) (n : Fin 2) (g : Fin 4) (d : Fin 128) :
    dov a3 (ix4 n d g r) = (Dr cx A3 r n g d : EReal) := by
  unfold dov
  pointwise
  exact h (cx r) (qc n g d)
end

section
variable {Q D : Fin 256 → Fin 2 → Fin 4 → Fin 128 → ℝ} {K W : Fin 256 → Fin 2 → Fin 128 → ℝ}
  {S DP E DS : Fin 2 → Fin 4 → Fin 256 → Fin 256 → ℝ} {X Z Y : Fin 2 → Fin 4 → Fin 256 → ℝ}
  {k v : FVec Ideal S256x2x128 .f32} {q : FVec Ideal S256x2x4x128 .f32} {s dp e : FVec Ideal S2x4x256x256 .f32}
  {mx w : FVec Ideal S2x4x256 .f32} {z : FVec Ideal S2x4x256x1 .f32} {dO : FVec Ideal S2x128x4x256 .f32} {ds : FVec Ideal S2x256x256x4 .f32}

theorem sv_real (hk : ∀ s n d, k (ix3 s n d) = (K s n d : EReal)) (hq : ∀ r n g d, q (ix4 r n g d) = (Q r n g d : EReal)) (n g r t) :
    sv k q (ix4 n g r t) = (sc Q K n g r t : EReal) := by
  unfold sv
  pointwise
  simp only [hk, hq, ← EReal.coe_mul, coe_sum]
  rfl
theorem mv_real (hs : ∀ n g r t, s (ix4 n g r t) = (S n g r t : EReal)) :
    ∃ X : Fin 2 → Fin 4 → Fin 256 → ℝ, ∀ n g r, mv s (ix3 n g r) = (X n g r : EReal) := by
  have h : ∀ n g r, ∃ x : ℝ, mv s (ix3 n g r) = (x : EReal) := by
    intro n g r
    unfold mv
    exact max_bot_real _ _ _ word_bot (reduce_max_real s (constant S_ .f32 0xFF800000#32) reducesTo_S2x4x256x256_S2x4x256_d3 (by decide) h_S_ (by decide)
      (fun _ => word_bot) (fun i => ⟨_, (congrArg s (eq_ix4 i)).trans (hs (i 0) (i 1) (i 2) (i 3))⟩) (ix3 n g r))
  choose X hX using h
  exact ⟨X, hX⟩
theorem ev_real (hs : ∀ n g r t, s (ix4 n g r t) = (S n g r t : EReal)) (hm : ∀ n g r, mx (ix3 n g r) = (X n g r : EReal)) (n g r t) :
    ev s mx (ix4 n g r t) = (Real.exp (S n g r t - X n g r) : EReal) := by
  unfold ev
  pointwise
  simp only [hs, hm, ← EReal.coe_sub, Ideal.exp_coe]
theorem zv_real (he : ∀ n g r t, e (ix4 n g r t) = (E n g r t : EReal)) (n g r) :
    zv e (ix4 n g r 0) = ((∑ t, E n g r t : ℝ) : EReal) := by
  unfold zv
  pointwise
  simp only [he, coe_sum]
theorem dpv_real (hd : ∀ r n g d, dO (ix4 n d g r) = (D r n g d : EReal)) (hv : ∀ s n d, v (ix3 s n d) = (W s n d : EReal)) (n g r t) :
    dpv dO v (ix4 n g r t) = (dpr D W n g r t : EReal) := by
  unfold dpv
  pointwise
  simp only [hd, hv, ← EReal.coe_mul, coe_sum]
  rfl
theorem wv_real (hdp : ∀ n g r t, dp (ix4 n g r t) = (DP n g r t : EReal)) (he : ∀ n g r t, e (ix4 n g r t) = (E n g r t : EReal))
    (hz : ∀ n g r, z (ix4 n g r 0) = (Z n g r : EReal)) (h0 : ∀ n g r, Z n g r ≠ 0) (n g r) :
    wv dp e z (ix3 n g r) = ((-∑ t, DP n g r t * (1 / (Z n g r * Z n g r)) * E n g r t : ℝ) : EReal) := by
  unfold wv
  pointwise
  simp only [hdp, he, hz, ← EReal.coe_mul, div_one_real _ (mul_ne_zero (h0 n g r) (h0 n g r)), coe_sum, ← EReal.coe_neg]
  simp
theorem dsv_real (hdp : ∀ n g r t, dp (ix4 n g r t) = (DP n g r t : EReal)) (he : ∀ n g r t, e (ix4 n g r t) = (E n g r t : EReal))
    (hz : ∀ n g r, z (ix4 n g r 0) = (Z n g r : EReal)) (h0 : ∀ n g r, Z n g r ≠ 0) (hw : ∀ n g r, w (ix3 n g r) = (Y n g r : EReal)) (n g r t) :
    dsv dp e z w (ix4 n t r g) = (((DP n g r t * (1 / Z n g r) + Y n g r) * E n g r t : ℝ) : EReal) := by
  unfold dsv
  pointwise
  simp only [hdp, he, hz, hw, ← EReal.coe_mul, div_real _ _ (h0 n g r), ← EReal.coe_add]
theorem rq_real (hds : ∀ n g r t, ds (ix4 n t r g) = (DS n g r t : EReal)) (hk : ∀ s n d, k (ix3 s n d) = (K s n d : EReal)) (r : Fin 256) (j : Fin 1024) :
    rq ds k (ix2 r j) = ((∑ s, DS (nq j) (gq j) r s * K s (nq j) (dq j) : ℝ) : EReal) := by
  unfold rq
  pointwise
  simp only [hds, hk, ← EReal.coe_mul, coe_sum]
  rfl
theorem rk_real (hds : ∀ n g r t, ds (ix4 n t r g) = (DS n g r t : EReal)) (hq : ∀ r n g d, q (ix4 r n g d) = (Q r n g d : EReal)) (s : Fin 256) (j : Fin 256) :
    rk ds q (ix2 s j) = ((∑ r, ∑ g, DS (nk j) g r s * Q r (nk j) g (dk j) : ℝ) : EReal) := by
  unfold rk
  pointwise
  simp only [hds, hq, ← EReal.coe_mul, coe_sum]
  rfl
theorem rv_real (hd : ∀ r n g d, dO (ix4 n d g r) = (D r n g d : EReal)) (he : ∀ n g r t, e (ix4 n g r t) = (E n g r t : EReal))
    (hz : ∀ n g r, z (ix4 n g r 0) = (Z n g r : EReal)) (h0 : ∀ n g r, Z n g r ≠ 0) (s : Fin 256) (j : Fin 256) :
    rv dO e z (ix2 s j) = ((∑ g, ∑ r, D r (nk j) g (dk j) * (E (nk j) g r s * (1 / Z (nk j) g r)) : ℝ) : EReal) := by
  unfold rv
  pointwise
  simp only [hd, he, hz, div_real _ _ (h0 _ _ _), ← EReal.coe_mul, coe_sum]
  rfl

/-- The scores' gradients and the probabilities, from the queries, keys, values and the output's gradient. -/
theorem back (hq : ∀ r n g d, q (ix4 r n g d) = (Q r n g d : EReal)) (hk : ∀ s n d, k (ix3 s n d) = (K s n d : EReal))
    (hv : ∀ s n d, v (ix3 s n d) = (W s n d : EReal)) (hd : ∀ r n g d, dO (ix4 n d g r) = (D r n g d : EReal)) :
    (∀ (r : Fin 256) (j : Fin 1024), rq (dsv (dpv dO v) (ev (sv k q) (mv (sv k q))) (zv (ev (sv k q) (mv (sv k q))))
        (wv (dpv dO v) (ev (sv k q) (mv (sv k q))) (zv (ev (sv k q) (mv (sv k q)))))) k (ix2 r j)
      = ((∑ s, dsc Q D K W (nq j) (gq j) r s * K s (nq j) (dq j) : ℝ) : EReal))
    ∧ (∀ (s : Fin 256) (j : Fin 256), rk (dsv (dpv dO v) (ev (sv k q) (mv (sv k q))) (zv (ev (sv k q) (mv (sv k q))))
        (wv (dpv dO v) (ev (sv k q) (mv (sv k q))) (zv (ev (sv k q) (mv (sv k q)))))) q (ix2 s j)
      = ((∑ r, ∑ g, dsc Q D K W (nk j) g r s * Q r (nk j) g (dk j) : ℝ) : EReal))
    ∧ (∀ (s : Fin 256) (j : Fin 256), rv dO (ev (sv k q) (mv (sv k q))) (zv (ev (sv k q) (mv (sv k q)))) (ix2 s j)
      = ((∑ r, ∑ g, prob Q K (nk j) g r s * D r (nk j) g (dk j) : ℝ) : EReal)) := by
  have hs := sv_real hk hq
  obtain ⟨X, hm⟩ := mv_real hs
  have he := ev_real hs hm
  have hz := zv_real he
  have h0 : ∀ n g r, ∑ t, Real.exp (sc Q K n g r t - X n g r) ≠ 0 := fun n g r => (sum_exp_pos (fun t => sc Q K n g r t - X n g r)).ne'
  have hdp := dpv_real hd hv
  have hw := wv_real hdp he hz h0
  have hds : ∀ n g r t, dsv (dpv dO v) (ev (sv k q) (mv (sv k q))) (zv (ev (sv k q) (mv (sv k q))))
        (wv (dpv dO v) (ev (sv k q) (mv (sv k q))) (zv (ev (sv k q) (mv (sv k q))))) (ix4 n t r g) = (dsc Q D K W n g r t : EReal) := by
    intro n g r t
    rw [dsv_real hdp he hz h0 hw]
    exact congrArg _ (ds_eq (sc Q K n g r) (dpr D W n g r) (X n g r) t)
  refine ⟨rq_real hds hk, rk_real hds hq, fun s j => ?_⟩
  rw [rv_real hd he hz h0, Finset.sum_comm]
  refine congrArg _ (Finset.sum_congr rfl fun r _ => Finset.sum_congr rfl fun g _ => ?_)
  rw [mul_comm, mul_one_div, pr_shift]
  rfl
end

end Cert.ReferenceIdeal.Ctx

end
-- ==== Proof.Ref.lean ====
/- The reference's results at an element: the two attentions' gradients, the context's rows first. -/
module

public import proofs.«01_k».proof.Proof.RefLat
public import proofs.«01_k».proof.Proof.RefCtx

@[expose] public section

set_option maxRecDepth 16384

noncomputable section

namespace Cert.ReferenceIdeal

open Idealize.ShloMosaic Idealize.ShloMosaic.TcCoe Cert.ReferenceIdeal Cert.ReferenceIdeal.Gen Cert.ReferenceIdeal.Value Cert.Soft

abbrev Mem : Type := (ℓ : Loc nD τ sig) → Buf (Elt Ideal) ℓ

/-- The arguments. -/
def a0 (m : Mem) (c : Dev nD) : Vec Ideal S4352x1024 .f32 := m ((c.tc : Thread nD τ).loc main_arg0)
def a1 (m : Mem) (c : Dev nD) : Vec Ideal S4352x256 .bf16 := m ((c.tc : Thread nD τ).loc main_arg1)
def a2 (m : Mem) (c : Dev nD) : Vec Ideal S4352x13312 .bf16 := m ((c.tc : Thread nD τ).loc main_arg2)
def a3 (m : Mem) (c : Dev nD) : Vec Ideal S4352x1024 .bf16 := m ((c.tc : Thread nD τ).loc main_arg3)

def zero : FVec Ideal S_ .f32 := constant S_ .f32 0x00000000#32

namespace Lat
/-- The latent rows' attention's gradients of its queries, keys and values. -/
def ex (m : Mem) (c : Dev nD) : FVec Ideal S2x4x4096x4352 .f32 := ev (sv (kv (a1 m c)) (qv (a0 m c))) (mv (sv (kv (a1 m c)) (qv (a0 m c))))
def dsx (m : Mem) (c : Dev nD) : FVec Ideal S2x4352x4096x4 .f32 :=
  dsv (dpv (dov (a3 m c)) (vv (a2 m c))) (ex m c) (zv (ex m c)) (wv (dpv (dov (a3 m c)) (vv (a2 m c))) (ex m c) (zv (ex m c)))
def gq (m : Mem) (c : Dev nD) : FVec Ideal S4096x1024 .f32 := rq (dsx m c) (kv (a1 m c))
def gk (m : Mem) (c : Dev nD) : FVec Ideal S4352x256 .f32 := rk (dsx m c) (qv (a0 m c))
def gv (m : Mem) (c : Dev nD) : FVec Ideal S4352x256 .f32 := rv (dov (a3 m c)) (ex m c) (zv (ex m c))
end Lat

namespace Ctx
/-- The context rows' attention's gradients of its queries, keys and values. -/
def ex (m : Mem) (c : Dev nD) : FVec Ideal S2x4x256x256 .f32 := ev (sv (kv (a1 m c)) (qv (a0 m c))) (mv (sv (kv (a1 m c)) (qv (a0 m c))))
def dsx (m : Mem) (c : Dev nD) : FVec Ideal S2x256x256x4 .f32 :=
  dsv (dpv (dov (a3 m c)) (vv (a2 m c))) (ex m c) (zv (ex m c)) (wv (dpv (dov (a3 m c)) (vv (a2 m c))) (ex m c) (zv (ex m c)))
def gq (m : Mem) (c : Dev nD) : FVec Ideal S256x1024 .f32 := rq (dsx m c) (kv (a1 m c))
def gk (m : Mem) (c : Dev nD) : FVec Ideal S256x256 .f32 := rk (dsx m c) (qv (a0 m c))
def gv (m : Mem) (c : Dev nD) : FVec Ideal S256x256 .f32 := rv (dov (a3 m c)) (ex m c) (zv (ex m c))
end Ctx

theorem split141 (m : Mem) (c : Dev nD) : res_main_v141 (F := Ideal) m c
    = addf (pad S4352x1024 ![256, 0] ![0, 0] ![0, 0] (Lat.gq m c) zero pads_S4096x1024_S4352x1024_25600_000 h_S_)
        (pad S4352x1024 ![0, 0] ![4096, 0] ![0, 0] (Ctx.gq m c) zero pads_S256x1024_S4352x1024_040960_000 h_S_) := by
  unfold res_main_v141
  rfl
theorem split144 (m : Mem) (c : Dev nD) : res_main_v144 (F := Ideal) m c
    = Host.divf (addf (Lat.gk m c) (pad S4352x256 ![0, 0] ![4096, 0] ![0, 0] (Ctx.gk m c) zero pads_S256x256_S4352x256_040960_000 h_S_))
        (broadcastInDim S4352x256 ![] bcast_S_S4352x256 (Host.log (constant S_ .f32 0x40000000#32))) := by
  unfold res_main_v144
  rfl
theorem split137 (m : Mem) (c : Dev nD) : res_main_v137 (F := Ideal) m c
    = addf (Lat.gv m c) (pad S4352x256 ![0, 0] ![4096, 0] ![0, 0] (Ctx.gv m c) zero pads_S256x256_S4352x256_040960_000 h_S_) := by
  unfold res_main_v137
  rfl

theorem zero_real (i : S_.Idx) : zero i = ((0 : ℝ) : EReal) := by
  show Ideal.ofBits .f32 0x00000000#32 = _
  simp [Ideal.ofBits, Ideal.ieee]

section
variable {m : Mem} {c : Dev nD} {A0 A3 : Fin 4352 → Fin 1024 → ℝ} {A1 A2 : Fin 4352 → Fin 256 → ℝ}
  (h0 : ∀ r j, a0 m c (ix2 r j) = (A0 r j : EReal)) (h1 : ∀ r j, a1 m c (ix2 r j) = (A1 r j : EReal))
  (h2 : ∀ r (j : Fin 256), a2 m c (ix2 r (vc j)) = (A2 r j : EReal)) (h3 : ∀ r j, a3 m c (ix2 r j) = (A3 r j : EReal))
include h0 h1 h2 h3

theorem dq_ctx (r : Fin 256) (j : Fin 1024) : res_main_v141 (F := Ideal) m c (ix2 (cx r) j)
    = ((∑ s, dsc (Qr cx A0) (Dr cx A3) (Kr cx A1) (Kr cx A2) (nq j) (Cert.Soft.gq j) r s * Kr cx A1 s (nq j) (dq j) : ℝ) : EReal) := by
  have hC := (Ctx.back (Ctx.qv_real h0) (Ctx.kv_real h1) (Ctx.vv_real h2) (Ctx.dov_real h3)).1 r j
  rw [split141]
  pointwise
  have hlt : (cx r).val < 256 := r.isLt
  rw [dif_neg (by omega), dif_pos hlt, zero_real]
  refine (congrArg (_ + ·) (show Ctx.gq m c (ix2 ⟨(cx r).val, hlt⟩ j) = _ from hC)).trans ?_
  rw [← EReal.coe_add, zero_add]
theorem dq_lat (r : Fin 4096) (j : Fin 1024) : res_main_v141 (F := Ideal) m c (ix2 (lx r) j)
    = ((∑ s, dsc (Qr lx A0) (Dr lx A3) (Kr id A1) (Kr id A2) (nq j) (Cert.Soft.gq j) r s * Kr id A1 s (nq j) (dq j) : ℝ) : EReal) := by
  have hL := (Lat.back (Lat.qv_real h0) (Lat.kv_real h1) (Lat.vv_real h2) (Lat.dov_real h3)).1 r j
  rw [split141]
  pointwise
  have hv : (lx r).val = 256 + r.val := rfl
  have hr := r.isLt
  have hp : 256 ≤ (lx r).val ∧ (lx r).val - 256 < 4096 := by omega
  rw [dif_pos hp, dif_neg (by omega), zero_real]
  have e : (⟨(lx r).val - 256, hp.2⟩ : Fin 4096) = r := Fin.ext (by show (lx r).val - 256 = r.val; omega)
  refine (congrArg (· + _) (show Lat.gq m c (ix2 ⟨(lx r).val - 256, hp.2⟩ j) = _ from (congrArg (fun x => Lat.gq m c (ix2 x j)) e).trans hL)).trans ?_
  rw [← EReal.coe_add, add_zero]

theorem dk_ctx (s : Fin 256) (j : Fin 256) : res_main_v144 (F := Ideal) m c (ix2 (cx s) j)
    = ((((∑ r, ∑ g, dsc (Qr lx A0) (Dr lx A3) (Kr id A1) (Kr id A2) (nk j) g r (cx s) * Qr lx A0 r (nk j) g (dk j))
      + ∑ r, ∑ g, dsc (Qr cx A0) (Dr cx A3) (Kr cx A1) (Kr cx A2) (nk j) g r s * Qr cx A0 r (nk j) g (dk j)) * (1 / Real.log 2) : ℝ) : EReal) := by
  have hC := (Ctx.back (Ctx.qv_real h0) (Ctx.kv_real h1) (Ctx.vv_real h2) (Ctx.dov_real h3)).2.1 s j
  have hL := (Lat.back (Lat.qv_real h0) (Lat.kv_real h1) (Lat.vv_real h2) (Lat.dov_real h3)).2.1 (cx s) j
  rw [split144]
  pointwise
  have hlt : (cx s).val < 256 := s.isLt
  rw [dif_pos hlt, log_word_two]
  refine (congrArg₂ (fun x y => Ideal.div (x + y) _) (show Lat.gk m c (ix2 (cx s) j) = _ from hL) (show Ctx.gk m c (ix2 ⟨(cx s).val, hlt⟩ j) = _ from hC)).trans ?_
  rw [← EReal.coe_add, div_real _ _ log_two_ne]
theorem dk_lat (s : Fin 4096) (j : Fin 256) : res_main_v144 (F := Ideal) m c (ix2 (lx s) j)
    = (((∑ r, ∑ g, dsc (Qr lx A0) (Dr lx A3) (Kr id A1) (Kr id A2) (nk j) g r (lx s) * Qr lx A0 r (nk j) g (dk j)) * (1 / Real.log 2) : ℝ) : EReal) := by
  have hL := (Lat.back (Lat.qv_real h0) (Lat.kv_real h1) (Lat.vv_real h2) (Lat.dov_real h3)).2.1 (lx s) j
  rw [split144]
  pointwise
  have hv : (lx s).val = 256 + s.val := rfl
  rw [dif_neg (by omega), log_word_two, zero_real]
  refine (congrArg (fun x => Ideal.div (x + _) _) (show Lat.gk m c (ix2 (lx s) j) = _ from hL)).trans ?_
  rw [← EReal.coe_add, div_real _ _ log_two_ne, add_zero]

theorem dv_ctx (s : Fin 256) (j : Fin 256) : res_main_v137 (F := Ideal) m c (ix2 (cx s) j)
    = (((∑ r, ∑ g, prob (Qr lx A0) (Kr id A1) (nk j) g r (cx s) * Dr lx A3 r (nk j) g (dk j))
      + ∑ r, ∑ g, prob (Qr cx A0) (Kr cx A1) (nk j) g r s * Dr cx A3 r (nk j) g (dk j) : ℝ) : EReal) := by
  have hC := (Ctx.back (Ctx.qv_real h0) (Ctx.kv_real h1) (Ctx.vv_real h2) (Ctx.dov_real h3)).2.2 s j
  have hL := (Lat.back (Lat.qv_real h0) (Lat.kv_real h1) (Lat.vv_real h2) (Lat.dov_real h3)).2.2 (cx s) j
  rw [split137]
  pointwise
  have hlt : (cx s).val < 256 := s.isLt
  rw [dif_pos hlt]
  refine (congrArg₂ (fun x y => x + y) (show Lat.gv m c (ix2 (cx s) j) = _ from hL) (show Ctx.gv m c (ix2 ⟨(cx s).val, hlt⟩ j) = _ from hC)).trans ?_
  rw [← EReal.coe_add]
theorem dv_lat (s : Fin 4096) (j : Fin 256) : res_main_v137 (F := Ideal) m c (ix2 (lx s) j)
    = ((∑ r, ∑ g, prob (Qr lx A0) (Kr id A1) (nk j) g r (lx s) * Dr lx A3 r (nk j) g (dk j) : ℝ) : EReal) := by
  have hL := (Lat.back (Lat.qv_real h0) (Lat.kv_real h1) (Lat.vv_real h2) (Lat.dov_real h3)).2.2 (lx s) j
  rw [split137]
  pointwise
  have hv : (lx s).val = 256 + s.val := rfl
  rw [dif_neg (by omega), zero_real]
  refine (congrArg (fun x => x + _) (show Lat.gv m c (ix2 (lx s) j) = _ from hL)).trans ?_
  rw [← EReal.coe_add, add_zero]
end

end Cert.ReferenceIdeal

end
-- ==== Proof.Finite.lean ====
/- The precondition at the extended reals: every element of every argument is a real. -/
module

public import proofs.«01_k».proof.Pre_finite
public import Idealize.ShloMosaic.Lib.ReduceAll
public import Idealize.ShloMosaic.Lib.Pipeline.ValueKit
public import Idealize.ShloMosaic.PureOps.Ideal.Laws

@[expose] public section

noncomputable section

namespace Cert.Pre_finite

open Idealize.ShloMosaic Facts

/-- The predicate's side conditions. -/
theorem facts : Facts where
  bcast_S_S4352x1024 := by decide
  reducesTo_S4352x1024_S_d0_1 := by decide
  h_S_ := by decide
  bitsLt_bf16_f32 := by decide
  bcast_S_S4352x256 := by decide
  reducesTo_S4352x256_S_d0_1 := by decide
  bcast_S_S4352x13312 := by decide
  reducesTo_S4352x13312_S_d0_1 := by decide

theorem word_top : Ideal.ofBits .f32 0x7F800000#32 = ⊤ := by
  simp [Ideal.ofBits, Ideal.ieee]

/-- An element below infinity in absolute value is a real. -/
theorem real_of_lt (x : EReal) (h : Ideal.cmp .olt (max x (-x)) (Ideal.ofBits .f32 0x7F800000#32) = 1#1) : ∃ r : ℝ, x = (r : EReal) := by
  rw [word_top] at h
  have hlt : max x (-x) < ⊤ := by
    by_contra hc
    simp [Ideal.cmp, hc] at h
  induction x with
  | bot => simp at hlt
  | top => simp at hlt
  | coe r => exact ⟨r, rfl⟩

/-- A reduction by `and` over a whole array of the comparisons with infinity. -/
theorem real_of_all {s u : Shape} {axes : List (Fin s.rank)} (x : FVec Ideal s .f32) (h : s.ReducesTo axes S_) (hu : 0 < u.numel) (init : u.Idx → BitVec 1)
    (hb : S_.BroadcastsInDim s (![] : Fin 0 → Fin s.rank)) (j : S_.Idx)
    (e : Host.reduce IntOp.andi (cmpf .olt (Host.absf x) (broadcastInDim s ![] hb (constant S_ .f32 0x7F800000#32))) init h hu j = 1#1) (i : s.Idx) :
    ∃ r : ℝ, x i = (r : EReal) := by
  haveI : Subsingleton S_.Idx := ⟨fun a b => funext fun k => k.elim0⟩
  exact real_of_lt _ (Host.reduce_andi_all _ _ h hu j e i)

theorem real_args [Facts] (a0 : FVec Ideal S4352x1024 .f32) (a1 : FVec Ideal S4352x256 .bf16) (a2 : FVec Ideal S4352x13312 .bf16) (a3 : FVec Ideal S4352x1024 .bf16)
    (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) ∧ ∀ i, ∃ r : ℝ, a3 i = (r : EReal) := by
  have j : S_.Idx := fun k => k.elim0
  have e := congrFun h j
  dsimp only [fn, fn_part1] at e
  obtain ⟨e, e3⟩ := IntOp.andi_eq_one.1 e
  obtain ⟨e, e2⟩ := IntOp.andi_eq_one.1 e
  obtain ⟨e0, e1⟩ := IntOp.andi_eq_one.1 e
  exact ⟨real_of_all _ _ _ _ _ _ e0, real_of_all (extf .f32 a1 bitsLt_bf16_f32) _ _ _ _ _ e1, real_of_all (extf .f32 a2 bitsLt_bf16_f32) _ _ _ _ _ e2,
    real_of_all (extf .f32 a3 bitsLt_bf16_f32) _ _ _ _ _ e3⟩

end Cert.Pre_finite

end
-- ==== Proof.Values.lean ====
/- The kernel's three results are the reference's. -/
module

public import proofs.«01_k».proof.Defs
public import proofs.«01_k».proof.Proof.Equal
public import proofs.«01_k».proof.Proof.Ref
public import proofs.«01_k».proof.Proof.Finite

@[expose] public section

set_option maxRecDepth 16384

noncomputable section

namespace Cert.Attn

open Idealize.ShloMosaic Idealize.ShloMosaic.TcCoe
open Cert.Soft (cx lx vc)
open Cert.KernelIdeal.Gen (V dats V_main_arg1 V_main_arg2 V_main_arg3)
open Cert.KernelIdeal (cfg0 main_v60 main_v61 main_v67 main_arg0 main_arg1 main_arg2 main_arg3)
open Cert.ReferenceIdeal.Value (res_main_v141 res_main_v144 res_main_v137)

theorem coe_toReal_of {x : EReal} (h : ∃ r : ℝ, x = (r : EReal)) : x = ((EReal.toReal x : ℝ) : EReal) := by
  obtain ⟨r, rfl⟩ := h
  rfl

/-- Two arrays of a matrix's shape with the same elements. -/
theorem ext2 {a b : Nat} (f g : FVec Ideal ⟨2, ![a, b]⟩ .f32) (h : ∀ (r : Fin a) (j : Fin b), f (ix2 r j) = g (ix2 r j)) : f = g := by
  funext i
  rw [eq_ix2 i]
  exact h _ _

section
variable (m : Cert.KernelIdeal.Mem) (m' : Cert.ReferenceIdeal.Mem) (c : Dev Cert.KernelIdeal.nD)
  (e0 : Cert.ReferenceIdeal.a0 m' c = Cert.KernelIdeal.a0 m c) (e1 : Cert.ReferenceIdeal.a1 m' c = Cert.KernelIdeal.a1 m c)
  (e2 : Cert.ReferenceIdeal.a2 m' c = Cert.KernelIdeal.a2 m c) (e3 : Cert.ReferenceIdeal.a3 m' c = Cert.KernelIdeal.a3 m c)
  (r0 : ∀ i, ∃ r : ℝ, Cert.KernelIdeal.a0 m c i = (r : EReal)) (r1 : ∀ i, ∃ r : ℝ, Cert.KernelIdeal.a1 m c i = (r : EReal))
  (r2 : ∀ i, ∃ r : ℝ, Cert.KernelIdeal.a2 m c i = (r : EReal)) (r3 : ∀ i, ∃ r : ℝ, Cert.KernelIdeal.a3 m c i = (r : EReal))

include e0 e1 e2 e3 r0 r1 r2 r3

set_option maxHeartbeats 4000000 in
theorem values : (dats m 0 c).arrAt 6 cfg0.N = res_main_v141 (F := Ideal) m' c ∧ (dats m 0 c).arrAt 7 cfg0.N = res_main_v144 (F := Ideal) m' c
    ∧ (dats m 0 c).arrAt 8 cfg0.N = res_main_v137 (F := Ideal) m' c := by
  obtain ⟨A0, h0⟩ : ∃ A0 : Fin 4352 → Fin 1024 → ℝ, ∀ r j, Cert.KernelIdeal.a0 m c (ix2 r j) = (A0 r j : EReal) := ⟨_, fun r j => coe_toReal_of (r0 (ix2 r j))⟩
  obtain ⟨A1, h1⟩ : ∃ A1 : Fin 4352 → Fin 256 → ℝ, ∀ r j, Cert.KernelIdeal.a1 m c (ix2 r j) = (A1 r j : EReal) := ⟨_, fun r j => coe_toReal_of (r1 (ix2 r j))⟩
  obtain ⟨A2, h2⟩ : ∃ A2 : Fin 4352 → Fin 256 → ℝ, ∀ r (j : Fin 256), Cert.KernelIdeal.a2 m c (ix2 r (vc j)) = (A2 r j : EReal) :=
    ⟨_, fun r j => coe_toReal_of (r2 (ix2 r (vc j)))⟩
  obtain ⟨A3, h3⟩ : ∃ A3 : Fin 4352 → Fin 1024 → ℝ, ∀ r j, Cert.KernelIdeal.a3 m c (ix2 r j) = (A3 r j : EReal) := ⟨_, fun r j => coe_toReal_of (r3 (ix2 r j))⟩
  have g0 : ∀ r j, Cert.ReferenceIdeal.a0 m' c (ix2 r j) = (A0 r j : EReal) := fun r j => (congrFun e0 _).trans (h0 r j)
  have g1 : ∀ r j, Cert.ReferenceIdeal.a1 m' c (ix2 r j) = (A1 r j : EReal) := fun r j => (congrFun e1 _).trans (h1 r j)
  have g2 : ∀ r (j : Fin 256), Cert.ReferenceIdeal.a2 m' c (ix2 r (vc j)) = (A2 r j : EReal) := fun r j => (congrFun e2 _).trans (h2 r j)
  have g3 : ∀ r j, Cert.ReferenceIdeal.a3 m' c (ix2 r j) = (A3 r j : EReal) := fun r j => (congrFun e3 _).trans (h3 r j)
  have oc := Cert.KernelIdeal.o_ctx h0 h1 h2
  have ol := Cert.KernelIdeal.o_lat h0 h1 h2
  obtain ⟨XC, lc⟩ := Cert.KernelIdeal.l_ctx h0 h1 h2
  obtain ⟨XL, ll⟩ := Cert.KernelIdeal.l_lat h0 h1 h2
  obtain ⟨O, hO⟩ : ∃ O : Fin 4352 → Fin 1024 → ℝ, ∀ r j, V (F := Ideal) m c main_v60 (ix2 r j) = (O r j : EReal) := by
    refine ⟨_, fun r j => coe_toReal_of (x := V (F := Ideal) m c main_v60 (ix2 r j)) ?_⟩
    rcases row_cases r with ⟨r', rfl⟩ | ⟨r', rfl⟩
    exacts [⟨_, oc r' j⟩, ⟨_, ol r' j⟩]
  obtain ⟨L, hL⟩ : ∃ L : Fin 2 → Fin 4352 → Fin 4 → ℝ, ∀ n r g, V (F := Ideal) m c main_v61 (ix3 n r g) = (L n r g : EReal) := by
    refine ⟨_, fun n r g => coe_toReal_of (x := V (F := Ideal) m c main_v61 (ix3 n r g)) ?_⟩
    rcases row_cases r with ⟨r', rfl⟩ | ⟨r', rfl⟩
    exacts [⟨_, lc n r' g⟩, ⟨_, ll n r' g⟩]
  have hOc := fun r j => (EReal.coe_injective ((hO (cx r) j).symm.trans (oc r j)))
  have hOl := fun r j => (EReal.coe_injective ((hO (lx r) j).symm.trans (ol r j)))
  have hLc : ∀ n r g, ∃ x, L n (cx r) g = _ := fun n r g => ⟨_, EReal.coe_injective ((hL n (cx r) g).symm.trans (lc n r g))⟩
  have hLl : ∀ n r g, ∃ x, L n (lx r) g = _ := fun n r g => ⟨_, EReal.coe_injective ((hL n (lx r) g).symm.trans (ll n r g))⟩
  have hQ : ∀ r j, V (F := Ideal) m c main_v67 (ix2 r j) = (fold A0 r j : EReal) := Cert.KernelIdeal.q_real h0
  have hD : ∀ r j, V (F := Ideal) m c main_arg3 (ix2 r j) = (A3 r j : EReal) := fun r j => (congrFun (V_main_arg3 m c) _).trans (h3 r j)
  have hK : ∀ r j, V (F := Ideal) m c main_arg1 (ix2 r j) = (A1 r j : EReal) := fun r j => (congrFun (V_main_arg1 m c) _).trans (h1 r j)
  have hW : ∀ r (j : Fin 256), V (F := Ideal) m c main_arg2 (ix2 r (vc j)) = (A2 r j : EReal) :=
    fun r j => (congrFun (V_main_arg2 m c) _).trans (h2 r j)
  rw [Cert.KernelIdeal.Tile.arr6 hQ hO hD hK hW hL, Cert.KernelIdeal.Tile.arr7 hQ hO hD hK hW hL, Cert.KernelIdeal.Tile.arr8 hQ hO hD hK hW hL]
  refine ⟨ext2 (a := 4352) (b := 1024) _ _ fun r j => ?_, ext2 (a := 4352) (b := 256) _ _ fun r j => ?_, ext2 (a := 4352) (b := 256) _ _ fun r j => ?_⟩
  · rcases row_cases r with ⟨r', rfl⟩ | ⟨r', rfl⟩
    · exact (congrArg (fun x : ℝ => (x : EReal)) (gQ_ctx hLc hOc r' j)).trans (Cert.ReferenceIdeal.dq_ctx g0 g1 g2 g3 r' j).symm
    · exact (congrArg (fun x : ℝ => (x : EReal)) (gQ_lat hLl hOl r' j)).trans (Cert.ReferenceIdeal.dq_lat g0 g1 g2 g3 r' j).symm
  · rcases row_cases r with ⟨r', rfl⟩ | ⟨r', rfl⟩
    · exact (congrArg (fun x : ℝ => (x : EReal)) (gK_ctx hLc hLl hOc hOl r' j)).trans (Cert.ReferenceIdeal.dk_ctx g0 g1 g2 g3 r' j).symm
    · exact (congrArg (fun x : ℝ => (x : EReal)) (gK_lat hLl hOl r' j)).trans (Cert.ReferenceIdeal.dk_lat g0 g1 g2 g3 r' j).symm
  · rcases row_cases r with ⟨r', rfl⟩ | ⟨r', rfl⟩
    · exact (congrArg (fun x : ℝ => (x : EReal)) (gV_ctx hLc hLl r' j)).trans (Cert.ReferenceIdeal.dv_ctx g0 g1 g2 g3 r' j).symm
    · exact (congrArg (fun x : ℝ => (x : EReal)) (gV_lat hLl r' j)).trans (Cert.ReferenceIdeal.dv_lat g0 g1 g2 g3 r' j).symm
end

end Cert.Attn

end
-- ==== Proof.Mm2.lean ====
/- The projection's gradient in its input: `dp · w`, blocks of 1088 rows, each summed over four runs of 3328 columns. -/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import Idealize.ShloMosaic.PureOps.Ideal.Laws

@[expose] public section

set_option maxRecDepth 16384

noncomputable section

namespace Cert.Kernel2Ideal.Product

open Idealize.ShloMosaic Idealize.ShloMosaic.TcCoe Cert.Kernel2Ideal.Gen
open Idealize.ShloMosaic.Pipeline (Dat Cfg Window)

section Cases
variable (c : Dev nD) (i : grid0.Coords) (arg3 : Memref sig .tc .vmem S1088x3328 .bf16) (harg3 : arg3.IsWhole)
  (arg4 : Memref sig .tc .vmem S3328x1024 .bf16) (harg4 : arg4.IsWhole) (arg5 : Memref sig .tc .vmem S1088x1024 .f32) (harg5 : arg5.IsWhole)
  (arg6 : Memref sig .tc .vmem S1088x1024 .f32) (harg6 : arg6.IsWhole)
  (x : Vec Ideal S1088x3328 .bf16) (y : Vec Ideal S3328x1024 .bf16) (acc : Vec Ideal S1088x1024 .f32)

/-- A first point's sum is the product of its two blocks. -/
theorem sumA (h0 : cond0_0 i) (h1 : ¬cond0_1 i) (h2 : ¬cond0_2 i) :
    sout0_A_0 c i arg3 harg3 arg4 harg4 arg5 harg5 arg6 harg6 h0 h1 h2 x y = k0_pay2 x y := by
  frame_out
/-- A later point's sum is what was there and the product of its two blocks. -/
theorem sumB (h0 : ¬cond0_0 i) (h1 : cond0_1 i) (h2 : ¬cond0_2 i) :
    sout0_B_0 c i arg3 harg3 arg4 harg4 arg5 harg5 arg6 harg6 h0 h1 h2 x y acc = k0_pay3 x y acc := by
  frame_out
theorem sumC (h0 : ¬cond0_0 i) (h1 : cond0_1 i) (h2 : cond0_2 i) :
    sout0_C_0 c i arg3 harg3 arg4 harg4 arg5 harg5 arg6 harg6 h0 h1 h2 x y acc = k0_pay3 x y acc := by
  frame_out
/-- A last point's result is its sum. -/
theorem outC (h0 : ¬cond0_0 i) (h1 : cond0_1 i) (h2 : cond0_2 i) :
    out0_C_2 c i arg3 harg3 arg4 harg4 arg5 harg5 arg6 harg6 h0 h1 h2 x y acc = k0_pay3 x y acc := by
  frame_out
end Cases

theorem pay2_apply (x : Vec Ideal S1088x3328 .bf16) (y : Vec Ideal S3328x1024 .bf16) (a : Fin 1088) (b : Fin 1024) :
    k0_pay2 x y (ix2 a b) = ∑ k : Fin 3328, x (ix2 a k) * y (ix2 k b) := by
  unfold k0_pay2 k0_pay1
  pointwise
theorem pay3_apply (x : Vec Ideal S1088x3328 .bf16) (y : Vec Ideal S3328x1024 .bf16) (acc : Vec Ideal S1088x1024 .f32) (a : Fin 1088) (b : Fin 1024) :
    k0_pay3 x y acc (ix2 a b) = acc (ix2 a b) + ∑ k : Fin 3328, x (ix2 a k) * y (ix2 k b) := by
  unfold k0_pay3 k0_pay1
  pointwise

/-- The product, entry by entry. -/
def prod (x : Vec Ideal S4352x13312 .bf16) (y : Vec Ideal S13312x1024 .bf16) : Vec Ideal S4352x1024 .f32 :=
  fun j => ∑ k : Fin 13312, x (ix2 (j 0) k) * y (ix2 k (j 1))

theorem idx_all : ∀ t : Fin grid0.N, win0_0.index t = ![t.val / 4, t.val % 4] ∧ win0_1.index t = ![t.val % 4, 0]
    ∧ win0_2.index t = ![t.val / 4, 0] := by
  decide +kernel

theorem t_lt (t : Fin cfg0.N) : t.val < 16 := t.isLt

/-- Row `a` of the block of grid point `t`. -/
def row (t : Fin cfg0.N) (a : Fin 1088) : Fin 4352 := ⟨1088 * (t.val / 4) + a.val, by have := t_lt t; omega⟩
/-- Column `k` of run `s`. -/
def col (s : Fin 4) (k : Fin 3328) : Fin 13312 := ⟨3328 * s.val + k.val, by omega⟩
/-- The run of grid point `t`. -/
def run (t : Fin cfg0.N) : Fin 4 := ⟨t.val % 4, by omega⟩

/-- A sum over the columns, run by run. -/
theorem sum_col {M : Type} [AddCommMonoid M] (f : Fin 13312 → M) : ∑ s : Fin 4, ∑ k : Fin 3328, f (col s k) = ∑ k, f k := by
  rw [← Fintype.sum_prod_type']
  refine Fintype.sum_equiv (finProdFinEquiv (m := 4) (n := 3328)) (fun x => f (col x.1 x.2)) f fun x => congrArg f (Fin.ext ?_)
  exact Nat.add_comm _ _

variable (m : (ℓ : Loc nD τ sig) → Buf (Elt Ideal) ℓ) (c : Dev nD)

theorem blk0 (t : Fin cfg0.N) (a : Fin 1088) (k : Fin 3328) : iblk m c 0 t (ix2 a k) = V m c main_arg0 (ix2 (row t a) (col (run t) k)) := by
  obtain ⟨e, -⟩ := idx_all t
  blk_ext [iblk, row, col, run, e]
theorem blk1 (t : Fin cfg0.N) (k : Fin 3328) (b : Fin 1024) : iblk m c 1 t (ix2 k b) = V m c main_arg1 (ix2 (col (run t) k) b) := by
  obtain ⟨-, e, -⟩ := idx_all t
  blk_ext [iblk, col, run, e]

/-- The part of run `s` in an entry of the product. -/
def part (x : Vec Ideal S4352x13312 .bf16) (y : Vec Ideal S13312x1024 .bf16) (s : Fin 4) (i : Fin 4352) (j : Fin 1024) : EReal :=
  ∑ k : Fin 3328, x (ix2 i (col s k)) * y (ix2 (col s k) j)

/-- The runs' parts make the entry. -/
theorem sum_part (x : Vec Ideal S4352x13312 .bf16) (y : Vec Ideal S13312x1024 .bf16) (i : Fin 4352) (j : Fin 1024) :
    ∑ s : Fin 4, part x y s i j = ∑ k : Fin 13312, x (ix2 i k) * y (ix2 k j) :=
  sum_col fun k => x (ix2 i k) * y (ix2 k j)

/-- The sum after a first point. -/
theorem ptA (t : Fin cfg0.N) (h : t.val % 4 = 0) (a : Fin 1088) (b : Fin 1024) :
    (outsAt0 m c t.val t.isLt).2 (ix2 a b) = part (V m c main_arg0) (V m c main_arg1) (run t) (row t a) b := by
  rw [outsAt0_A m c t h (by omega) (by omega)]
  dsimp only
  rw [sumA, pay2_apply]
  exact Finset.sum_congr rfl fun k _ => congrArg₂ (· * ·) (blk0 m c t a k) (blk1 m c t k b)

/-- The sum after a later point. -/
theorem ptB (t : Fin cfg0.N) (h : ¬t.val % 4 = 0) (a : Fin 1088) (b : Fin 1024) :
    (outsAt0 m c t.val t.isLt).2 (ix2 a b) = (outsAt0 m c (t.val - 1) (Nat.lt_of_le_of_lt (Nat.sub_le _ _) t.isLt)).2 (ix2 a b)
      + part (V m c main_arg0) (V m c main_arg1) (run t) (row t a) b := by
  by_cases h3 : t.val % 4 = 3
  · rw [outsAt0_C m c t h (by omega) h3]
    dsimp only
    rw [sumC, pay3_apply]
    exact congrArg (_ + ·) (Finset.sum_congr rfl fun k _ => congrArg₂ (· * ·) (blk0 m c t a k) (blk1 m c t k b))
  · rw [outsAt0_B m c t h (by omega) h3]
    dsimp only
    rw [sumB, pay3_apply]
    exact congrArg (_ + ·) (Finset.sum_congr rfl fun k _ => congrArg₂ (· * ·) (blk0 m c t a k) (blk1 m c t k b))

/-- The result of a last point is its sum. -/
theorem ptOut (t : Fin cfg0.N) (h : t.val % 4 = 3) (j : S1088x1024.Idx) :
    (outsAt0 m c t.val t.isLt).1 j = (outsAt0 m c t.val t.isLt).2 j := by
  rw [outsAt0_C m c t (by omega) (by omega) h]
  dsimp only
  rw [outC, sumC]

/-- The result as the kernel leaves it. -/
theorem arr : (dats m 0 c).arrAt 2 cfg0.N = prod (V m c main_arg0) (V m c main_arg1) := by
  refine (dats m 0 c).arrAt_eq_of_covers 2 _ (by decide +kernel) fun t hf y => ?_
  obtain ⟨-, -, e⟩ := idx_all t
  have hr : t.val % 4 = 4 - 1 := (flush0_2 t).mp hf
  blk_simp
  rw [after0_2]
  have e0 : ((win0_2.blk t).view.emb y 0 : Fin 4352) = row t (y 0) := by
    refine Fin.ext ?_
    blk_simp [e]
    exact congrArg (· + _) (Nat.mul_comm _ _)
  have e1 : ((win0_2.blk t).view.emb y 1 : Fin 1024) = y 1 := by
    refine Fin.ext ?_
    blk_simp [e]
  unfold prod
  rw [e0, e1]
  refine (ptOut m c t hr y).trans ?_
  refine (Pipeline.eq_sum_fin_of_reset_step_apply_of_flush (N := cfg0.N) (fun n h => (outsAt0 m c n h).2) 4 0
    (fun t y => part (V m c main_arg0) (V m c main_arg1) (run t) (row t (y 0)) (y 1))
    (fun t h i => ?_) (fun t h i => ?_) t hr y).trans ?_
  · rw [eq_ix2 i]
    exact (ptA m c t h (i 0) (i 1)).trans (zero_add _).symm
  · rw [eq_ix2 i]
    exact ptB m c t h (i 0) (i 1)
  · refine (zero_add _).trans (Eq.trans ?_ (sum_part (V m c main_arg0) (V m c main_arg1) (row t (y 0)) (y 1)))
    refine Finset.sum_congr rfl fun s _ => ?_
    have r1 : run ⟨4 * (t.val / 4) + s.val, Pipeline.run_point_lt_of_flush t hr s⟩ = s := Fin.ext (by simp only [run]; omega)
    have r2 : row ⟨4 * (t.val / 4) + s.val, Pipeline.run_point_lt_of_flush t hr s⟩ (y 0) = row t (y 0) := Fin.ext (by simp only [row]; omega)
    rw [r1, r2]

/-- The reference's product. -/
theorem ref_eq (x : Vec Ideal S4352x13312 .bf16) (y : Vec Ideal S13312x1024 .bf16) :
    (Host.dotGeneral Cert.Reference2Ideal.dot_S4352x13312_S1024x13312_S4352x1024_1_1_0_0_n_n none
      (extf .f32 x Cert.Reference2Ideal.Gen.bitsLt_bf16_f32)
      (transpose Cert.Reference2Ideal.S1024x13312 [1, 0] (extf .f32 y Cert.Reference2Ideal.Gen.bitsLt_bf16_f32)
        Cert.Reference2Ideal.Gen.transposes_S13312x1024_S1024x13312_1_0) : FVec Ideal S4352x1024 .f32)
      = prod x y := by
  funext j
  unfold prod
  pointwise

end Cert.Kernel2Ideal.Product

namespace Cert.Proof

open Idealize.ShloMosaic Idealize.SL.Sem

/-- The kernel leaves the gradient. -/
theorem product2 : Cert.algebraic_Kernel2Ideal_Reference2Ideal := by
  intro m g m' g' _ hag
  refine ⟨fun c => Cert.Kernel2Ideal.Product.prod (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1)), ?_, ?_⟩
  · refine (θ_run Cert.Kernel2Ideal.defs _ _).mono (fun r h c => ?_) (Cert.Kernel2Ideal.Value.run_blocks (F := Ideal) m g)
    refine ⟨(h c).1.trans ?_, (h c).2⟩
    rw [Cert.Kernel2Ideal.Product.arr, Cert.Kernel2Ideal.Gen.V_main_arg0, Cert.Kernel2Ideal.Gen.V_main_arg1]
  · refine (θ_run Cert.Reference2Ideal.defs _ _).mono (fun r h c => ?_) (Cert.Reference2Ideal.Value.run (F := Ideal) m' g')
    refine ⟨(h c).1.trans ?_, (h c).2⟩
    rw [(hag c).1, (hag c).2]
    exact Cert.Kernel2Ideal.Product.ref_eq _ _

end Cert.Proof

end
-- ==== Proof.Mm3.lean ====
/- The projection's gradient in its weights: `dpᵀ · h`, blocks of 1024 rows, each summed over two runs of 2176 tokens. -/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.PureOps.Ideal.Laws

@[expose] public section

set_option maxRecDepth 16384

noncomputable section

namespace Cert.Kernel3Ideal.Product

open Idealize.ShloMosaic Idealize.ShloMosaic.TcCoe Cert.Kernel3Ideal.Gen
open Idealize.ShloMosaic.Pipeline (Dat Cfg Window)

section Cases
variable (c : Dev nD) (i : grid0.Coords) (arg3 : Memref sig .tc .vmem S2176x1024 .bf16) (harg3 : arg3.IsWhole)
  (arg4 : Memref sig .tc .vmem S2176x1024 .bf16) (harg4 : arg4.IsWhole) (arg5 : Memref sig .tc .vmem S1024x1024 .bf16) (harg5 : arg5.IsWhole)
  (arg6 : Memref sig .tc .vmem S1024x1024 .f32) (harg6 : arg6.IsWhole)
  (x : Vec Ideal S2176x1024 .bf16) (y : Vec Ideal S2176x1024 .bf16) (acc : Vec Ideal S1024x1024 .f32)

/-- A first point's sum is the product of its two blocks. -/
theorem sumA (h0 : cond0_0 i) (h1 : ¬cond0_1 i) (h2 : ¬cond0_2 i) :
    sout0_A_0 c i arg3 harg3 arg4 harg4 arg5 harg5 arg6 harg6 h0 h1 h2 x y = k0_pay2 x y := by
  frame_out
/-- A last point's sum is what was there and the product of its two blocks. -/
theorem sumB (h0 : ¬cond0_0 i) (h1 : cond0_1 i) (h2 : cond0_2 i) :
    sout0_B_0 c i arg3 harg3 arg4 harg4 arg5 harg5 arg6 harg6 h0 h1 h2 x y acc = k0_pay3 x y acc := by
  frame_out
/-- A last point's result is its sum, rounded. -/
theorem outB (h0 : ¬cond0_0 i) (h1 : cond0_1 i) (h2 : cond0_2 i) :
    out0_B_2 c i arg3 harg3 arg4 harg4 arg5 harg5 arg6 harg6 h0 h1 h2 x y acc = k0_pay4 (k0_pay3 x y acc) := by
  frame_out
end Cases

theorem pay2_apply (x y : Vec Ideal S2176x1024 .bf16) (a b : Fin 1024) :
    k0_pay2 x y (ix2 a b) = ∑ k : Fin 2176, x (ix2 k a) * y (ix2 k b) := by
  unfold k0_pay2 k0_pay1
  pointwise
theorem pay3_apply (x y : Vec Ideal S2176x1024 .bf16) (acc : Vec Ideal S1024x1024 .f32) (a b : Fin 1024) :
    k0_pay3 x y acc (ix2 a b) = acc (ix2 a b) + ∑ k : Fin 2176, x (ix2 k a) * y (ix2 k b) := by
  unfold k0_pay3 k0_pay1
  pointwise
theorem pay4_apply (v : Vec Ideal S1024x1024 .f32) (j : S1024x1024.Idx) : k0_pay4 v j = v j := by
  unfold k0_pay4
  pointwise

/-- The product, entry by entry. -/
def prod (x : Vec Ideal S4352x13312 .bf16) (y : Vec Ideal S4352x1024 .bf16) : Vec Ideal S13312x1024 .bf16 :=
  fun j => ∑ k : Fin 4352, x (ix2 k (j 0)) * y (ix2 k (j 1))

theorem idx_all : ∀ t : Fin grid0.N, win0_0.index t = ![t.val % 2, t.val / 2] ∧ win0_1.index t = ![t.val % 2, 0]
    ∧ win0_2.index t = ![t.val / 2, 0] := by
  decide +kernel

theorem t_lt (t : Fin cfg0.N) : t.val < 26 := t.isLt

/-- Row `a` of the block of grid point `t`. -/
def row (t : Fin cfg0.N) (a : Fin 1024) : Fin 13312 := ⟨1024 * (t.val / 2) + a.val, by have := t_lt t; omega⟩
/-- Token `k` of run `s`. -/
def tok (s : Fin 2) (k : Fin 2176) : Fin 4352 := ⟨2176 * s.val + k.val, by omega⟩
/-- The run of grid point `t`. -/
def run (t : Fin cfg0.N) : Fin 2 := ⟨t.val % 2, by omega⟩

/-- A sum over the tokens, run by run. -/
theorem sum_tok {M : Type} [AddCommMonoid M] (f : Fin 4352 → M) : ∑ s : Fin 2, ∑ k : Fin 2176, f (tok s k) = ∑ k, f k := by
  rw [← Fintype.sum_prod_type']
  refine Fintype.sum_equiv (finProdFinEquiv (m := 2) (n := 2176)) (fun x => f (tok x.1 x.2)) f fun x => congrArg f (Fin.ext ?_)
  exact Nat.add_comm _ _

variable (m : (ℓ : Loc nD τ sig) → Buf (Elt Ideal) ℓ) (c : Dev nD)

theorem blk0 (t : Fin cfg0.N) (k : Fin 2176) (a : Fin 1024) : iblk m c 0 t (ix2 k a) = V m c main_arg0 (ix2 (tok (run t) k) (row t a)) := by
  obtain ⟨e, -⟩ := idx_all t
  blk_ext [iblk, row, tok, run, e]
theorem blk1 (t : Fin cfg0.N) (k : Fin 2176) (b : Fin 1024) : iblk m c 1 t (ix2 k b) = V m c main_arg1 (ix2 (tok (run t) k) b) := by
  obtain ⟨-, e, -⟩ := idx_all t
  blk_ext [iblk, tok, run, e]

/-- The part of run `s` in an entry of the product. -/
def part (x : Vec Ideal S4352x13312 .bf16) (y : Vec Ideal S4352x1024 .bf16) (s : Fin 2) (i : Fin 13312) (j : Fin 1024) : EReal :=
  ∑ k : Fin 2176, x (ix2 (tok s k) i) * y (ix2 (tok s k) j)

/-- The runs' parts make the entry. -/
theorem sum_part (x : Vec Ideal S4352x13312 .bf16) (y : Vec Ideal S4352x1024 .bf16) (i : Fin 13312) (j : Fin 1024) :
    ∑ s : Fin 2, part x y s i j = ∑ k : Fin 4352, x (ix2 k i) * y (ix2 k j) :=
  sum_tok fun k => x (ix2 k i) * y (ix2 k j)

/-- The sum after a first point. -/
theorem ptA (t : Fin cfg0.N) (h : t.val % 2 = 0) (a b : Fin 1024) :
    (outsAt0 m c t.val t.isLt).2 (ix2 a b) = part (V m c main_arg0) (V m c main_arg1) (run t) (row t a) b := by
  rw [outsAt0_A m c t h (by omega) (by omega)]
  dsimp only
  rw [sumA, pay2_apply]
  exact Finset.sum_congr rfl fun k _ => congrArg₂ (· * ·) (blk0 m c t k a) (blk1 m c t k b)

/-- The sum after a later point. -/
theorem ptB (t : Fin cfg0.N) (h : ¬t.val % 2 = 0) (a b : Fin 1024) :
    (outsAt0 m c t.val t.isLt).2 (ix2 a b) = (outsAt0 m c (t.val - 1) (Nat.lt_of_le_of_lt (Nat.sub_le _ _) t.isLt)).2 (ix2 a b)
      + part (V m c main_arg0) (V m c main_arg1) (run t) (row t a) b := by
  rw [outsAt0_B m c t h (by omega) (by omega)]
  dsimp only
  rw [sumB, pay3_apply]
  exact congrArg (_ + ·) (Finset.sum_congr rfl fun k _ => congrArg₂ (· * ·) (blk0 m c t k a) (blk1 m c t k b))

/-- The result of a last point is its sum. -/
theorem ptOut (t : Fin cfg0.N) (h : t.val % 2 = 1) (j : S1024x1024.Idx) :
    (outsAt0 m c t.val t.isLt).1 j = (outsAt0 m c t.val t.isLt).2 j := by
  rw [outsAt0_B m c t (by omega) h h]
  dsimp only
  rw [outB, sumB, pay4_apply]

/-- The result as the kernel leaves it. -/
theorem arr : (dats m 0 c).arrAt 2 cfg0.N = prod (V m c main_arg0) (V m c main_arg1) := by
  refine (dats m 0 c).arrAt_eq_of_covers 2 _ (by decide +kernel) fun t hf y => ?_
  obtain ⟨-, -, e⟩ := idx_all t
  have hr : t.val % 2 = 2 - 1 := (flush0_2 t).mp hf
  blk_simp
  rw [after0_2]
  have e0 : ((win0_2.blk t).view.emb y 0 : Fin 13312) = row t (y 0) := by
    refine Fin.ext ?_
    blk_simp [e]
    exact congrArg (· + _) (Nat.mul_comm _ _)
  have e1 : ((win0_2.blk t).view.emb y 1 : Fin 1024) = y 1 := by
    refine Fin.ext ?_
    blk_simp [e]
  unfold prod
  rw [e0, e1]
  refine (ptOut m c t hr y).trans ?_
  refine (Pipeline.eq_sum_fin_of_reset_step_apply_of_flush (N := cfg0.N) (fun n h => (outsAt0 m c n h).2) 2 0
    (fun t y => part (V m c main_arg0) (V m c main_arg1) (run t) (row t (y 0)) (y 1))
    (fun t h i => ?_) (fun t h i => ?_) t hr y).trans ?_
  · rw [eq_ix2 i]
    exact (ptA m c t h (i 0) (i 1)).trans (zero_add _).symm
  · rw [eq_ix2 i]
    exact ptB m c t h (i 0) (i 1)
  · refine (zero_add _).trans (Eq.trans ?_ (sum_part (V m c main_arg0) (V m c main_arg1) (row t (y 0)) (y 1)))
    refine Finset.sum_congr rfl fun s _ => ?_
    have r1 : run ⟨2 * (t.val / 2) + s.val, Pipeline.run_point_lt_of_flush t hr s⟩ = s := Fin.ext (by simp only [run]; omega)
    have r2 : row ⟨2 * (t.val / 2) + s.val, Pipeline.run_point_lt_of_flush t hr s⟩ (y 0) = row t (y 0) := Fin.ext (by simp only [row]; omega)
    rw [r1, r2]

/-- The reference's product. -/
theorem ref_eq (x : Vec Ideal S4352x13312 .bf16) (y : Vec Ideal S4352x1024 .bf16) :
    (truncf .bf16 (transpose S13312x1024 [1, 0] (transpose Cert.Reference3Ideal.S1024x13312 [1, 0]
      (Host.dotGeneral Cert.Reference3Ideal.dot_S4352x13312_S4352x1024_S13312x1024_0_0_1_1_n_n none
        (extf .f32 x Cert.Reference3Ideal.Gen.bitsLt_bf16_f32) (extf .f32 y Cert.Reference3Ideal.Gen.bitsLt_bf16_f32))
      Cert.Reference3Ideal.Gen.transposes_S13312x1024_S1024x13312_1_0) Cert.Reference3Ideal.Gen.transposes_S1024x13312_S13312x1024_1_0)
      Cert.Reference3Ideal.Gen.bitsLt_bf16_f32 : FVec Ideal S13312x1024 .bf16)
      = prod x y := by
  funext j
  unfold prod
  pointwise

end Cert.Kernel3Ideal.Product

namespace Cert.Proof

open Idealize.ShloMosaic Idealize.SL.Sem

/-- The kernel leaves the gradient. -/
theorem product3 : Cert.algebraic_Kernel3Ideal_Reference3Ideal := by
  intro m g m' g' _ hag
  refine ⟨fun c => Cert.Kernel3Ideal.Product.prod (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)), ?_, ?_⟩
  · refine (θ_run Cert.Kernel3Ideal.defs _ _).mono (fun r h c => ?_) (Cert.Kernel3Ideal.Value.run_blocks (F := Ideal) m g)
    refine ⟨(h c).1.trans ?_, (h c).2⟩
    rw [Cert.Kernel3Ideal.Product.arr, Cert.Kernel3Ideal.Gen.V_main_arg0, Cert.Kernel3Ideal.Gen.V_main_arg1]
  · refine (θ_run Cert.Reference3Ideal.defs _ _).mono (fun r h c => ?_) (Cert.Reference3Ideal.Value.run (F := Ideal) m' g')
    refine ⟨(h c).1.trans ?_, (h c).2⟩
    rw [(hag c).1, (hag c).2]
    exact Cert.Kernel3Ideal.Product.ref_eq _ _

end Cert.Proof

end
-- ==== Proof.Mm4.lean ====
/- A square product's gradient in its argument: `do · wᵀ`, four blocks of 1088 rows. -/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.PureOps.Ideal.Laws

@[expose] public section

set_option maxRecDepth 16384

noncomputable section

namespace Cert.Kernel4Ideal.Product

open Idealize.ShloMosaic Idealize.ShloMosaic.TcCoe Cert.Kernel4Ideal.Gen
open Idealize.ShloMosaic.Pipeline (Dat Cfg Window)

/-- A grid point's block of the result is the product of its two blocks. -/
theorem out_eq (x : Vec Ideal S1088x1024 .bf16) (y : Vec Ideal S1024x1024 .bf16) : out0_2 x y = k0_pay1 x y := by
  frame_out

theorem pay_apply (x : Vec Ideal S1088x1024 .bf16) (y : Vec Ideal S1024x1024 .bf16) (a : Fin 1088) (b : Fin 1024) :
    k0_pay1 x y (ix2 a b) = ∑ k : Fin 1024, x (ix2 a k) * y (ix2 b k) := by
  unfold k0_pay1
  pointwise

/-- The product, entry by entry. -/
def prod (x : Vec Ideal S4352x1024 .bf16) (y : Vec Ideal S1024x1024 .bf16) : Vec Ideal S4352x1024 .bf16 :=
  fun j => ∑ k : Fin 1024, x (ix2 (j 0) k) * y (ix2 (j 1) k)

theorem idx_all : ∀ t : Fin grid0.N, win0_0.index t = ![t.val, 0] ∧ win0_1.index t = ![0, 0] ∧ win0_2.index t = ![t.val, 0] := by
  decide +kernel

theorem t_lt (t : Fin cfg0.N) : t.val < 4 := t.isLt

/-- Row `a` of the block of grid point `t`. -/
def row (t : Fin cfg0.N) (a : Fin 1088) : Fin 4352 := ⟨1088 * t.val + a.val, by have := t_lt t; omega⟩

variable (m : (ℓ : Loc nD τ sig) → Buf (Elt Ideal) ℓ) (c : Dev nD)

theorem blk0 (t : Fin cfg0.N) (a : Fin 1088) (k : Fin 1024) : iblk m c 0 t (ix2 a k) = V m c main_arg0 (ix2 (row t a) k) := by
  obtain ⟨e, -⟩ := idx_all t
  blk_ext [iblk, row, e]
theorem blk1 (t : Fin cfg0.N) (k : Fin 1024) (b : Fin 1024) : iblk m c 1 t (ix2 k b) = V m c main_arg1 (ix2 k b) := by
  obtain ⟨-, e, -⟩ := idx_all t
  blk_ext [iblk, e]

/-- The result as the kernel leaves it. -/
theorem arr : (dats m 0 c).arrAt 2 cfg0.N = prod (V m c main_arg0) (V m c main_arg1) := by
  refine (dats m 0 c).arrAt_eq_of_covers 2 _ (by decide +kernel) fun t hf y => ?_
  obtain ⟨-, -, e⟩ := idx_all t
  blk_simp
  rw [after0_2]
  have e0 : ((win0_2.blk t).view.emb y 0 : Fin 4352) = row t (y 0) := by
    refine Fin.ext ?_
    blk_simp [e]
    exact congrArg (· + _) (Nat.mul_comm _ _)
  have e1 : ((win0_2.blk t).view.emb y 1 : Fin 1024) = y 1 := by
    refine Fin.ext ?_
    blk_simp [e]
  unfold prod
  rw [e0, e1, out_eq]
  refine (congrArg _ (eq_ix2 y)).trans ((pay_apply _ _ (y 0) (y 1)).trans ?_)
  exact Finset.sum_congr rfl fun k _ => congrArg₂ (· * ·) (blk0 m c t _ k) (blk1 m c t _ k)

/-- The reference's product. -/
theorem ref_eq (x : Vec Ideal S4352x1024 .bf16) (y : Vec Ideal S1024x1024 .bf16) :
    (truncf .bf16 (Host.dotGeneral Cert.Reference4Ideal.dot_S4352x1024_S1024x1024_S4352x1024_1_1_0_0_n_n none
      (extf .f32 x Cert.Reference4Ideal.Gen.bitsLt_bf16_f32) (extf .f32 y Cert.Reference4Ideal.Gen.bitsLt_bf16_f32)) Cert.Reference4Ideal.Gen.bitsLt_bf16_f32 : FVec Ideal S4352x1024 .bf16)
      = prod x y := by
  funext j
  unfold prod
  pointwise

end Cert.Kernel4Ideal.Product

namespace Cert.Proof

open Idealize.ShloMosaic Idealize.SL.Sem

/-- The kernel leaves the gradient. -/
theorem product4 : Cert.algebraic_Kernel4Ideal_Reference4Ideal := by
  intro m g m' g' _ hag
  refine ⟨fun c => Cert.Kernel4Ideal.Product.prod (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1)), ?_, ?_⟩
  · refine (θ_run Cert.Kernel4Ideal.defs _ _).mono (fun r h c => ?_) (Cert.Kernel4Ideal.Value.run_blocks (F := Ideal) m g)
    refine ⟨(h c).1.trans ?_, (h c).2⟩
    rw [Cert.Kernel4Ideal.Product.arr, Cert.Kernel4Ideal.Gen.V_main_arg0, Cert.Kernel4Ideal.Gen.V_main_arg1]
  · refine (θ_run Cert.Reference4Ideal.defs _ _).mono (fun r h c => ?_) (Cert.Reference4Ideal.Value.run (F := Ideal) m' g')
    refine ⟨(h c).1.trans ?_, (h c).2⟩
    rw [(hag c).1, (hag c).2]
    exact Cert.Kernel4Ideal.Product.ref_eq _ _

end Cert.Proof

end
-- ==== Proof.Mm5.lean ====
/- A square product's gradient in its weights: `yᵀ · do`, summed over four runs of 1088 tokens. -/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.PureOps.Ideal.Laws

@[expose] public section

set_option maxRecDepth 16384

noncomputable section

namespace Cert.Kernel5Ideal.Product

open Idealize.ShloMosaic Idealize.ShloMosaic.TcCoe Cert.Kernel5Ideal.Gen
open Idealize.ShloMosaic.Pipeline (Dat Cfg Window)

section Cases
variable (c : Dev nD) (i : grid0.Coords) (arg3 : Memref sig .tc .vmem S1088x1024 .bf16) (harg3 : arg3.IsWhole)
  (arg4 : Memref sig .tc .vmem S1088x1024 .bf16) (harg4 : arg4.IsWhole) (arg5 : Memref sig .tc .vmem S1024x1024 .bf16) (harg5 : arg5.IsWhole)
  (arg6 : Memref sig .tc .vmem S1024x1024 .f32) (harg6 : arg6.IsWhole)
  (x : Vec Ideal S1088x1024 .bf16) (y : Vec Ideal S1088x1024 .bf16) (acc : Vec Ideal S1024x1024 .f32)

/-- A first point's sum is the product of its two blocks. -/
theorem sumA (h0 : cond0_0 i) (h1 : ¬cond0_1 i) (h2 : ¬cond0_2 i) :
    sout0_A_0 c i arg3 harg3 arg4 harg4 arg5 harg5 arg6 harg6 h0 h1 h2 x y = k0_pay2 x y := by
  frame_out
/-- A later point's sum is what was there and the product of its two blocks. -/
theorem sumB (h0 : ¬cond0_0 i) (h1 : cond0_1 i) (h2 : ¬cond0_2 i) :
    sout0_B_0 c i arg3 harg3 arg4 harg4 arg5 harg5 arg6 harg6 h0 h1 h2 x y acc = k0_pay3 x y acc := by
  frame_out
theorem sumC (h0 : ¬cond0_0 i) (h1 : cond0_1 i) (h2 : cond0_2 i) :
    sout0_C_0 c i arg3 harg3 arg4 harg4 arg5 harg5 arg6 harg6 h0 h1 h2 x y acc = k0_pay3 x y acc := by
  frame_out
/-- A last point's result is its sum, rounded. -/
theorem outC (h0 : ¬cond0_0 i) (h1 : cond0_1 i) (h2 : cond0_2 i) :
    out0_C_2 c i arg3 harg3 arg4 harg4 arg5 harg5 arg6 harg6 h0 h1 h2 x y acc = k0_pay4 (k0_pay3 x y acc) := by
  frame_out
end Cases

theorem pay2_apply (x y : Vec Ideal S1088x1024 .bf16) (a b : Fin 1024) :
    k0_pay2 x y (ix2 a b) = ∑ k : Fin 1088, x (ix2 k a) * y (ix2 k b) := by
  unfold k0_pay2 k0_pay1
  pointwise
theorem pay3_apply (x y : Vec Ideal S1088x1024 .bf16) (acc : Vec Ideal S1024x1024 .f32) (a b : Fin 1024) :
    k0_pay3 x y acc (ix2 a b) = acc (ix2 a b) + ∑ k : Fin 1088, x (ix2 k a) * y (ix2 k b) := by
  unfold k0_pay3 k0_pay1
  pointwise
theorem pay4_apply (v : Vec Ideal S1024x1024 .f32) (j : S1024x1024.Idx) : k0_pay4 v j = v j := by
  unfold k0_pay4
  pointwise

/-- The product, entry by entry. -/
def prod (x : Vec Ideal S4352x1024 .bf16) (y : Vec Ideal S4352x1024 .bf16) : Vec Ideal S1024x1024 .bf16 :=
  fun j => ∑ k : Fin 4352, x (ix2 k (j 0)) * y (ix2 k (j 1))

theorem idx_all : ∀ t : Fin grid0.N, win0_0.index t = ![t.val % 4, 0] ∧ win0_1.index t = ![t.val % 4, 0]
    ∧ win0_2.index t = ![0, 0] := by
  decide +kernel

theorem t_lt (t : Fin cfg0.N) : t.val < 4 := t.isLt

/-- Token `k` of run `s`. -/
def tok (s : Fin 4) (k : Fin 1088) : Fin 4352 := ⟨1088 * s.val + k.val, by omega⟩
/-- The run of grid point `t`. -/
def run (t : Fin cfg0.N) : Fin 4 := ⟨t.val % 4, by omega⟩

/-- A sum over the tokens, run by run. -/
theorem sum_tok {M : Type} [AddCommMonoid M] (f : Fin 4352 → M) : ∑ s : Fin 4, ∑ k : Fin 1088, f (tok s k) = ∑ k, f k := by
  rw [← Fintype.sum_prod_type']
  refine Fintype.sum_equiv (finProdFinEquiv (m := 4) (n := 1088)) (fun x => f (tok x.1 x.2)) f fun x => congrArg f (Fin.ext ?_)
  exact Nat.add_comm _ _

variable (m : (ℓ : Loc nD τ sig) → Buf (Elt Ideal) ℓ) (c : Dev nD)

theorem blk0 (t : Fin cfg0.N) (k : Fin 1088) (a : Fin 1024) : iblk m c 0 t (ix2 k a) = V m c main_arg0 (ix2 (tok (run t) k) a) := by
  obtain ⟨e, -⟩ := idx_all t
  blk_ext [iblk, tok, run, e]
theorem blk1 (t : Fin cfg0.N) (k : Fin 1088) (b : Fin 1024) : iblk m c 1 t (ix2 k b) = V m c main_arg1 (ix2 (tok (run t) k) b) := by
  obtain ⟨-, e, -⟩ := idx_all t
  blk_ext [iblk, tok, run, e]

/-- The part of run `s` in an entry of the product. -/
def part (x : Vec Ideal S4352x1024 .bf16) (y : Vec Ideal S4352x1024 .bf16) (s : Fin 4) (i : Fin 1024) (j : Fin 1024) : EReal :=
  ∑ k : Fin 1088, x (ix2 (tok s k) i) * y (ix2 (tok s k) j)

/-- The runs' parts make the entry. -/
theorem sum_part (x : Vec Ideal S4352x1024 .bf16) (y : Vec Ideal S4352x1024 .bf16) (i : Fin 1024) (j : Fin 1024) :
    ∑ s : Fin 4, part x y s i j = ∑ k : Fin 4352, x (ix2 k i) * y (ix2 k j) :=
  sum_tok fun k => x (ix2 k i) * y (ix2 k j)

/-- The sum after a first point. -/
theorem ptA (t : Fin cfg0.N) (h : t.val % 4 = 0) (a b : Fin 1024) :
    (outsAt0 m c t.val t.isLt).2 (ix2 a b) = part (V m c main_arg0) (V m c main_arg1) (run t) a b := by
  rw [outsAt0_A m c t h (by have := t_lt t; omega) (by omega)]
  dsimp only
  rw [sumA, pay2_apply]
  exact Finset.sum_congr rfl fun k _ => congrArg₂ (· * ·) (blk0 m c t k a) (blk1 m c t k b)

/-- The sum after a later point. -/
theorem ptB (t : Fin cfg0.N) (h : ¬t.val % 4 = 0) (a b : Fin 1024) :
    (outsAt0 m c t.val t.isLt).2 (ix2 a b) = (outsAt0 m c (t.val - 1) (Nat.lt_of_le_of_lt (Nat.sub_le _ _) t.isLt)).2 (ix2 a b)
      + part (V m c main_arg0) (V m c main_arg1) (run t) a b := by
  by_cases h3 : t.val % 4 = 3
  · rw [outsAt0_C m c t h (by omega) h3]
    dsimp only
    rw [sumC, pay3_apply]
    exact congrArg (_ + ·) (Finset.sum_congr rfl fun k _ => congrArg₂ (· * ·) (blk0 m c t k a) (blk1 m c t k b))
  · rw [outsAt0_B m c t h (by omega) h3]
    dsimp only
    rw [sumB, pay3_apply]
    exact congrArg (_ + ·) (Finset.sum_congr rfl fun k _ => congrArg₂ (· * ·) (blk0 m c t k a) (blk1 m c t k b))

/-- The result of a last point is its sum. -/
theorem ptOut (t : Fin cfg0.N) (h : t.val % 4 = 3) (j : S1024x1024.Idx) :
    (outsAt0 m c t.val t.isLt).1 j = (outsAt0 m c t.val t.isLt).2 j := by
  rw [outsAt0_C m c t (by omega) (by omega) h]
  dsimp only
  rw [outC, sumC, pay4_apply]

/-- The result as the kernel leaves it. -/
theorem arr : (dats m 0 c).arrAt 2 cfg0.N = prod (V m c main_arg0) (V m c main_arg1) := by
  refine (dats m 0 c).arrAt_eq_of_covers 2 _ (by decide +kernel) fun t hf y => ?_
  obtain ⟨-, -, e⟩ := idx_all t
  have hr : t.val % 4 = 4 - 1 := (flush0_2 t).mp hf
  blk_simp
  rw [after0_2]
  have e0 : ((win0_2.blk t).view.emb y 0 : Fin 1024) = y 0 := by
    refine Fin.ext ?_
    blk_simp [e]
  have e1 : ((win0_2.blk t).view.emb y 1 : Fin 1024) = y 1 := by
    refine Fin.ext ?_
    blk_simp [e]
  unfold prod
  rw [e0, e1]
  refine (ptOut m c t hr y).trans ?_
  refine (Pipeline.eq_sum_fin_of_reset_step_apply_of_flush (N := cfg0.N) (fun n h => (outsAt0 m c n h).2) 4 0
    (fun t y => part (V m c main_arg0) (V m c main_arg1) (run t) (y 0) (y 1))
    (fun t h i => ?_) (fun t h i => ?_) t hr y).trans ?_
  · rw [eq_ix2 i]
    exact (ptA m c t h (i 0) (i 1)).trans (zero_add _).symm
  · rw [eq_ix2 i]
    exact ptB m c t h (i 0) (i 1)
  · refine (zero_add _).trans (Eq.trans ?_ (sum_part (V m c main_arg0) (V m c main_arg1) (y 0) (y 1)))
    refine Finset.sum_congr rfl fun s _ => ?_
    have r1 : run ⟨4 * (t.val / 4) + s.val, Pipeline.run_point_lt_of_flush t hr s⟩ = s := Fin.ext (by simp only [run]; omega)
    rw [r1]

/-- The reference's product. -/
theorem ref_eq (x : Vec Ideal S4352x1024 .bf16) (y : Vec Ideal S4352x1024 .bf16) :
    (truncf .bf16 (transpose S1024x1024 [1, 0]
      (Host.dotGeneral Cert.Reference5Ideal.dot_S4352x1024_S4352x1024_S1024x1024_0_0_1_1_n_n none
        (extf .f32 y Cert.Reference5Ideal.Gen.bitsLt_bf16_f32) (extf .f32 x Cert.Reference5Ideal.Gen.bitsLt_bf16_f32))
      Cert.Reference5Ideal.Gen.transposes_S1024x1024_S1024x1024_1_0)
      Cert.Reference5Ideal.Gen.bitsLt_bf16_f32 : FVec Ideal S1024x1024 .bf16)
      = prod x y := by
  funext j
  unfold prod
  pointwise
  exact Finset.sum_congr rfl fun k _ => mul_comm _ _

end Cert.Kernel5Ideal.Product

namespace Cert.Proof

open Idealize.ShloMosaic Idealize.SL.Sem

/-- The kernel leaves the gradient. -/
theorem product5 : Cert.algebraic_Kernel5Ideal_Reference5Ideal := by
  intro m g m' g' _ hag
  refine ⟨fun c => Cert.Kernel5Ideal.Product.prod (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1)), ?_, ?_⟩
  · refine (θ_run Cert.Kernel5Ideal.defs _ _).mono (fun r h c => ?_) (Cert.Kernel5Ideal.Value.run_blocks (F := Ideal) m g)
    refine ⟨(h c).1.trans ?_, (h c).2⟩
    rw [Cert.Kernel5Ideal.Product.arr, Cert.Kernel5Ideal.Gen.V_main_arg0, Cert.Kernel5Ideal.Gen.V_main_arg1]
  · refine (θ_run Cert.Reference5Ideal.defs _ _).mono (fun r h c => ?_) (Cert.Reference5Ideal.Value.run (F := Ideal) m' g')
    refine ⟨(h c).1.trans ?_, (h c).2⟩
    rw [(hag c).1, (hag c).2]
    exact Cert.Kernel5Ideal.Product.ref_eq _ _

end Cert.Proof

end
-- ==== Proof.Mm6.lean ====
/- The forward projection: `h · wᵀ`, blocks of 2176 rows and 1024 columns. -/
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.PureOps.Ideal.Laws

@[expose] public section

set_option maxRecDepth 16384

noncomputable section

namespace Cert.Kernel6Ideal.Product

open Idealize.ShloMosaic Idealize.ShloMosaic.TcCoe Cert.Kernel6Ideal.Gen
open Idealize.ShloMosaic.Pipeline (Dat Cfg Window)

/-- A grid point's block of the result is the product of its two blocks. -/
theorem out_eq (x : Vec Ideal S2176x1024 .bf16) (y : Vec Ideal S1024x1024 .bf16) : out0_2 x y = k0_pay1 x y := by
  frame_out

theorem pay_apply (x : Vec Ideal S2176x1024 .bf16) (y : Vec Ideal S1024x1024 .bf16) (a : Fin 2176) (b : Fin 1024) :
    k0_pay1 x y (ix2 a b) = ∑ k : Fin 1024, x (ix2 a k) * y (ix2 b k) := by
  unfold k0_pay1
  pointwise

/-- The product, entry by entry. -/
def prod (x : Vec Ideal S4352x1024 .bf16) (y : Vec Ideal S13312x1024 .bf16) : Vec Ideal S4352x13312 .bf16 :=
  fun j => ∑ k : Fin 1024, x (ix2 (j 0) k) * y (ix2 (j 1) k)

theorem idx_all : ∀ t : Fin grid0.N, win0_0.index t = ![t.val / 13, 0] ∧ win0_1.index t = ![t.val % 13, 0] ∧ win0_2.index t = ![t.val / 13, t.val % 13] := by
  decide +kernel

theorem t_lt (t : Fin cfg0.N) : t.val < 26 := t.isLt

/-- Row `a` of the block of grid point `t`. -/
def row (t : Fin cfg0.N) (a : Fin 2176) : Fin 4352 := ⟨2176 * (t.val / 13) + a.val, by have := t_lt t; omega⟩
/-- Column `b` of the block of grid point `t`. -/
def col (t : Fin cfg0.N) (b : Fin 1024) : Fin 13312 := ⟨1024 * (t.val % 13) + b.val, by omega⟩

variable (m : (ℓ : Loc nD τ sig) → Buf (Elt Ideal) ℓ) (c : Dev nD)

theorem blk0 (t : Fin cfg0.N) (a : Fin 2176) (k : Fin 1024) : iblk m c 0 t (ix2 a k) = V m c main_arg0 (ix2 (row t a) k) := by
  obtain ⟨e, -⟩ := idx_all t
  blk_ext [iblk, row, e]
theorem blk1 (t : Fin cfg0.N) (b : Fin 1024) (k : Fin 1024) : iblk m c 1 t (ix2 b k) = V m c main_arg1 (ix2 (col t b) k) := by
  obtain ⟨-, e, -⟩ := idx_all t
  blk_ext [iblk, col, e]

/-- The result as the kernel leaves it. -/
theorem arr : (dats m 0 c).arrAt 2 cfg0.N = prod (V m c main_arg0) (V m c main_arg1) := by
  refine (dats m 0 c).arrAt_eq_of_covers 2 _ (by decide +kernel) fun t hf y => ?_
  obtain ⟨-, -, e⟩ := idx_all t
  blk_simp
  rw [after0_2]
  have e0 : ((win0_2.blk t).view.emb y 0 : Fin 4352) = row t (y 0) := by
    refine Fin.ext ?_
    blk_simp [e]
    exact congrArg (· + _) (Nat.mul_comm _ _)
  have e1 : ((win0_2.blk t).view.emb y 1 : Fin 13312) = col t (y 1) := by
    refine Fin.ext ?_
    blk_simp [e]
    exact congrArg (· + _) (Nat.mul_comm _ _)
  unfold prod
  rw [e0, e1, out_eq]
  refine (congrArg _ (eq_ix2 y)).trans ((pay_apply _ _ (y 0) (y 1)).trans ?_)
  exact Finset.sum_congr rfl fun k _ => congrArg₂ (· * ·) (blk0 m c t _ k) (blk1 m c t _ k)

/-- The reference's product. -/
theorem ref_eq (x : Vec Ideal S4352x1024 .bf16) (y : Vec Ideal S13312x1024 .bf16) :
    (truncf .bf16 (Host.dotGeneral Cert.Reference6Ideal.dot_S4352x1024_S1024x13312_S4352x13312_1_0_0_1_n_n none
      (extf .f32 x Cert.Reference6Ideal.Gen.bitsLt_bf16_f32) (transpose Cert.Reference6Ideal.S1024x13312 [1, 0] (extf .f32 y Cert.Reference6Ideal.Gen.bitsLt_bf16_f32) Cert.Reference6Ideal.Gen.transposes_S13312x1024_S1024x13312_1_0)) Cert.Reference6Ideal.Gen.bitsLt_bf16_f32 : FVec Ideal S4352x13312 .bf16)
      = prod x y := by
  funext j
  unfold prod
  pointwise

end Cert.Kernel6Ideal.Product

namespace Cert.Proof

open Idealize.ShloMosaic Idealize.SL.Sem

/-- The kernel leaves the product. -/
theorem product6 : Cert.algebraic_Kernel6Ideal_Reference6Ideal := by
  intro m g m' g' _ hag
  refine ⟨fun c => Cert.Kernel6Ideal.Product.prod (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg1)), ?_, ?_⟩
  · refine (θ_run Cert.Kernel6Ideal.defs _ _).mono (fun r h c => ?_) (Cert.Kernel6Ideal.Value.run_blocks (F := Ideal) m g)
    refine ⟨(h c).1.trans ?_, (h c).2⟩
    rw [Cert.Kernel6Ideal.Product.arr, Cert.Kernel6Ideal.Gen.V_main_arg0, Cert.Kernel6Ideal.Gen.V_main_arg1]
  · refine (θ_run Cert.Reference6Ideal.defs _ _).mono (fun r h c => ?_) (Cert.Reference6Ideal.Value.run (F := Ideal) m' g')
    refine ⟨(h c).1.trans ?_, (h c).2⟩
    rw [(hag c).1, (hag c).2]
    exact Cert.Kernel6Ideal.Product.ref_eq _ _

end Cert.Proof

end
-- ==== Proof.Mm7.lean ====
/- The forward square product of a branch, rounded: `y · w`, four blocks of 1088 rows. -/
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.PureOps.Ideal.Laws

@[expose] public section

set_option maxRecDepth 16384

noncomputable section

namespace Cert.Kernel7Ideal.Product

open Idealize.ShloMosaic Idealize.ShloMosaic.TcCoe Cert.Kernel7Ideal.Gen
open Idealize.ShloMosaic.Pipeline (Dat Cfg Window)

/-- A grid point's block of the result is the product of its two blocks. -/
theorem out_eq (x : Vec Ideal S1088x1024 .bf16) (y : Vec Ideal S1024x1024 .bf16) : out0_2 x y = k0_pay1 x y := by
  frame_out

theorem pay_apply (x : Vec Ideal S1088x1024 .bf16) (y : Vec Ideal S1024x1024 .bf16) (a : Fin 1088) (b : Fin 1024) :
    k0_pay1 x y (ix2 a b) = ∑ k : Fin 1024, x (ix2 a k) * y (ix2 k b) := by
  unfold k0_pay1
  pointwise

/-- The product, entry by entry. -/
def prod (x : Vec Ideal S4352x1024 .bf16) (y : Vec Ideal S1024x1024 .bf16) : Vec Ideal S4352x1024 .bf16 :=
  fun j => ∑ k : Fin 1024, x (ix2 (j 0) k) * y (ix2 k (j 1))

theorem idx_all : ∀ t : Fin grid0.N, win0_0.index t = ![t.val, 0] ∧ win0_1.index t = ![0, 0] ∧ win0_2.index t = ![t.val, 0] := by
  decide +kernel

theorem t_lt (t : Fin cfg0.N) : t.val < 4 := t.isLt

/-- Row `a` of the block of grid point `t`. -/
def row (t : Fin cfg0.N) (a : Fin 1088) : Fin 4352 := ⟨1088 * t.val + a.val, by have := t_lt t; omega⟩

variable (m : (ℓ : Loc nD τ sig) → Buf (Elt Ideal) ℓ) (c : Dev nD)

theorem blk0 (t : Fin cfg0.N) (a : Fin 1088) (k : Fin 1024) : iblk m c 0 t (ix2 a k) = V m c main_arg0 (ix2 (row t a) k) := by
  obtain ⟨e, -⟩ := idx_all t
  blk_ext [iblk, row, e]
theorem blk1 (t : Fin cfg0.N) (k : Fin 1024) (b : Fin 1024) : iblk m c 1 t (ix2 k b) = V m c main_arg1 (ix2 k b) := by
  obtain ⟨-, e, -⟩ := idx_all t
  blk_ext [iblk, e]

/-- The result as the kernel leaves it. -/
theorem arr : (dats m 0 c).arrAt 2 cfg0.N = prod (V m c main_arg0) (V m c main_arg1) := by
  refine (dats m 0 c).arrAt_eq_of_covers 2 _ (by decide +kernel) fun t hf y => ?_
  obtain ⟨-, -, e⟩ := idx_all t
  blk_simp
  rw [after0_2]
  have e0 : ((win0_2.blk t).view.emb y 0 : Fin 4352) = row t (y 0) := by
    refine Fin.ext ?_
    blk_simp [e]
    exact congrArg (· + _) (Nat.mul_comm _ _)
  have e1 : ((win0_2.blk t).view.emb y 1 : Fin 1024) = y 1 := by
    refine Fin.ext ?_
    blk_simp [e]
  unfold prod
  rw [e0, e1, out_eq]
  refine (congrArg _ (eq_ix2 y)).trans ((pay_apply _ _ (y 0) (y 1)).trans ?_)
  exact Finset.sum_congr rfl fun k _ => congrArg₂ (· * ·) (blk0 m c t _ k) (blk1 m c t k _)

/-- The reference's product. -/
theorem ref_eq (x : Vec Ideal S4352x1024 .bf16) (y : Vec Ideal S1024x1024 .bf16) :
    (truncf .bf16 (Host.dotGeneral Cert.Reference7Ideal.dot_S4352x1024_S1024x1024_S4352x1024_1_0_0_1_n_n none
      (extf .f32 x Cert.Reference7Ideal.Gen.bitsLt_bf16_f32) (extf .f32 y Cert.Reference7Ideal.Gen.bitsLt_bf16_f32)) Cert.Reference7Ideal.Gen.bitsLt_bf16_f32 : FVec Ideal S4352x1024 .bf16)
      = prod x y := by
  funext j
  unfold prod
  pointwise

end Cert.Kernel7Ideal.Product

namespace Cert.Proof

open Idealize.ShloMosaic Idealize.SL.Sem

/-- The kernel leaves the product. -/
theorem product7 : Cert.algebraic_Kernel7Ideal_Reference7Ideal := by
  intro m g m' g' _ hag
  refine ⟨fun c => Cert.Kernel7Ideal.Product.prod (m ((c.tc : Thread Cert.Kernel7Ideal.nD Cert.Kernel7Ideal.τ).loc Cert.Kernel7Ideal.main_arg0))
    (m ((c.tc : Thread Cert.Kernel7Ideal.nD Cert.Kernel7Ideal.τ).loc Cert.Kernel7Ideal.main_arg1)), ?_, ?_⟩
  · refine (θ_run Cert.Kernel7Ideal.defs _ _).mono (fun r h c => ?_) (Cert.Kernel7Ideal.Value.run_blocks (F := Ideal) m g)
    refine ⟨(h c).1.trans ?_, (h c).2⟩
    rw [Cert.Kernel7Ideal.Product.arr, Cert.Kernel7Ideal.Gen.V_main_arg0, Cert.Kernel7Ideal.Gen.V_main_arg1]
  · refine (θ_run Cert.Reference7Ideal.defs _ _).mono (fun r h c => ?_) (Cert.Reference7Ideal.Value.run (F := Ideal) m' g')
    refine ⟨(h c).1.trans ?_, (h c).2⟩
    rw [(hag c).1, (hag c).2]
    exact Cert.Kernel7Ideal.Product.ref_eq _ _

end Cert.Proof

end
-- ==== Proof.Mm8.lean ====
/- The forward square product kept in single precision: `y · w`, four blocks of 1088 rows. -/
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack
public import Idealize.ShloMosaic.PureOps.Ideal.Laws

@[expose] public section

set_option maxRecDepth 16384

noncomputable section

namespace Cert.Kernel8Ideal.Product

open Idealize.ShloMosaic Idealize.ShloMosaic.TcCoe Cert.Kernel8Ideal.Gen
open Idealize.ShloMosaic.Pipeline (Dat Cfg Window)

/-- A grid point's block of the result is the product of its two blocks. -/
theorem out_eq (x : Vec Ideal S1088x1024 .bf16) (y : Vec Ideal S1024x1024 .bf16) : out0_2 x y = k0_pay1 x y := by
  frame_out

theorem pay_apply (x : Vec Ideal S1088x1024 .bf16) (y : Vec Ideal S1024x1024 .bf16) (a : Fin 1088) (b : Fin 1024) :
    k0_pay1 x y (ix2 a b) = ∑ k : Fin 1024, x (ix2 a k) * y (ix2 k b) := by
  unfold k0_pay1
  pointwise

/-- The product, entry by entry. -/
def prod (x : Vec Ideal S4352x1024 .bf16) (y : Vec Ideal S1024x1024 .bf16) : Vec Ideal S4352x1024 .f32 :=
  fun j => ∑ k : Fin 1024, x (ix2 (j 0) k) * y (ix2 k (j 1))

theorem idx_all : ∀ t : Fin grid0.N, win0_0.index t = ![t.val, 0] ∧ win0_1.index t = ![0, 0] ∧ win0_2.index t = ![t.val, 0] := by
  decide +kernel

theorem t_lt (t : Fin cfg0.N) : t.val < 4 := t.isLt

/-- Row `a` of the block of grid point `t`. -/
def row (t : Fin cfg0.N) (a : Fin 1088) : Fin 4352 := ⟨1088 * t.val + a.val, by have := t_lt t; omega⟩

variable (m : (ℓ : Loc nD τ sig) → Buf (Elt Ideal) ℓ) (c : Dev nD)

theorem blk0 (t : Fin cfg0.N) (a : Fin 1088) (k : Fin 1024) : iblk m c 0 t (ix2 a k) = V m c main_arg0 (ix2 (row t a) k) := by
  obtain ⟨e, -⟩ := idx_all t
  blk_ext [iblk, row, e]
theorem blk1 (t : Fin cfg0.N) (k : Fin 1024) (b : Fin 1024) : iblk m c 1 t (ix2 k b) = V m c main_arg1 (ix2 k b) := by
  obtain ⟨-, e, -⟩ := idx_all t
  blk_ext [iblk, e]

/-- The result as the kernel leaves it. -/
theorem arr : (dats m 0 c).arrAt 2 cfg0.N = prod (V m c main_arg0) (V m c main_arg1) := by
  refine (dats m 0 c).arrAt_eq_of_covers 2 _ (by decide +kernel) fun t hf y => ?_
  obtain ⟨-, -, e⟩ := idx_all t
  blk_simp
  rw [after0_2]
  have e0 : ((win0_2.blk t).view.emb y 0 : Fin 4352) = row t (y 0) := by
    refine Fin.ext ?_
    blk_simp [e]
    exact congrArg (· + _) (Nat.mul_comm _ _)
  have e1 : ((win0_2.blk t).view.emb y 1 : Fin 1024) = y 1 := by
    refine Fin.ext ?_
    blk_simp [e]
  unfold prod
  rw [e0, e1, out_eq]
  refine (congrArg _ (eq_ix2 y)).trans ((pay_apply _ _ (y 0) (y 1)).trans ?_)
  exact Finset.sum_congr rfl fun k _ => congrArg₂ (· * ·) (blk0 m c t _ k) (blk1 m c t k _)

/-- The reference's product. -/
theorem ref_eq (x : Vec Ideal S4352x1024 .bf16) (y : Vec Ideal S1024x1024 .bf16) :
    (Host.dotGeneral Cert.Reference8Ideal.dot_S4352x1024_S1024x1024_S4352x1024_1_0_0_1_n_n none
      (extf .f32 x Cert.Reference8Ideal.Gen.bitsLt_bf16_f32) (extf .f32 y Cert.Reference8Ideal.Gen.bitsLt_bf16_f32) : FVec Ideal S4352x1024 .f32)
      = prod x y := by
  funext j
  unfold prod
  pointwise

end Cert.Kernel8Ideal.Product

namespace Cert.Proof

open Idealize.ShloMosaic Idealize.SL.Sem

/-- The kernel leaves the product. -/
theorem product8 : Cert.algebraic_Kernel8Ideal_Reference8Ideal := by
  intro m g m' g' _ hag
  refine ⟨fun c => Cert.Kernel8Ideal.Product.prod (m ((c.tc : Thread Cert.Kernel8Ideal.nD Cert.Kernel8Ideal.τ).loc Cert.Kernel8Ideal.main_arg0))
    (m ((c.tc : Thread Cert.Kernel8Ideal.nD Cert.Kernel8Ideal.τ).loc Cert.Kernel8Ideal.main_arg1)), ?_, ?_⟩
  · refine (θ_run Cert.Kernel8Ideal.defs _ _).mono (fun r h c => ?_) (Cert.Kernel8Ideal.Value.run_blocks (F := Ideal) m g)
    refine ⟨(h c).1.trans ?_, (h c).2⟩
    rw [Cert.Kernel8Ideal.Product.arr, Cert.Kernel8Ideal.Gen.V_main_arg0, Cert.Kernel8Ideal.Gen.V_main_arg1]
  · refine (θ_run Cert.Reference8Ideal.defs _ _).mono (fun r h c => ?_) (Cert.Reference8Ideal.Value.run (F := Ideal) m' g')
    refine ⟨(h c).1.trans ?_, (h c).2⟩
    rw [(hag c).1, (hag c).2]
    exact Cert.Kernel8Ideal.Product.ref_eq _ _

end Cert.Proof

end
-- ==== Proof.FwdRow.lean ====
/- One softmax row in base two, over the reals, whatever number is taken off its scores. -/
module

public import proofs.«01_k».proof.Proof.Words

@[expose] public section

noncomputable section

namespace Cert.Soft

open Idealize.ShloMosaic

section Row
variable {ι : Type*} [Fintype ι]

/-- The score `y` in base two, with `M` taken off. -/
def w2 (y : ι → ℝ) (M : ℝ) (i : ι) : ℝ := Real.rpow 2 (y i - M)

theorem w2_eq (y : ι → ℝ) (M : ℝ) (i : ι) : w2 y M i = Real.exp (y i * Real.log 2 - M * Real.log 2) := by
  rw [w2, show Real.rpow 2 _ = Real.exp (Real.log 2 * _) from Real.rpow_def_of_pos two_pos _]
  congr 1
  ring

theorem w2_pos (y : ι → ℝ) (M : ℝ) (i : ι) : 0 < w2 y M i := Real.rpow_pos_of_pos two_pos _

theorem sum_w2_pos [Nonempty ι] (y : ι → ℝ) (M : ℝ) : 0 < ∑ i, w2 y M i :=
  Finset.sum_pos (fun _ _ => w2_pos _ _ _) Finset.univ_nonempty

/-- Taking `N` off instead of `M`. -/
theorem w2_mul (y : ι → ℝ) (M N : ℝ) (i : ι) : w2 y M i * Real.rpow 2 (M - N) = w2 y N i := by
  show (2 : ℝ) ^ (y i - M) * (2 : ℝ) ^ (M - N) = (2 : ℝ) ^ (y i - N)
  rw [← Real.rpow_add two_pos]
  congr 1
  ring

/-- A row's weighted mean of `v`. -/
theorem mean_w2 (y v : ι → ℝ) (M : ℝ) :
    (∑ i, w2 y M i * v i) * (1 / ∑ i, w2 y M i) = ∑ i, v i * pr (fun i => y i * Real.log 2) i := by
  rw [Finset.sum_mul]
  refine Finset.sum_congr rfl fun i _ => ?_
  rw [← pr_shift (fun i => y i * Real.log 2) (M * Real.log 2) i]
  simp only [w2_eq]
  ring

/-- The logarithm of a row's sum, in base two. -/
def lg2 (s : ι → ℝ) : ℝ := Real.log (∑ i, Real.exp (s i)) * (1 / Real.log 2)

theorem lg2_shift [Nonempty ι] (s : ι → ℝ) (x : ℝ) : (x + Real.log (∑ i, Real.exp (s i - x))) * (1 / Real.log 2) = lg2 s := by
  rw [sum_shift, Real.log_div (sum_exp_pos s).ne' (Real.exp_pos x).ne', Real.log_exp, lg2]
  congr 1
  ring

theorem lg2_w2 [Nonempty ι] (y : ι → ℝ) (M : ℝ) :
    M + Real.log (∑ i, w2 y M i) * (Real.log 2)⁻¹ = lg2 (fun i => y i * Real.log 2) := by
  rw [← lg2_shift (fun i => y i * Real.log 2) (M * Real.log 2)]
  simp only [w2_eq]
  field_simp [log_two_ne]

end Row

/-- Row `a` of the `j`-th half of all rows. -/
def hf (j : Fin 2) (a : Fin 2176) : Fin 4352 := ⟨2176 * j.val + a.val, by omega⟩

theorem sum_hf (f : Fin 4352 → ℝ) : ∑ s, f s = ∑ a, f (hf 0 a) + ∑ a, f (hf 1 a) := by
  rw [show (∑ s, f s) = _ from Fin.sum_univ_add (a := 2176) (b := 2176) f]
  congr 1

/-- Sums over the two halves, the first one's with `M` taken off brought to the second one's `N`. -/
theorem sum_halves (y v : Fin 4352 → ℝ) (M N : ℝ) :
    (∑ a, w2 (fun a => y (hf 0 a)) M a * v (hf 0 a)) * Real.rpow 2 (M - N) + ∑ a, w2 (fun a => y (hf 1 a)) N a * v (hf 1 a)
      = ∑ s, w2 y N s * v s := by
  rw [sum_hf, Finset.sum_mul]
  congr 1
  refine Finset.sum_congr rfl fun a _ => ?_
  rw [mul_right_comm, w2_mul]
  rfl

end Cert.Soft

end
-- ==== Proof.FwdTile.lean ====
/- One grid point of the attention's forward kernel, in terms of its input blocks: a block of queries against the 256
   context rows, and against all rows in two halves. -/
module

public import proofs.«01_k».proof.Proof.Gen.Kernel9Ideal.Frame
public import Idealize.ShloMosaic.Lib.Pipeline.ValueKit.Acc
public import Idealize.ShloMosaic.Lib.Pipeline.ReadBack

@[expose] public section

set_option maxRecDepth 16384

noncomputable section

namespace Cert.Kernel9Ideal.Tile

open Idealize.ShloMosaic Idealize.ShloMosaic.TcCoe Cert.Kernel9Ideal.Gen

variable {F : FTy → Type} [FloatOps F] [Named F]

theorem cols_inb (g : Fin 4) : ∀ a, (![0, 128 * g.val] : Fin 2 → ℕ) a + S256x128.size a ≤ S256x512.size a := by
  revert g
  decide
/-- Head `g`'s 128 columns of a block of 256 query rows. -/
def cols (x : Vec F S256x512 .bf16) (g : Fin 4) : Vec F S256x128 .bf16 :=
  View.ld x (Rect.unit (s := S256x512) ![0, 128 * g.val] S256x128.size (cols_inb g))
/-- The context's rows of all keys (or of all values). -/
def ctx (x : Vec F S4352x128 .bf16) : Vec F S256x128 .bf16 :=
  View.ld x (Rect.unit (s := S4352x128) ![0, 0] S256x128.size inb_S4352x128_S256x128_0_0)
/-- The half from row `o`. -/
def half (x : Vec F S4352x128 .bf16) (o : ℕ) (inb : ∀ a, (![o, 0] : Fin 2 → ℕ) a + S2176x128.size a ≤ S4352x128.size a) :
    Vec F S2176x128 .bf16 :=
  View.ld x (Rect.unit (s := S4352x128) ![o, 0] S2176x128.size inb)

/-- What is stored: the output and the logarithm of the sum, from the sum of weighted values, the sum of weights and the row's maximum. -/
def outO (acc : FVec F S256x128 .f32) (l : FVec F S256x1 .f32) : FVec F S256x128 .bf16 :=
  truncf .bf16 (divf acc (broadcastTo S256x128 l broadcasts_S256x1_S256x128)) bitsLt_bf16_f32
def outL (m l : FVec F S256x1 .f32) : FVec F S1x256x1 .f32 :=
  shapeCast S1x256x1 (addf m (mulf (log l) (broadcast S256x1 (Named.named κ "log2e" 0x3FB8AA3B#32)))) shapeCasts_S256x1_S1x256x1

section Ctx
variable (q k v : Vec F S256x128 .bf16)
/-- The scores of 256 queries against 256 keys, each row's maximum, the weights, their sums and the weighted values. -/
def scC : FVec F S256x256 .f32 :=
  matmul dot_S256x128_S256x128_S256x256_1_1_0_0_n_n none (shapeCast S256x128 q shapeCasts_S256x128_S256x128) k (constant S256x256 .f32 0x00000000#32)
def mxC (s : FVec F S256x256 .f32) : FVec F S256x1 .f32 :=
  shapeCast S256x1 (multiReduction .maximumf [1] S256 s 0xFF800000#32 reduces_S256x256_S256 (.inl rfl) rfl) shapeCasts_S256_S256x1
def exC (s : FVec F S256x256 .f32) (m : FVec F S256x1 .f32) : FVec F S256x256 .f32 :=
  exp2 (subf s (broadcastTo S256x256 m broadcasts_S256x1_S256x256))
def smC (e : FVec F S256x256 .f32) : FVec F S256x1 .f32 :=
  shapeCast S256x1 (multiReduction .add [1] S256 e 0x00000000#32 reduces_S256x256_S256 (.inl rfl) rfl) shapeCasts_S256_S256x1
def pvC (e : FVec F S256x256 .f32) : FVec F S256x128 .f32 :=
  matmul dot_S256x256_S256x128_S256x128_1_0_0_1_n_n none (truncf .bf16 e bitsLt_bf16_f32) v (constant S256x128 .f32 0x00000000#32)

def oA : FVec F S256x128 .bf16 := outO (pvC v (exC (scC q k) (mxC (scC q k)))) (smC (exC (scC q k) (mxC (scC q k))))
def lA : FVec F S1x256x1 .f32 := outL (mxC (scC q k)) (smC (exC (scC q k) (mxC (scC q k))))
end Ctx

section Lat
variable (q : Vec F S256x128 .bf16) (k k0 k1 v v0 v1 : Vec F S2176x128 .bf16)
/-- The same against a half of all keys. -/
def scH : FVec F S256x2176 .f32 :=
  matmul dot_S256x128_S2176x128_S256x2176_1_1_0_0_n_n none (shapeCast S256x128 q shapeCasts_S256x128_S256x128) k (constant S256x2176 .f32 0x00000000#32)
def mxH (s : FVec F S256x2176 .f32) : FVec F S256x1 .f32 :=
  shapeCast S256x1 (multiReduction .maximumf [1] S256 s 0xFF800000#32 reduces_S256x2176_S256 (.inl rfl) rfl) shapeCasts_S256_S256x1
def exH (s : FVec F S256x2176 .f32) (m : FVec F S256x1 .f32) : FVec F S256x2176 .f32 :=
  exp2 (subf s (broadcastTo S256x2176 m broadcasts_S256x1_S256x2176))
def smH (e : FVec F S256x2176 .f32) : FVec F S256x1 .f32 :=
  shapeCast S256x1 (multiReduction .add [1] S256 e 0x00000000#32 reduces_S256x2176_S256 (.inl rfl) rfl) shapeCasts_S256_S256x1
def pvH (e : FVec F S256x2176 .f32) : FVec F S256x128 .f32 :=
  matmul dot_S256x2176_S2176x128_S256x128_1_0_0_1_n_n none (truncf .bf16 e bitsLt_bf16_f32) v (constant S256x128 .f32 0x00000000#32)

/-- The first half's maximum, both halves' maximum, and the factor from the one to the other. -/
def m0 : FVec F S256x1 .f32 := mxH (scH q k0)
def m1 : FVec F S256x1 .f32 := maximumf (m0 q k0) (mxH (scH q k1))
def al : FVec F S256x1 .f32 := exp2 (subf (m0 q k0) (m1 q k0 k1))
/-- The sum of weights and the weighted values over both halves. -/
def lB : FVec F S256x1 .f32 :=
  addf (mulf (smH (exH (scH q k0) (m0 q k0))) (al q k0 k1)) (smH (exH (scH q k1) (m1 q k0 k1)))
def accB : FVec F S256x128 .f32 :=
  addf (mulf (pvH v0 (exH (scH q k0) (m0 q k0))) (broadcastTo S256x128 (al q k0 k1) broadcasts_S256x1_S256x128)) (pvH v1 (exH (scH q k1) (m1 q k0 k1)))

def oB : FVec F S256x128 .bf16 := outO (accB q k0 k1 v0 v1) (lB q k0 k1)
def lgB : FVec F S1x256x1 .f32 := outL (m1 q k0 k1) (lB q k0 k1)
end Lat

/-- Head `g`'s block of the output and its log-sums, at a point that sees the context only and at one that sees all rows. -/
def headA (x0 : Vec F S256x512 .bf16) (x1 x2 : Vec F S4352x128 .bf16) (g : Fin 4) : FVec F S256x128 .bf16 := oA (cols x0 g) (ctx x1) (ctx x2)
def logA (x0 : Vec F S256x512 .bf16) (x1 : Vec F S4352x128 .bf16) (g : Fin 4) : FVec F S1x256x1 .f32 := lA (cols x0 g) (ctx x1)
def headB (x0 : Vec F S256x512 .bf16) (x1 x2 : Vec F S4352x128 .bf16) (g : Fin 4) : FVec F S256x128 .bf16 :=
  oB (cols x0 g) (half x1 0 inb_S4352x128_S2176x128_0_0) (half x1 2176 inb_S4352x128_S2176x128_2176_0)
    (half x2 0 inb_S4352x128_S2176x128_0_0) (half x2 2176 inb_S4352x128_S2176x128_2176_0)
def logB (x0 : Vec F S256x512 .bf16) (x1 : Vec F S4352x128 .bf16) (g : Fin 4) : FVec F S1x256x1 .f32 :=
  lgB (cols x0 g) (half x1 0 inb_S4352x128_S2176x128_0_0) (half x1 2176 inb_S4352x128_S2176x128_2176_0)

/-- Four blocks of 128 columns side by side, and four columns of log-sums. -/
def four (P : Fin 4 → FVec F S256x128 .bf16) : Vec F S256x512 .bf16 :=
  View.canon (Val := Elt F) (s := S256x512) (e := .bf16) [
    ⟨Rect.unit (s := S256x512) ![0, 384] S256x128.size inb_S256x512_S256x128_0_384, P 3⟩,
    ⟨Rect.unit (s := S256x512) ![0, 256] S256x128.size inb_S256x512_S256x128_0_256, P 2⟩,
    ⟨Rect.unit (s := S256x512) ![0, 128] S256x128.size inb_S256x512_S256x128_0_128, P 1⟩,
    ⟨Rect.unit (s := S256x512) ![0, 0] S256x128.size inb_S256x512_S256x128_0_0, P 0⟩]
def fourL (P : Fin 4 → FVec F S1x256x1 .f32) : Vec F S1x256x4 .f32 :=
  View.canon (Val := Elt F) (s := S1x256x4) (e := .f32) [
    ⟨Rect.unit (s := S1x256x4) ![0, 0, 3] S1x256x1.size inb_S1x256x4_S1x256x1_0_0_3, P 3⟩,
    ⟨Rect.unit (s := S1x256x4) ![0, 0, 2] S1x256x1.size inb_S1x256x4_S1x256x1_0_0_2, P 2⟩,
    ⟨Rect.unit (s := S1x256x4) ![0, 0, 1] S1x256x1.size inb_S1x256x4_S1x256x1_0_0_1, P 1⟩,
    ⟨Rect.unit (s := S1x256x4) ![0, 0, 0] S1x256x1.size inb_S1x256x4_S1x256x1_0_0_0, P 0⟩]

section Out
variable (c : Dev nD) (i : grid0.Coords) (arg2 : Memref sig .tc .vmem S256x512 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S256x512 .bf16) (harg5 : arg5.IsWhole) (arg6 : Memref sig .tc .vmem S1x256x4 .f32) (harg6 : arg6.IsWhole)
  (x0 : Vec F S256x512 .bf16) (x1 x2 : Vec F S4352x128 .bf16)

theorem outA3 (hc0 : cond0_0 i) (hc1 : ¬ cond0_1 i) : out0_A_3 c i arg2 harg2 arg3 harg3 arg4 harg4 arg5 harg5 arg6 harg6 hc0 hc1 x0 x1 x2 = four (headA x0 x1 x2) := by
  frame_out
  rfl
theorem outA4 (hc0 : cond0_0 i) (hc1 : ¬ cond0_1 i) : out0_A_4 c i arg2 harg2 arg3 harg3 arg4 harg4 arg5 harg5 arg6 harg6 hc0 hc1 x0 x1 x2 = fourL (logA x0 x1) := by
  frame_out
  rfl
theorem outB3 (hc0 : ¬ cond0_0 i) (hc1 : cond0_1 i) : out0_B_3 c i arg2 harg2 arg3 harg3 arg4 harg4 arg5 harg5 arg6 harg6 hc0 hc1 x0 x1 x2 = four (headB x0 x1 x2) := by
  frame_out
  rfl
theorem outB4 (hc0 : ¬ cond0_0 i) (hc1 : cond0_1 i) : out0_B_4 c i arg2 harg2 arg3 harg3 arg4 harg4 arg5 harg5 arg6 harg6 hc0 hc1 x0 x1 x2 = fourL (logB x0 x1) := by
  frame_out
  rfl
end Out

end Cert.Kernel9Ideal.Tile

end
-- ==== Proof.FwdVal.lean ====
/- One grid point of the attention's forward kernel over the extended reals: real formulas for what it writes, in the
   real numbers its input blocks hold. -/
module

public import proofs.«01_k».proof.Proof.FwdRow
public import proofs.«01_k».proof.Proof.FwdTile
public import proofs.«01_k».proof.Proof.TileOut

@[expose] public section

set_option maxRecDepth 16384

noncomputable section

namespace Cert.Kernel9Ideal.Tile

open Idealize.ShloMosaic Idealize.ShloMosaic.TcCoe Cert.Kernel9Ideal.Gen
open Cert.Soft (w2 lg2 pr hf cx coe_sum)
open Cert.KernelIdeal.Tile (hc hd lo hd_hc lo_hc hc_hd_lo)

theorem named_log2e : Named.named (F := Ideal) (φ := .f32) Cert.Kernel9Ideal.κ "log2e" 0x3FB8AA3B#32 = (((Real.log 2)⁻¹ : ℝ) : EReal) :=
  IdealRules.named_const.ideal_named_scalar _ _ _ _ rfl

/-- A maximum along one axis is a real where the elements are. -/
theorem multi_max_real {s t : Shape} {a : Fin s.rank} (x : FVec Ideal s .f32) (h : s.Reduces [a] t) (hn : 0 < s.size a)
    (hφ : FKind.Formats .f32) (hacc : (0xFF800000#32 : BitVec 32) = FKind.maximumf.neutral .f32 hφ)
    (hx : ∀ i, ∃ r : ℝ, x i = (r : EReal)) (j : t.Idx) : ∃ r : ℝ, multiReduction .maximumf [a] t x 0xFF800000#32 h hφ hacc j = (r : EReal) := by
  choose f hf using hx
  haveI : Nonempty (Fin (s.size a)) := ⟨⟨0, hn⟩⟩
  obtain ⟨r, hr⟩ := Cert.Soft.max_real fun k => f (h.lift j k)
  refine ⟨r, ?_⟩
  rw [Ideal.multiReduction_maximumf_single, show x ∘ h.lift j = fun k => (f (h.lift j k) : EReal) from funext fun k => hf _,
    show (FloatOps.ofBits (F := Ideal) .f32 0xFF800000#32) = (⊥ : EReal) from Cert.Soft.word_bot]
  exact hr

/-- A row's number kept as a column of one. -/
theorem col_apply (x : FVec Ideal S256 .f32) (a : Fin 256) : shapeCast S256x1 x shapeCasts_S256_S256x1 (ix2 a 0) = x (ix1 a) := by
  pointwise

theorem real_of {a b : Nat} {x : FVec Ideal ⟨2, ![a, b]⟩ .f32} {X : Fin a → Fin b → ℝ} (hx : ∀ i j, x (ix2 i j) = (X i j : EReal)) :
    ∀ i, ∃ r : ℝ, x i = (r : EReal) := fun i => ⟨X (i 0) (i 1), by rw [eq_ix2 i]; exact hx _ _⟩

/-! ## The two things stored -/

theorem outO_real {acc : FVec Ideal S256x128 .f32} {l : FVec Ideal S256x1 .f32} {A : Fin 256 → Fin 128 → ℝ} {L : Fin 256 → ℝ}
    (ha : ∀ a d, acc (ix2 a d) = (A a d : EReal)) (hl : ∀ a, l (ix2 a 0) = (L a : EReal)) (h : ∀ a, L a ≠ 0) (a : Fin 256) (d : Fin 128) :
    outO acc l (ix2 a d) = ((A a d * (1 / L a) : ℝ) : EReal) := by
  unfold outO
  pointwise
  rw [ha, hl, Cert.Soft.div_real _ _ (h a)]

theorem outL_real {m l : FVec Ideal S256x1 .f32} {M L : Fin 256 → ℝ}
    (hm : ∀ a, m (ix2 a 0) = (M a : EReal)) (hl : ∀ a, l (ix2 a 0) = (L a : EReal)) (h : ∀ a, 0 < L a) (a : Fin 256) :
    outL m l (ix3 0 a 0) = ((M a + Real.log (L a) * (Real.log 2)⁻¹ : ℝ) : EReal) := by
  unfold outL
  rw [named_log2e]
  pointwise
  rw [hm, hl, Ideal.log_coe, if_neg (not_le.2 (h a)), ← EReal.coe_mul, ← EReal.coe_add]

/-! ## 256 queries against the context -/

section Ctx
variable {q k v : Vec Ideal S256x128 .bf16} {Q K V : Fin 256 → Fin 128 → ℝ}
  (hq : ∀ a d, q (ix2 a d) = (Q a d : EReal)) (hk : ∀ a d, k (ix2 a d) = (K a d : EReal)) (hv : ∀ a d, v (ix2 a d) = (V a d : EReal))

include hq hk in
theorem scC_real (a s : Fin 256) : scC q k (ix2 a s) = ((∑ d, Q a d * K s d : ℝ) : EReal) := by
  unfold scC
  pointwise
  simp only [hq, hk, ← EReal.coe_mul, coe_sum]

theorem mxC_real {x : FVec Ideal S256x256 .f32} {X : Fin 256 → Fin 256 → ℝ} (hx : ∀ a s, x (ix2 a s) = (X a s : EReal)) :
    ∃ M : Fin 256 → ℝ, ∀ a, mxC x (ix2 a 0) = (M a : EReal) := by
  have h := multi_max_real x reduces_S256x256_S256 (by decide) (.inl rfl) rfl (real_of hx)
  choose f hf using h
  exact ⟨fun a => f (ix1 a), fun a => (col_apply _ a).trans (hf _)⟩

theorem exC_real {x : FVec Ideal S256x256 .f32} {m : FVec Ideal S256x1 .f32} {X : Fin 256 → Fin 256 → ℝ} {M : Fin 256 → ℝ}
    (hx : ∀ a s, x (ix2 a s) = (X a s : EReal)) (hm : ∀ a, m (ix2 a 0) = (M a : EReal)) (a s : Fin 256) :
    exC x m (ix2 a s) = ((w2 (X a) (M a) s : ℝ) : EReal) := by
  unfold exC
  pointwise
  simp only [hx, hm, ← EReal.coe_sub, Ideal.exp2_coe]
  rfl

theorem smC_real {x : FVec Ideal S256x256 .f32} {X : Fin 256 → Fin 256 → ℝ} (hx : ∀ a s, x (ix2 a s) = (X a s : EReal)) (a : Fin 256) :
    smC x (ix2 a 0) = ((∑ s, X a s : ℝ) : EReal) := by
  unfold smC
  pointwise
  simp only [hx, coe_sum]

include hv in
theorem pvC_real {x : FVec Ideal S256x256 .f32} {X : Fin 256 → Fin 256 → ℝ} (hx : ∀ a s, x (ix2 a s) = (X a s : EReal)) (a : Fin 256)
    (d : Fin 128) : pvC v x (ix2 a d) = ((∑ s, X a s * V s d : ℝ) : EReal) := by
  unfold pvC
  pointwise
  simp only [hx, hv, ← EReal.coe_mul, coe_sum]

include hq hk hv in
theorem oA_real (a : Fin 256) (d : Fin 128) :
    oA q k v (ix2 a d) = ((∑ s, V s d * pr (fun s => (∑ e, Q a e * K s e) * Real.log 2) s : ℝ) : EReal) := by
  have hs := scC_real hq hk
  obtain ⟨M, hM⟩ := mxC_real hs
  have he := exC_real hs hM
  refine (outO_real (pvC_real hv he) (smC_real he) (fun a => (Cert.Soft.sum_w2_pos _ _).ne') a d).trans (congrArg _ ?_)
  exact Cert.Soft.mean_w2 _ (fun s => V s d) (M a)

include hq hk in
theorem lA_real (a : Fin 256) : lA q k (ix3 0 a 0) = ((lg2 (fun s => (∑ e, Q a e * K s e) * Real.log 2) : ℝ) : EReal) := by
  have hs := scC_real hq hk
  obtain ⟨M, hM⟩ := mxC_real hs
  have he := exC_real hs hM
  exact (outL_real hM (smC_real he) (fun a => Cert.Soft.sum_w2_pos _ _) a).trans (congrArg _ (Cert.Soft.lg2_w2 _ (M a)))
end Ctx

/-! ## 256 queries against the two halves of all rows -/

section Lat
variable {q : Vec Ideal S256x128 .bf16} {k k0 k1 v v0 v1 : Vec Ideal S2176x128 .bf16} {Q : Fin 256 → Fin 128 → ℝ} {K V : Fin 2176 → Fin 128 → ℝ}

theorem scH_real (hq : ∀ a d, q (ix2 a d) = (Q a d : EReal)) (hk : ∀ a d, k (ix2 a d) = (K a d : EReal)) (a : Fin 256) (s : Fin 2176) :
    scH q k (ix2 a s) = ((∑ d, Q a d * K s d : ℝ) : EReal) := by
  unfold scH
  pointwise
  simp only [hq, hk, ← EReal.coe_mul, coe_sum]

theorem mxH_real {x : FVec Ideal S256x2176 .f32} {X : Fin 256 → Fin 2176 → ℝ} (hx : ∀ a s, x (ix2 a s) = (X a s : EReal)) :
    ∃ M : Fin 256 → ℝ, ∀ a, mxH x (ix2 a 0) = (M a : EReal) := by
  have h := multi_max_real x reduces_S256x2176_S256 (by decide) (.inl rfl) rfl (real_of hx)
  choose f hf using h
  exact ⟨fun a => f (ix1 a), fun a => (col_apply _ a).trans (hf _)⟩

theorem exH_real {x : FVec Ideal S256x2176 .f32} {m : FVec Ideal S256x1 .f32} {X : Fin 256 → Fin 2176 → ℝ} {M : Fin 256 → ℝ}
    (hx : ∀ a s, x (ix2 a s) = (X a s : EReal)) (hm : ∀ a, m (ix2 a 0) = (M a : EReal)) (a : Fin 256) (s : Fin 2176) :
    exH x m (ix2 a s) = ((w2 (X a) (M a) s : ℝ) : EReal) := by
  unfold exH
  pointwise
  simp only [hx, hm, ← EReal.coe_sub, Ideal.exp2_coe]
  rfl

theorem smH_real {x : FVec Ideal S256x2176 .f32} {X : Fin 256 → Fin 2176 → ℝ} (hx : ∀ a s, x (ix2 a s) = (X a s : EReal)) (a : Fin 256) :
    smH x (ix2 a 0) = ((∑ s, X a s : ℝ) : EReal) := by
  unfold smH
  pointwise
  simp only [hx, coe_sum]

theorem pvH_real (hv : ∀ a d, v (ix2 a d) = (V a d : EReal)) {x : FVec Ideal S256x2176 .f32} {X : Fin 256 → Fin 2176 → ℝ}
    (hx : ∀ a s, x (ix2 a s) = (X a s : EReal)) (a : Fin 256) (d : Fin 128) : pvH v x (ix2 a d) = ((∑ s, X a s * V s d : ℝ) : EReal) := by
  unfold pvH
  pointwise
  simp only [hx, hv, ← EReal.coe_mul, coe_sum]

variable {K V : Fin 4352 → Fin 128 → ℝ} (hq : ∀ a d, q (ix2 a d) = (Q a d : EReal))
  (hk0 : ∀ a d, k0 (ix2 a d) = (K (hf 0 a) d : EReal)) (hk1 : ∀ a d, k1 (ix2 a d) = (K (hf 1 a) d : EReal))
  (hv0 : ∀ a d, v0 (ix2 a d) = (V (hf 0 a) d : EReal)) (hv1 : ∀ a d, v1 (ix2 a d) = (V (hf 1 a) d : EReal))

include hq hk0 hk1 in
/-- The two maxima and the factor between them. -/
theorem max_halves : ∃ M N : Fin 256 → ℝ, (∀ a, m0 q k0 (ix2 a 0) = (M a : EReal)) ∧ (∀ a, m1 q k0 k1 (ix2 a 0) = (N a : EReal))
    ∧ ∀ a, al q k0 k1 (ix2 a 0) = ((Real.rpow 2 (M a - N a) : ℝ) : EReal) := by
  obtain ⟨M, hM⟩ := mxH_real (scH_real hq hk0)
  obtain ⟨M', hM'⟩ := mxH_real (scH_real hq hk1)
  have h0 : ∀ a, m0 q k0 (ix2 a 0) = (M a : EReal) := hM
  have h1 : ∀ a, m1 q k0 k1 (ix2 a 0) = ((max (M a) (M' a) : ℝ) : EReal) := fun a => by
    unfold m1
    show max (m0 q k0 (ix2 a 0)) (mxH (scH q k1) (ix2 a 0)) = _
    rw [h0, hM']
    exact EReal.coe_strictMono.monotone.map_max.symm
  refine ⟨M, _, h0, h1, fun a => ?_⟩
  unfold al
  pointwise
  rw [h0, h1, ← EReal.coe_sub]
  rfl

include hq hk0 hk1 hv0 hv1 in
theorem oB_real (a : Fin 256) (d : Fin 128) :
    oB q k0 k1 v0 v1 (ix2 a d) = ((∑ s, V s d * pr (fun s => (∑ e, Q a e * K s e) * Real.log 2) s : ℝ) : EReal) := by
  obtain ⟨M, N, hM, hN, hal⟩ := max_halves hq hk0 hk1
  have e0 := exH_real (scH_real hq hk0) hM
  have e1 := exH_real (scH_real hq hk1) hN
  have hl : ∀ a, lB q k0 k1 (ix2 a 0) = ((∑ s, w2 (fun s => ∑ e, Q a e * K s e) (N a) s : ℝ) : EReal) := fun a => by
    unfold lB
    pointwise
    rw [smH_real e0, smH_real e1, hal, ← EReal.coe_mul, ← EReal.coe_add]
    have := Cert.Soft.sum_halves (fun s => ∑ e, Q a e * K s e) (fun _ => 1) (M a) (N a)
    simp only [mul_one] at this
    exact congrArg _ this
  have hacc : ∀ a d, accB q k0 k1 v0 v1 (ix2 a d) = ((∑ s, w2 (fun s => ∑ e, Q a e * K s e) (N a) s * V s d : ℝ) : EReal) := fun a d => by
    unfold accB
    pointwise
    rw [pvH_real hv0 e0, pvH_real hv1 e1, hal, ← EReal.coe_mul, ← EReal.coe_add]
    exact congrArg _ (Cert.Soft.sum_halves (fun s => ∑ e, Q a e * K s e) (fun s => V s d) (M a) (N a))
  refine (outO_real hacc hl (fun a => (Cert.Soft.sum_w2_pos _ _).ne') a d).trans (congrArg _ ?_)
  exact Cert.Soft.mean_w2 _ (fun s => V s d) (N a)

include hq hk0 hk1 in
theorem lgB_real (a : Fin 256) : lgB q k0 k1 (ix3 0 a 0) = ((lg2 (fun s => (∑ e, Q a e * K s e) * Real.log 2) : ℝ) : EReal) := by
  obtain ⟨M, N, hM, hN, hal⟩ := max_halves hq hk0 hk1
  have e0 := exH_real (scH_real hq hk0) hM
  have e1 := exH_real (scH_real hq hk1) hN
  have hl : ∀ a, lB q k0 k1 (ix2 a 0) = ((∑ s, w2 (fun s => ∑ e, Q a e * K s e) (N a) s : ℝ) : EReal) := fun a => by
    unfold lB
    pointwise
    rw [smH_real e0, smH_real e1, hal, ← EReal.coe_mul, ← EReal.coe_add]
    have := Cert.Soft.sum_halves (fun s => ∑ e, Q a e * K s e) (fun _ => 1) (M a) (N a)
    simp only [mul_one] at this
    exact congrArg _ this
  exact (outL_real hN hl (fun a => Cert.Soft.sum_w2_pos _ _) a).trans (congrArg _ (Cert.Soft.lg2_w2 _ (N a)))
end Lat

/-! ## Whole windows -/

theorem four_apply (P : Fin 4 → FVec Ideal S256x128 .bf16) (a : Fin 256) (c : Fin 512) : four P (ix2 a c) = P (hd c) (ix2 a (lo c)) := by
  unfold four
  refine View.canon_apply_of_pieces (Val := Elt Ideal) (S := S256x512) (e := .bf16)
    (fun y => P (hd (y 1)) (ix2 (y 0) (lo (y 1)))) _ ?_ (ix2 a c) ?_
  · have one : ∀ (g : Fin 4) (h : ℕ) (eh : h = 128 * g.val) (inh), ∀ x : S256x128.Idx,
        P g x = (fun y : S256x512.Idx => P (hd (y 1)) (ix2 (y 0) (lo (y 1))))
          ((Rect.unit (s := S256x512) ![0, h] S256x128.size inh).emb x) := by
      intro g h eh inh x
      idx_vars x
      erw [Cert.KernelIdeal.Tile.emb_cols g h eh inh]
      show _ = P (hd (hc g x1)) (ix2 x0 (lo (hc g x1)))
      rw [hd_hc, lo_hc]
    simp only [List.forall_mem_cons]
    exact ⟨one 3 384 rfl _, one 2 256 rfl _, one 1 128 rfl _, one 0 0 rfl _, fun p hp => absurd hp List.not_mem_nil⟩
  · refine View.cover_of_tiledL (s := S256x512) _ S256x128.size ?_ _
    rfl

theorem emb_log (g : Fin 4) (h : ℕ) (eh : h = g.val) (inh) (a : Fin 256) :
    (Rect.unit (s := S1x256x4) ![0, 0, h] S1x256x1.size inh).emb (ix3 0 a 0) = ix3 0 a g := by
  subst eh
  funext b
  fin_cases b
  · exact Fin.ext rfl
  · exact Fin.ext (by show 0 + 1 * a.val = a.val; omega)
  · exact Fin.ext (by show g.val + 1 * 0 = g.val; omega)

theorem fourL_apply (P : Fin 4 → FVec Ideal S1x256x1 .f32) (a : Fin 256) (g : Fin 4) : fourL P (ix3 0 a g) = P g (ix3 0 a 0) := by
  unfold fourL
  refine View.canon_apply_of_pieces (Val := Elt Ideal) (S := S1x256x4) (e := .f32)
    (fun y => P (y 2) (ix3 0 (y 1) 0)) _ ?_ (ix3 0 a g) ?_
  · have one : ∀ (g : Fin 4) (h : ℕ) (eh : h = g.val) (inh), ∀ x : S1x256x1.Idx,
        P g x = (fun y : S1x256x4.Idx => P (y 2) (ix3 0 (y 1) 0)) ((Rect.unit (s := S1x256x4) ![0, 0, h] S1x256x1.size inh).emb x) := by
      intro g h eh inh x
      have ex : x = ix3 (0 : Fin 1) (x 1 : Fin 256) (0 : Fin 1) := by
        rw [eq_ix3 x]
        congr 1
        · exact Subsingleton.elim (α := Fin 1) _ _
        · exact Subsingleton.elim (α := Fin 1) _ _
      rw [ex]
      erw [emb_log g h eh inh]
      rfl
    simp only [List.forall_mem_cons]
    exact ⟨one 3 3 rfl _, one 2 2 rfl _, one 1 1 rfl _, one 0 0 rfl _, fun p hp => absurd hp List.not_mem_nil⟩
  · refine View.cover_of_tiledL (s := S1x256x4) _ S1x256x1.size ?_ _
    rfl

section Win
variable {x0 : Vec Ideal S256x512 .bf16} {x1 x2 : Vec Ideal S4352x128 .bf16} {X0 : Fin 256 → Fin 512 → ℝ} {X1 X2 : Fin 4352 → Fin 128 → ℝ}
  (h0 : ∀ a d, x0 (ix2 a d) = (X0 a d : EReal)) (h1 : ∀ a d, x1 (ix2 a d) = (X1 a d : EReal)) (h2 : ∀ a d, x2 (ix2 a d) = (X2 a d : EReal))

include h0 in
theorem cols_real (g : Fin 4) (a : Fin 256) (d : Fin 128) : cols x0 g (ix2 a d) = (X0 a (hc g d) : EReal) := by
  unfold cols
  pointwise
  exact h0 _ _

theorem ctx_real {x : Vec Ideal S4352x128 .bf16} {X : Fin 4352 → Fin 128 → ℝ} (h : ∀ a d, x (ix2 a d) = (X a d : EReal)) (a : Fin 256) (d : Fin 128) :
    ctx x (ix2 a d) = (X (cx a) d : EReal) := by
  unfold ctx
  pointwise
  exact h _ _

theorem half_real {x : Vec Ideal S4352x128 .bf16} {X : Fin 4352 → Fin 128 → ℝ} (h : ∀ a d, x (ix2 a d) = (X a d : EReal)) (j : Fin 2) (o : ℕ)
    (eo : o = 2176 * j.val) (inb) (a : Fin 2176) (d : Fin 128) : half x o inb (ix2 a d) = (X (hf j a) d : EReal) := by
  subst eo
  unfold half
  pointwise
  exact h _ _

variable (X0 X1) in
/-- The score of key `s` for query `a` of head `g`. -/
def tS (g : Fin 4) (a : Fin 256) (s : Fin 4352) : ℝ := (∑ e, X0 a (hc g e) * X1 s e) * Real.log 2

include h0 h1 h2 in
theorem headA_real (a : Fin 256) (c : Fin 512) : four (headA x0 x1 x2) (ix2 a c)
    = ((∑ s, X2 (cx s) (lo c) * pr (fun s => tS X0 X1 (hd c) a (cx s)) s : ℝ) : EReal) := by
  rw [four_apply]
  exact oA_real (cols_real h0 (hd c)) (ctx_real h1) (ctx_real h2) a (lo c)
include h0 h1 in
theorem logA_real (a : Fin 256) (g : Fin 4) : fourL (logA x0 x1) (ix3 0 a g) = ((lg2 (fun s => tS X0 X1 g a (cx s)) : ℝ) : EReal) := by
  rw [fourL_apply]
  exact lA_real (cols_real h0 g) (ctx_real h1) a
include h0 h1 h2 in
theorem headB_real (a : Fin 256) (c : Fin 512) : four (headB x0 x1 x2) (ix2 a c)
    = ((∑ s, X2 s (lo c) * pr (fun s => tS X0 X1 (hd c) a s) s : ℝ) : EReal) := by
  rw [four_apply]
  exact oB_real (cols_real h0 (hd c)) (half_real h1 0 0 rfl _) (half_real h1 1 2176 rfl _) (half_real h2 0 0 rfl _) (half_real h2 1 2176 rfl _) a (lo c)
include h0 h1 in
theorem logB_real (a : Fin 256) (g : Fin 4) : fourL (logB x0 x1) (ix3 0 a g) = ((lg2 (fun s => tS X0 X1 g a s) : ℝ) : EReal) := by
  rw [fourL_apply]
  exact lgB_real (cols_real h0 g) (half_real h1 0 0 rfl _) (half_real h1 1 2176 rfl _) a
end Win

end Cert.Kernel9Ideal.Tile

end
-- ==== Proof.FwdArr.lean ====
/- The attention's forward kernel's two results as arrays: real formulas in the arrays it is launched on. -/
module

public import proofs.«01_k».proof.Proof.FwdVal
public import proofs.«01_k».proof.Proof.Gen.Kernel9Ideal.Value

@[expose] public section

set_option maxRecDepth 16384

noncomputable section

namespace Cert.Kernel9Ideal.Tile

open Idealize.ShloMosaic Idealize.ShloMosaic.TcCoe Cert.Kernel9Ideal.Gen
open Idealize.ShloMosaic.Pipeline (Dat Cfg Window)
open Cert.Soft (lg2 pr cx qc kc nq gq dq vc)
open Cert.KernelIdeal.Tile (hc hd lo)

variable (m : (ℓ : Loc nD τ sig) → Buf (Elt Ideal) ℓ) (c : Dev nD)

theorem idx_all : ∀ t : Fin grid0.N,
    win0_0.index t = ![t.val % 17, t.val / 17] ∧ win0_1.index t = ![0, t.val / 17]
    ∧ win0_2.index t = ![0, 98 + t.val / 17] ∧ win0_3.index t = ![t.val % 17, t.val / 17]
    ∧ win0_4.index t = ![t.val / 17, t.val % 17, 0] := by decide +kernel

theorem t_lt (t : Fin cfg0.N) : t.val < 34 := t.isLt

/-- Row `a` of the query block of grid point `t`. -/
def qrow (t : Fin cfg0.N) (a : Fin 256) : Fin 4352 := ⟨256 * (t.val % 17) + a.val, by omega⟩
/-- Column `d` of its four heads. -/
def qcol (t : Fin cfg0.N) (d : Fin 512) : Fin 1024 := ⟨512 * (t.val / 17) + d.val, by have := t_lt t; omega⟩
/-- Column `d` of its key head. -/
def kcol (t : Fin cfg0.N) (d : Fin 128) : Fin 256 := ⟨128 * (t.val / 17) + d.val, by have := t_lt t; omega⟩
/-- Its key head. -/
def kvh (t : Fin cfg0.N) : Fin 2 := ⟨t.val / 17, by have := t_lt t; omega⟩

theorem blk0 (t : Fin cfg0.N) (a : Fin 256) (d : Fin 512) :
    iblk m c 0 t (ix2 a d) = V m c main_v5 (ix2 (qrow t a) (qcol t d)) := by
  obtain ⟨e, -⟩ := idx_all t
  blk_ext [iblk, qrow, qcol, e]
theorem blk1 (t : Fin cfg0.N) (a : Fin 4352) (d : Fin 128) :
    iblk m c 1 t (ix2 a d) = V m c main_arg1 (ix2 a (kcol t d)) := by
  obtain ⟨-, e, -⟩ := idx_all t
  blk_ext [iblk, kcol, e]
theorem blk2 (t : Fin cfg0.N) (a : Fin 4352) (d : Fin 128) :
    iblk m c 2 t (ix2 a d) = V m c main_arg2 (ix2 a (vc (kcol t d))) := by
  obtain ⟨-, -, e, -⟩ := idx_all t
  blk_ext [iblk, kcol, e] <;> simp only [vc] <;> omega

section Real
variable (Q : Fin 4352 → Fin 1024 → ℝ) (K W : Fin 4352 → Fin 256 → ℝ)

/-- The score of key `s` for query `r` of head `n, g`. -/
def gs (n : Fin 2) (g : Fin 4) (r s : Fin 4352) : ℝ := (∑ d, Q r (qc n g d) * K s (kc n d)) * Real.log 2
/-- The output: a context row sees the context only. -/
def gO (r : Fin 4352) (j : Fin 1024) : ℝ :=
  if r.val < 256 then ∑ s : Fin 256, W (cx s) (kc (nq j) (dq j)) * pr (fun s => gs Q K (nq j) (gq j) r (cx s)) s
  else ∑ s : Fin 4352, W s (kc (nq j) (dq j)) * pr (fun s => gs Q K (nq j) (gq j) r s) s
/-- The logarithms of the sums. -/
def gL (n : Fin 2) (r : Fin 4352) (g : Fin 4) : ℝ :=
  if r.val < 256 then lg2 (fun s => gs Q K n g r (cx s)) else lg2 (fun s => gs Q K n g r s)
end Real

theorem qcol_hc (t : Fin cfg0.N) (g : Fin 4) (d : Fin 128) : qcol t (hc g d) = qc (kvh t) g d :=
  Fin.ext (by show 512 * (t.val / 17) + (128 * g.val + d.val) = t.val / 17 * 512 + g.val * 128 + d.val; omega)
theorem kcol_eq (t : Fin cfg0.N) (d : Fin 128) : kcol t d = kc (kvh t) d :=
  Fin.ext (by show 128 * (t.val / 17) + d.val = t.val / 17 * 128 + d.val; omega)

section Arr
variable {m : (ℓ : Loc nD τ sig) → Buf (Elt Ideal) ℓ} {c : Dev nD} {Q : Fin 4352 → Fin 1024 → ℝ} {K W : Fin 4352 → Fin 256 → ℝ}

theorem tS_eq (t : Fin cfg0.N) (g : Fin 4) (a : Fin 256) (s : Fin 4352) :
    tS (fun a d => Q (qrow t a) (qcol t d)) (fun s d => K s (kcol t d)) g a s = gs Q K (kvh t) g (qrow t a) s := by
  unfold tS gs
  simp only [qcol_hc, kcol_eq]

variable (hQ : ∀ r j, V m c main_v5 (ix2 r j) = (Q r j : EReal)) (hK : ∀ s j, V m c main_arg1 (ix2 s j) = (K s j : EReal))
  (hW : ∀ s (j : Fin 256), V m c main_arg2 (ix2 s (vc j)) = (W s j : EReal))
include hQ hK hW

set_option maxHeartbeats 4000000 in
theorem pt (t : Fin cfg0.N) :
    (∀ a d, (outsAt0 m c t.val t.isLt).1 (ix2 a d) = ((gO Q K W (qrow t a) (qcol t d) : ℝ) : EReal))
    ∧ ∀ a g, (outsAt0 m c t.val t.isLt).2 (ix3 0 a g) = ((gL Q K (kvh t) (qrow t a) g : ℝ) : EReal) := by
  have h0 : ∀ a d, iblk m c 0 t (ix2 a d) = ((Q (qrow t a) (qcol t d) : ℝ) : EReal) := fun a d => (blk0 m c t a d).trans (hQ _ _)
  have h1 : ∀ a d, iblk m c 1 t (ix2 a d) = ((K a (kcol t d) : ℝ) : EReal) := fun a d => (blk1 m c t a d).trans (hK _ _)
  have h2 : ∀ a d, iblk m c 2 t (ix2 a d) = ((W a (kcol t d) : ℝ) : EReal) := fun a d => (blk2 m c t a d).trans (hW _ _)
  have en : ∀ d, nq (qcol t d) = kvh t := fun d => Fin.ext (by show (512 * (t.val / 17) + d.val) / 512 = t.val / 17; omega)
  have eg : ∀ d, gq (qcol t d) = hd d := fun d => Fin.ext (by show (512 * (t.val / 17) + d.val) / 128 % 4 = d.val / 128; omega)
  have ed : ∀ d, dq (qcol t d) = lo d := fun d => Fin.ext (by show (512 * (t.val / 17) + d.val) % 128 = d.val % 128; omega)
  by_cases h : t.val % 17 = 0
  · have hr : ∀ a, (qrow t a).val < 256 := fun a => by show 256 * (t.val % 17) + a.val < 256; omega
    rw [outsAt0_A m c t h (by omega)]
    dsimp only
    rw [outA3, outA4]
    refine ⟨fun a d => (headA_real h0 h1 h2 a d).trans (congrArg _ ?_), fun a g => (logA_real h0 h1 a g).trans (congrArg _ ?_)⟩
    · unfold gO
      rw [if_pos (hr a), en, eg, ed]
      simp only [tS_eq]
      simp only [kcol_eq]
    · unfold gL
      rw [if_pos (hr a)]
      simp only [tS_eq]
  · have hr : ∀ a, ¬(qrow t a).val < 256 := fun a => by show ¬(256 * (t.val % 17) + a.val < 256); omega
    rw [outsAt0_B m c t h (by omega)]
    dsimp only
    rw [outB3, outB4]
    refine ⟨fun a d => (headB_real h0 h1 h2 a d).trans (congrArg _ ?_), fun a g => (logB_real h0 h1 a g).trans (congrArg _ ?_)⟩
    · unfold gO
      rw [if_neg (hr a), en, eg, ed]
      simp only [tS_eq]
      simp only [kcol_eq]
    · unfold gL
      rw [if_neg (hr a)]
      simp only [tS_eq]

/-- The attention's output, as the kernel leaves it. -/
theorem arr3 : (dats m 0 c).arrAt 3 cfg0.N = fun j : S4352x1024.Idx => ((gO Q K W (j 0) (j 1) : ℝ) : EReal) := by
  refine (dats m 0 c).arrAt_eq_of_covers 3 _ (by decide +kernel) fun t hf y => ?_
  have e : win0_3.index t = ![t.val % 17, t.val / 17] := (idx_all t).2.2.2.1
  blk_simp
  rw [after0_3]
  have e0 : ((win0_3.blk t).view.emb y 0 : Fin 4352) = qrow t (y 0) := by
    refine Fin.ext ?_
    blk_simp [e]
    exact congrArg (· + _) (Nat.mul_comm _ _)
  have e1 : ((win0_3.blk t).view.emb y 1 : Fin 1024) = qcol t (y 1) := by
    refine Fin.ext ?_
    blk_simp [e]
    exact congrArg (· + _) (Nat.mul_comm _ _)
  rw [e0, e1]
  exact (congrArg _ (eq_ix2 y)).trans ((pt hQ hK hW t).1 (y 0) (y 1))

/-- The logarithms of its sums. -/
theorem arr4 : (dats m 0 c).arrAt 4 cfg0.N = fun j : S2x4352x4.Idx => ((gL Q K (j 0) (j 1) (j 2) : ℝ) : EReal) := by
  refine (dats m 0 c).arrAt_eq_of_covers 4 _ (by decide +kernel) fun t hf y => ?_
  have e : win0_4.index t = ![t.val / 17, t.val % 17, 0] := (idx_all t).2.2.2.2
  have y0 : @Eq (Fin 1) (y 0) 0 := Subsingleton.elim (α := Fin 1) _ _
  blk_simp
  rw [after0_4]
  have e0 : ((win0_4.blk t).view.emb y 0 : Fin 2) = kvh t := by
    refine Fin.ext ?_
    blk_simp [e]
    have := congrArg Fin.val y0
    simp only [kvh]
  have e1 : ((win0_4.blk t).view.emb y 1 : Fin 4352) = qrow t (y 1) := by
    refine Fin.ext ?_
    blk_simp [e]
    exact congrArg (· + _) (Nat.mul_comm _ _)
  have e2 : ((win0_4.blk t).view.emb y 2 : Fin 4) = y 2 := by
    refine Fin.ext ?_
    blk_simp [e]
  rw [e0, e1, e2]
  refine (congrArg _ ((eq_ix3 y).trans ?_)).trans ((pt hQ hK hW t).2 (y 1) (y 2))
  exact congrArg (fun i : Fin 1 => (ix3 i (y 1 : Fin 256) (y 2 : Fin 4) : S1x256x4.Idx)) y0
end Arr

end Cert.Kernel9Ideal.Tile

end
-- ==== Proof.FwdRef.lean ====
/- The reference's attention and the logarithms of its sums, over the extended reals. -/
module

public import proofs.«01_k».proof.Proof.Host
public import proofs.«01_k».proof.Proof.FwdRow
public import proofs.«01_k».proof.Proof.Gen.Reference9Ideal.Run

@[expose] public section

set_option maxRecDepth 16384

noncomputable section

namespace Cert.Reference9Ideal

open Idealize.ShloMosaic Idealize.ShloMosaic.TcCoe Cert.Soft
open Cert.Reference9Ideal.Gen
open Cert.Reference9Ideal.Value (res_main_v60 res_main_v61)

abbrev Mem : Type := (ℓ : Loc nD τ sig) → Buf (Elt Ideal) ℓ

/-- The arguments. -/
def a0 (m : Mem) (c : Dev nD) : Vec Ideal S4352x1024 .f32 := m ((c.tc : Thread nD τ).loc main_arg0)
def a1 (m : Mem) (c : Dev nD) : Vec Ideal S4352x256 .bf16 := m ((c.tc : Thread nD τ).loc main_arg1)
def a2 (m : Mem) (c : Dev nD) : Vec Ideal S4352x13312 .bf16 := m ((c.tc : Thread nD τ).loc main_arg2)

/-- The exponentials, the attention and the log-sums of the latent rows and of the context's. -/
def exL (m : Mem) (c : Dev nD) := Cert.KernelIdeal.HLat.ev (Cert.KernelIdeal.HLat.sv (Cert.KernelIdeal.HLat.kv (a1 m c)) (Cert.KernelIdeal.HLat.qv (a0 m c))) (Cert.KernelIdeal.HLat.mv (Cert.KernelIdeal.HLat.sv (Cert.KernelIdeal.HLat.kv (a1 m c)) (Cert.KernelIdeal.HLat.qv (a0 m c))))
def oL (m : Mem) (c : Dev nD) : FVec Ideal S4096x1024 .f32 := Cert.KernelIdeal.HLat.ov (Cert.KernelIdeal.HLat.vv (a2 m c)) (exL m c) (Cert.KernelIdeal.HLat.zv (exL m c))
def lL (m : Mem) (c : Dev nD) : FVec Ideal S2x4096x4 .f32 := Cert.KernelIdeal.HLat.lv (Cert.KernelIdeal.HLat.mv (Cert.KernelIdeal.HLat.sv (Cert.KernelIdeal.HLat.kv (a1 m c)) (Cert.KernelIdeal.HLat.qv (a0 m c)))) (Cert.KernelIdeal.HLat.zv (exL m c))
def exC (m : Mem) (c : Dev nD) := Cert.KernelIdeal.HCtx.ev (Cert.KernelIdeal.HCtx.sv (Cert.KernelIdeal.HCtx.kv (a1 m c)) (Cert.KernelIdeal.HCtx.qv (a0 m c))) (Cert.KernelIdeal.HCtx.mv (Cert.KernelIdeal.HCtx.sv (Cert.KernelIdeal.HCtx.kv (a1 m c)) (Cert.KernelIdeal.HCtx.qv (a0 m c))))
def oC (m : Mem) (c : Dev nD) : FVec Ideal S256x1024 .f32 := Cert.KernelIdeal.HCtx.ov (Cert.KernelIdeal.HCtx.vv (a2 m c)) (exC m c) (Cert.KernelIdeal.HCtx.zv (exC m c))
def lC (m : Mem) (c : Dev nD) : FVec Ideal S2x256x4 .f32 := Cert.KernelIdeal.HCtx.lv (Cert.KernelIdeal.HCtx.mv (Cert.KernelIdeal.HCtx.sv (Cert.KernelIdeal.HCtx.kv (a1 m c)) (Cert.KernelIdeal.HCtx.qv (a0 m c)))) (Cert.KernelIdeal.HCtx.zv (exC m c))

theorem res_o (m : Mem) (c : Dev nD) : @Eq (FVec Ideal S4352x1024 .bf16) (res_main_v60 (F := Ideal) m c)
    <| truncf .bf16 (concatenate S4352x1024 0 [⟨S256x1024, oC m c⟩, ⟨S4096x1024, oL m c⟩] concatenates_S256x1024_S4096x1024_S4352x1024_d0) bitsLt_bf16_f32 := by
  unfold res_main_v60
  rfl
theorem res_l (m : Mem) (c : Dev nD) : @Eq (FVec Ideal S2x4352x4 .f32) (res_main_v61 (F := Ideal) m c)
    <| concatenate S2x4352x4 1 [⟨S2x256x4, lC m c⟩, ⟨S2x4096x4, lL m c⟩] concatenates_S2x256x4_S2x4096x4_S2x4352x4_d1 := by
  unfold res_main_v61
  rfl

section
variable {m : Mem} {c : Dev nD} {A0 : Fin 4352 → Fin 1024 → ℝ} {A1 A2 : Fin 4352 → Fin 256 → ℝ}
  (h0 : ∀ r j, a0 m c (ix2 r j) = (A0 r j : EReal)) (h1 : ∀ r j, a1 m c (ix2 r j) = (A1 r j : EReal))
  (h2 : ∀ r (j : Fin 256), a2 m c (ix2 r (vc j)) = (A2 r j : EReal))

include h0 h1 h2
theorem o_ctx (r : Fin 256) (j : Fin 1024) : res_main_v60 (F := Ideal) m c (ix2 (cx r) j)
    = ((att (Qr cx A0) (Kr cx A1) (Kr cx A2) (nq j) (gq j) r (dq j) : ℝ) : EReal) := by
  have h := (Cert.KernelIdeal.HCtx.fwd (Cert.KernelIdeal.HCtx.qv_real h0) (Cert.KernelIdeal.HCtx.kv_real h1) (Cert.KernelIdeal.HCtx.vv_real h2)).1 r j
  rw [res_o]
  pointwise
  have hlt : (cx r).val < 256 := r.isLt
  rw [dif_pos hlt]
  exact h
theorem o_lat (r : Fin 4096) (j : Fin 1024) : res_main_v60 (F := Ideal) m c (ix2 (lx r) j)
    = ((att (Qr lx A0) (Kr id A1) (Kr id A2) (nq j) (gq j) r (dq j) : ℝ) : EReal) := by
  have h := (Cert.KernelIdeal.HLat.fwd (Cert.KernelIdeal.HLat.qv_real h0) (Cert.KernelIdeal.HLat.kv_real h1) (Cert.KernelIdeal.HLat.vv_real h2)).1 r j
  rw [res_o]
  pointwise
  have hv : (lx r).val = 256 + r.val := rfl
  have hr := r.isLt
  rw [dif_neg (by omega)]
  have e : (⟨(lx r).val - 256, by omega⟩ : Fin 4096) = r := Fin.ext (by show (lx r).val - 256 = r.val; omega)
  exact (congrArg (fun x => oL m c (ix2 x j)) e).trans h

theorem l_ctx (n : Fin 2) (r : Fin 256) (g : Fin 4) : res_main_v61 (F := Ideal) m c (ix3 n (cx r) g)
    = ((lg2 (sc (Qr cx A0) (Kr cx A1) n g r) : ℝ) : EReal) := by
  obtain ⟨X, h⟩ := (Cert.KernelIdeal.HCtx.fwd (Cert.KernelIdeal.HCtx.qv_real h0) (Cert.KernelIdeal.HCtx.kv_real h1) (Cert.KernelIdeal.HCtx.vv_real h2)).2
  rw [res_l]
  pointwise
  have hlt : (cx r).val < 256 := r.isLt
  rw [dif_pos hlt]
  exact (h n r g).trans (congrArg _ (lg2_shift _ (X n g r)))
theorem l_lat (n : Fin 2) (r : Fin 4096) (g : Fin 4) : res_main_v61 (F := Ideal) m c (ix3 n (lx r) g)
    = ((lg2 (sc (Qr lx A0) (Kr id A1) n g r) : ℝ) : EReal) := by
  obtain ⟨X, h⟩ := (Cert.KernelIdeal.HLat.fwd (Cert.KernelIdeal.HLat.qv_real h0) (Cert.KernelIdeal.HLat.kv_real h1) (Cert.KernelIdeal.HLat.vv_real h2)).2
  rw [res_l]
  pointwise
  have hv : (lx r).val = 256 + r.val := rfl
  have hr := r.isLt
  rw [dif_neg (by omega)]
  have e : (⟨(lx r).val - 256, by omega⟩ : Fin 4096) = r := Fin.ext (by show (lx r).val - 256 = r.val; omega)
  exact ((congrArg (fun x => lL m c (ix3 n x g)) e).trans (h n r g)).trans (congrArg _ (lg2_shift _ (X n g r)))
end

end Cert.Reference9Ideal

end
-- ==== Proof.Fwd.lean ====
/- The attention's forward call: its two results are the reference's, on finite arguments. -/
module

public import proofs.«01_k».proof.Defs
public import proofs.«01_k».proof.Pre_finite9
public import proofs.«01_k».proof.Proof.Values
public import proofs.«01_k».proof.Proof.FwdArr
public import proofs.«01_k».proof.Proof.FwdRef

@[expose] public section

set_option maxRecDepth 16384

noncomputable section

namespace Cert.Pre_finite9

open Idealize.ShloMosaic Facts

/-- The predicate's side conditions. -/
theorem facts : Facts where
  bcast_S_S4352x1024 := by decide
  reducesTo_S4352x1024_S_d0_1 := by decide
  h_S_ := by decide
  bitsLt_bf16_f32 := by decide
  bcast_S_S4352x256 := by decide
  reducesTo_S4352x256_S_d0_1 := by decide
  bcast_S_S4352x13312 := by decide
  reducesTo_S4352x13312_S_d0_1 := by decide

/-- Every element of every argument is a real. -/
theorem real_args [Facts] (a0 : FVec Ideal S4352x1024 .f32) (a1 : FVec Ideal S4352x256 .bf16) (a2 : FVec Ideal S4352x13312 .bf16)
    (h : fn (F := Ideal) a0 a1 a2 = fun _ => 1#1) :
    (∀ i, ∃ r : ℝ, a0 i = (r : EReal)) ∧ (∀ i, ∃ r : ℝ, a1 i = (r : EReal)) ∧ ∀ i, ∃ r : ℝ, a2 i = (r : EReal) := by
  have j : S_.Idx := fun k => k.elim0
  have e := congrFun h j
  dsimp only [fn] at e
  obtain ⟨e, e2⟩ := IntOp.andi_eq_one.1 e
  obtain ⟨e0, e1⟩ := IntOp.andi_eq_one.1 e
  exact ⟨Cert.Pre_finite.real_of_all _ _ _ _ _ _ e0, Cert.Pre_finite.real_of_all (extf .f32 a1 bitsLt_bf16_f32) _ _ _ _ _ e1,
    Cert.Pre_finite.real_of_all (extf .f32 a2 bitsLt_bf16_f32) _ _ _ _ _ e2⟩

end Cert.Pre_finite9

namespace Cert.Kernel9Ideal

open Idealize.ShloMosaic Idealize.ShloMosaic.TcCoe Cert.Kernel9Ideal Cert.Kernel9Ideal.Gen Cert.Soft

abbrev Mem : Type := (ℓ : Loc nD τ sig) → Buf (Elt Ideal) ℓ

/-- The arguments. -/
def a0 (m : Mem) (c : Dev nD) : Vec Ideal S4352x1024 .f32 := m ((c.tc : Thread nD τ).loc main_arg0)
def a1 (m : Mem) (c : Dev nD) : Vec Ideal S4352x256 .bf16 := m ((c.tc : Thread nD τ).loc main_arg1)
def a2 (m : Mem) (c : Dev nD) : Vec Ideal S4352x13312 .bf16 := m ((c.tc : Thread nD τ).loc main_arg2)

/-- The queries the call is launched on: scaled, and divided by the logarithm of two. -/
theorem V_q (m : Mem) (c : Dev nD) : @Eq (FVec Ideal S4352x1024 .bf16) (V (F := Ideal) m c main_v5)
    (truncf .bf16 (Host.divf (mulf (a0 m c) (broadcastInDim S4352x1024 ![] bcast_S_S4352x1024 (constant S_ .f32 0x3DB504F3#32)))
        (broadcastInDim S4352x1024 ![] bcast_S_S4352x1024 (Host.log (constant S_ .f32 0x40000000#32)))) bitsLt_bf16_f32) := by
  unfold V
  after_reads_simp <;> rfl

theorem q_real {m : Mem} {c : Dev nD} {A0 : Fin 4352 → Fin 1024 → ℝ} (h0 : ∀ r j, a0 m c (ix2 r j) = (A0 r j : EReal)) (r j) :
    V (F := Ideal) m c main_v5 (ix2 r j) = ((Cert.Attn.fold A0 r j : ℝ) : EReal) := by
  rw [V_q]
  pointwise
  rw [h0, word_sigma, log_word_two, ← EReal.coe_mul, div_real _ _ log_two_ne]
  rfl

end Cert.Kernel9Ideal

namespace Cert.Attn

open Idealize.ShloMosaic Idealize.ShloMosaic.TcCoe
open Cert.Soft (cx lx vc att prob pr sc Qr Kr lg2)
open Cert.Kernel9Ideal.Tile (gs gO gL)
open Cert.Kernel9Ideal.Gen (V dats V_main_arg1 V_main_arg2)
open Cert.Kernel9Ideal (cfg0)
open Cert.Reference9Ideal.Value (res_main_v60 res_main_v61)

section
variable {A0 : Fin 4352 → Fin 1024 → ℝ} {A1 A2 : Fin 4352 → Fin 256 → ℝ}

theorem gs_eq {ι κ : Type*} (a : ι → Fin 4352) (b : κ → Fin 4352) (n g) (r : ι) (s : κ) :
    gs (fold A0) A1 n g (a r) (b s) = sc (Qr a A0) (Kr b A1) n g r s := by
  rw [← score a b n g r s]
  unfold gs
  simp only [qc_eq, kc_eq]

theorem gO_ctx (r j) : gO (fold A0) A1 A2 (cx r) j = att (Qr cx A0) (Kr cx A1) (Kr cx A2) (Cert.Soft.nq j) (Cert.Soft.gq j) r (Cert.Soft.dq j) := by
  unfold gO
  rw [if_pos (show (cx r).val < 256 from r.isLt)]
  simp only [gs_eq cx cx]
  rfl
theorem gO_lat (r j) : gO (fold A0) A1 A2 (lx r) j = att (Qr lx A0) (Kr id A1) (Kr id A2) (Cert.Soft.nq j) (Cert.Soft.gq j) r (Cert.Soft.dq j) := by
  unfold gO
  rw [if_neg (show ¬(lx r).val < 256 from fun h => absurd (show 256 + r.val < 256 from h) (by omega))]
  refine Finset.sum_congr rfl fun s _ => congrArg (_ * pr · s) (funext fun s => gs_eq lx id _ _ r s)
theorem gL_ctx (n r g) : gL (fold A0) A1 n (cx r) g = lg2 (sc (Qr cx A0) (Kr cx A1) n g r) := by
  unfold gL
  rw [if_pos (show (cx r).val < 256 from r.isLt)]
  exact congrArg lg2 (funext fun s => gs_eq cx cx _ _ r s)
theorem gL_lat (n r g) : gL (fold A0) A1 n (lx r) g = lg2 (sc (Qr lx A0) (Kr id A1) n g r) := by
  unfold gL
  rw [if_neg (show ¬(lx r).val < 256 from fun h => absurd (show 256 + r.val < 256 from h) (by omega))]
  exact congrArg lg2 (funext fun s => gs_eq lx id _ _ r s)
end

section
variable (m : Cert.Kernel9Ideal.Mem) (m' : Cert.Reference9Ideal.Mem) (c : Dev Cert.Kernel9Ideal.nD)
  (e0 : Cert.Reference9Ideal.a0 m' c = Cert.Kernel9Ideal.a0 m c) (e1 : Cert.Reference9Ideal.a1 m' c = Cert.Kernel9Ideal.a1 m c)
  (e2 : Cert.Reference9Ideal.a2 m' c = Cert.Kernel9Ideal.a2 m c)
  (r0 : ∀ i, ∃ r : ℝ, Cert.Kernel9Ideal.a0 m c i = (r : EReal)) (r1 : ∀ i, ∃ r : ℝ, Cert.Kernel9Ideal.a1 m c i = (r : EReal))
  (r2 : ∀ i, ∃ r : ℝ, Cert.Kernel9Ideal.a2 m c i = (r : EReal))

include e0 e1 e2 r0 r1 r2

set_option maxHeartbeats 4000000 in
theorem forward : (dats m 0 c).arrAt 3 cfg0.N = res_main_v60 (F := Ideal) m' c ∧ (dats m 0 c).arrAt 4 cfg0.N = res_main_v61 (F := Ideal) m' c := by
  obtain ⟨A0, h0⟩ : ∃ A0 : Fin 4352 → Fin 1024 → ℝ, ∀ r j, Cert.Kernel9Ideal.a0 m c (ix2 r j) = (A0 r j : EReal) := ⟨_, fun r j => coe_toReal_of (r0 (ix2 r j))⟩
  obtain ⟨A1, h1⟩ : ∃ A1 : Fin 4352 → Fin 256 → ℝ, ∀ r j, Cert.Kernel9Ideal.a1 m c (ix2 r j) = (A1 r j : EReal) := ⟨_, fun r j => coe_toReal_of (r1 (ix2 r j))⟩
  obtain ⟨A2, h2⟩ : ∃ A2 : Fin 4352 → Fin 256 → ℝ, ∀ r (j : Fin 256), Cert.Kernel9Ideal.a2 m c (ix2 r (vc j)) = (A2 r j : EReal) :=
    ⟨_, fun r j => coe_toReal_of (r2 (ix2 r (vc j)))⟩
  have g0 : ∀ r j, Cert.Reference9Ideal.a0 m' c (ix2 r j) = (A0 r j : EReal) := fun r j => (congrFun e0 _).trans (h0 r j)
  have g1 : ∀ r j, Cert.Reference9Ideal.a1 m' c (ix2 r j) = (A1 r j : EReal) := fun r j => (congrFun e1 _).trans (h1 r j)
  have g2 : ∀ r (j : Fin 256), Cert.Reference9Ideal.a2 m' c (ix2 r (vc j)) = (A2 r j : EReal) := fun r j => (congrFun e2 _).trans (h2 r j)
  have hQ : ∀ r j, V (F := Ideal) m c Cert.Kernel9Ideal.main_v5 (ix2 r j) = (fold A0 r j : EReal) := Cert.Kernel9Ideal.q_real h0
  have hK : ∀ r j, V (F := Ideal) m c Cert.Kernel9Ideal.main_arg1 (ix2 r j) = (A1 r j : EReal) := fun r j => (congrFun (V_main_arg1 m c) _).trans (h1 r j)
  have hW : ∀ r (j : Fin 256), V (F := Ideal) m c Cert.Kernel9Ideal.main_arg2 (ix2 r (vc j)) = (A2 r j : EReal) :=
    fun r j => (congrFun (V_main_arg2 m c) _).trans (h2 r j)
  rw [Cert.Kernel9Ideal.Tile.arr3 hQ hK hW, Cert.Kernel9Ideal.Tile.arr4 hQ hK hW]
  constructor
  · refine funext fun i => ?_
    obtain ⟨r, j, rfl⟩ : ∃ (r : Fin 4352) (j : Fin 1024), i = ix2 r j := ⟨i 0, i 1, eq_ix2 i⟩
    rcases row_cases r with ⟨r', rfl⟩ | ⟨r', rfl⟩
    · exact (congrArg (fun x : ℝ => (x : EReal)) (gO_ctx r' j)).trans (Cert.Reference9Ideal.o_ctx g0 g1 g2 r' j).symm
    · exact (congrArg (fun x : ℝ => (x : EReal)) (gO_lat r' j)).trans (Cert.Reference9Ideal.o_lat g0 g1 g2 r' j).symm
  · refine funext fun i => ?_
    obtain ⟨n, r, g, rfl⟩ : ∃ (n : Fin 2) (r : Fin 4352) (g : Fin 4), i = ix3 n r g := ⟨i 0, i 1, i 2, eq_ix3 i⟩
    rcases row_cases r with ⟨r', rfl⟩ | ⟨r', rfl⟩
    · exact (congrArg (fun x : ℝ => (x : EReal)) (gL_ctx n r' g)).trans (Cert.Reference9Ideal.l_ctx g0 g1 g2 n r' g).symm
    · exact (congrArg (fun x : ℝ => (x : EReal)) (gL_lat n r' g)).trans (Cert.Reference9Ideal.l_lat g0 g1 g2 n r' g).symm
end

end Cert.Attn

namespace Cert.Proof

open Idealize.ShloMosaic Idealize.SL.Sem

/-- On finite arguments the call leaves the attention and the base 2 logarithms of its sums. -/
theorem attention [Cert.Pre_finite9.Facts] : Cert.algebraic_Kernel9Ideal_Reference9Ideal_pre_finite9 := by
  intro m g m' g' hpre hag
  have hv := fun c : Dev Cert.Kernel9Ideal.nD =>
    have hr := Cert.Pre_finite9.real_args _ _ _ (hpre c)
    Cert.Attn.forward m m' c (hag c).1 (hag c).2.1 (hag c).2.2 hr.1 hr.2.1 hr.2.2
  refine ⟨fun c => Cert.Reference9Ideal.Value.res_main_v60 (F := Ideal) m' c, fun c => Cert.Reference9Ideal.Value.res_main_v61 (F := Ideal) m' c, ?_,
    Cert.Reference9Ideal.Value.run (F := Ideal) m' g'⟩
  refine (θ_run Cert.Kernel9Ideal.defs _ _).mono (fun r h c => ?_) (Cert.Kernel9Ideal.Value.run_blocks (F := Ideal) m g)
  obtain ⟨h3, h4, hargs⟩ := h c
  exact ⟨h3.trans (hv c).1, h4.trans (hv c).2, hargs⟩

end Cert.Proof

end
-- ==== Proof.Adam.lean ====
/- The optimiser's step at one weight, over the extended reals: `mom` and `sqm` are the new moments, `step` what is added to
   the weight. The constants are the single-precision words that stand for the decay rates, the learning rate and the rest. -/
module

public import Idealize.ShloMosaic.Lib.Pipeline.ValueKit
public import Idealize.ShloMosaic.PureOps.Ideal.Laws

@[expose] public section

noncomputable section

namespace Cert.Adam

open Idealize.ShloMosaic

/-- The new first moment: nine tenths of the old one and a tenth of the gradient. -/
def mom (m g : EReal) : EReal := Ideal.ofBits .f32 0x3F666666#32 * m + Ideal.ofBits .f32 0x3DCCCCCD#32 * g

/-- The new second moment: 0.999 of the old one and a thousandth of the gradient's square. -/
def sqm (v g : EReal) : EReal := Ideal.ofBits .f32 0x3F7FBE77#32 * v + Ideal.ofBits .f32 0x3A83126F#32 * (g * g)

/-- What is added to a weight `w` whose new moments are `m` and `v`. -/
def step (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32)
    + Ideal.ofBits .f32 0x3C23D70A#32 * w)

/-- The step with the new moments written out. -/
def delta (w m v g : EReal) : EReal := step w (mom m g) (sqm v g)

/-- Four parts added one after the other. -/
theorem sum_four (f : Fin 4 → EReal) : f 0 + f 1 + f 2 + f 3 = ∑ s, f s := (Fin.sum_univ_four f).symm

/-- Eight parts added one after the other. -/
theorem sum_eight (f : Fin 8 → EReal) : f 0 + f 1 + f 2 + f 3 + f 4 + f 5 + f 6 + f 7 = ∑ s, f s := (Fin.sum_univ_eight f).symm

end Cert.Adam

end
-- ==== Proof.Adam10.lean ====
/- The optimiser's step on the input projection's weights, first layer: four parts. A grid point's blocks of the four results, and the results. -/
module

public import proofs.«01_k».proof.Proof.Gen.Kernel10Ideal.Value
public import proofs.«01_k».proof.Proof.Adam
public import Idealize.ShloMosaic.Lib.Pipeline.ReadBack

@[expose] public section

set_option maxRecDepth 16384

noncomputable section

namespace Cert.Kernel10Ideal.Update

open Idealize.ShloMosaic Idealize.ShloMosaic.TcCoe Cert.Kernel10Ideal.Gen
open Idealize.ShloMosaic.Pipeline (Dat Cfg Window)
open Cert.Adam (mom sqm step delta)

/-- A block that is stored whole is what was stored. -/
theorem whole (p : Vec Ideal S1x1604x256 .f32) : View.canon [⟨r0_4, p⟩] = p := by
  frame_out

section
variable (x0 : Vec Ideal S4x1x1604x256 .bf16) (x1 x2 x3 : Vec Ideal S1x1604x256 .f32) (l : Fin 1) (a : Fin 1604) (b : Fin 256)

/-- The gradient's block is the sum of the parts' blocks. -/
theorem grad_block : out0_4 x0 x1 x2 x3 (ix3 l a b) = ∑ s : Fin 4, x0 (ix4 s 0 a b) := by
  unfold_out out0_4
  rw [whole]
  unfold_payloads
  pointwise
  exact Cert.Adam.sum_four fun s => x0 (ix4 s 0 a b)

theorem mom_block : out0_6 x0 x1 x2 x3 (ix3 l a b) = mom (x2 (ix3 0 a b)) (∑ s : Fin 4, x0 (ix4 s 0 a b)) := by
  rw [← grad_block x0 x1 x2 x3 l a b]
  unfold_out out0_6
  unfold_out out0_4
  rw [whole, whole]
  unfold_payloads
  pointwise
  rfl

theorem sqm_block : out0_7 x0 x1 x2 x3 (ix3 l a b) = sqm (x3 (ix3 0 a b)) (∑ s : Fin 4, x0 (ix4 s 0 a b)) := by
  rw [← grad_block x0 x1 x2 x3 l a b]
  unfold_out out0_7
  unfold_out out0_4
  rw [whole, whole]
  unfold_payloads
  pointwise
  rfl

theorem delta_block : out0_5 x0 x1 x2 x3 (ix3 l a b) = delta (x1 (ix3 0 a b)) (x2 (ix3 0 a b)) (x3 (ix3 0 a b)) (∑ s : Fin 4, x0 (ix4 s 0 a b)) := by
  unfold delta
  rw [← mom_block x0 x1 x2 x3 l a b, ← sqm_block x0 x1 x2 x3 l a b]
  unfold_out out0_5
  unfold_out out0_6
  unfold_out out0_7
  rw [whole, whole, whole]
  unfold_payloads
  pointwise
  rfl
end

/-- The sum of the parts at one weight. -/
def tot (x : Vec Ideal S4x1x1604x1024 .bf16) (l : Fin 1) (a : Fin 1604) (b : Fin 1024) : EReal := ∑ s : Fin 4, x (ix4 s l a b)

theorem idx_all : ∀ t : Fin grid0.N, win0_0.index t = ![0, 0, 0, t.val] ∧ win0_1.index t = ![0, 0, t.val] ∧ win0_2.index t = ![0, 0, t.val] ∧ win0_3.index t = ![0, 0, t.val]
    ∧ win0_4.index t = ![0, 0, t.val] ∧ win0_5.index t = ![0, 0, t.val] ∧ win0_6.index t = ![0, 0, t.val] ∧ win0_7.index t = ![0, 0, t.val] := by
  decide +kernel

theorem t_lt (t : Fin cfg0.N) : t.val < 4 := t.isLt

/-- Column `b` of the block of grid point `t`. -/
def col (t : Fin cfg0.N) (b : Fin 256) : Fin 1024 := ⟨256 * t.val + b.val, by have := t_lt t; omega⟩

variable (m : (ℓ : Loc nD τ sig) → Buf (Elt Ideal) ℓ) (c : Dev nD)

theorem blk0 (t : Fin cfg0.N) (s : Fin 4) (a : Fin 1604) (b : Fin 256) : iblk m c 0 t (ix4 s 0 a b) = V m c main_v0 (ix4 s 0 a (col t b)) := by
  obtain ⟨e, -⟩ := idx_all t
  blk_ext [iblk, col, e]
theorem blk1 (t : Fin cfg0.N) (a : Fin 1604) (b : Fin 256) : iblk m c 1 t (ix3 0 a b) = V m c main_v4 (ix3 0 a (col t b)) := by
  obtain ⟨-, e, -⟩ := idx_all t
  blk_ext [iblk, col, e]
theorem blk2 (t : Fin cfg0.N) (a : Fin 1604) (b : Fin 256) : iblk m c 2 t (ix3 0 a b) = V m c main_v8 (ix3 0 a (col t b)) := by
  obtain ⟨-, -, e, -⟩ := idx_all t
  blk_ext [iblk, col, e]
theorem blk3 (t : Fin cfg0.N) (a : Fin 1604) (b : Fin 256) : iblk m c 3 t (ix3 0 a b) = V m c main_v12 (ix3 0 a (col t b)) := by
  obtain ⟨-, -, -, e, -⟩ := idx_all t
  blk_ext [iblk, col, e]

theorem blk_tot (t : Fin cfg0.N) (a : Fin 1604) (b : Fin 256) : (∑ s : Fin 4, iblk m c 0 t (ix4 s 0 a b) : EReal) = tot (V m c main_v0) 0 a (col t b) :=
  Finset.sum_congr rfl fun s _ => blk0 m c t s a b

/-- The array of the gradient as the kernel leaves it. -/
theorem arr4 : (dats m 0 c).arrAt 4 cfg0.N = (fun j => tot (V m c main_v0) (j 0) (j 1) (j 2) : Vec Ideal S1x1604x1024 .f32) := by
  refine (dats m 0 c).arrAt_eq_of_covers 4 _ (by decide +kernel) fun t hf y => ?_
  obtain ⟨-, -, -, -, e, -⟩ := idx_all t
  blk_simp
  rw [after0_4]
  have e0 : @Eq (Fin 1) ((win0_4.blk t).view.emb y 0) 0 := Subsingleton.elim (α := Fin 1) _ _
  have e1 : ((win0_4.blk t).view.emb y 1 : Fin 1604) = y 1 := by
    refine Fin.ext ?_
    blk_simp [e]
  have e2 : ((win0_4.blk t).view.emb y 2 : Fin 1024) = col t (y 2) := by
    refine Fin.ext ?_
    blk_simp [e]
    exact congrArg (· + _) (Nat.mul_comm _ _)
  have ey : (win0_4.blk t).view.emb y = (ix3 0 (y 1) (col t (y 2))) := (eq_ix3 _).trans (by rw [e0, e1, e2]; rfl)
  rw [ey]
  exact (congrArg _ (eq_ix3 y)).trans ((grad_block _ _ _ _ (y 0) (y 1) (y 2)).trans (blk_tot m c t _ _))

/-- The array of the steps as the kernel leaves it. -/
theorem arr5 : (dats m 0 c).arrAt 5 cfg0.N = (fun j => delta (V m c main_v4 j) (V m c main_v8 j) (V m c main_v12 j) (tot (V m c main_v0) (j 0) (j 1) (j 2)) : Vec Ideal S1x1604x1024 .f32) := by
  refine (dats m 0 c).arrAt_eq_of_covers 5 _ (by decide +kernel) fun t hf y => ?_
  obtain ⟨-, -, -, -, -, e, -⟩ := idx_all t
  blk_simp
  rw [after0_5]
  have e0 : @Eq (Fin 1) ((win0_5.blk t).view.emb y 0) 0 := Subsingleton.elim (α := Fin 1) _ _
  have e1 : ((win0_5.blk t).view.emb y 1 : Fin 1604) = y 1 := by
    refine Fin.ext ?_
    blk_simp [e]
  have e2 : ((win0_5.blk t).view.emb y 2 : Fin 1024) = col t (y 2) := by
    refine Fin.ext ?_
    blk_simp [e]
    exact congrArg (· + _) (Nat.mul_comm _ _)
  have ey : (win0_5.blk t).view.emb y = (ix3 0 (y 1) (col t (y 2))) := (eq_ix3 _).trans (by rw [e0, e1, e2]; rfl)
  rw [ey]
  exact (congrArg _ (eq_ix3 y)).trans ((delta_block _ _ _ _ (y 0) (y 1) (y 2)).trans ((congrArg₂ (fun p q => delta p q _ _) (blk1 m c t _ _) (blk2 m c t _ _)).trans (congrArg₂ (fun p q => delta _ _ p q) (blk3 m c t _ _) (blk_tot m c t _ _))))

/-- The array of the first moments as the kernel leaves it. -/
theorem arr6 : (dats m 0 c).arrAt 6 cfg0.N = (fun j => mom (V m c main_v8 j) (tot (V m c main_v0) (j 0) (j 1) (j 2)) : Vec Ideal S1x1604x1024 .f32) := by
  refine (dats m 0 c).arrAt_eq_of_covers 6 _ (by decide +kernel) fun t hf y => ?_
  obtain ⟨-, -, -, -, -, -, e, -⟩ := idx_all t
  blk_simp
  rw [after0_6]
  have e0 : @Eq (Fin 1) ((win0_6.blk t).view.emb y 0) 0 := Subsingleton.elim (α := Fin 1) _ _
  have e1 : ((win0_6.blk t).view.emb y 1 : Fin 1604) = y 1 := by
    refine Fin.ext ?_
    blk_simp [e]
  have e2 : ((win0_6.blk t).view.emb y 2 : Fin 1024) = col t (y 2) := by
    refine Fin.ext ?_
    blk_simp [e]
    exact congrArg (· + _) (Nat.mul_comm _ _)
  have ey : (win0_6.blk t).view.emb y = (ix3 0 (y 1) (col t (y 2))) := (eq_ix3 _).trans (by rw [e0, e1, e2]; rfl)
  rw [ey]
  exact (congrArg _ (eq_ix3 y)).trans ((mom_block _ _ _ _ (y 0) (y 1) (y 2)).trans (congrArg₂ mom (blk2 m c t _ _) (blk_tot m c t _ _)))

/-- The array of the second moments as the kernel leaves it. -/
theorem arr7 : (dats m 0 c).arrAt 7 cfg0.N = (fun j => sqm (V m c main_v12 j) (tot (V m c main_v0) (j 0) (j 1) (j 2)) : Vec Ideal S1x1604x1024 .f32) := by
  refine (dats m 0 c).arrAt_eq_of_covers 7 _ (by decide +kernel) fun t hf y => ?_
  obtain ⟨-, -, -, -, -, -, -, e⟩ := idx_all t
  blk_simp
  rw [after0_7]
  have e0 : @Eq (Fin 1) ((win0_7.blk t).view.emb y 0) 0 := Subsingleton.elim (α := Fin 1) _ _
  have e1 : ((win0_7.blk t).view.emb y 1 : Fin 1604) = y 1 := by
    refine Fin.ext ?_
    blk_simp [e]
  have e2 : ((win0_7.blk t).view.emb y 2 : Fin 1024) = col t (y 2) := by
    refine Fin.ext ?_
    blk_simp [e]
    exact congrArg (· + _) (Nat.mul_comm _ _)
  have ey : (win0_7.blk t).view.emb y = (ix3 0 (y 1) (col t (y 2))) := (eq_ix3 _).trans (by rw [e0, e1, e2]; rfl)
  rw [ey]
  exact (congrArg _ (eq_ix3 y)).trans ((sqm_block _ _ _ _ (y 0) (y 1) (y 2)).trans (congrArg₂ sqm (blk3 m c t _ _) (blk_tot m c t _ _)))

end Cert.Kernel10Ideal.Update

end
-- ==== Proof.Step10.lean ====
module

public import proofs.«01_k».proof.Defs
public import proofs.«01_k».proof.Proof.Gen.Reference10Ideal.Run
public import proofs.«01_k».proof.Proof.Adam10
public import Idealize.ShloMosaic.Lib.StableHlo.RunRead

@[expose] public section

set_option maxRecDepth 16384

noncomputable section

namespace Cert.Kernel10Ideal.Update

open Idealize.ShloMosaic Idealize.ShloMosaic.TcCoe Cert.Kernel10Ideal.Gen
open Cert.Adam (mom sqm step delta)

section
variable (p : Vec Ideal S4x1604x1024 .bf16) (w m v : Vec Ideal S2x1024x1604 .f32)

/-- The gradient at one weight. -/
def grad (l : Fin 1) (a : Fin 1604) (b : Fin 1024) : EReal := ∑ s : Fin 4, p (ix3 s a b)

/-- The gradients. -/
def grads : Vec Ideal S1x1604x1024 .f32 := fun j => grad p (j 0) (j 1) (j 2)

/-- What is added to the weights. -/
def deltas : Vec Ideal S1x1604x1024 .f32 := fun j => delta (w (ix3 0 (j 2) (j 1))) (m (ix3 0 (j 2) (j 1))) (v (ix3 0 (j 2) (j 1))) (grad p (j 0) (j 1) (j 2))

/-- The new first moments. -/
def moms : Vec Ideal S1x1604x1024 .f32 := fun j => mom (m (ix3 0 (j 2) (j 1))) (grad p (j 0) (j 1) (j 2))

/-- The new second moments. -/
def sqms : Vec Ideal S1x1604x1024 .f32 := fun j => sqm (v (ix3 0 (j 2) (j 1))) (grad p (j 0) (j 1) (j 2))
end

section
variable (m : (ℓ : Loc nD τ sig) → Buf (Elt Ideal) ℓ) (c : Dev nD)

/-- Argument 0. -/
def a0 : Vec Ideal S4x1604x1024 .bf16 := m ((c.tc : Thread nD τ).loc main_arg0)
/-- Argument 1. -/
def a1 : Vec Ideal S2x1024x1604 .f32 := m ((c.tc : Thread nD τ).loc main_arg1)
/-- Argument 2. -/
def a2 : Vec Ideal S2x1024x1604 .f32 := m ((c.tc : Thread nD τ).loc main_arg2)
/-- Argument 3. -/
def a3 : Vec Ideal S2x1024x1604 .f32 := m ((c.tc : Thread nD τ).loc main_arg3)

theorem V_parts : @Eq (Vec Ideal S4x1x1604x1024 .bf16) (V (F := Ideal) m c main_v0)
    (broadcastInDim S4x1x1604x1024 ![0, 2, 3] bcast_S4x1604x1024_S4x1x1604x1024_0_2_3 (a0 m c)) := by
  unfold V
  after_reads_simp <;> rfl

theorem V_arg1 : @Eq (Vec Ideal S1x1604x1024 .f32) (V (F := Ideal) m c main_v4)
    (broadcastInDim S1x1604x1024 ![1, 2] bcast_S1604x1024_S1x1604x1024_1_2 (shapeCast S1604x1024 (extractStridedSlice S1604x1x1024 ![0, 0, 0]
      (transpose S1604x2x1024 [2, 0, 1] (a1 m c) transposes_S2x1024x1604_S1604x2x1024_2_0_1) slices_S1604x2x1024_S1604x1x1024_0_0_0) shapeCasts_S1604x1x1024_S1604x1024)) := by
  unfold V
  after_reads_simp <;> rfl

theorem V1_apply (l : Fin 1) (a : Fin 1604) (b : Fin 1024) : V (F := Ideal) m c main_v4 (ix3 l a b) = a1 m c (ix3 0 b a) := by
  rw [V_arg1]
  pointwise

theorem V_arg2 : @Eq (Vec Ideal S1x1604x1024 .f32) (V (F := Ideal) m c main_v8)
    (broadcastInDim S1x1604x1024 ![1, 2] bcast_S1604x1024_S1x1604x1024_1_2 (shapeCast S1604x1024 (extractStridedSlice S1604x1x1024 ![0, 0, 0]
      (transpose S1604x2x1024 [2, 0, 1] (a2 m c) transposes_S2x1024x1604_S1604x2x1024_2_0_1) slices_S1604x2x1024_S1604x1x1024_0_0_0) shapeCasts_S1604x1x1024_S1604x1024)) := by
  unfold V
  after_reads_simp <;> rfl

theorem V2_apply (l : Fin 1) (a : Fin 1604) (b : Fin 1024) : V (F := Ideal) m c main_v8 (ix3 l a b) = a2 m c (ix3 0 b a) := by
  rw [V_arg2]
  pointwise

theorem V_arg3 : @Eq (Vec Ideal S1x1604x1024 .f32) (V (F := Ideal) m c main_v12)
    (broadcastInDim S1x1604x1024 ![1, 2] bcast_S1604x1024_S1x1604x1024_1_2 (shapeCast S1604x1024 (extractStridedSlice S1604x1x1024 ![0, 0, 0]
      (transpose S1604x2x1024 [2, 0, 1] (a3 m c) transposes_S2x1024x1604_S1604x2x1024_2_0_1) slices_S1604x2x1024_S1604x1x1024_0_0_0) shapeCasts_S1604x1x1024_S1604x1024)) := by
  unfold V
  after_reads_simp <;> rfl

theorem V3_apply (l : Fin 1) (a : Fin 1604) (b : Fin 1024) : V (F := Ideal) m c main_v12 (ix3 l a b) = a3 m c (ix3 0 b a) := by
  rw [V_arg3]
  pointwise

theorem tot_eq (l : Fin 1) (a : Fin 1604) (b : Fin 1024) : tot (V (F := Ideal) m c main_v0) l a b = grad (a0 m c) l a b := by
  unfold tot grad
  rw [V_parts]
  pointwise

theorem left4 : (dats m 0 c).arrAt 4 cfg0.N = grads (a0 m c) := by
  rw [arr4]
  refine funext fun j => ?_
  rw [eq_ix3 j]
  exact tot_eq m c _ _ _

theorem left5 : (dats m 0 c).arrAt 5 cfg0.N = deltas (a0 m c) (a1 m c) (a2 m c) (a3 m c) := by
  rw [arr5]
  refine funext fun j => ?_
  rw [eq_ix3 j]
  exact (congrArg₂ (fun p q => delta p q _ _) (V1_apply m c _ _ _) (V2_apply m c _ _ _)).trans (congrArg₂ (fun p q => delta _ _ p q) (V3_apply m c _ _ _) (tot_eq m c _ _ _))

theorem left6 : (dats m 0 c).arrAt 6 cfg0.N = moms (a0 m c) (a2 m c) := by
  rw [arr6]
  refine funext fun j => ?_
  rw [eq_ix3 j]
  exact congrArg₂ mom (V2_apply m c _ _ _) (tot_eq m c _ _ _)

theorem left7 : (dats m 0 c).arrAt 7 cfg0.N = sqms (a0 m c) (a3 m c) := by
  rw [arr7]
  refine funext fun j => ?_
  rw [eq_ix3 j]
  exact congrArg₂ sqm (V3_apply m c _ _ _) (tot_eq m c _ _ _)
end

end Cert.Kernel10Ideal.Update

namespace Cert.Proof

open Idealize.ShloMosaic Idealize.SL.Sem
open Cert.Kernel10Ideal.Update (grads deltas moms sqms)

/-- The call leaves the gradients, the steps and the new moments. -/
theorem adam10 : Cert.algebraic_Kernel10Ideal_Reference10Ideal := by
  intro m g m' g' _ hag
  refine ⟨fun c => grads (Cert.Kernel10Ideal.Update.a0 m c), fun c => deltas (Cert.Kernel10Ideal.Update.a0 m c) (Cert.Kernel10Ideal.Update.a1 m c) (Cert.Kernel10Ideal.Update.a2 m c) (Cert.Kernel10Ideal.Update.a3 m c), fun c => moms (Cert.Kernel10Ideal.Update.a0 m c) (Cert.Kernel10Ideal.Update.a2 m c), fun c => sqms (Cert.Kernel10Ideal.Update.a0 m c) (Cert.Kernel10Ideal.Update.a3 m c), ?_, ?_⟩
  · refine (θ_run Cert.Kernel10Ideal.defs _ _).mono (fun r h c => ?_) (Cert.Kernel10Ideal.Value.run_blocks (F := Ideal) m g)
    obtain ⟨h4, h5, h6, h7, hargs⟩ := h c
    exact ⟨h4.trans (Cert.Kernel10Ideal.Update.left4 m c), h5.trans (Cert.Kernel10Ideal.Update.left5 m c), h6.trans (Cert.Kernel10Ideal.Update.left6 m c),
      h7.trans (Cert.Kernel10Ideal.Update.left7 m c), hargs⟩
  · refine (θ_run Cert.Reference10Ideal.defs _ _).mono (fun r h c => ?_) (Cert.Reference10Ideal.Value.run (F := Ideal) m' g')
    obtain ⟨e0, e1, e2, e3⟩ := hag c
    obtain ⟨h4, h5, h6, h7, hargs⟩ := h c
    refine ⟨h4.trans ?_, h5.trans ?_, h6.trans ?_, h7.trans ?_, hargs⟩
    all_goals
      simp only [e0, e1, e2, e3]
      refine funext fun j => ?_
      obtain ⟨l, a, b, rfl⟩ : ∃ (l : Fin 1) (a : Fin 1604) (b : Fin 1024), j = ix3 l a b := ⟨j 0, j 1, j 2, eq_ix3 j⟩
      pointwise
      rfl

end Cert.Proof

end
-- ==== Proof.Adam11.lean ====
/- The optimiser's step on the input projection's weights, second layer: eight parts. A grid point's blocks of the four results, and the results. -/
module

public import proofs.«01_k».proof.Proof.Gen.Kernel11Ideal.Value
public import proofs.«01_k».proof.Proof.Adam
public import Idealize.ShloMosaic.Lib.Pipeline.ReadBack

@[expose] public section

set_option maxRecDepth 16384

noncomputable section

namespace Cert.Kernel11Ideal.Update

open Idealize.ShloMosaic Idealize.ShloMosaic.TcCoe Cert.Kernel11Ideal.Gen
open Idealize.ShloMosaic.Pipeline (Dat Cfg Window)
open Cert.Adam (mom sqm step delta)

/-- A block that is stored whole is what was stored. -/
theorem whole (p : Vec Ideal S1x1604x256 .f32) : View.canon [⟨r0_8, p⟩] = p := by
  frame_out

section
variable (x0 : Vec Ideal S8x1x1604x256 .bf16) (x1 x2 x3 : Vec Ideal S1x1604x256 .f32) (l : Fin 1) (a : Fin 1604) (b : Fin 256)

/-- The gradient's block is the sum of the parts' blocks. -/
theorem grad_block : out0_4 x0 x1 x2 x3 (ix3 l a b) = ∑ s : Fin 8, x0 (ix4 s 0 a b) := by
  unfold_out out0_4
  rw [whole]
  unfold_payloads
  pointwise
  exact Cert.Adam.sum_eight fun s => x0 (ix4 s 0 a b)

theorem mom_block : out0_6 x0 x1 x2 x3 (ix3 l a b) = mom (x2 (ix3 0 a b)) (∑ s : Fin 8, x0 (ix4 s 0 a b)) := by
  rw [← grad_block x0 x1 x2 x3 l a b]
  unfold_out out0_6
  unfold_out out0_4
  rw [whole, whole]
  unfold_payloads
  pointwise
  rfl

theorem sqm_block : out0_7 x0 x1 x2 x3 (ix3 l a b) = sqm (x3 (ix3 0 a b)) (∑ s : Fin 8, x0 (ix4 s 0 a b)) := by
  rw [← grad_block x0 x1 x2 x3 l a b]
  unfold_out out0_7
  unfold_out out0_4
  rw [whole, whole]
  unfold_payloads
  pointwise
  rfl

theorem delta_block : out0_5 x0 x1 x2 x3 (ix3 l a b) = delta (x1 (ix3 0 a b)) (x2 (ix3 0 a b)) (x3 (ix3 0 a b)) (∑ s : Fin 8, x0 (ix4 s 0 a b)) := by
  unfold delta
  rw [← mom_block x0 x1 x2 x3 l a b, ← sqm_block x0 x1 x2 x3 l a b]
  unfold_out out0_5
  unfold_out out0_6
  unfold_out out0_7
  rw [whole, whole, whole]
  unfold_payloads
  pointwise
  rfl
end

/-- The sum of the parts at one weight. -/
def tot (x : Vec Ideal S8x1x1604x1024 .bf16) (l : Fin 1) (a : Fin 1604) (b : Fin 1024) : EReal := ∑ s : Fin 8, x (ix4 s l a b)

theorem idx_all : ∀ t : Fin grid0.N, win0_0.index t = ![0, 0, 0, t.val] ∧ win0_1.index t = ![0, 0, t.val] ∧ win0_2.index t = ![0, 0, t.val] ∧ win0_3.index t = ![0, 0, t.val]
    ∧ win0_4.index t = ![0, 0, t.val] ∧ win0_5.index t = ![0, 0, t.val] ∧ win0_6.index t = ![0, 0, t.val] ∧ win0_7.index t = ![0, 0, t.val] := by
  decide +kernel

theorem t_lt (t : Fin cfg0.N) : t.val < 4 := t.isLt

/-- Column `b` of the block of grid point `t`. -/
def col (t : Fin cfg0.N) (b : Fin 256) : Fin 1024 := ⟨256 * t.val + b.val, by have := t_lt t; omega⟩

variable (m : (ℓ : Loc nD τ sig) → Buf (Elt Ideal) ℓ) (c : Dev nD)

theorem blk0 (t : Fin cfg0.N) (s : Fin 8) (a : Fin 1604) (b : Fin 256) : iblk m c 0 t (ix4 s 0 a b) = V m c main_v0 (ix4 s 0 a (col t b)) := by
  obtain ⟨e, -⟩ := idx_all t
  blk_ext [iblk, col, e]
theorem blk1 (t : Fin cfg0.N) (a : Fin 1604) (b : Fin 256) : iblk m c 1 t (ix3 0 a b) = V m c main_v4 (ix3 0 a (col t b)) := by
  obtain ⟨-, e, -⟩ := idx_all t
  blk_ext [iblk, col, e]
theorem blk2 (t : Fin cfg0.N) (a : Fin 1604) (b : Fin 256) : iblk m c 2 t (ix3 0 a b) = V m c main_v8 (ix3 0 a (col t b)) := by
  obtain ⟨-, -, e, -⟩ := idx_all t
  blk_ext [iblk, col, e]
theorem blk3 (t : Fin cfg0.N) (a : Fin 1604) (b : Fin 256) : iblk m c 3 t (ix3 0 a b) = V m c main_v12 (ix3 0 a (col t b)) := by
  obtain ⟨-, -, -, e, -⟩ := idx_all t
  blk_ext [iblk, col, e]

theorem blk_tot (t : Fin cfg0.N) (a : Fin 1604) (b : Fin 256) : (∑ s : Fin 8, iblk m c 0 t (ix4 s 0 a b) : EReal) = tot (V m c main_v0) 0 a (col t b) :=
  Finset.sum_congr rfl fun s _ => blk0 m c t s a b

/-- The array of the gradient as the kernel leaves it. -/
theorem arr4 : (dats m 0 c).arrAt 4 cfg0.N = (fun j => tot (V m c main_v0) (j 0) (j 1) (j 2) : Vec Ideal S1x1604x1024 .f32) := by
  refine (dats m 0 c).arrAt_eq_of_covers 4 _ (by decide +kernel) fun t hf y => ?_
  obtain ⟨-, -, -, -, e, -⟩ := idx_all t
  blk_simp
  rw [after0_4]
  have e0 : @Eq (Fin 1) ((win0_4.blk t).view.emb y 0) 0 := Subsingleton.elim (α := Fin 1) _ _
  have e1 : ((win0_4.blk t).view.emb y 1 : Fin 1604) = y 1 := by
    refine Fin.ext ?_
    blk_simp [e]
  have e2 : ((win0_4.blk t).view.emb y 2 : Fin 1024) = col t (y 2) := by
    refine Fin.ext ?_
    blk_simp [e]
    exact congrArg (· + _) (Nat.mul_comm _ _)
  have ey : (win0_4.blk t).view.emb y = (ix3 0 (y 1) (col t (y 2))) := (eq_ix3 _).trans (by rw [e0, e1, e2]; rfl)
  rw [ey]
  exact (congrArg _ (eq_ix3 y)).trans ((grad_block _ _ _ _ (y 0) (y 1) (y 2)).trans (blk_tot m c t _ _))

/-- The array of the steps as the kernel leaves it. -/
theorem arr5 : (dats m 0 c).arrAt 5 cfg0.N = (fun j => delta (V m c main_v4 j) (V m c main_v8 j) (V m c main_v12 j) (tot (V m c main_v0) (j 0) (j 1) (j 2)) : Vec Ideal S1x1604x1024 .f32) := by
  refine (dats m 0 c).arrAt_eq_of_covers 5 _ (by decide +kernel) fun t hf y => ?_
  obtain ⟨-, -, -, -, -, e, -⟩ := idx_all t
  blk_simp
  rw [after0_5]
  have e0 : @Eq (Fin 1) ((win0_5.blk t).view.emb y 0) 0 := Subsingleton.elim (α := Fin 1) _ _
  have e1 : ((win0_5.blk t).view.emb y 1 : Fin 1604) = y 1 := by
    refine Fin.ext ?_
    blk_simp [e]
  have e2 : ((win0_5.blk t).view.emb y 2 : Fin 1024) = col t (y 2) := by
    refine Fin.ext ?_
    blk_simp [e]
    exact congrArg (· + _) (Nat.mul_comm _ _)
  have ey : (win0_5.blk t).view.emb y = (ix3 0 (y 1) (col t (y 2))) := (eq_ix3 _).trans (by rw [e0, e1, e2]; rfl)
  rw [ey]
  exact (congrArg _ (eq_ix3 y)).trans ((delta_block _ _ _ _ (y 0) (y 1) (y 2)).trans ((congrArg₂ (fun p q => delta p q _ _) (blk1 m c t _ _) (blk2 m c t _ _)).trans (congrArg₂ (fun p q => delta _ _ p q) (blk3 m c t _ _) (blk_tot m c t _ _))))

/-- The array of the first moments as the kernel leaves it. -/
theorem arr6 : (dats m 0 c).arrAt 6 cfg0.N = (fun j => mom (V m c main_v8 j) (tot (V m c main_v0) (j 0) (j 1) (j 2)) : Vec Ideal S1x1604x1024 .f32) := by
  refine (dats m 0 c).arrAt_eq_of_covers 6 _ (by decide +kernel) fun t hf y => ?_
  obtain ⟨-, -, -, -, -, -, e, -⟩ := idx_all t
  blk_simp
  rw [after0_6]
  have e0 : @Eq (Fin 1) ((win0_6.blk t).view.emb y 0) 0 := Subsingleton.elim (α := Fin 1) _ _
  have e1 : ((win0_6.blk t).view.emb y 1 : Fin 1604) = y 1 := by
    refine Fin.ext ?_
    blk_simp [e]
  have e2 : ((win0_6.blk t).view.emb y 2 : Fin 1024) = col t (y 2) := by
    refine Fin.ext ?_
    blk_simp [e]
    exact congrArg (· + _) (Nat.mul_comm _ _)
  have ey : (win0_6.blk t).view.emb y = (ix3 0 (y 1) (col t (y 2))) := (eq_ix3 _).trans (by rw [e0, e1, e2]; rfl)
  rw [ey]
  exact (congrArg _ (eq_ix3 y)).trans ((mom_block _ _ _ _ (y 0) (y 1) (y 2)).trans (congrArg₂ mom (blk2 m c t _ _) (blk_tot m c t _ _)))

/-- The array of the second moments as the kernel leaves it. -/
theorem arr7 : (dats m 0 c).arrAt 7 cfg0.N = (fun j => sqm (V m c main_v12 j) (tot (V m c main_v0) (j 0) (j 1) (j 2)) : Vec Ideal S1x1604x1024 .f32) := by
  refine (dats m 0 c).arrAt_eq_of_covers 7 _ (by decide +kernel) fun t hf y => ?_
  obtain ⟨-, -, -, -, -, -, -, e⟩ := idx_all t
  blk_simp
  rw [after0_7]
  have e0 : @Eq (Fin 1) ((win0_7.blk t).view.emb y 0) 0 := Subsingleton.elim (α := Fin 1) _ _
  have e1 : ((win0_7.blk t).view.emb y 1 : Fin 1604) = y 1 := by
    refine Fin.ext ?_
    blk_simp [e]
  have e2 : ((win0_7.blk t).view.emb y 2 : Fin 1024) = col t (y 2) := by
    refine Fin.ext ?_
    blk_simp [e]
    exact congrArg (· + _) (Nat.mul_comm _ _)
  have ey : (win0_7.blk t).view.emb y = (ix3 0 (y 1) (col t (y 2))) := (eq_ix3 _).trans (by rw [e0, e1, e2]; rfl)
  rw [ey]
  exact (congrArg _ (eq_ix3 y)).trans ((sqm_block _ _ _ _ (y 0) (y 1) (y 2)).trans (congrArg₂ sqm (blk3 m c t _ _) (blk_tot m c t _ _)))

end Cert.Kernel11Ideal.Update

end
-- ==== Proof.Step11.lean ====
module

public import proofs.«01_k».proof.Defs
public import proofs.«01_k».proof.Proof.Gen.Reference11Ideal.Run
public import proofs.«01_k».proof.Proof.Adam11
public import Idealize.ShloMosaic.Lib.StableHlo.RunRead

@[expose] public section

set_option maxRecDepth 16384

noncomputable section

namespace Cert.Kernel11Ideal.Update

open Idealize.ShloMosaic Idealize.ShloMosaic.TcCoe Cert.Kernel11Ideal.Gen
open Cert.Adam (mom sqm step delta)

section
variable (p : Vec Ideal S8x1604x1024 .bf16) (w m v : Vec Ideal S2x1024x1604 .f32)

/-- The gradient at one weight. -/
def grad (l : Fin 1) (a : Fin 1604) (b : Fin 1024) : EReal := ∑ s : Fin 8, p (ix3 s a b)

/-- The gradients. -/
def grads : Vec Ideal S1x1604x1024 .f32 := fun j => grad p (j 0) (j 1) (j 2)

/-- What is added to the weights. -/
def deltas : Vec Ideal S1x1604x1024 .f32 := fun j => delta (w (ix3 1 (j 2) (j 1))) (m (ix3 1 (j 2) (j 1))) (v (ix3 1 (j 2) (j 1))) (grad p (j 0) (j 1) (j 2))

/-- The new first moments. -/
def moms : Vec Ideal S1x1604x1024 .f32 := fun j => mom (m (ix3 1 (j 2) (j 1))) (grad p (j 0) (j 1) (j 2))

/-- The new second moments. -/
def sqms : Vec Ideal S1x1604x1024 .f32 := fun j => sqm (v (ix3 1 (j 2) (j 1))) (grad p (j 0) (j 1) (j 2))
end

section
variable (m : (ℓ : Loc nD τ sig) → Buf (Elt Ideal) ℓ) (c : Dev nD)

/-- Argument 0. -/
def a0 : Vec Ideal S8x1604x1024 .bf16 := m ((c.tc : Thread nD τ).loc main_arg0)
/-- Argument 1. -/
def a1 : Vec Ideal S2x1024x1604 .f32 := m ((c.tc : Thread nD τ).loc main_arg1)
/-- Argument 2. -/
def a2 : Vec Ideal S2x1024x1604 .f32 := m ((c.tc : Thread nD τ).loc main_arg2)
/-- Argument 3. -/
def a3 : Vec Ideal S2x1024x1604 .f32 := m ((c.tc : Thread nD τ).loc main_arg3)

theorem V_parts : @Eq (Vec Ideal S8x1x1604x1024 .bf16) (V (F := Ideal) m c main_v0)
    (broadcastInDim S8x1x1604x1024 ![0, 2, 3] bcast_S8x1604x1024_S8x1x1604x1024_0_2_3 (a0 m c)) := by
  unfold V
  after_reads_simp <;> rfl

theorem V_arg1 : @Eq (Vec Ideal S1x1604x1024 .f32) (V (F := Ideal) m c main_v4)
    (broadcastInDim S1x1604x1024 ![1, 2] bcast_S1604x1024_S1x1604x1024_1_2 (shapeCast S1604x1024 (extractStridedSlice S1604x1x1024 ![0, 1, 0]
      (transpose S1604x2x1024 [2, 0, 1] (a1 m c) transposes_S2x1024x1604_S1604x2x1024_2_0_1) slices_S1604x2x1024_S1604x1x1024_0_1_0) shapeCasts_S1604x1x1024_S1604x1024)) := by
  unfold V
  after_reads_simp <;> rfl

theorem V1_apply (l : Fin 1) (a : Fin 1604) (b : Fin 1024) : V (F := Ideal) m c main_v4 (ix3 l a b) = a1 m c (ix3 1 b a) := by
  rw [V_arg1]
  pointwise

theorem V_arg2 : @Eq (Vec Ideal S1x1604x1024 .f32) (V (F := Ideal) m c main_v8)
    (broadcastInDim S1x1604x1024 ![1, 2] bcast_S1604x1024_S1x1604x1024_1_2 (shapeCast S1604x1024 (extractStridedSlice S1604x1x1024 ![0, 1, 0]
      (transpose S1604x2x1024 [2, 0, 1] (a2 m c) transposes_S2x1024x1604_S1604x2x1024_2_0_1) slices_S1604x2x1024_S1604x1x1024_0_1_0) shapeCasts_S1604x1x1024_S1604x1024)) := by
  unfold V
  after_reads_simp <;> rfl

theorem V2_apply (l : Fin 1) (a : Fin 1604) (b : Fin 1024) : V (F := Ideal) m c main_v8 (ix3 l a b) = a2 m c (ix3 1 b a) := by
  rw [V_arg2]
  pointwise

theorem V_arg3 : @Eq (Vec Ideal S1x1604x1024 .f32) (V (F := Ideal) m c main_v12)
    (broadcastInDim S1x1604x1024 ![1, 2] bcast_S1604x1024_S1x1604x1024_1_2 (shapeCast S1604x1024 (extractStridedSlice S1604x1x1024 ![0, 1, 0]
      (transpose S1604x2x1024 [2, 0, 1] (a3 m c) transposes_S2x1024x1604_S1604x2x1024_2_0_1) slices_S1604x2x1024_S1604x1x1024_0_1_0) shapeCasts_S1604x1x1024_S1604x1024)) := by
  unfold V
  after_reads_simp <;> rfl

theorem V3_apply (l : Fin 1) (a : Fin 1604) (b : Fin 1024) : V (F := Ideal) m c main_v12 (ix3 l a b) = a3 m c (ix3 1 b a) := by
  rw [V_arg3]
  pointwise

theorem tot_eq (l : Fin 1) (a : Fin 1604) (b : Fin 1024) : tot (V (F := Ideal) m c main_v0) l a b = grad (a0 m c) l a b := by
  unfold tot grad
  rw [V_parts]
  pointwise

theorem left4 : (dats m 0 c).arrAt 4 cfg0.N = grads (a0 m c) := by
  rw [arr4]
  refine funext fun j => ?_
  rw [eq_ix3 j]
  exact tot_eq m c _ _ _

theorem left5 : (dats m 0 c).arrAt 5 cfg0.N = deltas (a0 m c) (a1 m c) (a2 m c) (a3 m c) := by
  rw [arr5]
  refine funext fun j => ?_
  rw [eq_ix3 j]
  exact (congrArg₂ (fun p q => delta p q _ _) (V1_apply m c _ _ _) (V2_apply m c _ _ _)).trans (congrArg₂ (fun p q => delta _ _ p q) (V3_apply m c _ _ _) (tot_eq m c _ _ _))

theorem left6 : (dats m 0 c).arrAt 6 cfg0.N = moms (a0 m c) (a2 m c) := by
  rw [arr6]
  refine funext fun j => ?_
  rw [eq_ix3 j]
  exact congrArg₂ mom (V2_apply m c _ _ _) (tot_eq m c _ _ _)

theorem left7 : (dats m 0 c).arrAt 7 cfg0.N = sqms (a0 m c) (a3 m c) := by
  rw [arr7]
  refine funext fun j => ?_
  rw [eq_ix3 j]
  exact congrArg₂ sqm (V3_apply m c _ _ _) (tot_eq m c _ _ _)
end

end Cert.Kernel11Ideal.Update

namespace Cert.Proof

open Idealize.ShloMosaic Idealize.SL.Sem
open Cert.Kernel11Ideal.Update (grads deltas moms sqms)

/-- The call leaves the gradients, the steps and the new moments. -/
theorem adam11 : Cert.algebraic_Kernel11Ideal_Reference11Ideal := by
  intro m g m' g' _ hag
  refine ⟨fun c => grads (Cert.Kernel11Ideal.Update.a0 m c), fun c => deltas (Cert.Kernel11Ideal.Update.a0 m c) (Cert.Kernel11Ideal.Update.a1 m c) (Cert.Kernel11Ideal.Update.a2 m c) (Cert.Kernel11Ideal.Update.a3 m c), fun c => moms (Cert.Kernel11Ideal.Update.a0 m c) (Cert.Kernel11Ideal.Update.a2 m c), fun c => sqms (Cert.Kernel11Ideal.Update.a0 m c) (Cert.Kernel11Ideal.Update.a3 m c), ?_, ?_⟩
  · refine (θ_run Cert.Kernel11Ideal.defs _ _).mono (fun r h c => ?_) (Cert.Kernel11Ideal.Value.run_blocks (F := Ideal) m g)
    obtain ⟨h4, h5, h6, h7, hargs⟩ := h c
    exact ⟨h4.trans (Cert.Kernel11Ideal.Update.left4 m c), h5.trans (Cert.Kernel11Ideal.Update.left5 m c), h6.trans (Cert.Kernel11Ideal.Update.left6 m c),
      h7.trans (Cert.Kernel11Ideal.Update.left7 m c), hargs⟩
  · refine (θ_run Cert.Reference11Ideal.defs _ _).mono (fun r h c => ?_) (Cert.Reference11Ideal.Value.run (F := Ideal) m' g')
    obtain ⟨e0, e1, e2, e3⟩ := hag c
    obtain ⟨h4, h5, h6, h7, hargs⟩ := h c
    refine ⟨h4.trans ?_, h5.trans ?_, h6.trans ?_, h7.trans ?_, hargs⟩
    all_goals
      simp only [e0, e1, e2, e3]
      refine funext fun j => ?_
      obtain ⟨l, a, b, rfl⟩ : ∃ (l : Fin 1) (a : Fin 1604) (b : Fin 1024), j = ix3 l a b := ⟨j 0, j 1, j 2, eq_ix3 j⟩
      pointwise
      rfl

end Cert.Proof

end
-- ==== Proof.Adam12.lean ====
/- The optimiser's step on a square product's weights, both layers: eight parts each. A grid point's blocks of the four results, and the results. -/
module

public import proofs.«01_k».proof.Proof.Gen.Kernel12Ideal.Value
public import proofs.«01_k».proof.Proof.Adam
public import Idealize.ShloMosaic.Lib.Pipeline.ReadBack

@[expose] public section

set_option maxRecDepth 16384

noncomputable section

namespace Cert.Kernel12Ideal.Update

open Idealize.ShloMosaic Idealize.ShloMosaic.TcCoe Cert.Kernel12Ideal.Gen
open Idealize.ShloMosaic.Pipeline (Dat Cfg Window)
open Cert.Adam (mom sqm step delta)

/-- A block that is stored whole is what was stored. -/
theorem whole (p : Vec Ideal S1x128x1024 .f32) : View.canon [⟨r0_8, p⟩] = p := by
  frame_out

section
variable (x0 : Vec Ideal S8x1x128x1024 .bf16) (x1 x2 x3 : Vec Ideal S1x128x1024 .f32) (l : Fin 1) (a : Fin 128) (b : Fin 1024)

/-- The gradient's block is the sum of the parts' blocks. -/
theorem grad_block : out0_4 x0 x1 x2 x3 (ix3 l a b) = ∑ s : Fin 8, x0 (ix4 s 0 a b) := by
  unfold_out out0_4
  rw [whole]
  unfold_payloads
  pointwise
  exact Cert.Adam.sum_eight fun s => x0 (ix4 s 0 a b)

theorem mom_block : out0_6 x0 x1 x2 x3 (ix3 l a b) = mom (x2 (ix3 0 a b)) (∑ s : Fin 8, x0 (ix4 s 0 a b)) := by
  rw [← grad_block x0 x1 x2 x3 l a b]
  unfold_out out0_6
  unfold_out out0_4
  rw [whole, whole]
  unfold_payloads
  pointwise
  rfl

theorem sqm_block : out0_7 x0 x1 x2 x3 (ix3 l a b) = sqm (x3 (ix3 0 a b)) (∑ s : Fin 8, x0 (ix4 s 0 a b)) := by
  rw [← grad_block x0 x1 x2 x3 l a b]
  unfold_out out0_7
  unfold_out out0_4
  rw [whole, whole]
  unfold_payloads
  pointwise
  rfl

theorem delta_block : out0_5 x0 x1 x2 x3 (ix3 l a b) = delta (x1 (ix3 0 a b)) (x2 (ix3 0 a b)) (x3 (ix3 0 a b)) (∑ s : Fin 8, x0 (ix4 s 0 a b)) := by
  unfold delta
  rw [← mom_block x0 x1 x2 x3 l a b, ← sqm_block x0 x1 x2 x3 l a b]
  unfold_out out0_5
  unfold_out out0_6
  unfold_out out0_7
  rw [whole, whole, whole]
  unfold_payloads
  pointwise
  rfl
end

/-- The sum of the parts at one weight. -/
def tot (x : Vec Ideal S8x2x128x1024 .bf16) (l : Fin 2) (a : Fin 128) (b : Fin 1024) : EReal := ∑ s : Fin 8, x (ix4 s l a b)

theorem idx_all : ∀ t : Fin grid0.N, win0_0.index t = ![0, t.val, 0, 0] ∧ win0_1.index t = ![t.val, 0, 0] ∧ win0_2.index t = ![t.val, 0, 0] ∧ win0_3.index t = ![t.val, 0, 0]
    ∧ win0_4.index t = ![t.val, 0, 0] ∧ win0_5.index t = ![t.val, 0, 0] ∧ win0_6.index t = ![t.val, 0, 0] ∧ win0_7.index t = ![t.val, 0, 0] := by
  decide +kernel

theorem t_lt (t : Fin cfg0.N) : t.val < 2 := t.isLt

/-- The layer of grid point `t`. -/
def lay (t : Fin cfg0.N) : Fin 2 := ⟨t.val, t_lt t⟩

variable (m : (ℓ : Loc nD τ sig) → Buf (Elt Ideal) ℓ) (c : Dev nD)

theorem blk0 (t : Fin cfg0.N) (s : Fin 8) (a : Fin 128) (b : Fin 1024) : iblk m c 0 t (ix4 s 0 a b) = V m c main_v2 (ix4 s (lay t) a b) := by
  obtain ⟨e, -⟩ := idx_all t
  blk_ext [iblk, lay, e]
theorem blk1 (t : Fin cfg0.N) (a : Fin 128) (b : Fin 1024) : iblk m c 1 t (ix3 0 a b) = V m c main_arg2 (ix3 (lay t) a b) := by
  obtain ⟨-, e, -⟩ := idx_all t
  blk_ext [iblk, lay, e]
theorem blk2 (t : Fin cfg0.N) (a : Fin 128) (b : Fin 1024) : iblk m c 2 t (ix3 0 a b) = V m c main_arg3 (ix3 (lay t) a b) := by
  obtain ⟨-, -, e, -⟩ := idx_all t
  blk_ext [iblk, lay, e]
theorem blk3 (t : Fin cfg0.N) (a : Fin 128) (b : Fin 1024) : iblk m c 3 t (ix3 0 a b) = V m c main_arg4 (ix3 (lay t) a b) := by
  obtain ⟨-, -, -, e, -⟩ := idx_all t
  blk_ext [iblk, lay, e]

theorem blk_tot (t : Fin cfg0.N) (a : Fin 128) (b : Fin 1024) : (∑ s : Fin 8, iblk m c 0 t (ix4 s 0 a b) : EReal) = tot (V m c main_v2) (lay t) a b :=
  Finset.sum_congr rfl fun s _ => blk0 m c t s a b

/-- The array of the gradient as the kernel leaves it. -/
theorem arr4 : (dats m 0 c).arrAt 4 cfg0.N = (fun j => tot (V m c main_v2) (j 0) (j 1) (j 2) : Vec Ideal S2x128x1024 .f32) := by
  refine (dats m 0 c).arrAt_eq_of_covers 4 _ (by decide +kernel) fun t hf y => ?_
  obtain ⟨-, -, -, -, e, -⟩ := idx_all t
  blk_simp
  rw [after0_4]
  have e0 : ((win0_4.blk t).view.emb y 0 : Fin 2) = lay t := by
    refine Fin.ext ?_
    have h := Fin.val_eq_zero (y 0)
    blk_simp [e, lay, h]
  have e1 : ((win0_4.blk t).view.emb y 1 : Fin 128) = y 1 := by
    refine Fin.ext ?_
    blk_simp [e]
  have e2 : ((win0_4.blk t).view.emb y 2 : Fin 1024) = y 2 := by
    refine Fin.ext ?_
    blk_simp [e]
  have ey : (win0_4.blk t).view.emb y = (ix3 (lay t) (y 1) (y 2)) := (eq_ix3 _).trans (by rw [e0, e1, e2]; rfl)
  rw [ey]
  exact (congrArg _ (eq_ix3 y)).trans ((grad_block _ _ _ _ (y 0) (y 1) (y 2)).trans (blk_tot m c t _ _))

/-- The array of the steps as the kernel leaves it. -/
theorem arr5 : (dats m 0 c).arrAt 5 cfg0.N = (fun j => delta (V m c main_arg2 j) (V m c main_arg3 j) (V m c main_arg4 j) (tot (V m c main_v2) (j 0) (j 1) (j 2)) : Vec Ideal S2x128x1024 .f32) := by
  refine (dats m 0 c).arrAt_eq_of_covers 5 _ (by decide +kernel) fun t hf y => ?_
  obtain ⟨-, -, -, -, -, e, -⟩ := idx_all t
  blk_simp
  rw [after0_5]
  have e0 : ((win0_5.blk t).view.emb y 0 : Fin 2) = lay t := by
    refine Fin.ext ?_
    have h := Fin.val_eq_zero (y 0)
    blk_simp [e, lay, h]
  have e1 : ((win0_5.blk t).view.emb y 1 : Fin 128) = y 1 := by
    refine Fin.ext ?_
    blk_simp [e]
  have e2 : ((win0_5.blk t).view.emb y 2 : Fin 1024) = y 2 := by
    refine Fin.ext ?_
    blk_simp [e]
  have ey : (win0_5.blk t).view.emb y = (ix3 (lay t) (y 1) (y 2)) := (eq_ix3 _).trans (by rw [e0, e1, e2]; rfl)
  rw [ey]
  exact (congrArg _ (eq_ix3 y)).trans ((delta_block _ _ _ _ (y 0) (y 1) (y 2)).trans ((congrArg₂ (fun p q => delta p q _ _) (blk1 m c t _ _) (blk2 m c t _ _)).trans (congrArg₂ (fun p q => delta _ _ p q) (blk3 m c t _ _) (blk_tot m c t _ _))))

/-- The array of the first moments as the kernel leaves it. -/
theorem arr6 : (dats m 0 c).arrAt 6 cfg0.N = (fun j => mom (V m c main_arg3 j) (tot (V m c main_v2) (j 0) (j 1) (j 2)) : Vec Ideal S2x128x1024 .f32) := by
  refine (dats m 0 c).arrAt_eq_of_covers 6 _ (by decide +kernel) fun t hf y => ?_
  obtain ⟨-, -, -, -, -, -, e, -⟩ := idx_all t
  blk_simp
  rw [after0_6]
  have e0 : ((win0_6.blk t).view.emb y 0 : Fin 2) = lay t := by
    refine Fin.ext ?_
    have h := Fin.val_eq_zero (y 0)
    blk_simp [e, lay, h]
  have e1 : ((win0_6.blk t).view.emb y 1 : Fin 128) = y 1 := by
    refine Fin.ext ?_
    blk_simp [e]
  have e2 : ((win0_6.blk t).view.emb y 2 : Fin 1024) = y 2 := by
    refine Fin.ext ?_
    blk_simp [e]
  have ey : (win0_6.blk t).view.emb y = (ix3 (lay t) (y 1) (y 2)) := (eq_ix3 _).trans (by rw [e0, e1, e2]; rfl)
  rw [ey]
  exact (congrArg _ (eq_ix3 y)).trans ((mom_block _ _ _ _ (y 0) (y 1) (y 2)).trans (congrArg₂ mom (blk2 m c t _ _) (blk_tot m c t _ _)))

/-- The array of the second moments as the kernel leaves it. -/
theorem arr7 : (dats m 0 c).arrAt 7 cfg0.N = (fun j => sqm (V m c main_arg4 j) (tot (V m c main_v2) (j 0) (j 1) (j 2)) : Vec Ideal S2x128x1024 .f32) := by
  refine (dats m 0 c).arrAt_eq_of_covers 7 _ (by decide +kernel) fun t hf y => ?_
  obtain ⟨-, -, -, -, -, -, -, e⟩ := idx_all t
  blk_simp
  rw [after0_7]
  have e0 : ((win0_7.blk t).view.emb y 0 : Fin 2) = lay t := by
    refine Fin.ext ?_
    have h := Fin.val_eq_zero (y 0)
    blk_simp [e, lay, h]
  have e1 : ((win0_7.blk t).view.emb y 1 : Fin 128) = y 1 := by
    refine Fin.ext ?_
    blk_simp [e]
  have e2 : ((win0_7.blk t).view.emb y 2 : Fin 1024) = y 2 := by
    refine Fin.ext ?_
    blk_simp [e]
  have ey : (win0_7.blk t).view.emb y = (ix3 (lay t) (y 1) (y 2)) := (eq_ix3 _).trans (by rw [e0, e1, e2]; rfl)
  rw [ey]
  exact (congrArg _ (eq_ix3 y)).trans ((sqm_block _ _ _ _ (y 0) (y 1) (y 2)).trans (congrArg₂ sqm (blk3 m c t _ _) (blk_tot m c t _ _)))

end Cert.Kernel12Ideal.Update

end
-- ==== Proof.Step12.lean ====
module

public import proofs.«01_k».proof.Defs
public import proofs.«01_k».proof.Proof.Gen.Reference12Ideal.Run
public import proofs.«01_k».proof.Proof.Adam12
public import Idealize.ShloMosaic.Lib.StableHlo.RunRead

@[expose] public section

set_option maxRecDepth 16384

noncomputable section

namespace Cert.Kernel12Ideal.Update

open Idealize.ShloMosaic Idealize.ShloMosaic.TcCoe Cert.Kernel12Ideal.Gen
open Cert.Adam (mom sqm step delta)

section
variable (p0 p1 : Vec Ideal S8x128x1024 .bf16) (w m v : Vec Ideal S2x128x1024 .f32)

/-- The gradient at one weight. -/
def grad (l : Fin 2) (a : Fin 128) (b : Fin 1024) : EReal := ∑ s : Fin 8, (if l = 0 then p0 else p1) (ix3 s a b)

/-- The gradients. -/
def grads : Vec Ideal S2x128x1024 .f32 := fun j => grad p0 p1 (j 0) (j 1) (j 2)

/-- What is added to the weights. -/
def deltas : Vec Ideal S2x128x1024 .f32 := fun j => delta (w (ix3 (j 0) (j 1) (j 2))) (m (ix3 (j 0) (j 1) (j 2))) (v (ix3 (j 0) (j 1) (j 2))) (grad p0 p1 (j 0) (j 1) (j 2))

/-- The new first moments. -/
def moms : Vec Ideal S2x128x1024 .f32 := fun j => mom (m (ix3 (j 0) (j 1) (j 2))) (grad p0 p1 (j 0) (j 1) (j 2))

/-- The new second moments. -/
def sqms : Vec Ideal S2x128x1024 .f32 := fun j => sqm (v (ix3 (j 0) (j 1) (j 2))) (grad p0 p1 (j 0) (j 1) (j 2))
end

section
variable (m : (ℓ : Loc nD τ sig) → Buf (Elt Ideal) ℓ) (c : Dev nD)

/-- Argument 0. -/
def a0 : Vec Ideal S8x128x1024 .bf16 := m ((c.tc : Thread nD τ).loc main_arg0)
/-- Argument 1. -/
def a1 : Vec Ideal S8x128x1024 .bf16 := m ((c.tc : Thread nD τ).loc main_arg1)
/-- Argument 2. -/
def a2 : Vec Ideal S2x128x1024 .f32 := m ((c.tc : Thread nD τ).loc main_arg2)
/-- Argument 3. -/
def a3 : Vec Ideal S2x128x1024 .f32 := m ((c.tc : Thread nD τ).loc main_arg3)
/-- Argument 4. -/
def a4 : Vec Ideal S2x128x1024 .f32 := m ((c.tc : Thread nD τ).loc main_arg4)

theorem V_parts : @Eq (Vec Ideal S8x2x128x1024 .bf16) (V (F := Ideal) m c main_v2)
    (concatenate S8x2x128x1024 1 [⟨S8x1x128x1024, broadcastInDim S8x1x128x1024 ![0, 2, 3] bcast_S8x128x1024_S8x1x128x1024_0_2_3 (a0 m c)⟩, ⟨S8x1x128x1024, broadcastInDim S8x1x128x1024 ![0, 2, 3] bcast_S8x128x1024_S8x1x128x1024_0_2_3 (a1 m c)⟩] concatenates_S8x1x128x1024_S8x1x128x1024_S8x2x128x1024_d1) := by
  unfold V
  after_reads_simp <;> rfl

theorem V1_apply (l : Fin 2) (a : Fin 128) (b : Fin 1024) : V (F := Ideal) m c main_arg2 (ix3 l a b) = a2 m c (ix3 l a b) :=
  congrFun (V_main_arg2 m c) _

theorem V2_apply (l : Fin 2) (a : Fin 128) (b : Fin 1024) : V (F := Ideal) m c main_arg3 (ix3 l a b) = a3 m c (ix3 l a b) :=
  congrFun (V_main_arg3 m c) _

theorem V3_apply (l : Fin 2) (a : Fin 128) (b : Fin 1024) : V (F := Ideal) m c main_arg4 (ix3 l a b) = a4 m c (ix3 l a b) :=
  congrFun (V_main_arg4 m c) _

theorem parts_apply (s : Fin 8) (l : Fin 2) (a : Fin 128) (b : Fin 1024) : V (F := Ideal) m c main_v2 (ix4 s l a b) = (if l = 0 then a0 m c else a1 m c) (ix3 s a b) := by
  rw [V_parts]
  match l with
  | 0 => pointwise
  | 1 => pointwise

theorem tot_eq (l : Fin 2) (a : Fin 128) (b : Fin 1024) : tot (V (F := Ideal) m c main_v2) l a b = grad (a0 m c) (a1 m c) l a b :=
  Finset.sum_congr rfl fun s _ => parts_apply m c s l a b

theorem left4 : (dats m 0 c).arrAt 4 cfg0.N = grads (a0 m c) (a1 m c) := by
  rw [arr4]
  refine funext fun j => ?_
  rw [eq_ix3 j]
  exact tot_eq m c _ _ _

theorem left5 : (dats m 0 c).arrAt 5 cfg0.N = deltas (a0 m c) (a1 m c) (a2 m c) (a3 m c) (a4 m c) := by
  rw [arr5]
  refine funext fun j => ?_
  rw [eq_ix3 j]
  exact (congrArg₂ (fun p q => delta p q _ _) (V1_apply m c _ _ _) (V2_apply m c _ _ _)).trans (congrArg₂ (fun p q => delta _ _ p q) (V3_apply m c _ _ _) (tot_eq m c _ _ _))

theorem left6 : (dats m 0 c).arrAt 6 cfg0.N = moms (a0 m c) (a1 m c) (a3 m c) := by
  rw [arr6]
  refine funext fun j => ?_
  rw [eq_ix3 j]
  exact congrArg₂ mom (V2_apply m c _ _ _) (tot_eq m c _ _ _)

theorem left7 : (dats m 0 c).arrAt 7 cfg0.N = sqms (a0 m c) (a1 m c) (a4 m c) := by
  rw [arr7]
  refine funext fun j => ?_
  rw [eq_ix3 j]
  exact congrArg₂ sqm (V3_apply m c _ _ _) (tot_eq m c _ _ _)
end

end Cert.Kernel12Ideal.Update

namespace Cert.Proof

open Idealize.ShloMosaic Idealize.SL.Sem
open Cert.Kernel12Ideal.Update (grads deltas moms sqms)

/-- The call leaves the gradients, the steps and the new moments. -/
theorem adam12 : Cert.algebraic_Kernel12Ideal_Reference12Ideal := by
  intro m g m' g' _ hag
  refine ⟨fun c => grads (Cert.Kernel12Ideal.Update.a0 m c) (Cert.Kernel12Ideal.Update.a1 m c), fun c => deltas (Cert.Kernel12Ideal.Update.a0 m c) (Cert.Kernel12Ideal.Update.a1 m c) (Cert.Kernel12Ideal.Update.a2 m c) (Cert.Kernel12Ideal.Update.a3 m c) (Cert.Kernel12Ideal.Update.a4 m c), fun c => moms (Cert.Kernel12Ideal.Update.a0 m c) (Cert.Kernel12Ideal.Update.a1 m c) (Cert.Kernel12Ideal.Update.a3 m c), fun c => sqms (Cert.Kernel12Ideal.Update.a0 m c) (Cert.Kernel12Ideal.Update.a1 m c) (Cert.Kernel12Ideal.Update.a4 m c), ?_, ?_⟩
  · refine (θ_run Cert.Kernel12Ideal.defs _ _).mono (fun r h c => ?_) (Cert.Kernel12Ideal.Value.run_blocks (F := Ideal) m g)
    obtain ⟨h4, h5, h6, h7, hargs⟩ := h c
    exact ⟨h4.trans (Cert.Kernel12Ideal.Update.left4 m c), h5.trans (Cert.Kernel12Ideal.Update.left5 m c), h6.trans (Cert.Kernel12Ideal.Update.left6 m c),
      h7.trans (Cert.Kernel12Ideal.Update.left7 m c), hargs⟩
  · refine (θ_run Cert.Reference12Ideal.defs _ _).mono (fun r h c => ?_) (Cert.Reference12Ideal.Value.run (F := Ideal) m' g')
    obtain ⟨e0, e1, e2, e3, e4⟩ := hag c
    obtain ⟨h4, h5, h6, h7, hargs⟩ := h c
    refine ⟨h4.trans ?_, h5.trans ?_, h6.trans ?_, h7.trans ?_, hargs⟩
    all_goals
      refine funext fun j => ?_
      obtain ⟨l, a, b, rfl⟩ : ∃ (l : Fin 2) (a : Fin 128) (b : Fin 1024), j = ix3 l a b := ⟨j 0, j 1, j 2, eq_ix3 j⟩
      match l with
      | 0 => pointwise; simp only [e0, e1, e2, e3, e4]; rfl
      | 1 => pointwise; simp only [e0, e1, e2, e3, e4]; rfl

end Cert.Proof

end
-- ==== Proof.Adam13.lean ====
/- The optimiser's step on the adaptive modulation's weights, both layers. A grid point's blocks of the four results, and the results. -/
module

public import proofs.«01_k».proof.Proof.Gen.Kernel13Ideal.Value
public import proofs.«01_k».proof.Proof.Adam
public import Idealize.ShloMosaic.Lib.Pipeline.ReadBack

@[expose] public section

set_option maxRecDepth 16384

noncomputable section

namespace Cert.Kernel13Ideal.Update

open Idealize.ShloMosaic Idealize.ShloMosaic.TcCoe Cert.Kernel13Ideal.Gen
open Idealize.ShloMosaic.Pipeline (Dat Cfg Window)
open Cert.Adam (mom sqm step delta)

/-- A block that is stored whole is what was stored. -/
theorem whole (p : Vec Ideal S1x1024x384 .f32) : View.canon [⟨r0_1, p⟩] = p := by
  frame_out

section
variable (x0 : Vec Ideal S1x1x1024x384 .f32) (x1 x2 x3 : Vec Ideal S1x1024x384 .f32) (l : Fin 1) (a : Fin 1024) (b : Fin 384)

/-- The gradient's block is the sum of the parts' blocks. -/
theorem grad_block : out0_4 x0 x1 x2 x3 (ix3 l a b) = x0 (ix4 0 0 a b) := by
  unfold out0_4
  rw [whole]
  unfold_payloads
  pointwise

theorem mom_block : out0_6 x0 x1 x2 x3 (ix3 l a b) = mom (x2 (ix3 0 a b)) (x0 (ix4 0 0 a b)) := by
  rw [← grad_block x0 x1 x2 x3 l a b]
  unfold out0_6
  unfold out0_4
  rw [whole, whole]
  unfold_payloads
  pointwise
  rfl

theorem sqm_block : out0_7 x0 x1 x2 x3 (ix3 l a b) = sqm (x3 (ix3 0 a b)) (x0 (ix4 0 0 a b)) := by
  rw [← grad_block x0 x1 x2 x3 l a b]
  unfold out0_7
  unfold out0_4
  rw [whole, whole]
  unfold_payloads
  pointwise
  rfl

theorem delta_block : out0_5 x0 x1 x2 x3 (ix3 l a b) = delta (x1 (ix3 0 a b)) (x2 (ix3 0 a b)) (x3 (ix3 0 a b)) (x0 (ix4 0 0 a b)) := by
  unfold delta
  rw [← mom_block x0 x1 x2 x3 l a b, ← sqm_block x0 x1 x2 x3 l a b]
  unfold out0_5
  unfold out0_6
  unfold out0_7
  rw [whole, whole, whole]
  unfold_payloads
  pointwise
  rfl
end

/-- The sum of the parts at one weight. -/
def tot (x : Vec Ideal S1x2x1024x384 .f32) (l : Fin 2) (a : Fin 1024) (b : Fin 384) : EReal := x (ix4 0 l a b)

theorem idx_all : ∀ t : Fin grid0.N, win0_0.index t = ![0, t.val, 0, 0] ∧ win0_1.index t = ![t.val, 0, 0] ∧ win0_2.index t = ![t.val, 0, 0] ∧ win0_3.index t = ![t.val, 0, 0]
    ∧ win0_4.index t = ![t.val, 0, 0] ∧ win0_5.index t = ![t.val, 0, 0] ∧ win0_6.index t = ![t.val, 0, 0] ∧ win0_7.index t = ![t.val, 0, 0] := by
  decide +kernel

theorem t_lt (t : Fin cfg0.N) : t.val < 2 := t.isLt

/-- The layer of grid point `t`. -/
def lay (t : Fin cfg0.N) : Fin 2 := ⟨t.val, t_lt t⟩

variable (m : (ℓ : Loc nD τ sig) → Buf (Elt Ideal) ℓ) (c : Dev nD)

theorem blk0 (t : Fin cfg0.N) (s : Fin 1) (a : Fin 1024) (b : Fin 384) : iblk m c 0 t (ix4 s 0 a b) = V m c main_v0 (ix4 s (lay t) a b) := by
  obtain ⟨e, -⟩ := idx_all t
  blk_ext [iblk, lay, e]
theorem blk1 (t : Fin cfg0.N) (a : Fin 1024) (b : Fin 384) : iblk m c 1 t (ix3 0 a b) = V m c main_arg1 (ix3 (lay t) a b) := by
  obtain ⟨-, e, -⟩ := idx_all t
  blk_ext [iblk, lay, e]
theorem blk2 (t : Fin cfg0.N) (a : Fin 1024) (b : Fin 384) : iblk m c 2 t (ix3 0 a b) = V m c main_arg2 (ix3 (lay t) a b) := by
  obtain ⟨-, -, e, -⟩ := idx_all t
  blk_ext [iblk, lay, e]
theorem blk3 (t : Fin cfg0.N) (a : Fin 1024) (b : Fin 384) : iblk m c 3 t (ix3 0 a b) = V m c main_arg3 (ix3 (lay t) a b) := by
  obtain ⟨-, -, -, e, -⟩ := idx_all t
  blk_ext [iblk, lay, e]

theorem blk_tot (t : Fin cfg0.N) (a : Fin 1024) (b : Fin 384) : (iblk m c 0 t (ix4 0 0 a b) : EReal) = tot (V m c main_v0) (lay t) a b :=
  blk0 m c t 0 a b

/-- The array of the gradient as the kernel leaves it. -/
theorem arr4 : (dats m 0 c).arrAt 4 cfg0.N = (fun j => tot (V m c main_v0) (j 0) (j 1) (j 2) : Vec Ideal S2x1024x384 .f32) := by
  refine (dats m 0 c).arrAt_eq_of_covers 4 _ (by decide +kernel) fun t hf y => ?_
  obtain ⟨-, -, -, -, e, -⟩ := idx_all t
  blk_simp
  rw [after0_4]
  have e0 : ((win0_4.blk t).view.emb y 0 : Fin 2) = lay t := by
    refine Fin.ext ?_
    have h := Fin.val_eq_zero (y 0)
    blk_simp [e, lay, h]
  have e1 : ((win0_4.blk t).view.emb y 1 : Fin 1024) = y 1 := by
    refine Fin.ext ?_
    blk_simp [e]
  have e2 : ((win0_4.blk t).view.emb y 2 : Fin 384) = y 2 := by
    refine Fin.ext ?_
    blk_simp [e]
  have ey : (win0_4.blk t).view.emb y = (ix3 (lay t) (y 1) (y 2)) := (eq_ix3 _).trans (by rw [e0, e1, e2]; rfl)
  rw [ey]
  exact (congrArg _ (eq_ix3 y)).trans ((grad_block _ _ _ _ (y 0) (y 1) (y 2)).trans (blk_tot m c t _ _))

/-- The array of the steps as the kernel leaves it. -/
theorem arr5 : (dats m 0 c).arrAt 5 cfg0.N = (fun j => delta (V m c main_arg1 j) (V m c main_arg2 j) (V m c main_arg3 j) (tot (V m c main_v0) (j 0) (j 1) (j 2)) : Vec Ideal S2x1024x384 .f32) := by
  refine (dats m 0 c).arrAt_eq_of_covers 5 _ (by decide +kernel) fun t hf y => ?_
  obtain ⟨-, -, -, -, -, e, -⟩ := idx_all t
  blk_simp
  rw [after0_5]
  have e0 : ((win0_5.blk t).view.emb y 0 : Fin 2) = lay t := by
    refine Fin.ext ?_
    have h := Fin.val_eq_zero (y 0)
    blk_simp [e, lay, h]
  have e1 : ((win0_5.blk t).view.emb y 1 : Fin 1024) = y 1 := by
    refine Fin.ext ?_
    blk_simp [e]
  have e2 : ((win0_5.blk t).view.emb y 2 : Fin 384) = y 2 := by
    refine Fin.ext ?_
    blk_simp [e]
  have ey : (win0_5.blk t).view.emb y = (ix3 (lay t) (y 1) (y 2)) := (eq_ix3 _).trans (by rw [e0, e1, e2]; rfl)
  rw [ey]
  exact (congrArg _ (eq_ix3 y)).trans ((delta_block _ _ _ _ (y 0) (y 1) (y 2)).trans ((congrArg₂ (fun p q => delta p q _ _) (blk1 m c t _ _) (blk2 m c t _ _)).trans (congrArg₂ (fun p q => delta _ _ p q) (blk3 m c t _ _) (blk_tot m c t _ _))))

/-- The array of the first moments as the kernel leaves it. -/
theorem arr6 : (dats m 0 c).arrAt 6 cfg0.N = (fun j => mom (V m c main_arg2 j) (tot (V m c main_v0) (j 0) (j 1) (j 2)) : Vec Ideal S2x1024x384 .f32) := by
  refine (dats m 0 c).arrAt_eq_of_covers 6 _ (by decide +kernel) fun t hf y => ?_
  obtain ⟨-, -, -, -, -, -, e, -⟩ := idx_all t
  blk_simp
  rw [after0_6]
  have e0 : ((win0_6.blk t).view.emb y 0 : Fin 2) = lay t := by
    refine Fin.ext ?_
    have h := Fin.val_eq_zero (y 0)
    blk_simp [e, lay, h]
  have e1 : ((win0_6.blk t).view.emb y 1 : Fin 1024) = y 1 := by
    refine Fin.ext ?_
    blk_simp [e]
  have e2 : ((win0_6.blk t).view.emb y 2 : Fin 384) = y 2 := by
    refine Fin.ext ?_
    blk_simp [e]
  have ey : (win0_6.blk t).view.emb y = (ix3 (lay t) (y 1) (y 2)) := (eq_ix3 _).trans (by rw [e0, e1, e2]; rfl)
  rw [ey]
  exact (congrArg _ (eq_ix3 y)).trans ((mom_block _ _ _ _ (y 0) (y 1) (y 2)).trans (congrArg₂ mom (blk2 m c t _ _) (blk_tot m c t _ _)))

/-- The array of the second moments as the kernel leaves it. -/
theorem arr7 : (dats m 0 c).arrAt 7 cfg0.N = (fun j => sqm (V m c main_arg3 j) (tot (V m c main_v0) (j 0) (j 1) (j 2)) : Vec Ideal S2x1024x384 .f32) := by
  refine (dats m 0 c).arrAt_eq_of_covers 7 _ (by decide +kernel) fun t hf y => ?_
  obtain ⟨-, -, -, -, -, -, -, e⟩ := idx_all t
  blk_simp
  rw [after0_7]
  have e0 : ((win0_7.blk t).view.emb y 0 : Fin 2) = lay t := by
    refine Fin.ext ?_
    have h := Fin.val_eq_zero (y 0)
    blk_simp [e, lay, h]
  have e1 : ((win0_7.blk t).view.emb y 1 : Fin 1024) = y 1 := by
    refine Fin.ext ?_
    blk_simp [e]
  have e2 : ((win0_7.blk t).view.emb y 2 : Fin 384) = y 2 := by
    refine Fin.ext ?_
    blk_simp [e]
  have ey : (win0_7.blk t).view.emb y = (ix3 (lay t) (y 1) (y 2)) := (eq_ix3 _).trans (by rw [e0, e1, e2]; rfl)
  rw [ey]
  exact (congrArg _ (eq_ix3 y)).trans ((sqm_block _ _ _ _ (y 0) (y 1) (y 2)).trans (congrArg₂ sqm (blk3 m c t _ _) (blk_tot m c t _ _)))

end Cert.Kernel13Ideal.Update

end
-- ==== Proof.Step13.lean ====
module

public import proofs.«01_k».proof.Defs
public import proofs.«01_k».proof.Proof.Gen.Reference13Ideal.Run
public import proofs.«01_k».proof.Proof.Adam13
public import Idealize.ShloMosaic.Lib.StableHlo.RunRead

@[expose] public section

set_option maxRecDepth 16384

noncomputable section

namespace Cert.Kernel13Ideal.Update

open Idealize.ShloMosaic Idealize.ShloMosaic.TcCoe Cert.Kernel13Ideal.Gen
open Cert.Adam (mom sqm step delta)

section
variable (p : Vec Ideal S2x1024x384 .f32) (w m v : Vec Ideal S2x1024x384 .f32)

/-- The gradient at one weight. -/
def grad (l : Fin 2) (a : Fin 1024) (b : Fin 384) : EReal := p (ix3 l a b)

/-- The gradients. -/
def grads : Vec Ideal S2x1024x384 .f32 := fun j => grad p (j 0) (j 1) (j 2)

/-- What is added to the weights. -/
def deltas : Vec Ideal S2x1024x384 .f32 := fun j => delta (w (ix3 (j 0) (j 1) (j 2))) (m (ix3 (j 0) (j 1) (j 2))) (v (ix3 (j 0) (j 1) (j 2))) (grad p (j 0) (j 1) (j 2))

/-- The new first moments. -/
def moms : Vec Ideal S2x1024x384 .f32 := fun j => mom (m (ix3 (j 0) (j 1) (j 2))) (grad p (j 0) (j 1) (j 2))

/-- The new second moments. -/
def sqms : Vec Ideal S2x1024x384 .f32 := fun j => sqm (v (ix3 (j 0) (j 1) (j 2))) (grad p (j 0) (j 1) (j 2))
end

section
variable (m : (ℓ : Loc nD τ sig) → Buf (Elt Ideal) ℓ) (c : Dev nD)

/-- Argument 0. -/
def a0 : Vec Ideal S2x1024x384 .f32 := m ((c.tc : Thread nD τ).loc main_arg0)
/-- Argument 1. -/
def a1 : Vec Ideal S2x1024x384 .f32 := m ((c.tc : Thread nD τ).loc main_arg1)
/-- Argument 2. -/
def a2 : Vec Ideal S2x1024x384 .f32 := m ((c.tc : Thread nD τ).loc main_arg2)
/-- Argument 3. -/
def a3 : Vec Ideal S2x1024x384 .f32 := m ((c.tc : Thread nD τ).loc main_arg3)

theorem V_parts : @Eq (Vec Ideal S1x2x1024x384 .f32) (V (F := Ideal) m c main_v0)
    (broadcastInDim S1x2x1024x384 ![1, 2, 3] bcast_S2x1024x384_S1x2x1024x384_1_2_3 (a0 m c)) := by
  unfold V
  after_reads_simp <;> rfl

theorem V1_apply (l : Fin 2) (a : Fin 1024) (b : Fin 384) : V (F := Ideal) m c main_arg1 (ix3 l a b) = a1 m c (ix3 l a b) :=
  congrFun (V_main_arg1 m c) _

theorem V2_apply (l : Fin 2) (a : Fin 1024) (b : Fin 384) : V (F := Ideal) m c main_arg2 (ix3 l a b) = a2 m c (ix3 l a b) :=
  congrFun (V_main_arg2 m c) _

theorem V3_apply (l : Fin 2) (a : Fin 1024) (b : Fin 384) : V (F := Ideal) m c main_arg3 (ix3 l a b) = a3 m c (ix3 l a b) :=
  congrFun (V_main_arg3 m c) _

theorem tot_eq (l : Fin 2) (a : Fin 1024) (b : Fin 384) : tot (V (F := Ideal) m c main_v0) l a b = grad (a0 m c) l a b := by
  unfold tot grad
  rw [V_parts]
  pointwise

theorem left4 : (dats m 0 c).arrAt 4 cfg0.N = grads (a0 m c) := by
  rw [arr4]
  refine funext fun j => ?_
  rw [eq_ix3 j]
  exact tot_eq m c _ _ _

theorem left5 : (dats m 0 c).arrAt 5 cfg0.N = deltas (a0 m c) (a1 m c) (a2 m c) (a3 m c) := by
  rw [arr5]
  refine funext fun j => ?_
  rw [eq_ix3 j]
  exact (congrArg₂ (fun p q => delta p q _ _) (V1_apply m c _ _ _) (V2_apply m c _ _ _)).trans (congrArg₂ (fun p q => delta _ _ p q) (V3_apply m c _ _ _) (tot_eq m c _ _ _))

theorem left6 : (dats m 0 c).arrAt 6 cfg0.N = moms (a0 m c) (a2 m c) := by
  rw [arr6]
  refine funext fun j => ?_
  rw [eq_ix3 j]
  exact congrArg₂ mom (V2_apply m c _ _ _) (tot_eq m c _ _ _)

theorem left7 : (dats m 0 c).arrAt 7 cfg0.N = sqms (a0 m c) (a3 m c) := by
  rw [arr7]
  refine funext fun j => ?_
  rw [eq_ix3 j]
  exact congrArg₂ sqm (V3_apply m c _ _ _) (tot_eq m c _ _ _)
end

end Cert.Kernel13Ideal.Update

namespace Cert.Proof

open Idealize.ShloMosaic Idealize.SL.Sem
open Cert.Kernel13Ideal.Update (grads deltas moms sqms)

/-- The call leaves the gradients, the steps and the new moments. -/
theorem adam13 : Cert.algebraic_Kernel13Ideal_Reference13Ideal := by
  intro m g m' g' _ hag
  refine ⟨fun c => grads (Cert.Kernel13Ideal.Update.a0 m c), fun c => deltas (Cert.Kernel13Ideal.Update.a0 m c) (Cert.Kernel13Ideal.Update.a1 m c) (Cert.Kernel13Ideal.Update.a2 m c) (Cert.Kernel13Ideal.Update.a3 m c), fun c => moms (Cert.Kernel13Ideal.Update.a0 m c) (Cert.Kernel13Ideal.Update.a2 m c), fun c => sqms (Cert.Kernel13Ideal.Update.a0 m c) (Cert.Kernel13Ideal.Update.a3 m c), ?_, ?_⟩
  · refine (θ_run Cert.Kernel13Ideal.defs _ _).mono (fun r h c => ?_) (Cert.Kernel13Ideal.Value.run_blocks (F := Ideal) m g)
    obtain ⟨h4, h5, h6, h7, hargs⟩ := h c
    exact ⟨h4.trans (Cert.Kernel13Ideal.Update.left4 m c), h5.trans (Cert.Kernel13Ideal.Update.left5 m c), h6.trans (Cert.Kernel13Ideal.Update.left6 m c),
      h7.trans (Cert.Kernel13Ideal.Update.left7 m c), hargs⟩
  · refine (θ_run Cert.Reference13Ideal.defs _ _).mono (fun r h c => ?_) (Cert.Reference13Ideal.Value.run (F := Ideal) m' g')
    obtain ⟨e0, e1, e2, e3⟩ := hag c
    obtain ⟨h4, h5, h6, h7, hargs⟩ := h c
    refine ⟨(h4.trans e0).trans ?_, h5.trans ?_, h6.trans ?_, h7.trans ?_, hargs⟩
    · refine funext fun j => ?_
      rw [eq_ix3 j]
      rfl
    all_goals
      simp only [e0, e1, e2, e3]
      refine funext fun j => ?_
      obtain ⟨l, a, b, rfl⟩ : ∃ (l : Fin 2) (a : Fin 1024) (b : Fin 384), j = ix3 l a b := ⟨j 0, j 1, j 2, eq_ix3 j⟩
      pointwise
      rfl

end Cert.Proof

end
-- ==== Proof.Mm14.lean ====
/- The adaptive modulation's gradient in its weights: `aᵀ · d`, summed over sixteen rows, two of each device. -/
module

public import proofs.«01_k».proof.Defs
public import proofs.«01_k».proof.Proof.Gen.Kernel14Ideal.Value
public import proofs.«01_k».proof.Proof.Gen.Reference14Ideal.Run
public import Idealize.ShloMosaic.Lib.Pipeline.ValueKit
public import Idealize.ShloMosaic.Lib.Pipeline.ReadBack
public import Idealize.ShloMosaic.PureOps.Ideal.Laws

@[expose] public section

set_option maxRecDepth 16384

noncomputable section

namespace Cert.Kernel14Ideal.Product

open Idealize.ShloMosaic Idealize.ShloMosaic.TcCoe Cert.Kernel14Ideal.Gen
open Idealize.ShloMosaic.Pipeline (Dat Cfg Window)

/-- A grid point's block of the result is the product of its two blocks. -/
theorem out_eq (x : Vec Ideal S16x1024 .f32) (y : Vec Ideal S16x384 .f32) : out0_2 x y = k0_pay1 x y := by
  frame_out

theorem pay_apply (x : Vec Ideal S16x1024 .f32) (y : Vec Ideal S16x384 .f32) (a : Fin 1024) (b : Fin 384) :
    k0_pay1 x y (ix2 a b) = ∑ k : Fin 16, x (ix2 k a) * y (ix2 k b) := by
  unfold k0_pay1
  pointwise

/-- The product, entry by entry. -/
def prod (x : Vec Ideal S16x1024 .f32) (y : Vec Ideal S16x384 .f32) : Vec Ideal S1024x384 .f32 :=
  fun j => ∑ k : Fin 16, x (ix2 k (j 0)) * y (ix2 k (j 1))

theorem idx_all : ∀ t : Fin grid0.N, win0_0.index t = ![0, 0] ∧ win0_1.index t = ![0, 0] ∧ win0_2.index t = ![0, 0] := by
  decide +kernel

variable (m : (ℓ : Loc nD τ sig) → Buf (Elt Ideal) ℓ) (c : Dev nD)

theorem blk0 (t : Fin cfg0.N) (k : Fin 16) (a : Fin 1024) : iblk m c 0 t (ix2 k a) = V m c main_arg0 (ix2 k a) := by
  obtain ⟨e, -⟩ := idx_all t
  blk_ext [iblk, e]
theorem blk1 (t : Fin cfg0.N) (k : Fin 16) (b : Fin 384) : iblk m c 1 t (ix2 k b) = V m c main_arg1 (ix2 k b) := by
  obtain ⟨-, e, -⟩ := idx_all t
  blk_ext [iblk, e]

/-- The result as the kernel leaves it. -/
theorem arr : (dats m 0 c).arrAt 2 cfg0.N = prod (V m c main_arg0) (V m c main_arg1) := by
  refine (dats m 0 c).arrAt_eq_of_covers 2 _ (by decide +kernel) fun t hf y => ?_
  obtain ⟨-, -, e⟩ := idx_all t
  blk_simp
  rw [after0_2]
  have e0 : ((win0_2.blk t).view.emb y 0 : Fin 1024) = y 0 := by
    refine Fin.ext ?_
    blk_simp [e]
  have e1 : ((win0_2.blk t).view.emb y 1 : Fin 384) = y 1 := by
    refine Fin.ext ?_
    blk_simp [e]
  unfold prod
  rw [e0, e1, out_eq]
  refine (congrArg _ (eq_ix2 y)).trans ((pay_apply _ _ (y 0) (y 1)).trans ?_)
  exact Finset.sum_congr rfl fun k _ => congrArg₂ (· * ·) (blk0 m c t k _) (blk1 m c t k _)

/-- The reference's product. -/
theorem ref_eq (x : Vec Ideal S16x1024 .f32) (y : Vec Ideal S16x384 .f32) :
    (transpose Cert.Reference14Ideal.S1024x384 [1, 0]
      (Host.dotGeneral (φ₁ := .f32) (φ₂ := .f32) Cert.Reference14Ideal.dot_S16x384_S16x1024_S384x1024_0_0_1_1_n_n none (y : FVec Ideal S16x384 .f32) (x : FVec Ideal S16x1024 .f32))
      Cert.Reference14Ideal.Gen.transposes_S384x1024_S1024x384_1_0 : FVec Ideal S1024x384 .f32)
      = prod x y := by
  funext j
  obtain ⟨a, b, rfl⟩ : ∃ (a : Fin 1024) (b : Fin 384), j = ix2 a b := ⟨j 0, j 1, eq_ix2 j⟩
  unfold prod
  pointwise
  exact Finset.sum_congr rfl fun k _ => mul_comm _ _

end Cert.Kernel14Ideal.Product

namespace Cert.Proof

open Idealize.ShloMosaic Idealize.SL.Sem

/-- The kernel leaves the product. -/
theorem product14 : Cert.algebraic_Kernel14Ideal_Reference14Ideal := by
  intro m g m' g' _ hag
  refine ⟨fun c => Cert.Kernel14Ideal.Product.prod (m ((c.tc : Thread Cert.Kernel14Ideal.nD Cert.Kernel14Ideal.τ).loc Cert.Kernel14Ideal.main_arg0))
    (m ((c.tc : Thread Cert.Kernel14Ideal.nD Cert.Kernel14Ideal.τ).loc Cert.Kernel14Ideal.main_arg1)), ?_, ?_⟩
  · refine (θ_run Cert.Kernel14Ideal.defs _ _).mono (fun r h c => ?_) (Cert.Kernel14Ideal.Value.run_blocks (F := Ideal) m g)
    refine ⟨(h c).1.trans ?_, (h c).2⟩
    rw [Cert.Kernel14Ideal.Product.arr, Cert.Kernel14Ideal.Gen.V_main_arg0, Cert.Kernel14Ideal.Gen.V_main_arg1]
  · refine (θ_run Cert.Reference14Ideal.defs _ _).mono (fun r h c => ?_) (Cert.Reference14Ideal.Value.run (F := Ideal) m' g')
    refine ⟨(h c).1.trans ?_, (h c).2⟩
    rw [(hag c).1, (hag c).2]
    exact Cert.Kernel14Ideal.Product.ref_eq _ _

end Cert.Proof

end
-- ==== Proof.Mm15.lean ====
/- The adaptive modulation: `a · w + b`, eight rows, three blocks of 1024 columns. -/
module

public import proofs.«01_k».proof.Defs
public import proofs.«01_k».proof.Proof.Gen.Kernel15Ideal.Value
public import proofs.«01_k».proof.Proof.Gen.Reference15Ideal.Run
public import Idealize.ShloMosaic.Lib.StableHlo.RunRead
public import Idealize.ShloMosaic.Lib.Pipeline.ValueKit
public import Idealize.ShloMosaic.Lib.Pipeline.ReadBack
public import Idealize.ShloMosaic.PureOps.Ideal.Laws

@[expose] public section

set_option maxRecDepth 16384

noncomputable section

namespace Cert.Kernel15Ideal.Product

open Idealize.ShloMosaic Idealize.ShloMosaic.TcCoe Cert.Kernel15Ideal.Gen
open Idealize.ShloMosaic.Pipeline (Dat Cfg Window)

/-- A grid point's block of the result is the product of its two blocks and the bias. -/
theorem out_eq (x : Vec Ideal S8x1024 .f32) (y : Vec Ideal S1024x1024 .bf16) (z : Vec Ideal S1x1024 .f32) : out0_3 x y z = k0_pay1 x y z := by
  frame_out

theorem pay_apply (x : Vec Ideal S8x1024 .f32) (y : Vec Ideal S1024x1024 .bf16) (z : Vec Ideal S1x1024 .f32) (a : Fin 8) (b : Fin 1024) :
    k0_pay1 x y z (ix2 a b) = (∑ k : Fin 1024, x (ix2 a k) * y (ix2 k b)) + z (ix2 0 b) := by
  unfold k0_pay1
  pointwise

/-- The product and the bias, entry by entry. -/
def prod (x : Vec Ideal S8x1024 .f32) (y : Vec Ideal S1024x3072 .bf16) (z : Vec Ideal S3072 .f32) : Vec Ideal S8x3072 .f32 :=
  fun j => (∑ k : Fin 1024, x (ix2 (j 0) k) * y (ix2 k (j 1))) + z (ix1 (j 1))

theorem idx_all : ∀ t : Fin grid0.N, win0_0.index t = ![0, 0] ∧ win0_1.index t = ![0, t.val] ∧ win0_2.index t = ![0, t.val]
    ∧ win0_3.index t = ![0, t.val] := by
  decide +kernel

theorem t_lt (t : Fin cfg0.N) : t.val < 3 := t.isLt

/-- Column `b` of the block of grid point `t`. -/
def col (t : Fin cfg0.N) (b : Fin 1024) : Fin 3072 := ⟨1024 * t.val + b.val, by have := t_lt t; omega⟩

variable (m : (ℓ : Loc nD τ sig) → Buf (Elt Ideal) ℓ) (c : Dev nD)

theorem V_bias : @Eq (Vec Ideal S1x3072 .f32) (V (F := Ideal) m c main_v0)
    (broadcastInDim S1x3072 ![1] bcast_S3072_S1x3072_1 (V m c main_arg2)) := by
  rw [V_main_arg2]
  unfold V
  after_reads_simp <;> rfl

theorem blk0 (t : Fin cfg0.N) (a : Fin 8) (k : Fin 1024) : iblk m c 0 t (ix2 a k) = V m c main_arg0 (ix2 a k) := by
  obtain ⟨e, -⟩ := idx_all t
  blk_ext [iblk, e]
theorem blk1 (t : Fin cfg0.N) (k : Fin 1024) (b : Fin 1024) : iblk m c 1 t (ix2 k b) = V m c main_arg1 (ix2 k (col t b)) := by
  obtain ⟨-, e, -⟩ := idx_all t
  blk_ext [iblk, col, e]
theorem blk2 (t : Fin cfg0.N) (b : Fin 1024) : iblk m c 2 t (ix2 0 b) = V m c main_arg2 (ix1 (col t b)) := by
  obtain ⟨-, -, e, -⟩ := idx_all t
  have h : iblk m c 2 t (ix2 0 b) = V m c main_v0 (ix2 0 (col t b)) := by blk_ext [iblk, col, e]
  rw [h, V_bias]
  pointwise

/-- The result as the kernel leaves it. -/
theorem arr : (dats m 0 c).arrAt 3 cfg0.N = prod (V m c main_arg0) (V m c main_arg1) (V m c main_arg2) := by
  refine (dats m 0 c).arrAt_eq_of_covers 3 _ (by decide +kernel) fun t hf y => ?_
  obtain ⟨-, -, -, e⟩ := idx_all t
  blk_simp
  rw [after0_3]
  have e0 : ((win0_3.blk t).view.emb y 0 : Fin 8) = y 0 := by
    refine Fin.ext ?_
    blk_simp [e]
  have e1 : ((win0_3.blk t).view.emb y 1 : Fin 3072) = col t (y 1) := by
    refine Fin.ext ?_
    blk_simp [e]
    exact congrArg (· + _) (Nat.mul_comm _ _)
  unfold prod
  rw [e0, e1, out_eq]
  refine (congrArg _ (eq_ix2 y)).trans ((pay_apply _ _ _ (y 0) (y 1)).trans ?_)
  exact congrArg₂ (· + ·) (Finset.sum_congr rfl fun k _ => congrArg₂ (· * ·) (blk0 m c t _ k) (blk1 m c t k _)) (blk2 m c t _)

/-- The reference's product and bias. -/
theorem ref_eq (x : Vec Ideal S8x1024 .f32) (y : Vec Ideal S1024x3072 .bf16) (z : Vec Ideal S3072 .f32) :
    (addf (Host.dotGeneral (φ₁ := .f32) (φ₂ := .f32) Cert.Reference15Ideal.dot_S8x1024_S1024x3072_S8x3072_1_0_0_1_n_n none (x : FVec Ideal S8x1024 .f32)
      (extf .f32 y Cert.Reference15Ideal.Gen.bitsLt_bf16_f32))
      (broadcastInDim Cert.Reference15Ideal.S8x3072 ![0, 1] Cert.Reference15Ideal.Gen.bcast_S1x3072_S8x3072_0_1
        (broadcastInDim Cert.Reference15Ideal.S1x3072 ![1] Cert.Reference15Ideal.Gen.bcast_S3072_S1x3072_1 z)) : FVec Ideal S8x3072 .f32)
      = prod x y z := by
  funext j
  obtain ⟨a, b, rfl⟩ : ∃ (a : Fin 8) (b : Fin 3072), j = ix2 a b := ⟨j 0, j 1, eq_ix2 j⟩
  unfold prod
  pointwise

end Cert.Kernel15Ideal.Product

namespace Cert.Proof

open Idealize.ShloMosaic Idealize.SL.Sem

/-- The kernel leaves the modulation. -/
theorem product15 : Cert.algebraic_Kernel15Ideal_Reference15Ideal := by
  intro m g m' g' _ hag
  refine ⟨fun c => Cert.Kernel15Ideal.Product.prod (m ((c.tc : Thread Cert.Kernel15Ideal.nD Cert.Kernel15Ideal.τ).loc Cert.Kernel15Ideal.main_arg0))
    (m ((c.tc : Thread Cert.Kernel15Ideal.nD Cert.Kernel15Ideal.τ).loc Cert.Kernel15Ideal.main_arg1))
    (m ((c.tc : Thread Cert.Kernel15Ideal.nD Cert.Kernel15Ideal.τ).loc Cert.Kernel15Ideal.main_arg2)), ?_, ?_⟩
  · refine (θ_run Cert.Kernel15Ideal.defs _ _).mono (fun r h c => ?_) (Cert.Kernel15Ideal.Value.run_blocks (F := Ideal) m g)
    refine ⟨(h c).1.trans ?_, (h c).2⟩
    rw [Cert.Kernel15Ideal.Product.arr, Cert.Kernel15Ideal.Gen.V_main_arg0, Cert.Kernel15Ideal.Gen.V_main_arg1, Cert.Kernel15Ideal.Gen.V_main_arg2]
  · refine (θ_run Cert.Reference15Ideal.defs _ _).mono (fun r h c => ?_) (Cert.Reference15Ideal.Value.run (F := Ideal) m' g')
    refine ⟨(h c).1.trans ?_, (h c).2⟩
    rw [(hag c).1, (hag c).2.1, (hag c).2.2]
    exact Cert.Kernel15Ideal.Product.ref_eq _ _ _

end Cert.Proof

end
-- ==== Proof.Mm16.lean ====
/- The adaptive modulation's gradient in its argument: `d · wᵀ`, eight rows, summed over three runs of 1024 columns. -/
module

public import proofs.«01_k».proof.Defs
public import proofs.«01_k».proof.Proof.Gen.Kernel16Ideal.Value
public import proofs.«01_k».proof.Proof.Gen.Reference16Ideal.Run
public import Idealize.ShloMosaic.Lib.Pipeline.ValueKit
public import Idealize.ShloMosaic.Lib.Pipeline.ReadBack
public import Idealize.ShloMosaic.PureOps.Ideal.Laws

@[expose] public section

set_option maxRecDepth 16384

noncomputable section

namespace Cert.Kernel16Ideal.Product

open Idealize.ShloMosaic Idealize.ShloMosaic.TcCoe Cert.Kernel16Ideal.Gen
open Idealize.ShloMosaic.Pipeline (Dat Cfg Window)

section Cases
variable (c : Dev nD) (i : grid0.Coords) (arg3 : Memref sig .tc .vmem S8x1024 .f32) (harg3 : arg3.IsWhole)
  (arg4 : Memref sig .tc .vmem S1024x1024 .bf16) (harg4 : arg4.IsWhole) (arg5 : Memref sig .tc .vmem S8x1024 .f32) (harg5 : arg5.IsWhole)
  (arg6 : Memref sig .tc .vmem S8x1024 .f32) (harg6 : arg6.IsWhole)
  (x : Vec Ideal S8x1024 .f32) (y : Vec Ideal S1024x1024 .bf16) (acc : Vec Ideal S8x1024 .f32)

/-- A first point's sum is the product of its two blocks. -/
theorem sumA (h0 : cond0_0 i) (h1 : ¬cond0_1 i) (h2 : ¬cond0_2 i) :
    sout0_A_0 c i arg3 harg3 arg4 harg4 arg5 harg5 arg6 harg6 h0 h1 h2 x y = k0_pay2 x y := by
  frame_out
/-- A later point's sum is what was there and the product of its two blocks. -/
theorem sumB (h0 : ¬cond0_0 i) (h1 : cond0_1 i) (h2 : ¬cond0_2 i) :
    sout0_B_0 c i arg3 harg3 arg4 harg4 arg5 harg5 arg6 harg6 h0 h1 h2 x y acc = k0_pay3 x y acc := by
  frame_out
theorem sumC (h0 : ¬cond0_0 i) (h1 : cond0_1 i) (h2 : cond0_2 i) :
    sout0_C_0 c i arg3 harg3 arg4 harg4 arg5 harg5 arg6 harg6 h0 h1 h2 x y acc = k0_pay3 x y acc := by
  frame_out
/-- A last point's result is its sum. -/
theorem outC (h0 : ¬cond0_0 i) (h1 : cond0_1 i) (h2 : cond0_2 i) :
    out0_C_2 c i arg3 harg3 arg4 harg4 arg5 harg5 arg6 harg6 h0 h1 h2 x y acc = k0_pay3 x y acc := by
  frame_out
end Cases

theorem pay2_apply (x : Vec Ideal S8x1024 .f32) (y : Vec Ideal S1024x1024 .bf16) (a : Fin 8) (b : Fin 1024) :
    k0_pay2 x y (ix2 a b) = ∑ k : Fin 1024, x (ix2 a k) * y (ix2 b k) := by
  unfold k0_pay2 k0_pay1
  pointwise
theorem pay3_apply (x : Vec Ideal S8x1024 .f32) (y : Vec Ideal S1024x1024 .bf16) (acc : Vec Ideal S8x1024 .f32) (a : Fin 8) (b : Fin 1024) :
    k0_pay3 x y acc (ix2 a b) = acc (ix2 a b) + ∑ k : Fin 1024, x (ix2 a k) * y (ix2 b k) := by
  unfold k0_pay3 k0_pay1
  pointwise

/-- The product, entry by entry. -/
def prod (x : Vec Ideal S8x3072 .f32) (y : Vec Ideal S1024x3072 .bf16) : Vec Ideal S8x1024 .f32 :=
  fun j => ∑ k : Fin 3072, x (ix2 (j 0) k) * y (ix2 (j 1) k)

theorem idx_all : ∀ t : Fin grid0.N, win0_0.index t = ![0, t.val % 3] ∧ win0_1.index t = ![0, t.val % 3]
    ∧ win0_2.index t = ![0, 0] := by
  decide +kernel

theorem t_lt (t : Fin cfg0.N) : t.val < 3 := t.isLt

/-- Column `k` of run `s`. -/
def col (s : Fin 3) (k : Fin 1024) : Fin 3072 := ⟨1024 * s.val + k.val, by omega⟩
/-- The run of grid point `t`. -/
def run (t : Fin cfg0.N) : Fin 3 := ⟨t.val % 3, by omega⟩

/-- A sum over the columns, run by run. -/
theorem sum_col {M : Type} [AddCommMonoid M] (f : Fin 3072 → M) : ∑ s : Fin 3, ∑ k : Fin 1024, f (col s k) = ∑ k, f k := by
  rw [← Fintype.sum_prod_type']
  refine Fintype.sum_equiv (finProdFinEquiv (m := 3) (n := 1024)) (fun x => f (col x.1 x.2)) f fun x => congrArg f (Fin.ext ?_)
  exact Nat.add_comm _ _

variable (m : (ℓ : Loc nD τ sig) → Buf (Elt Ideal) ℓ) (c : Dev nD)

theorem blk0 (t : Fin cfg0.N) (a : Fin 8) (k : Fin 1024) : iblk m c 0 t (ix2 a k) = V m c main_arg0 (ix2 a (col (run t) k)) := by
  obtain ⟨e, -⟩ := idx_all t
  blk_ext [iblk, col, run, e]
theorem blk1 (t : Fin cfg0.N) (b : Fin 1024) (k : Fin 1024) : iblk m c 1 t (ix2 b k) = V m c main_arg1 (ix2 b (col (run t) k)) := by
  obtain ⟨-, e, -⟩ := idx_all t
  blk_ext [iblk, col, run, e]

/-- The part of run `s` in an entry of the product. -/
def part (x : Vec Ideal S8x3072 .f32) (y : Vec Ideal S1024x3072 .bf16) (s : Fin 3) (i : Fin 8) (j : Fin 1024) : EReal :=
  ∑ k : Fin 1024, x (ix2 i (col s k)) * y (ix2 j (col s k))

/-- The runs' parts make the entry. -/
theorem sum_part (x : Vec Ideal S8x3072 .f32) (y : Vec Ideal S1024x3072 .bf16) (i : Fin 8) (j : Fin 1024) :
    ∑ s : Fin 3, part x y s i j = ∑ k : Fin 3072, x (ix2 i k) * y (ix2 j k) :=
  sum_col fun k => x (ix2 i k) * y (ix2 j k)

/-- The sum after a first point. -/
theorem ptA (t : Fin cfg0.N) (h : t.val % 3 = 0) (a : Fin 8) (b : Fin 1024) :
    (outsAt0 m c t.val t.isLt).2 (ix2 a b) = part (V m c main_arg0) (V m c main_arg1) (run t) a b := by
  rw [outsAt0_A m c t h (by have := t_lt t; omega) (by omega)]
  dsimp only
  rw [sumA, pay2_apply]
  exact Finset.sum_congr rfl fun k _ => congrArg₂ (· * ·) (blk0 m c t a k) (blk1 m c t b k)

/-- The sum after a later point. -/
theorem ptB (t : Fin cfg0.N) (h : ¬t.val % 3 = 0) (a : Fin 8) (b : Fin 1024) :
    (outsAt0 m c t.val t.isLt).2 (ix2 a b) = (outsAt0 m c (t.val - 1) (Nat.lt_of_le_of_lt (Nat.sub_le _ _) t.isLt)).2 (ix2 a b)
      + part (V m c main_arg0) (V m c main_arg1) (run t) a b := by
  by_cases h3 : t.val % 3 = 2
  · rw [outsAt0_C m c t h (by omega) h3]
    dsimp only
    rw [sumC, pay3_apply]
    exact congrArg (_ + ·) (Finset.sum_congr rfl fun k _ => congrArg₂ (· * ·) (blk0 m c t a k) (blk1 m c t b k))
  · rw [outsAt0_B m c t h (by omega) h3]
    dsimp only
    rw [sumB, pay3_apply]
    exact congrArg (_ + ·) (Finset.sum_congr rfl fun k _ => congrArg₂ (· * ·) (blk0 m c t a k) (blk1 m c t b k))

/-- The result of a last point is its sum. -/
theorem ptOut (t : Fin cfg0.N) (h : t.val % 3 = 2) (j : S8x1024.Idx) :
    (outsAt0 m c t.val t.isLt).1 j = (outsAt0 m c t.val t.isLt).2 j := by
  rw [outsAt0_C m c t (by omega) (by omega) h]
  dsimp only
  rw [outC, sumC]

/-- The result as the kernel leaves it. -/
theorem arr : (dats m 0 c).arrAt 2 cfg0.N = prod (V m c main_arg0) (V m c main_arg1) := by
  refine (dats m 0 c).arrAt_eq_of_covers 2 _ (by decide +kernel) fun t hf y => ?_
  obtain ⟨-, -, e⟩ := idx_all t
  have hr : t.val % 3 = 3 - 1 := (flush0_2 t).mp hf
  blk_simp
  rw [after0_2]
  have e0 : ((win0_2.blk t).view.emb y 0 : Fin 8) = y 0 := by
    refine Fin.ext ?_
    blk_simp [e]
  have e1 : ((win0_2.blk t).view.emb y 1 : Fin 1024) = y 1 := by
    refine Fin.ext ?_
    blk_simp [e]
  unfold prod
  rw [e0, e1]
  refine (ptOut m c t hr y).trans ?_
  refine (Pipeline.eq_sum_fin_of_reset_step_apply_of_flush (N := cfg0.N) (fun n h => (outsAt0 m c n h).2) 3 0
    (fun t y => part (V m c main_arg0) (V m c main_arg1) (run t) (y 0) (y 1))
    (fun t h i => ?_) (fun t h i => ?_) t hr y).trans ?_
  · rw [eq_ix2 i]
    exact (ptA m c t h (i 0) (i 1)).trans (zero_add _).symm
  · rw [eq_ix2 i]
    exact ptB m c t h (i 0) (i 1)
  · refine (zero_add _).trans (Eq.trans ?_ (sum_part (V m c main_arg0) (V m c main_arg1) (y 0) (y 1)))
    refine Finset.sum_congr rfl fun s _ => ?_
    have r1 : run ⟨3 * (t.val / 3) + s.val, Pipeline.run_point_lt_of_flush t hr s⟩ = s := Fin.ext (by simp only [run]; omega)
    rw [r1]

/-- The reference's product. -/
theorem ref_eq (x : Vec Ideal S8x3072 .f32) (y : Vec Ideal S1024x3072 .bf16) :
    (Host.dotGeneral (φ₁ := .f32) (φ₂ := .f32) Cert.Reference16Ideal.dot_S8x3072_S1024x3072_S8x1024_1_1_0_0_n_n none (x : FVec Ideal S8x3072 .f32)
      (extf .f32 y Cert.Reference16Ideal.Gen.bitsLt_bf16_f32) : FVec Ideal S8x1024 .f32)
      = prod x y := by
  funext j
  unfold prod
  pointwise

end Cert.Kernel16Ideal.Product

namespace Cert.Proof

open Idealize.ShloMosaic Idealize.SL.Sem

/-- The kernel leaves the gradient. -/
theorem product16 : Cert.algebraic_Kernel16Ideal_Reference16Ideal := by
  intro m g m' g' _ hag
  refine ⟨fun c => Cert.Kernel16Ideal.Product.prod (m ((c.tc : Thread Cert.Kernel16Ideal.nD Cert.Kernel16Ideal.τ).loc Cert.Kernel16Ideal.main_arg0))
    (m ((c.tc : Thread Cert.Kernel16Ideal.nD Cert.Kernel16Ideal.τ).loc Cert.Kernel16Ideal.main_arg1)), ?_, ?_⟩
  · refine (θ_run Cert.Kernel16Ideal.defs _ _).mono (fun r h c => ?_) (Cert.Kernel16Ideal.Value.run_blocks (F := Ideal) m g)
    refine ⟨(h c).1.trans ?_, (h c).2⟩
    rw [Cert.Kernel16Ideal.Product.arr, Cert.Kernel16Ideal.Gen.V_main_arg0, Cert.Kernel16Ideal.Gen.V_main_arg1]
  · refine (θ_run Cert.Reference16Ideal.defs _ _).mono (fun r h c => ?_) (Cert.Reference16Ideal.Value.run (F := Ideal) m' g')
    refine ⟨(h c).1.trans ?_, (h c).2⟩
    rw [(hag c).1, (hag c).2]
    exact Cert.Kernel16Ideal.Product.ref_eq _ _

end Cert.Proof

end
-- ==== Proof.Rms.lean ====
/- One over the root of the mean of the squares of a row, and the two segments of a sequence. -/
module

public import Idealize.ShloMosaic.PureOps.Ideal.Laws
public import Idealize.ShloMosaic.Lib.Pipeline.ValueKit

@[expose] public section

noncomputable section

namespace Cert.Rms

open Idealize.ShloMosaic

/-- One over the root of the mean of a row's squares: `len` is the word of the row's length, 1e-6 is added to the mean. -/
def unit {n : Nat} (len : BitVec 32) (x : Fin n → EReal) : EReal :=
  Ideal.rsqrt (Ideal.div (∑ k, x k * x k) (Ideal.ofBits .f32 len) + Ideal.ofBits .f32 0x358637BD#32)

/-- The segment of a row: the first 256 rows are the context, the others are latent. -/
def seg (r : Fin 4352) : Fin 2 := if r.val < 256 then 0 else 1

/-- Row `a` of row tile `t`. -/
def row (t : Fin 17) (a : Fin 256) : Fin 4352 := ⟨256 * t.val + a.val, by omega⟩

/-- The segment of a row tile. -/
def tile (t : Fin 17) : Fin 2 := if t.val < 1 then 0 else 1

/-- The rows of a tile are of one segment. -/
theorem seg_row (t : Fin 17) (a : Fin 256) : seg (row t a) = tile t := by
  unfold seg tile row
  have := a.isLt
  split <;> split <;> first | rfl | (dsimp only at *; omega)

end Cert.Rms

end
-- ==== Proof.Row17.lean ====
/- The normalisation before a layer: `h = x / rms(x) · g · (1 + scale) + shift`, row by row, scale and shift those of the row's segment. -/
module

public import proofs.«01_k».proof.Defs
public import proofs.«01_k».proof.Proof.Gen.Kernel17Ideal.Value
public import proofs.«01_k».proof.Proof.Gen.Reference17Ideal.Run
public import proofs.«01_k».proof.Proof.Rms
public import Idealize.ShloMosaic.Lib.StableHlo.RunRead
public import Idealize.ShloMosaic.Lib.Pipeline.ReadBack

@[expose] public section

set_option maxRecDepth 16384

noncomputable section

namespace Cert.Kernel17Ideal.Row

open Idealize.ShloMosaic Idealize.ShloMosaic.TcCoe Cert.Kernel17Ideal.Gen
open Idealize.ShloMosaic.Pipeline (Dat Cfg Window)
open Cert.Rms (unit seg)

/-- One entry of the result, from its row, its gain, its scale and its shift. -/
def entry (x : Fin 1024 → EReal) (g sc sh : EReal) (b : Fin 1024) : EReal := x b * unit 0x44800000#32 x * g * (1 + sc) + sh

/-- A block that is stored whole is what was stored. -/
theorem whole (p : Vec Ideal S256x1024 .bf16) : View.canon [⟨r0_0, p⟩] = p := by
  frame_out

theorem block (x : Vec Ideal S256x1024 .f32) (g : Vec Ideal S1x1024 .f32) (w : Vec Ideal S1x3x1024 .f32) (a : Fin 256) (b : Fin 1024) :
    out0_3 x g w (ix2 a b) = entry (fun k => x (ix2 a k)) (g (ix2 0 b)) (w (ix3 0 1 b)) (w (ix3 0 0 b)) b := by
  unfold out0_3
  rw [whole]
  unfold k0_pay1
  unfold entry unit
  pointwise

/-- The result, entry by entry. -/
def res (x : Vec Ideal S4352x1024 .f32) (g : Vec Ideal S1024 .f32) (w : Vec Ideal S2x3x1024 .f32) : Vec Ideal S4352x1024 .bf16 :=
  fun j => entry (fun k => x (ix2 (j 0) k)) (g (ix1 (j 1))) (w (ix3 (seg (j 0)) 1 (j 1))) (w (ix3 (seg (j 0)) 0 (j 1))) (j 1)

theorem idx_all : ∀ t : Fin grid0.N, win0_0.index t = ![t.val, 0] ∧ win0_1.index t = ![0, 0] ∧ win0_2.index t = ![(Cert.Rms.tile t).val, 0, 0]
    ∧ win0_3.index t = ![t.val, 0] := by
  decide +kernel

/-- Row `a` of grid point `t`'s tile. -/
def row (t : Fin cfg0.N) (a : Fin 256) : Fin 4352 := Cert.Rms.row t a

/-- The segment of grid point `t`'s tile. -/
def tile (t : Fin cfg0.N) : Fin 2 := Cert.Rms.tile t

theorem seg_row (t : Fin cfg0.N) (a : Fin 256) : seg (row t a) = tile t := Cert.Rms.seg_row t a

variable (m : (ℓ : Loc nD τ sig) → Buf (Elt Ideal) ℓ) (c : Dev nD)

theorem V_gain : @Eq (Vec Ideal S1x1024 .f32) (V (F := Ideal) m c main_v0) (broadcastInDim S1x1024 ![1] bcast_S1024_S1x1024_1 (V m c main_arg1)) := by
  rw [V_main_arg1]
  unfold V
  after_reads_simp <;> rfl

theorem blk0 (t : Fin cfg0.N) (a : Fin 256) (k : Fin 1024) : iblk m c 0 t (ix2 a k) = V m c main_arg0 (ix2 (row t a) k) := by
  obtain ⟨e, -⟩ := idx_all t
  blk_ext [iblk, row, Cert.Rms.row, e]
theorem blk1 (t : Fin cfg0.N) (b : Fin 1024) : iblk m c 1 t (ix2 0 b) = V m c main_arg1 (ix1 b) := by
  obtain ⟨-, e, -⟩ := idx_all t
  have h : iblk m c 1 t (ix2 0 b) = V m c main_v0 (ix2 0 b) := by blk_ext [iblk, e]
  rw [h, V_gain]
  pointwise
theorem blk2 (t : Fin cfg0.N) (s : Fin 3) (b : Fin 1024) : iblk m c 2 t (ix3 0 s b) = V m c main_arg2 (ix3 (tile t) s b) := by
  obtain ⟨-, -, e, -⟩ := idx_all t
  blk_ext [iblk, tile, e]

/-- A grid point's block of the result. -/
theorem left (t : Fin cfg0.N) (a : Fin 256) (b : Fin 1024) : out0_3 (iblk m c 0 t) (iblk m c 1 t) (iblk m c 2 t) (ix2 a b)
    = res (V m c main_arg0) (V m c main_arg1) (V m c main_arg2) (ix2 (row t a) b) := by
  have h : res (V m c main_arg0) (V m c main_arg1) (V m c main_arg2) (ix2 (row t a) b)
      = entry (fun k => V m c main_arg0 (ix2 (row t a) k)) (V m c main_arg1 (ix1 b)) (V m c main_arg2 (ix3 (seg (row t a)) 1 b))
        (V m c main_arg2 (ix3 (seg (row t a)) 0 b)) b := rfl
  rw [h, block, seg_row, blk1, blk2, blk2, funext fun k => blk0 m c t a k]

/-- The result as the kernel leaves it. -/
theorem arr : (dats m 0 c).arrAt 3 cfg0.N = res (V m c main_arg0) (V m c main_arg1) (V m c main_arg2) := by
  refine (dats m 0 c).arrAt_eq_of_covers 3 _ (by decide +kernel) fun t hf y => ?_
  obtain ⟨-, -, -, e⟩ := idx_all t
  blk_simp
  rw [after0_3]
  have e0 : ((win0_3.blk t).view.emb y 0 : Fin 4352) = row t (y 0) := by
    refine Fin.ext ?_
    blk_simp [e]
    exact congrArg (· + _) (Nat.mul_comm _ _)
  have e1 : ((win0_3.blk t).view.emb y 1 : Fin 1024) = y 1 := by
    refine Fin.ext ?_
    blk_simp [e]
  have ey : (win0_3.blk t).view.emb y = (ix2 (row t (y 0)) (y 1)) := (eq_ix2 _).trans (by rw [e0, e1]; rfl)
  rw [ey]
  exact (congrArg _ (eq_ix2 y)).trans (left m c t (y 0) (y 1))

end Cert.Kernel17Ideal.Row

namespace Cert.Proof

open Idealize.ShloMosaic Idealize.SL.Sem

/-- The kernel leaves the normalised rows. -/
theorem row17 : Cert.algebraic_Kernel17Ideal_Reference17Ideal := by
  intro m g m' g' _ hag
  refine ⟨fun c => Cert.Kernel17Ideal.Row.res (m ((c.tc : Thread Cert.Kernel17Ideal.nD Cert.Kernel17Ideal.τ).loc Cert.Kernel17Ideal.main_arg0))
    (m ((c.tc : Thread Cert.Kernel17Ideal.nD Cert.Kernel17Ideal.τ).loc Cert.Kernel17Ideal.main_arg1))
    (m ((c.tc : Thread Cert.Kernel17Ideal.nD Cert.Kernel17Ideal.τ).loc Cert.Kernel17Ideal.main_arg2)), ?_, ?_⟩
  · refine (θ_run Cert.Kernel17Ideal.defs _ _).mono (fun r h c => ?_) (Cert.Kernel17Ideal.Value.run_blocks (F := Ideal) m g)
    refine ⟨(h c).1.trans ?_, (h c).2⟩
    rw [Cert.Kernel17Ideal.Row.arr, Cert.Kernel17Ideal.Gen.V_main_arg0, Cert.Kernel17Ideal.Gen.V_main_arg1, Cert.Kernel17Ideal.Gen.V_main_arg2]
  · refine (θ_run Cert.Reference17Ideal.defs _ _).mono (fun r h c => ?_) (Cert.Reference17Ideal.Value.run (F := Ideal) m' g')
    refine ⟨(h c).1.trans ?_, (h c).2⟩
    obtain ⟨e0, e1, e2⟩ := hag c
    funext j
    obtain ⟨a, b, rfl⟩ : ∃ (a : Fin 4352) (b : Fin 1024), j = ix2 a b := ⟨j 0, j 1, eq_ix2 j⟩
    unfold Cert.Kernel17Ideal.Row.res Cert.Kernel17Ideal.Row.entry Cert.Rms.unit
    by_cases h : a.val < 256
    · have hs : Cert.Rms.seg a = 0 := if_pos h
      pointwise
      simp only [e0, e1, e2, dif_pos h, hs]
    · have hs : Cert.Rms.seg a = 1 := if_neg h
      have ha : (⟨256 + (a.val - 256), by omega⟩ : Fin 4352) = a := Fin.ext (by dsimp only; omega)
      pointwise
      simp only [e0, e1, e2, dif_neg h, ha, hs]

end Cert.Proof

end
-- ==== Proof.Row18.lean ====
/- The normalisation after a layer: `x + gate · out / rms(out) · g`, row by row, the gate that of the row's segment. -/
module

public import proofs.«01_k».proof.Defs
public import proofs.«01_k».proof.Proof.Gen.Kernel18Ideal.Value
public import proofs.«01_k».proof.Proof.Gen.Reference18Ideal.Run
public import proofs.«01_k».proof.Proof.Rms
public import Idealize.ShloMosaic.Lib.StableHlo.RunRead
public import Idealize.ShloMosaic.Lib.Pipeline.ReadBack

@[expose] public section

set_option maxRecDepth 16384

noncomputable section

namespace Cert.Kernel18Ideal.Row

open Idealize.ShloMosaic Idealize.ShloMosaic.TcCoe Cert.Kernel18Ideal.Gen
open Idealize.ShloMosaic.Pipeline (Dat Cfg Window)
open Cert.Rms (unit seg)

/-- One entry of the result, from what it is added to, its row, its gain and its gate. -/
def entry (x : EReal) (o : Fin 1024 → EReal) (g gt : EReal) (b : Fin 1024) : EReal := x + gt * (o b * unit 0x44800000#32 o * g)

/-- A block that is stored whole is what was stored. -/
theorem whole (p : Vec Ideal S256x1024 .f32) : View.canon [⟨r0_0, p⟩] = p := by
  frame_out

theorem block (x o : Vec Ideal S256x1024 .f32) (g : Vec Ideal S1x1024 .f32) (w : Vec Ideal S1x3x1024 .f32) (a : Fin 256) (b : Fin 1024) :
    out0_4 x o g w (ix2 a b) = entry (x (ix2 a b)) (fun k => o (ix2 a k)) (g (ix2 0 b)) (w (ix3 0 2 b)) b := by
  unfold out0_4
  rw [whole]
  unfold k0_pay1
  unfold entry unit
  pointwise

/-- The result, entry by entry. -/
def res (x o : Vec Ideal S4352x1024 .f32) (g : Vec Ideal S1024 .f32) (w : Vec Ideal S2x3x1024 .f32) : Vec Ideal S4352x1024 .f32 :=
  fun j => entry (x (ix2 (j 0) (j 1))) (fun k => o (ix2 (j 0) k)) (g (ix1 (j 1))) (w (ix3 (seg (j 0)) 2 (j 1))) (j 1)

theorem idx_all : ∀ t : Fin grid0.N, win0_0.index t = ![t.val, 0] ∧ win0_1.index t = ![t.val, 0] ∧ win0_2.index t = ![0, 0]
    ∧ win0_3.index t = ![(Cert.Rms.tile t).val, 0, 0] ∧ win0_4.index t = ![t.val, 0] := by
  decide +kernel

/-- Row `a` of grid point `t`'s tile. -/
def row (t : Fin cfg0.N) (a : Fin 256) : Fin 4352 := Cert.Rms.row t a

/-- The segment of grid point `t`'s tile. -/
def tile (t : Fin cfg0.N) : Fin 2 := Cert.Rms.tile t

theorem seg_row (t : Fin cfg0.N) (a : Fin 256) : seg (row t a) = tile t := Cert.Rms.seg_row t a

variable (m : (ℓ : Loc nD τ sig) → Buf (Elt Ideal) ℓ) (c : Dev nD)

theorem V_gain : @Eq (Vec Ideal S1x1024 .f32) (V (F := Ideal) m c main_v0) (broadcastInDim S1x1024 ![1] bcast_S1024_S1x1024_1 (V m c main_arg2)) := by
  rw [V_main_arg2]
  unfold V
  after_reads_simp <;> rfl

theorem blk0 (t : Fin cfg0.N) (a : Fin 256) (k : Fin 1024) : iblk m c 0 t (ix2 a k) = V m c main_arg0 (ix2 (row t a) k) := by
  obtain ⟨e, -⟩ := idx_all t
  blk_ext [iblk, row, Cert.Rms.row, e]
theorem blk1 (t : Fin cfg0.N) (a : Fin 256) (k : Fin 1024) : iblk m c 1 t (ix2 a k) = V m c main_arg1 (ix2 (row t a) k) := by
  obtain ⟨-, e, -⟩ := idx_all t
  blk_ext [iblk, row, Cert.Rms.row, e]
theorem blk2 (t : Fin cfg0.N) (b : Fin 1024) : iblk m c 2 t (ix2 0 b) = V m c main_arg2 (ix1 b) := by
  obtain ⟨-, -, e, -⟩ := idx_all t
  have h : iblk m c 2 t (ix2 0 b) = V m c main_v0 (ix2 0 b) := by blk_ext [iblk, e]
  rw [h, V_gain]
  pointwise
theorem blk3 (t : Fin cfg0.N) (s : Fin 3) (b : Fin 1024) : iblk m c 3 t (ix3 0 s b) = V m c main_arg3 (ix3 (tile t) s b) := by
  obtain ⟨-, -, -, e, -⟩ := idx_all t
  blk_ext [iblk, tile, e]

/-- A grid point's block of the result. -/
theorem left (t : Fin cfg0.N) (a : Fin 256) (b : Fin 1024) : out0_4 (iblk m c 0 t) (iblk m c 1 t) (iblk m c 2 t) (iblk m c 3 t) (ix2 a b)
    = res (V m c main_arg0) (V m c main_arg1) (V m c main_arg2) (V m c main_arg3) (ix2 (row t a) b) := by
  have h : res (V m c main_arg0) (V m c main_arg1) (V m c main_arg2) (V m c main_arg3) (ix2 (row t a) b)
      = entry (V m c main_arg0 (ix2 (row t a) b)) (fun k => V m c main_arg1 (ix2 (row t a) k)) (V m c main_arg2 (ix1 b))
        (V m c main_arg3 (ix3 (seg (row t a)) 2 b)) b := rfl
  rw [h, block, seg_row, blk0, blk2, blk3, funext fun k => blk1 m c t a k]

/-- The result as the kernel leaves it. -/
theorem arr : (dats m 0 c).arrAt 4 cfg0.N = res (V m c main_arg0) (V m c main_arg1) (V m c main_arg2) (V m c main_arg3) := by
  refine (dats m 0 c).arrAt_eq_of_covers 4 _ (by decide +kernel) fun t hf y => ?_
  obtain ⟨-, -, -, -, e⟩ := idx_all t
  blk_simp
  rw [after0_4]
  have e0 : ((win0_4.blk t).view.emb y 0 : Fin 4352) = row t (y 0) := by
    refine Fin.ext ?_
    blk_simp [e]
    exact congrArg (· + _) (Nat.mul_comm _ _)
  have e1 : ((win0_4.blk t).view.emb y 1 : Fin 1024) = y 1 := by
    refine Fin.ext ?_
    blk_simp [e]
  have ey : (win0_4.blk t).view.emb y = (ix2 (row t (y 0)) (y 1)) := (eq_ix2 _).trans (by rw [e0, e1]; rfl)
  rw [ey]
  exact (congrArg _ (eq_ix2 y)).trans (left m c t (y 0) (y 1))

end Cert.Kernel18Ideal.Row

namespace Cert.Proof

open Idealize.ShloMosaic Idealize.SL.Sem

/-- The kernel leaves the rows with the normalised ones added. -/
theorem row18 : Cert.algebraic_Kernel18Ideal_Reference18Ideal := by
  intro m g m' g' _ hag
  refine ⟨fun c => Cert.Kernel18Ideal.Row.res (m ((c.tc : Thread Cert.Kernel18Ideal.nD Cert.Kernel18Ideal.τ).loc Cert.Kernel18Ideal.main_arg0))
    (m ((c.tc : Thread Cert.Kernel18Ideal.nD Cert.Kernel18Ideal.τ).loc Cert.Kernel18Ideal.main_arg1))
    (m ((c.tc : Thread Cert.Kernel18Ideal.nD Cert.Kernel18Ideal.τ).loc Cert.Kernel18Ideal.main_arg2))
    (m ((c.tc : Thread Cert.Kernel18Ideal.nD Cert.Kernel18Ideal.τ).loc Cert.Kernel18Ideal.main_arg3)), ?_, ?_⟩
  · refine (θ_run Cert.Kernel18Ideal.defs _ _).mono (fun r h c => ?_) (Cert.Kernel18Ideal.Value.run_blocks (F := Ideal) m g)
    refine ⟨(h c).1.trans ?_, (h c).2⟩
    rw [Cert.Kernel18Ideal.Row.arr, Cert.Kernel18Ideal.Gen.V_main_arg0, Cert.Kernel18Ideal.Gen.V_main_arg1, Cert.Kernel18Ideal.Gen.V_main_arg2, Cert.Kernel18Ideal.Gen.V_main_arg3]
  · refine (θ_run Cert.Reference18Ideal.defs _ _).mono (fun r h c => ?_) (Cert.Reference18Ideal.Value.run (F := Ideal) m' g')
    refine ⟨(h c).1.trans ?_, (h c).2⟩
    obtain ⟨e0, e1, e2, e3⟩ := hag c
    funext j
    obtain ⟨a, b, rfl⟩ : ∃ (a : Fin 4352) (b : Fin 1024), j = ix2 a b := ⟨j 0, j 1, eq_ix2 j⟩
    unfold Cert.Kernel18Ideal.Row.res Cert.Kernel18Ideal.Row.entry Cert.Rms.unit
    by_cases h : a.val < 256
    · have hs : Cert.Rms.seg a = 0 := if_pos h
      pointwise
      simp only [e0, e1, e2, e3, dif_pos h, hs]
    · have hs : Cert.Rms.seg a = 1 := if_neg h
      have ha : (⟨256 + (a.val - 256), by omega⟩ : Fin 4352) = a := Fin.ext (by dsimp only; omega)
      pointwise
      simp only [e0, e1, e2, e3, dif_neg h, ha, hs]

end Cert.Proof

end
-- ==== Proof.Row19.lean ====
/- The gates of the three branches: the sum of the branches, each times the sigmoid of its columns of the projection plus the bias. -/
module

public import proofs.«01_k».proof.Defs
public import proofs.«01_k».proof.Proof.Gen.Kernel19Ideal.Value
public import proofs.«01_k».proof.Proof.Gen.Reference19Ideal.Run
public import Idealize.ShloMosaic.Lib.StableHlo.RunRead
public import Idealize.ShloMosaic.Lib.Pipeline.ValueKit
public import Idealize.ShloMosaic.Lib.Pipeline.ReadBack
public import Idealize.ShloMosaic.PureOps.Ideal.Laws

@[expose] public section

set_option maxRecDepth 16384

noncomputable section

namespace Cert.Kernel19Ideal.Row

open Idealize.ShloMosaic Idealize.ShloMosaic.TcCoe Cert.Kernel19Ideal.Gen
open Idealize.ShloMosaic.Pipeline (Dat Cfg Window)

/-- The sigmoid of a column of the projection plus its bias. -/
def gate (p z : EReal) : EReal := Ideal.div 1 (1 + Ideal.exp (-(p + z)))

/-- One entry of the result, from the three branches, their columns of the projection and the biases. -/
def entry (x0 x1 x2 p0 p1 p2 z0 z1 z2 : EReal) : EReal := gate p0 z0 * x0 + gate p1 z1 * x1 + gate p2 z2 * x2

/-- A block that is stored whole is what was stored. -/
theorem whole (p : Vec Ideal S544x1024 .bf16) : View.canon [⟨r0_0, p⟩] = p := by
  frame_out

theorem block (x0 x1 x2 p0 p1 p2 : Vec Ideal S544x1024 .bf16) (z : Vec Ideal S1x3072 .f32) (a : Fin 544) (b : Fin 1024) :
    out0_7 x0 x1 x2 p0 p1 p2 z (ix2 a b) = entry (x0 (ix2 a b)) (x1 (ix2 a b)) (x2 (ix2 a b)) (p0 (ix2 a b)) (p1 (ix2 a b)) (p2 (ix2 a b))
      (z (ix2 0 ⟨b.val, by omega⟩)) (z (ix2 0 ⟨1024 + b.val, by omega⟩)) (z (ix2 0 ⟨2048 + b.val, by omega⟩)) := by
  unfold out0_7
  rw [whole]
  unfold k0_pay1 k0_pay2 k0_pay3 k0_pay4
  unfold entry gate
  pointwise
  simp only [zero_sub]

/-- The result, entry by entry. -/
def res (x0 x1 x2 : Vec Ideal S4352x1024 .bf16) (p : Vec Ideal S4352x13312 .bf16) (z : Vec Ideal S3072 .f32) : Vec Ideal S4352x1024 .bf16 :=
  fun j => entry (x0 (ix2 (j 0) (j 1))) (x1 (ix2 (j 0) (j 1))) (x2 (ix2 (j 0) (j 1)))
    (p (ix2 (j 0) ⟨9216 + (j 1).val, by have := (j 1).isLt; dsimp [S4352x1024] at this; omega⟩))
    (p (ix2 (j 0) ⟨9216 + (1024 + (j 1).val), by have := (j 1).isLt; dsimp [S4352x1024] at this; omega⟩))
    (p (ix2 (j 0) ⟨9216 + (2048 + (j 1).val), by have := (j 1).isLt; dsimp [S4352x1024] at this; omega⟩))
    (z (ix1 ⟨(j 1).val, by have := (j 1).isLt; dsimp [S4352x1024] at this; omega⟩))
    (z (ix1 ⟨1024 + (j 1).val, by have := (j 1).isLt; dsimp [S4352x1024] at this; omega⟩))
    (z (ix1 ⟨2048 + (j 1).val, by have := (j 1).isLt; dsimp [S4352x1024] at this; omega⟩))

theorem idx_all : ∀ t : Fin grid0.N, win0_0.index t = ![t.val, 0] ∧ win0_1.index t = ![t.val, 0] ∧ win0_2.index t = ![t.val, 0]
    ∧ win0_3.index t = ![t.val, 9] ∧ win0_4.index t = ![t.val, 10] ∧ win0_5.index t = ![t.val, 11] ∧ win0_6.index t = ![0, 0]
    ∧ win0_7.index t = ![t.val, 0] := by
  decide +kernel

theorem t_lt (t : Fin cfg0.N) : t.val < 8 := t.isLt

/-- Row `a` of grid point `t`'s tile. -/
def row (t : Fin cfg0.N) (a : Fin 544) : Fin 4352 := ⟨544 * t.val + a.val, by have := t_lt t; omega⟩

variable (m : (ℓ : Loc nD τ sig) → Buf (Elt Ideal) ℓ) (c : Dev nD)

theorem V_bias : @Eq (Vec Ideal S1x3072 .f32) (V (F := Ideal) m c main_v0) (broadcastInDim S1x3072 ![1] bcast_S3072_S1x3072_1 (V m c main_arg4)) := by
  rw [V_main_arg4]
  unfold V
  after_reads_simp <;> rfl

theorem blk0 (t : Fin cfg0.N) (a : Fin 544) (b : Fin 1024) : iblk m c 0 t (ix2 a b) = V m c main_arg0 (ix2 (row t a) b) := by
  obtain ⟨e, -⟩ := idx_all t
  blk_ext [iblk, row, e]
theorem blk1 (t : Fin cfg0.N) (a : Fin 544) (b : Fin 1024) : iblk m c 1 t (ix2 a b) = V m c main_arg1 (ix2 (row t a) b) := by
  obtain ⟨-, e, -⟩ := idx_all t
  blk_ext [iblk, row, e]
theorem blk2 (t : Fin cfg0.N) (a : Fin 544) (b : Fin 1024) : iblk m c 2 t (ix2 a b) = V m c main_arg2 (ix2 (row t a) b) := by
  obtain ⟨-, -, e, -⟩ := idx_all t
  blk_ext [iblk, row, e]
theorem blk3 (t : Fin cfg0.N) (a : Fin 544) (b : Fin 1024) : iblk m c 3 t (ix2 a b) = V m c main_arg3 (ix2 (row t a) ⟨9216 + b.val, by omega⟩) := by
  obtain ⟨-, -, -, e, -⟩ := idx_all t
  blk_ext [iblk, row, e]
theorem blk4 (t : Fin cfg0.N) (a : Fin 544) (b : Fin 1024) : iblk m c 4 t (ix2 a b) = V m c main_arg3 (ix2 (row t a) ⟨9216 + (1024 + b.val), by omega⟩) := by
  obtain ⟨-, -, -, -, e, -⟩ := idx_all t
  blk_ext [iblk, row, e]
theorem blk5 (t : Fin cfg0.N) (a : Fin 544) (b : Fin 1024) : iblk m c 5 t (ix2 a b) = V m c main_arg3 (ix2 (row t a) ⟨9216 + (2048 + b.val), by omega⟩) := by
  obtain ⟨-, -, -, -, -, e, -⟩ := idx_all t
  blk_ext [iblk, row, e]
theorem blk6 (t : Fin cfg0.N) (b : Fin 3072) : iblk m c 6 t (ix2 0 b) = V m c main_arg4 (ix1 b) := by
  obtain ⟨-, -, -, -, -, -, e, -⟩ := idx_all t
  have h : iblk m c 6 t (ix2 0 b) = V m c main_v0 (ix2 0 b) := by blk_ext [iblk, e]
  rw [h, V_bias]
  pointwise

/-- A grid point's block of the result. -/
theorem left (t : Fin cfg0.N) (a : Fin 544) (b : Fin 1024) :
    out0_7 (iblk m c 0 t) (iblk m c 1 t) (iblk m c 2 t) (iblk m c 3 t) (iblk m c 4 t) (iblk m c 5 t) (iblk m c 6 t) (ix2 a b)
    = res (V m c main_arg0) (V m c main_arg1) (V m c main_arg2) (V m c main_arg3) (V m c main_arg4) (ix2 (row t a) b) := by
  rw [block, blk0, blk1, blk2, blk3, blk4, blk5, blk6, blk6, blk6]
  rfl

/-- The result as the kernel leaves it. -/
theorem arr : (dats m 0 c).arrAt 7 cfg0.N = res (V m c main_arg0) (V m c main_arg1) (V m c main_arg2) (V m c main_arg3) (V m c main_arg4) := by
  refine (dats m 0 c).arrAt_eq_of_covers 7 _ (by decide +kernel) fun t hf y => ?_
  obtain ⟨-, -, -, -, -, -, -, e⟩ := idx_all t
  blk_simp
  rw [after0_7]
  have e0 : ((win0_7.blk t).view.emb y 0 : Fin 4352) = row t (y 0) := by
    refine Fin.ext ?_
    blk_simp [e]
    exact congrArg (· + _) (Nat.mul_comm _ _)
  have e1 : ((win0_7.blk t).view.emb y 1 : Fin 1024) = y 1 := by
    refine Fin.ext ?_
    blk_simp [e]
  have ey : (win0_7.blk t).view.emb y = (ix2 (row t (y 0)) (y 1)) := (eq_ix2 _).trans (by rw [e0, e1]; rfl)
  rw [ey]
  exact (congrArg _ (eq_ix2 y)).trans (left m c t (y 0) (y 1))

end Cert.Kernel19Ideal.Row

namespace Cert.Proof

open Idealize.ShloMosaic Idealize.SL.Sem

/-- The kernel leaves the gated sum of the branches. -/
theorem row19 : Cert.algebraic_Kernel19Ideal_Reference19Ideal := by
  intro m g m' g' _ hag
  refine ⟨fun c => Cert.Kernel19Ideal.Row.res (m ((c.tc : Thread Cert.Kernel19Ideal.nD Cert.Kernel19Ideal.τ).loc Cert.Kernel19Ideal.main_arg0))
    (m ((c.tc : Thread Cert.Kernel19Ideal.nD Cert.Kernel19Ideal.τ).loc Cert.Kernel19Ideal.main_arg1))
    (m ((c.tc : Thread Cert.Kernel19Ideal.nD Cert.Kernel19Ideal.τ).loc Cert.Kernel19Ideal.main_arg2))
    (m ((c.tc : Thread Cert.Kernel19Ideal.nD Cert.Kernel19Ideal.τ).loc Cert.Kernel19Ideal.main_arg3))
    (m ((c.tc : Thread Cert.Kernel19Ideal.nD Cert.Kernel19Ideal.τ).loc Cert.Kernel19Ideal.main_arg4)), ?_, ?_⟩
  · refine (θ_run Cert.Kernel19Ideal.defs _ _).mono (fun r h c => ?_) (Cert.Kernel19Ideal.Value.run_blocks (F := Ideal) m g)
    refine ⟨(h c).1.trans ?_, (h c).2⟩
    rw [Cert.Kernel19Ideal.Row.arr, Cert.Kernel19Ideal.Gen.V_main_arg0, Cert.Kernel19Ideal.Gen.V_main_arg1, Cert.Kernel19Ideal.Gen.V_main_arg2,
      Cert.Kernel19Ideal.Gen.V_main_arg3, Cert.Kernel19Ideal.Gen.V_main_arg4]
  · refine (θ_run Cert.Reference19Ideal.defs _ _).mono (fun r h c => ?_) (Cert.Reference19Ideal.Value.run (F := Ideal) m' g')
    refine ⟨(h c).1.trans ?_, (h c).2⟩
    obtain ⟨e0, e1, e2, e3, e4⟩ := hag c
    funext j
    obtain ⟨a, b, rfl⟩ : ∃ (a : Fin 4352) (b : Fin 1024), j = ix2 a b := ⟨j 0, j 1, eq_ix2 j⟩
    unfold Cert.Kernel19Ideal.Row.res Cert.Kernel19Ideal.Row.entry Cert.Kernel19Ideal.Row.gate
    pointwise
    simp only [e0, e1, e2, e3, e4]

end Cert.Proof

end
-- ==== Proof.Row20.lean ====
/- The outputs of the attention and of the gated linear attention, each times the sigmoid linear unit of its columns of the
   projection; the second is the sum of the two directions, normalised over each head's 256 columns. -/
module

public import proofs.«01_k».proof.Defs
public import proofs.«01_k».proof.Proof.Gen.Kernel20Ideal.Value
public import proofs.«01_k».proof.Proof.Gen.Reference20Ideal.Run
public import proofs.«01_k».proof.Proof.Rms
public import Idealize.ShloMosaic.Lib.StableHlo.RunRead
public import Idealize.ShloMosaic.Lib.Pipeline.ValueKit
public import Idealize.ShloMosaic.Lib.Pipeline.ReadBack
public import Idealize.ShloMosaic.PureOps.Ideal.Laws

@[expose] public section

set_option maxRecDepth 16384

noncomputable section

namespace Cert.Kernel20Ideal.Row

open Idealize.ShloMosaic Idealize.ShloMosaic.TcCoe Cert.Kernel20Ideal.Gen
open Idealize.ShloMosaic.Pipeline (Dat Cfg Window)
open Cert.Rms (unit)

/-- The sigmoid linear unit. -/
def silu (p : EReal) : EReal := p * Ideal.div 1 (1 + Ideal.exp (-p))

/-- One entry of the second result, from its head's columns, its gain and its column of the projection. -/
def entry (o : Fin 256 → EReal) (g p : EReal) (k : Fin 256) : EReal := o k * unit 0x43800000#32 o * g * silu p

/-- The head of a column, the column within it, and column `k` of head `h`. -/
def hd (b : Fin 1024) : Fin 4 := ⟨b.val / 256, by omega⟩
def lo (b : Fin 1024) : Fin 256 := ⟨b.val % 256, by omega⟩
def hc (h : Fin 4) (k : Fin 256) : Fin 1024 := ⟨h.val * 256 + k.val, by omega⟩
theorem hd_hc (h : Fin 4) (k : Fin 256) : hd (hc h k) = h := Fin.ext (by show (h.val * 256 + k.val) / 256 = _; omega)
theorem lo_hc (h : Fin 4) (k : Fin 256) : lo (hc h k) = k := Fin.ext (by show (h.val * 256 + k.val) % 256 = _; omega)
theorem hc_hd_lo (b : Fin 1024) : hc (hd b) (lo b) = b := Fin.ext (by show b.val / 256 * 256 + b.val % 256 = _; omega)

/-- Where a block of one head's columns lies. -/
theorem emb_cols (g : Fin 4) (o : ℕ) (eo : o = 256 * g.val) (ino)
    (a : Fin 544) (d : Fin 256) : (Rect.unit (s := S544x1024) ![0, o] S544x256.size ino).emb (ix2 a d) = ix2 a (hc g d) := by
  subst eo
  funext b
  fin_cases b
  · exact Fin.ext (by show 0 + 1 * a.val = a.val; omega)
  · exact Fin.ext (by show 256 * g.val + 1 * d.val = g.val * 256 + d.val; omega)

/-- Four pieces of columns, one to a head, read at an entry. -/
theorem canon_cols (P : Fin 4 → Vec Ideal S544x256 .bf16) (a : Fin 544) (b : Fin 1024) :
    View.canon (Val := Elt Ideal) (s := S544x1024) (e := .bf16) [⟨r0_5, P 3⟩, ⟨r0_4, P 2⟩, ⟨r0_3, P 1⟩, ⟨r0_1, P 0⟩] (ix2 a b)
      = P (hd b) (ix2 a (lo b)) := by
  have key := View.canon_apply_of_pieces (Val := Elt Ideal) (S := S544x1024) (e := .bf16)
    (fun y => P (hd (y 1)) (ix2 (y 0) (lo (y 1)))) [⟨r0_5, P 3⟩, ⟨r0_4, P 2⟩, ⟨r0_3, P 1⟩, ⟨r0_1, P 0⟩] ?_ (ix2 a b) ?_
  · exact key
  · have one : ∀ (g : Fin 4) (h : ℕ) (eh : h = 256 * g.val) (inh), ∀ x : S544x256.Idx,
        P g x = (fun y : S544x1024.Idx => P (hd (y 1)) (ix2 (y 0) (lo (y 1))))
          ((Rect.unit (s := S544x1024) ![0, h] S544x256.size inh).emb x) := by
      intro g h eh inh x
      idx_vars x
      erw [emb_cols g h eh inh]
      show _ = P (hd (hc g x1)) (ix2 x0 (lo (hc g x1)))
      rw [hd_hc, lo_hc]
    simp only [List.forall_mem_cons]
    exact ⟨one 3 768 rfl _, one 2 512 rfl _, one 1 256 rfl _, one 0 0 rfl _, fun p hp => absurd hp List.not_mem_nil⟩
  · exact cover0_7 _ _ _ _ _

/-- A block that is stored whole is what was stored. -/
theorem whole (p : Vec Ideal S544x1024 .bf16) : View.canon [⟨r0_0, p⟩] = p := by
  frame_out

section
variable (x0 x1 x2 x3 x4 : Vec Ideal S544x1024 .bf16) (g : Vec Ideal S1x256 .f32)

theorem block6 (a : Fin 544) (b : Fin 1024) : out0_6 x0 x1 x2 x3 x4 g (ix2 a b) = x0 (ix2 a b) * silu (x3 (ix2 a b)) := by
  unfold out0_6
  rw [whole]
  unfold k0_pay2 silu
  pointwise
  simp only [zero_sub]

/-- A head's columns of the second result's block. -/
def cols (h : Fin 4) : Vec Ideal S544x256 .bf16 := fun y =>
  entry (fun k => x1 (ix2 (y 0) (hc h k)) + x2 (ix2 (y 0) (hc h k))) (g (ix2 0 (y 1))) (x4 (ix2 (y 0) (hc h (y 1)))) (y 1)

theorem cols3 : k0_pay1 (k0_pay9 (View.ld x1 r0_5)) (View.ld x2 r0_5) (View.ld g r0_2) (View.ld x4 r0_5) = cols x1 x2 x4 g 3 := by
  funext y
  rw [eq_ix2 y]
  unfold k0_pay1 k0_pay9 cols entry silu unit hc
  pointwise
  simp only [zero_sub]

theorem cols2 : k0_pay8 (View.ld x1 r0_4) (View.ld x2 r0_4) (View.ld g r0_2) (View.ld x4 r0_4) = cols x1 x2 x4 g 2 := by
  funext y
  rw [eq_ix2 y]
  unfold k0_pay8 cols entry silu unit hc
  pointwise
  simp only [zero_sub]

theorem cols1 : k0_pay7 (View.ld x1 r0_3) (View.ld x2 r0_3) (View.ld g r0_2) (View.ld x4 r0_3) = cols x1 x2 x4 g 1 := by
  funext y
  rw [eq_ix2 y]
  unfold k0_pay7 cols entry silu unit hc
  pointwise
  simp only [zero_sub]

theorem cols0 : k0_pay6 (k0_pay3 (View.ld x1 r0_1) (View.ld x2 r0_1) (View.ld g r0_2)) (k0_pay4 (View.ld x4 r0_1)) (k0_pay5 (F := Ideal))
    = cols x1 x2 x4 g 0 := by
  funext y
  rw [eq_ix2 y]
  unfold k0_pay6 k0_pay3 k0_pay4 k0_pay5 cols entry silu unit hc
  pointwise
  simp only [zero_sub]

theorem block7 (a : Fin 544) (b : Fin 1024) : out0_7 x0 x1 x2 x3 x4 g (ix2 a b)
    = entry (fun k => x1 (ix2 a (hc (hd b) k)) + x2 (ix2 a (hc (hd b) k))) (g (ix2 0 (lo b))) (x4 (ix2 a b)) (lo b) := by
  unfold out0_7
  rw [cols3, cols2, cols1, cols0, canon_cols (cols x1 x2 x4 g)]
  show entry _ _ (x4 (ix2 a (hc (hd b) (lo b)))) _ = _
  rw [hc_hd_lo]
  rfl
end

/-- The first result, entry by entry. -/
def res6 (x : Vec Ideal S4352x1024 .bf16) (p : Vec Ideal S4352x13312 .bf16) : Vec Ideal S4352x1024 .bf16 :=
  fun j => x (ix2 (j 0) (j 1)) * silu (p (ix2 (j 0) ⟨4096 + (j 1).val, by have := (j 1).isLt; dsimp [S4352x1024] at this; omega⟩))

/-- The second result, entry by entry. -/
def res7 (x y : Vec Ideal S4352x1024 .bf16) (p : Vec Ideal S4352x13312 .bf16) (g : Vec Ideal S256 .f32) : Vec Ideal S4352x1024 .bf16 :=
  fun j => entry (fun k => x (ix2 (j 0) (hc (hd (j 1)) k)) + y (ix2 (j 0) (hc (hd (j 1)) k))) (g (ix1 (lo (j 1))))
    (p (ix2 (j 0) ⟨5120 + (j 1).val, by have := (j 1).isLt; dsimp [S4352x1024] at this; omega⟩)) (lo (j 1))

theorem idx_all : ∀ t : Fin grid0.N, win0_0.index t = ![t.val, 0] ∧ win0_1.index t = ![t.val, 0] ∧ win0_2.index t = ![t.val, 0]
    ∧ win0_3.index t = ![t.val, 4] ∧ win0_4.index t = ![t.val, 5] ∧ win0_5.index t = ![0, 0] ∧ win0_6.index t = ![t.val, 0]
    ∧ win0_7.index t = ![t.val, 0] := by
  decide +kernel

theorem t_lt (t : Fin cfg0.N) : t.val < 8 := t.isLt

/-- Row `a` of grid point `t`'s tile. -/
def row (t : Fin cfg0.N) (a : Fin 544) : Fin 4352 := ⟨544 * t.val + a.val, by have := t_lt t; omega⟩

variable (m : (ℓ : Loc nD τ sig) → Buf (Elt Ideal) ℓ) (c : Dev nD)

theorem V_gain : @Eq (Vec Ideal S1x256 .f32) (V (F := Ideal) m c main_v0) (broadcastInDim S1x256 ![1] bcast_S256_S1x256_1 (V m c main_arg4)) := by
  rw [V_main_arg4]
  unfold V
  after_reads_simp <;> rfl

theorem blk0 (t : Fin cfg0.N) (a : Fin 544) (b : Fin 1024) : iblk m c 0 t (ix2 a b) = V m c main_arg0 (ix2 (row t a) b) := by
  obtain ⟨e, -⟩ := idx_all t
  blk_ext [iblk, row, e]
theorem blk1 (t : Fin cfg0.N) (a : Fin 544) (b : Fin 1024) : iblk m c 1 t (ix2 a b) = V m c main_arg1 (ix2 (row t a) b) := by
  obtain ⟨-, e, -⟩ := idx_all t
  blk_ext [iblk, row, e]
theorem blk2 (t : Fin cfg0.N) (a : Fin 544) (b : Fin 1024) : iblk m c 2 t (ix2 a b) = V m c main_arg2 (ix2 (row t a) b) := by
  obtain ⟨-, -, e, -⟩ := idx_all t
  blk_ext [iblk, row, e]
theorem blk3 (t : Fin cfg0.N) (a : Fin 544) (b : Fin 1024) : iblk m c 3 t (ix2 a b) = V m c main_arg3 (ix2 (row t a) ⟨4096 + b.val, by omega⟩) := by
  obtain ⟨-, -, -, e, -⟩ := idx_all t
  blk_ext [iblk, row, e]
theorem blk4 (t : Fin cfg0.N) (a : Fin 544) (b : Fin 1024) : iblk m c 4 t (ix2 a b) = V m c main_arg3 (ix2 (row t a) ⟨5120 + b.val, by omega⟩) := by
  obtain ⟨-, -, -, -, e, -⟩ := idx_all t
  blk_ext [iblk, row, e]
theorem blk5 (t : Fin cfg0.N) (b : Fin 256) : iblk m c 5 t (ix2 0 b) = V m c main_arg4 (ix1 b) := by
  obtain ⟨-, -, -, -, -, e, -⟩ := idx_all t
  have h : iblk m c 5 t (ix2 0 b) = V m c main_v0 (ix2 0 b) := by blk_ext [iblk, e]
  rw [h, V_gain]
  pointwise

/-- A grid point's block of the first result. -/
theorem left6 (t : Fin cfg0.N) (a : Fin 544) (b : Fin 1024) :
    out0_6 (iblk m c 0 t) (iblk m c 1 t) (iblk m c 2 t) (iblk m c 3 t) (iblk m c 4 t) (iblk m c 5 t) (ix2 a b)
    = res6 (V m c main_arg0) (V m c main_arg3) (ix2 (row t a) b) := by
  rw [block6, blk0, blk3]
  rfl

/-- A grid point's block of the second result. -/
theorem left7 (t : Fin cfg0.N) (a : Fin 544) (b : Fin 1024) :
    out0_7 (iblk m c 0 t) (iblk m c 1 t) (iblk m c 2 t) (iblk m c 3 t) (iblk m c 4 t) (iblk m c 5 t) (ix2 a b)
    = res7 (V m c main_arg1) (V m c main_arg2) (V m c main_arg3) (V m c main_arg4) (ix2 (row t a) b) := by
  rw [block7, blk4, blk5]
  exact congrArg (fun o => entry o _ _ _) (funext fun k => congrArg₂ (· + ·) (blk1 m c t a _) (blk2 m c t a _))

/-- The first result as the kernel leaves it. -/
theorem arr6 : (dats m 0 c).arrAt 6 cfg0.N = res6 (V m c main_arg0) (V m c main_arg3) := by
  refine (dats m 0 c).arrAt_eq_of_covers 6 _ (by decide +kernel) fun t hf y => ?_
  obtain ⟨-, -, -, -, -, -, e, -⟩ := idx_all t
  blk_simp
  rw [after0_6]
  have e0 : ((win0_6.blk t).view.emb y 0 : Fin 4352) = row t (y 0) := by
    refine Fin.ext ?_
    blk_simp [e]
    exact congrArg (· + _) (Nat.mul_comm _ _)
  have e1 : ((win0_6.blk t).view.emb y 1 : Fin 1024) = y 1 := by
    refine Fin.ext ?_
    blk_simp [e]
  have ey : (win0_6.blk t).view.emb y = (ix2 (row t (y 0)) (y 1)) := (eq_ix2 _).trans (by rw [e0, e1]; rfl)
  rw [ey]
  exact (congrArg _ (eq_ix2 y)).trans (left6 m c t (y 0) (y 1))

/-- The second result as the kernel leaves it. -/
theorem arr7 : (dats m 0 c).arrAt 7 cfg0.N = res7 (V m c main_arg1) (V m c main_arg2) (V m c main_arg3) (V m c main_arg4) := by
  refine (dats m 0 c).arrAt_eq_of_covers 7 _ (by decide +kernel) fun t hf y => ?_
  obtain ⟨-, -, -, -, -, -, -, e⟩ := idx_all t
  blk_simp
  rw [after0_7]
  have e0 : ((win0_7.blk t).view.emb y 0 : Fin 4352) = row t (y 0) := by
    refine Fin.ext ?_
    blk_simp [e]
    exact congrArg (· + _) (Nat.mul_comm _ _)
  have e1 : ((win0_7.blk t).view.emb y 1 : Fin 1024) = y 1 := by
    refine Fin.ext ?_
    blk_simp [e]
  have ey : (win0_7.blk t).view.emb y = (ix2 (row t (y 0)) (y 1)) := (eq_ix2 _).trans (by rw [e0, e1]; rfl)
  rw [ey]
  exact (congrArg _ (eq_ix2 y)).trans (left7 m c t (y 0) (y 1))

end Cert.Kernel20Ideal.Row

namespace Cert.Proof

open Idealize.ShloMosaic Idealize.SL.Sem

/-- The kernel leaves the two branches' outputs. -/
theorem row20 : Cert.algebraic_Kernel20Ideal_Reference20Ideal := by
  intro m g m' g' _ hag
  refine ⟨fun c => Cert.Kernel20Ideal.Row.res6 (m ((c.tc : Thread Cert.Kernel20Ideal.nD Cert.Kernel20Ideal.τ).loc Cert.Kernel20Ideal.main_arg0))
      (m ((c.tc : Thread Cert.Kernel20Ideal.nD Cert.Kernel20Ideal.τ).loc Cert.Kernel20Ideal.main_arg3)),
    fun c => Cert.Kernel20Ideal.Row.res7 (m ((c.tc : Thread Cert.Kernel20Ideal.nD Cert.Kernel20Ideal.τ).loc Cert.Kernel20Ideal.main_arg1))
      (m ((c.tc : Thread Cert.Kernel20Ideal.nD Cert.Kernel20Ideal.τ).loc Cert.Kernel20Ideal.main_arg2))
      (m ((c.tc : Thread Cert.Kernel20Ideal.nD Cert.Kernel20Ideal.τ).loc Cert.Kernel20Ideal.main_arg3))
      (m ((c.tc : Thread Cert.Kernel20Ideal.nD Cert.Kernel20Ideal.τ).loc Cert.Kernel20Ideal.main_arg4)), ?_, ?_⟩
  · refine (θ_run Cert.Kernel20Ideal.defs _ _).mono (fun r h c => ?_) (Cert.Kernel20Ideal.Value.run_blocks (F := Ideal) m g)
    refine ⟨(h c).1.trans ?_, (h c).2.1.trans ?_, (h c).2.2⟩
    · rw [Cert.Kernel20Ideal.Row.arr6, Cert.Kernel20Ideal.Gen.V_main_arg0, Cert.Kernel20Ideal.Gen.V_main_arg3]
    · rw [Cert.Kernel20Ideal.Row.arr7, Cert.Kernel20Ideal.Gen.V_main_arg1, Cert.Kernel20Ideal.Gen.V_main_arg2, Cert.Kernel20Ideal.Gen.V_main_arg3,
        Cert.Kernel20Ideal.Gen.V_main_arg4]
  · refine (θ_run Cert.Reference20Ideal.defs _ _).mono (fun r h c => ?_) (Cert.Reference20Ideal.Value.run (F := Ideal) m' g')
    refine ⟨(h c).1.trans ?_, (h c).2.1.trans ?_, (h c).2.2⟩
    all_goals
      obtain ⟨e0, e1, e2, e3, e4⟩ := hag c
      funext j
      obtain ⟨a, b, rfl⟩ : ∃ (a : Fin 4352) (b : Fin 1024), j = ix2 a b := ⟨j 0, j 1, eq_ix2 j⟩
    · unfold Cert.Kernel20Ideal.Row.res6 Cert.Kernel20Ideal.Row.silu
      pointwise
      simp only [e0, e3]
    · unfold Cert.Kernel20Ideal.Row.res7 Cert.Kernel20Ideal.Row.entry Cert.Kernel20Ideal.Row.silu Cert.Rms.unit
      pointwise
      simp only [e1, e2, e3, e4, Cert.Kernel20Ideal.Row.hc_hd_lo]
      rfl

end Cert.Proof

end
-- ==== Proof.Row21.lean ====
/- The gradient of the gated sum of three branches: the branches' gradients are that of the sum times the gates, and the gradient of
   the gates' biases is summed over the tokens, tile after tile of 544. -/
module

public import proofs.«01_k».proof.Defs
public import proofs.«01_k».proof.Proof.Gen.Kernel21Ideal.Value
public import proofs.«01_k».proof.Proof.Gen.Reference21Ideal.Run
public import Idealize.ShloMosaic.Lib.StableHlo.RunRead
public import Idealize.ShloMosaic.Lib.Pipeline.ValueKit
public import Idealize.ShloMosaic.Lib.Pipeline.ReadBack
public import Idealize.ShloMosaic.PureOps.Ideal.Laws

@[expose] public section

set_option maxRecDepth 16384

noncomputable section

namespace Cert.Kernel21Ideal.Row

open Idealize.ShloMosaic Idealize.ShloMosaic.TcCoe Cert.Kernel21Ideal.Gen
open Idealize.ShloMosaic.Pipeline (Dat Cfg Window)

/-- The sigmoid of a column of the projection plus its bias. -/
def gate (p z : EReal) : EReal := Ideal.div 1 (1 + Ideal.exp (-(p + z)))

/-- The gradient in the gate's argument, from the gradient of the sum, the branch, the column of the projection and the bias. -/
def slope (d x p z : EReal) : EReal := d * x * (gate p z * (1 - gate p z))

/-- Column `b` of branch `g`'s part of the biases. -/
def col (g : Fin 3) (b : Fin 1024) : Fin 3072 := ⟨1024 * g.val + b.val, by omega⟩

/-- Where a block of one branch's columns lies. -/
theorem emb_cols (g : Fin 3) (o : ℕ) (eo : o = 1024 * g.val) (ino) (a : Fin 8) (d : Fin 1024) :
    (Rect.unit (s := S8x3072) ![0, o] S8x1024.size ino).emb (ix2 a d) = ix2 a (col g d) := by
  subst eo
  funext b
  fin_cases b
  · exact Fin.ext (by show 0 + 1 * a.val = a.val; omega)
  · exact Fin.ext (by show 1024 * g.val + 1 * d.val = 1024 * g.val + d.val; omega)
theorem emb_bias (g : Fin 3) (o : ℕ) (eo : o = 1024 * g.val) (ino) (d : Fin 1024) :
    (Rect.unit (s := S1x3072) ![0, o] S1x1024.size ino).emb (ix2 0 d) = ix2 0 (col g d) := by
  subst eo
  funext b
  fin_cases b
  · rfl
  · exact Fin.ext (by show 1024 * g.val + 1 * d.val = 1024 * g.val + d.val; omega)

/-- A block of a branch's columns of the biases. -/
theorem bias (z : Vec Ideal S1x3072 .f32) (g : Fin 3) (o : ℕ) (eo : o = 1024 * g.val) (ino) (d : Fin 1024) :
    View.ld z (Rect.unit (s := S1x3072) ![0, o] S1x1024.size ino) (ix2 0 d) = z (ix2 0 (col g d)) :=
  congrArg z (emb_bias g o eo ino d)
theorem cols (v : Vec Ideal S8x3072 .f32) (g : Fin 3) (o : ℕ) (eo : o = 1024 * g.val) (ino) (a : Fin 8) (d : Fin 1024) :
    View.ld v (Rect.unit (s := S8x3072) ![0, o] S8x1024.size ino) (ix2 a d) = v (ix2 a (col g d)) :=
  congrArg v (emb_cols g o eo ino a d)

/-- The last piece stored, read in its own columns, -/
theorem hit (g : Fin 3) (o : ℕ) (eo : o = 1024 * g.val) (ino) (P : Vec Ideal S8x1024 .f32) (L : List (View.Piece (Elt Ideal) S8x3072 .f32))
    (a : Fin 8) (d : Fin 1024) :
    View.canon (Val := Elt Ideal) (s := S8x3072) (e := .f32) (⟨Rect.unit (s := S8x3072) ![0, o] S8x1024.size ino, P⟩ :: L) (ix2 a (col g d)) = P (ix2 a d) := by
  rw [← emb_cols g o eo ino a d]
  exact View.canon_cons_emb _ _ _ _
/-- and in another branch's. -/
theorem miss (g g' : Fin 3) (hg : g' ≠ g) (o : ℕ) (eo : o = 1024 * g.val) (ino) (P : Vec Ideal S8x1024 .f32) (L : List (View.Piece (Elt Ideal) S8x3072 .f32))
    (a : Fin 8) (d : Fin 1024) :
    View.canon (Val := Elt Ideal) (s := S8x3072) (e := .f32) (⟨Rect.unit (s := S8x3072) ![0, o] S8x1024.size ino, P⟩ :: L) (ix2 a (col g' d))
      = View.canon (Val := Elt Ideal) (s := S8x3072) (e := .f32) L (ix2 a (col g' d)) := by
  refine View.canon_cons_of_not_mem _ _ ?_
  rw [Rect.mem_set_unit]
  intro hall
  have h1 : o ≤ 1024 * g'.val + d.val := (hall 1).1
  have h2 : 1024 * g'.val + d.val < o + 1024 := (hall 1).2
  exact hg (Fin.ext (by have := d.isLt; omega))
/-- What a later branch finds in its own columns. -/
theorem later (v : View sig .tc .vmem S8x3072 .f32) (L : List (View.Piece (Elt Ideal) S8x3072 .f32)) (g : Fin 3) (o : ℕ) (eo : o = 1024 * g.val) (ino)
    (a : Fin 8) (d : Fin 1024) :
    v.readCov (Val := Elt Ideal) L (Rect.unit (s := S8x3072) ![0, o] S8x1024.size ino).toLoadRect (ix2 a d)
      = View.canon (Val := Elt Ideal) (s := S8x3072) (e := .f32) L (ix2 a (col g d)) := by
  rw [View.readCov_eq_canon']
  exact congrArg (View.canon (Val := Elt Ideal) (s := S8x3072) (e := .f32) L) (emb_cols g o eo ino a d)
/-- What is first stored is zero. -/
theorem zeroed (ino) (y : S8x3072.Idx) : View.canon (Val := Elt Ideal) (s := S8x3072) (e := .f32) [⟨Rect.unit (s := S8x3072) ![0, 0] S8x3072.size ino, k0_pay6 (F := Ideal)⟩] y = 0 := by
  refine (congrFun (View.canon_cons_unit_lit (Val := Elt Ideal) (S := S8x3072) (e := .f32) (off := ![0, 0]) ino (k0_pay6 (F := Ideal)) [] (by decide)) y).trans ?_
  unfold k0_pay6
  pointwise

section Payloads
variable (x0 x p : Vec Ideal S544x1024 .bf16) (w : Vec Ideal S1x1024 .f32) (v : Vec Ideal S8x1024 .f32) (a : Fin 544) (s : Fin 8) (b : Fin 1024)

theorem pay9_apply : k0_pay9 x0 p w (ix2 a b) = x0 (ix2 a b) * gate (p (ix2 a b)) (w (ix2 0 b)) := by
  unfold k0_pay9 k0_pay8 k0_pay7 gate
  pointwise
  simp only [zero_sub]
theorem pay16_apply : k0_pay16 (k0_pay7 x0) p w (ix2 a b) = x0 (ix2 a b) * gate (p (ix2 a b)) (w (ix2 0 b)) := by
  unfold k0_pay16 k0_pay15 k0_pay7 gate
  pointwise
  simp only [zero_sub]
theorem pay2_apply : k0_pay2 (k0_pay7 x0) p w (ix2 a b) = x0 (ix2 a b) * gate (p (ix2 a b)) (w (ix2 0 b)) := by
  unfold k0_pay2 k0_pay1 k0_pay7 gate
  pointwise
  simp only [zero_sub]
theorem pay14_apply : k0_pay14 (k0_pay12 v) (k0_pay13 x0 p w x) (ix2 s b)
    = v (ix2 s b) + ∑ k : Fin 544, slope (x0 (ix2 k b)) (x (ix2 k b)) (p (ix2 k b)) (w (ix2 0 b)) := by
  unfold k0_pay14 k0_pay12 k0_pay13 k0_pay10 k0_pay8 k0_pay7 slope gate
  pointwise
  simp only [zero_sub]
theorem pay19_apply : k0_pay19 (k0_pay7 x0) p w x v (ix2 s b)
    = v (ix2 s b) + ∑ k : Fin 544, slope (x0 (ix2 k b)) (x (ix2 k b)) (p (ix2 k b)) (w (ix2 0 b)) := by
  unfold k0_pay19 k0_pay17 k0_pay15 k0_pay7 slope gate
  pointwise
  simp only [zero_sub]
theorem pay5_apply : k0_pay5 (k0_pay7 x0) p w x v (ix2 s b)
    = v (ix2 s b) + ∑ k : Fin 544, slope (x0 (ix2 k b)) (x (ix2 k b)) (p (ix2 k b)) (w (ix2 0 b)) := by
  unfold k0_pay5 k0_pay3 k0_pay1 k0_pay7 slope gate
  pointwise
  simp only [zero_sub]
end Payloads

section Cases
variable (c : Dev nD) (i : grid0.Coords)
  (arg1 : Memref sig .tc .vmem S544x1024 .bf16) (harg1 : arg1.IsWhole)
  (arg2 : Memref sig .tc .vmem S544x1024 .bf16) (harg2 : arg2.IsWhole)
  (arg3 : Memref sig .tc .vmem S544x1024 .bf16) (harg3 : arg3.IsWhole)
  (arg4 : Memref sig .tc .vmem S544x1024 .bf16) (harg4 : arg4.IsWhole)
  (arg5 : Memref sig .tc .vmem S544x1024 .bf16) (harg5 : arg5.IsWhole)
  (arg6 : Memref sig .tc .vmem S544x1024 .bf16) (harg6 : arg6.IsWhole)
  (arg7 : Memref sig .tc .vmem S544x1024 .bf16) (harg7 : arg7.IsWhole)
  (arg8 : Memref sig .tc .vmem S1x3072 .f32) (harg8 : arg8.IsWhole)
  (arg9 : Memref sig .tc .vmem S544x1024 .bf16) (harg9 : arg9.IsWhole)
  (arg10 : Memref sig .tc .vmem S544x1024 .bf16) (harg10 : arg10.IsWhole)
  (arg11 : Memref sig .tc .vmem S544x1024 .bf16) (harg11 : arg11.IsWhole)
  (arg12 : Memref sig .tc .vmem S544x3072 .bf16) (harg12 : arg12.IsWhole)
  (arg13 : Memref sig .tc .vmem S8x3072 .f32) (harg13 : arg13.IsWhole)
  (x0 x1 x2 x3 x4 x5 x6 : Vec Ideal S544x1024 .bf16) (x7 : Vec Ideal S1x3072 .f32) (acc : Vec Ideal S8x3072 .f32)

theorem oA8 (h : cond0_0 i) (a : Fin 544) (b : Fin 1024) : out0_A_8 c i arg1 harg1 arg2 harg2 arg3 harg3 arg4 harg4 arg5 harg5 arg6 harg6 arg7 harg7 arg8 harg8 arg9 harg9 arg10 harg10 arg11 harg11 arg12 harg12 arg13 harg13 h x0 x1 x2 x3 x4 x5 x6 x7 (ix2 a b)
    = x0 (ix2 a b) * gate (x4 (ix2 a b)) (x7 (ix2 0 (col 0 b))) := by
  frame_out
  rw [pay9_apply, bias _ 0 0 rfl]
theorem oB8 (h : ¬cond0_0 i) (a : Fin 544) (b : Fin 1024) : out0_B_8 c i arg1 harg1 arg2 harg2 arg3 harg3 arg4 harg4 arg5 harg5 arg6 harg6 arg7 harg7 arg8 harg8 arg9 harg9 arg10 harg10 arg11 harg11 arg12 harg12 arg13 harg13 h x0 x1 x2 x3 x4 x5 x6 x7 acc (ix2 a b)
    = x0 (ix2 a b) * gate (x4 (ix2 a b)) (x7 (ix2 0 (col 0 b))) := by
  frame_out
  rw [pay9_apply, bias _ 0 0 rfl]
theorem oA9 (h : cond0_0 i) (a : Fin 544) (b : Fin 1024) : out0_A_9 c i arg1 harg1 arg2 harg2 arg3 harg3 arg4 harg4 arg5 harg5 arg6 harg6 arg7 harg7 arg8 harg8 arg9 harg9 arg10 harg10 arg11 harg11 arg12 harg12 arg13 harg13 h x0 x1 x2 x3 x4 x5 x6 x7 (ix2 a b)
    = x0 (ix2 a b) * gate (x5 (ix2 a b)) (x7 (ix2 0 (col 1 b))) := by
  frame_out
  rw [pay16_apply, bias _ 1 1024 rfl]
theorem oB9 (h : ¬cond0_0 i) (a : Fin 544) (b : Fin 1024) : out0_B_9 c i arg1 harg1 arg2 harg2 arg3 harg3 arg4 harg4 arg5 harg5 arg6 harg6 arg7 harg7 arg8 harg8 arg9 harg9 arg10 harg10 arg11 harg11 arg12 harg12 arg13 harg13 h x0 x1 x2 x3 x4 x5 x6 x7 acc (ix2 a b)
    = x0 (ix2 a b) * gate (x5 (ix2 a b)) (x7 (ix2 0 (col 1 b))) := by
  frame_out
  rw [pay16_apply, bias _ 1 1024 rfl]
theorem oA10 (h : cond0_0 i) (a : Fin 544) (b : Fin 1024) : out0_A_10 c i arg1 harg1 arg2 harg2 arg3 harg3 arg4 harg4 arg5 harg5 arg6 harg6 arg7 harg7 arg8 harg8 arg9 harg9 arg10 harg10 arg11 harg11 arg12 harg12 arg13 harg13 h x0 x1 x2 x3 x4 x5 x6 x7 (ix2 a b)
    = x0 (ix2 a b) * gate (x6 (ix2 a b)) (x7 (ix2 0 (col 2 b))) := by
  frame_out
  rw [pay2_apply, bias _ 2 2048 rfl]
theorem oB10 (h : ¬cond0_0 i) (a : Fin 544) (b : Fin 1024) : out0_B_10 c i arg1 harg1 arg2 harg2 arg3 harg3 arg4 harg4 arg5 harg5 arg6 harg6 arg7 harg7 arg8 harg8 arg9 harg9 arg10 harg10 arg11 harg11 arg12 harg12 arg13 harg13 h x0 x1 x2 x3 x4 x5 x6 x7 acc (ix2 a b)
    = x0 (ix2 a b) * gate (x6 (ix2 a b)) (x7 (ix2 0 (col 2 b))) := by
  frame_out
  rw [pay2_apply, bias _ 2 2048 rfl]
theorem oA12 (h : cond0_0 i) (s : Fin 8) (g : Fin 3) (b : Fin 1024) : out0_A_12 c i arg1 harg1 arg2 harg2 arg3 harg3 arg4 harg4 arg5 harg5 arg6 harg6 arg7 harg7 arg8 harg8 arg9 harg9 arg10 harg10 arg11 harg11 arg12 harg12 arg13 harg13 h x0 x1 x2 x3 x4 x5 x6 x7 (ix2 s (col g b))
    = 0 + ∑ k : Fin 544, slope (x0 (ix2 k b)) ((![x1, x2, x3] : Fin 3 → Vec Ideal S544x1024 .bf16) g (ix2 k b)) ((![x4, x5, x6] : Fin 3 → Vec Ideal S544x1024 .bf16) g (ix2 k b)) (x7 (ix2 0 (col g b))) := by
  frame_out
  fin_cases g
  · refine ((miss 2 0 (by decide) 2048 rfl _ _ _ s b).trans ((miss 1 0 (by decide) 1024 rfl _ _ _ s b).trans (hit 0 0 rfl _ _ _ s b))).trans ?_
    rw [pay14_apply, bias _ 0 0 rfl]
    exact congrArg (· + _) ((later arg13.view _ 0 0 rfl _ s b).trans (zeroed _ _))
  · refine ((miss 2 1 (by decide) 2048 rfl _ _ _ s b).trans (hit 1 1024 rfl _ _ _ s b)).trans ?_
    rw [pay19_apply, bias _ 1 1024 rfl]
    exact congrArg (· + _) ((later arg13.view _ 1 1024 rfl _ s b).trans ((miss 0 1 (by decide) 0 rfl _ _ _ s b).trans (zeroed _ _)))
  · refine (hit 2 2048 rfl _ _ _ s b).trans ?_
    rw [pay5_apply, bias _ 2 2048 rfl]
    exact congrArg (· + _) ((later arg13.view _ 2 2048 rfl _ s b).trans
      ((miss 1 2 (by decide) 1024 rfl _ _ _ s b).trans ((miss 0 2 (by decide) 0 rfl _ _ _ s b).trans (zeroed _ _))))
theorem oB12 (h : ¬cond0_0 i) (s : Fin 8) (g : Fin 3) (b : Fin 1024) : out0_B_12 c i arg1 harg1 arg2 harg2 arg3 harg3 arg4 harg4 arg5 harg5 arg6 harg6 arg7 harg7 arg8 harg8 arg9 harg9 arg10 harg10 arg11 harg11 arg12 harg12 arg13 harg13 h x0 x1 x2 x3 x4 x5 x6 x7 acc (ix2 s (col g b))
    = acc (ix2 s (col g b)) + ∑ k : Fin 544, slope (x0 (ix2 k b)) ((![x1, x2, x3] : Fin 3 → Vec Ideal S544x1024 .bf16) g (ix2 k b)) ((![x4, x5, x6] : Fin 3 → Vec Ideal S544x1024 .bf16) g (ix2 k b)) (x7 (ix2 0 (col g b))) := by
  frame_out
  fin_cases g
  · refine ((miss 2 0 (by decide) 2048 rfl _ _ _ s b).trans ((miss 1 0 (by decide) 1024 rfl _ _ _ s b).trans (hit 0 0 rfl _ _ _ s b))).trans ?_
    rw [pay14_apply, bias _ 0 0 rfl, cols _ 0 0 rfl]
    rfl
  · refine ((miss 2 1 (by decide) 2048 rfl _ _ _ s b).trans (hit 1 1024 rfl _ _ _ s b)).trans ?_
    rw [pay19_apply, bias _ 1 1024 rfl, cols _ 1 1024 rfl]
    rfl
  · refine (hit 2 2048 rfl _ _ _ s b).trans ?_
    rw [pay5_apply, bias _ 2 2048 rfl, cols _ 2 2048 rfl]
    rfl
end Cases

theorem idx_all : ∀ t : Fin grid0.N, win0_0.index t = ![t.val, 0] ∧ win0_1.index t = ![t.val, 0] ∧ win0_2.index t = ![t.val, 0]
    ∧ win0_3.index t = ![t.val, 0] ∧ win0_4.index t = ![t.val, 9] ∧ win0_5.index t = ![t.val, 10] ∧ win0_6.index t = ![t.val, 11]
    ∧ win0_7.index t = ![0, 0] ∧ win0_8.index t = ![t.val, 0] ∧ win0_9.index t = ![t.val, 0] ∧ win0_10.index t = ![t.val, 0]
    ∧ win0_12.index t = ![0, 0] := by
  decide +kernel

theorem t_lt (t : Fin cfg0.N) : t.val < 8 := t.isLt

/-- Row `a` of tile `s`, and the tile of grid point `t`. -/
def tok (s : Fin 8) (a : Fin 544) : Fin 4352 := ⟨544 * s.val + a.val, by omega⟩
def tile (t : Fin cfg0.N) : Fin 8 := ⟨t.val, t_lt t⟩

/-- Column `b` of branch `g`'s part of the projection. -/
def pcol (g : Fin 3) (b : Fin 1024) : Fin 13312 := ⟨9216 + (1024 * g.val + b.val), by omega⟩

/-- The branch of a column of the biases, and the column within it. -/
def hd (b : Fin 3072) : Fin 3 := ⟨b.val / 1024, by omega⟩
def lo (b : Fin 3072) : Fin 1024 := ⟨b.val % 1024, by omega⟩
theorem col_hd_lo (b : Fin 3072) : col (hd b) (lo b) = b := Fin.ext (by show 1024 * (b.val / 1024) + b.val % 1024 = _; omega)
theorem hd_col (g : Fin 3) (d : Fin 1024) : hd (col g d) = g := Fin.ext (by show (1024 * g.val + d.val) / 1024 = _; omega)
theorem lo_col (g : Fin 3) (d : Fin 1024) : lo (col g d) = d := Fin.ext (by show (1024 * g.val + d.val) % 1024 = _; omega)

section Results
variable (x0 a b c : Vec Ideal S4352x1024 .bf16) (p : Vec Ideal S4352x13312 .bf16) (z : Vec Ideal S3072 .f32)

/-- The gradient in branch `g`: the gradient of the sum, times its gate. -/
def gated (g : Fin 3) : Vec Ideal S4352x1024 .bf16 :=
  fun j => x0 (ix2 (j 0) (j 1)) * gate (p (ix2 (j 0) (pcol g (j 1)))) (z (ix1 (col g (j 1))))

/-- One token's part in the gradient of a bias, -/
def term (g : Fin 3) (d : Fin 1024) (k : Fin 4352) : EReal :=
  slope (x0 (ix2 k d)) ((![a, b, c] : Fin 3 → Vec Ideal S4352x1024 .bf16) g (ix2 k d)) (p (ix2 k (pcol g d))) (z (ix1 (col g d)))
/-- one tile's, -/
def part (g : Fin 3) (d : Fin 1024) (s : Fin 8) : EReal := ∑ k : Fin 544, term x0 a b c p z g d (tok s k)
/-- and the gradient of the biases, in eight equal rows. -/
def grad : Vec Ideal S8x3072 .f32 := fun j => ∑ k : Fin 4352, term x0 a b c p z (hd (j 1)) (lo (j 1)) k

theorem grad_col (i : Fin 8) (g : Fin 3) (d : Fin 1024) : grad x0 a b c p z (ix2 i (col g d)) = ∑ k : Fin 4352, term x0 a b c p z g d k :=
  Finset.sum_congr rfl fun k _ => congrArg₂ (fun g d => term x0 a b c p z g d k) (hd_col g d) (lo_col g d)

/-- Three arrays side by side, read in one branch's columns. -/
theorem pick (g : Fin 3) (d : Fin 1024) (f0 f1 f2 : Fin 1024 → EReal) (h2) :
    (if h : (col g d).val < 1024 then f0 ⟨(col g d).val, h⟩ else if h' : (col g d).val - 1024 < 1024 then f1 ⟨(col g d).val - 1024, h'⟩
      else f2 ⟨(col g d).val - 1024 - 1024, h2⟩) = (![f0, f1, f2] : Fin 3 → Fin 1024 → EReal) g d := by
  have hd := d.isLt
  obtain rfl | rfl | rfl : g = 0 ∨ g = 1 ∨ g = 2 := by omega
  · exact (dif_pos (show 1024 * 0 + d.val < 1024 by omega)).trans
      (congrArg f0 (Fin.ext (by show 1024 * 0 + d.val = d.val; omega)))
  · exact (dif_neg (show ¬1024 * 1 + d.val < 1024 by omega)).trans ((dif_pos (show 1024 * 1 + d.val - 1024 < 1024 by omega)).trans
      (congrArg f1 (Fin.ext (by show 1024 * 1 + d.val - 1024 = d.val; omega))))
  · exact (dif_neg (show ¬1024 * 2 + d.val < 1024 by omega)).trans ((dif_neg (show ¬1024 * 2 + d.val - 1024 < 1024 by omega)).trans
      (congrArg f2 (Fin.ext (by show 1024 * 2 + d.val - 1024 - 1024 = d.val; omega))))

/-- So the gradient times the branches side by side is the gradient times the branch. -/
theorem beside (g : Fin 3) (d : Fin 1024) (k : Fin 4352) (h2) :
    (if h : (col g d).val < 1024 then x0 (ix2 k ⟨(col g d).val, h⟩) * a (ix2 k ⟨(col g d).val, h⟩)
      else if h' : (col g d).val - 1024 < 1024 then x0 (ix2 k ⟨(col g d).val - 1024, h'⟩) * b (ix2 k ⟨(col g d).val - 1024, h'⟩)
      else x0 (ix2 k ⟨(col g d).val - 1024 - 1024, h2⟩) * c (ix2 k ⟨(col g d).val - 1024 - 1024, h2⟩))
      = x0 (ix2 k d) * (![a, b, c] : Fin 3 → Vec Ideal S4352x1024 .bf16) g (ix2 k d) := by
  refine (pick g d (fun d => x0 (ix2 k d) * a (ix2 k d)) (fun d => x0 (ix2 k d) * b (ix2 k d)) (fun d => x0 (ix2 k d) * c (ix2 k d)) h2).trans ?_
  fin_cases g <;> rfl

/-- A sum over the tokens, tile by tile. -/
theorem sum_tok {M : Type} [AddCommMonoid M] (f : Fin 4352 → M) : ∑ s : Fin 8, ∑ k : Fin 544, f (tok s k) = ∑ k, f k := by
  rw [← Fintype.sum_prod_type']
  refine Fintype.sum_equiv (finProdFinEquiv (m := 8) (n := 544)) (fun x => f (tok x.1 x.2)) f fun x => congrArg f (Fin.ext ?_)
  exact Nat.add_comm _ _
end Results

variable (m : (ℓ : Loc nD τ sig) → Buf (Elt Ideal) ℓ) (c : Dev nD)

theorem V_bias : @Eq (Vec Ideal S1x3072 .f32) (V (F := Ideal) m c main_v0) (broadcastInDim S1x3072 ![1] bcast_S3072_S1x3072_1 (V m c main_arg5)) := by
  rw [V_main_arg5]
  unfold V
  after_reads_simp <;> rfl

theorem blk0 (t : Fin cfg0.N) (a : Fin 544) (b : Fin 1024) : iblk m c 0 t (ix2 a b) = V m c main_arg0 (ix2 (tok (tile t) a) b) := by
  obtain ⟨e, -⟩ := idx_all t
  blk_ext [iblk, tok, tile, e]
theorem blk1 (t : Fin cfg0.N) (a : Fin 544) (b : Fin 1024) : iblk m c 1 t (ix2 a b) = V m c main_arg1 (ix2 (tok (tile t) a) b) := by
  obtain ⟨-, e, -⟩ := idx_all t
  blk_ext [iblk, tok, tile, e]
theorem blk2 (t : Fin cfg0.N) (a : Fin 544) (b : Fin 1024) : iblk m c 2 t (ix2 a b) = V m c main_arg2 (ix2 (tok (tile t) a) b) := by
  obtain ⟨-, -, e, -⟩ := idx_all t
  blk_ext [iblk, tok, tile, e]
theorem blk3 (t : Fin cfg0.N) (a : Fin 544) (b : Fin 1024) : iblk m c 3 t (ix2 a b) = V m c main_arg3 (ix2 (tok (tile t) a) b) := by
  obtain ⟨-, -, -, e, -⟩ := idx_all t
  blk_ext [iblk, tok, tile, e]
theorem blk4 (t : Fin cfg0.N) (a : Fin 544) (b : Fin 1024) : iblk m c 4 t (ix2 a b) = V m c main_arg4 (ix2 (tok (tile t) a) (pcol 0 b)) := by
  obtain ⟨-, -, -, -, e, -⟩ := idx_all t
  blk_ext [iblk, tok, tile, pcol, e]
theorem blk5 (t : Fin cfg0.N) (a : Fin 544) (b : Fin 1024) : iblk m c 5 t (ix2 a b) = V m c main_arg4 (ix2 (tok (tile t) a) (pcol 1 b)) := by
  obtain ⟨-, -, -, -, -, e, -⟩ := idx_all t
  blk_ext [iblk, tok, tile, pcol, e]
theorem blk6 (t : Fin cfg0.N) (a : Fin 544) (b : Fin 1024) : iblk m c 6 t (ix2 a b) = V m c main_arg4 (ix2 (tok (tile t) a) (pcol 2 b)) := by
  obtain ⟨-, -, -, -, -, -, e, -⟩ := idx_all t
  blk_ext [iblk, tok, tile, pcol, e]
theorem blk7 (t : Fin cfg0.N) (b : Fin 3072) : iblk m c 7 t (ix2 0 b) = V m c main_arg5 (ix1 b) := by
  obtain ⟨-, -, -, -, -, -, -, e, -⟩ := idx_all t
  have h : iblk m c 7 t (ix2 0 b) = V m c main_v0 (ix2 0 b) := by blk_ext [iblk, e]
  rw [h, V_bias]
  pointwise

/-- A grid point's block of the gradient in branch 0. -/
theorem left8 (t : Fin cfg0.N) (a : Fin 544) (b : Fin 1024) : (outsAt0 m c t.val t.isLt).1 (ix2 a b)
    = gated (V m c main_arg0) (V m c main_arg4) (V m c main_arg5) 0 (ix2 (tok (tile t) a) b) := by
  by_cases h : t.val % 8 = 0
  · rw [outsAt0_A m c t h]
    dsimp only
    rw [oA8, blk0, blk4, blk7]
    rfl
  · rw [outsAt0_B m c t h]
    dsimp only
    rw [oB8, blk0, blk4, blk7]
    rfl

/-- A grid point's block of the gradient in branch 1. -/
theorem left9 (t : Fin cfg0.N) (a : Fin 544) (b : Fin 1024) : (outsAt0 m c t.val t.isLt).2.1 (ix2 a b)
    = gated (V m c main_arg0) (V m c main_arg4) (V m c main_arg5) 1 (ix2 (tok (tile t) a) b) := by
  by_cases h : t.val % 8 = 0
  · rw [outsAt0_A m c t h]
    dsimp only
    rw [oA9, blk0, blk5, blk7]
    rfl
  · rw [outsAt0_B m c t h]
    dsimp only
    rw [oB9, blk0, blk5, blk7]
    rfl

/-- A grid point's block of the gradient in branch 2. -/
theorem left10 (t : Fin cfg0.N) (a : Fin 544) (b : Fin 1024) : (outsAt0 m c t.val t.isLt).2.2.1 (ix2 a b)
    = gated (V m c main_arg0) (V m c main_arg4) (V m c main_arg5) 2 (ix2 (tok (tile t) a) b) := by
  by_cases h : t.val % 8 = 0
  · rw [outsAt0_A m c t h]
    dsimp only
    rw [oA10, blk0, blk6, blk7]
    rfl
  · rw [outsAt0_B m c t h]
    dsimp only
    rw [oB10, blk0, blk6, blk7]
    rfl

/-- A tile's part in the gradient of a bias. -/
theorem tile_part (t : Fin cfg0.N) (g : Fin 3) (d : Fin 1024) :
    ∑ k : Fin 544, slope (iblk m c 0 t (ix2 k d)) ((![iblk m c 1 t, iblk m c 2 t, iblk m c 3 t] : Fin 3 → Vec Ideal S544x1024 .bf16) g (ix2 k d))
      ((![iblk m c 4 t, iblk m c 5 t, iblk m c 6 t] : Fin 3 → Vec Ideal S544x1024 .bf16) g (ix2 k d)) (iblk m c 7 t (ix2 0 (col g d)))
    = part (V m c main_arg0) (V m c main_arg1) (V m c main_arg2) (V m c main_arg3) (V m c main_arg4) (V m c main_arg5) g d (tile t) := by
  refine Finset.sum_congr rfl fun k _ => ?_
  unfold term
  rw [blk0, blk7]
  fin_cases g
  · exact congrArg₂ (fun x p => slope _ x p _) (blk1 m c t k d) (blk4 m c t k d)
  · exact congrArg₂ (fun x p => slope _ x p _) (blk2 m c t k d) (blk5 m c t k d)
  · exact congrArg₂ (fun x p => slope _ x p _) (blk3 m c t k d) (blk6 m c t k d)

/-- The sum after the first point, -/
theorem ptA (t : Fin cfg0.N) (h : t.val % 8 = 0) (s : Fin 8) (g : Fin 3) (d : Fin 1024) :
    (outsAt0 m c t.val t.isLt).2.2.2.2 (ix2 s (col g d)) = 0 + part (V m c main_arg0) (V m c main_arg1) (V m c main_arg2) (V m c main_arg3) (V m c main_arg4) (V m c main_arg5) g d (tile t) := by
  rw [outsAt0_A m c t h]
  dsimp only
  rw [oA12]
  exact congrArg (0 + ·) (tile_part m c t g d)
/-- and after a later one. -/
theorem ptB (t : Fin cfg0.N) (h : ¬t.val % 8 = 0) (s : Fin 8) (g : Fin 3) (d : Fin 1024) :
    (outsAt0 m c t.val t.isLt).2.2.2.2 (ix2 s (col g d)) = (outsAt0 m c (t.val - 1) (Nat.lt_of_le_of_lt (Nat.sub_le _ _) t.isLt)).2.2.2.2 (ix2 s (col g d))
      + part (V m c main_arg0) (V m c main_arg1) (V m c main_arg2) (V m c main_arg3) (V m c main_arg4) (V m c main_arg5) g d (tile t) := by
  rw [outsAt0_B m c t h]
  dsimp only
  rw [oB12]
  exact congrArg (_ + ·) (tile_part m c t g d)

theorem arr8 : (dats m 0 c).arrAt 8 cfg0.N = gated (V m c main_arg0) (V m c main_arg4) (V m c main_arg5) 0 := by
  refine (dats m 0 c).arrAt_eq_of_covers 8 _ (by decide +kernel) fun t hf y => ?_
  obtain ⟨-, -, -, -, -, -, -, -, e, -⟩ := idx_all t
  blk_simp
  rw [after0_8]
  have e0 : ((win0_8.blk t).view.emb y 0 : Fin 4352) = tok (tile t) (y 0) := by
    refine Fin.ext ?_
    blk_simp [e]
    exact congrArg (· + _) (Nat.mul_comm _ _)
  have e1 : ((win0_8.blk t).view.emb y 1 : Fin 1024) = y 1 := by
    refine Fin.ext ?_
    blk_simp [e]
  have ey : (win0_8.blk t).view.emb y = (ix2 (tok (tile t) (y 0)) (y 1)) := (eq_ix2 _).trans (by rw [e0, e1]; rfl)
  rw [ey]
  exact (congrArg _ (eq_ix2 y)).trans (left8 m c t (y 0) (y 1))
theorem arr9 : (dats m 0 c).arrAt 9 cfg0.N = gated (V m c main_arg0) (V m c main_arg4) (V m c main_arg5) 1 := by
  refine (dats m 0 c).arrAt_eq_of_covers 9 _ (by decide +kernel) fun t hf y => ?_
  obtain ⟨-, -, -, -, -, -, -, -, -, e, -⟩ := idx_all t
  blk_simp
  rw [after0_9]
  have e0 : ((win0_9.blk t).view.emb y 0 : Fin 4352) = tok (tile t) (y 0) := by
    refine Fin.ext ?_
    blk_simp [e]
    exact congrArg (· + _) (Nat.mul_comm _ _)
  have e1 : ((win0_9.blk t).view.emb y 1 : Fin 1024) = y 1 := by
    refine Fin.ext ?_
    blk_simp [e]
  have ey : (win0_9.blk t).view.emb y = (ix2 (tok (tile t) (y 0)) (y 1)) := (eq_ix2 _).trans (by rw [e0, e1]; rfl)
  rw [ey]
  exact (congrArg _ (eq_ix2 y)).trans (left9 m c t (y 0) (y 1))
theorem arr10 : (dats m 0 c).arrAt 10 cfg0.N = gated (V m c main_arg0) (V m c main_arg4) (V m c main_arg5) 2 := by
  refine (dats m 0 c).arrAt_eq_of_covers 10 _ (by decide +kernel) fun t hf y => ?_
  obtain ⟨-, -, -, -, -, -, -, -, -, -, e, -⟩ := idx_all t
  blk_simp
  rw [after0_10]
  have e0 : ((win0_10.blk t).view.emb y 0 : Fin 4352) = tok (tile t) (y 0) := by
    refine Fin.ext ?_
    blk_simp [e]
    exact congrArg (· + _) (Nat.mul_comm _ _)
  have e1 : ((win0_10.blk t).view.emb y 1 : Fin 1024) = y 1 := by
    refine Fin.ext ?_
    blk_simp [e]
  have ey : (win0_10.blk t).view.emb y = (ix2 (tok (tile t) (y 0)) (y 1)) := (eq_ix2 _).trans (by rw [e0, e1]; rfl)
  rw [ey]
  exact (congrArg _ (eq_ix2 y)).trans (left10 m c t (y 0) (y 1))

/-- The gradient of the biases as the kernel leaves it. -/
theorem arr12 : (dats m 0 c).arrAt 12 cfg0.N = grad (V m c main_arg0) (V m c main_arg1) (V m c main_arg2) (V m c main_arg3) (V m c main_arg4) (V m c main_arg5) := by
  refine (dats m 0 c).arrAt_eq_of_covers 12 _ (by decide +kernel) fun t hf y => ?_
  obtain ⟨-, -, -, -, -, -, -, -, -, -, -, e⟩ := idx_all t
  have hr : t.val % 8 = 8 - 1 := (flush0_12 t).mp hf
  blk_simp
  rw [after0_12]
  have e1 : ((win0_12.blk t).view.emb y 1 : Fin 3072) = y 1 := by
    refine Fin.ext ?_
    blk_simp [e]
  unfold grad
  rw [e1]
  refine (Pipeline.eq_sum_fin_of_reset_step_apply_of_flush (N := cfg0.N) (fun n h => (outsAt0 m c n h).2.2.2.2) 8 0
    (fun t y => part (V m c main_arg0) (V m c main_arg1) (V m c main_arg2) (V m c main_arg3) (V m c main_arg4) (V m c main_arg5) (hd (y 1)) (lo (y 1)) (tile t))
    (fun t h i => ?_) (fun t h i => ?_) t hr y).trans ?_
  · have ei : i = ix2 (i 0) (col (hd (i 1)) (lo (i 1))) := (eq_ix2 i).trans (congrArg (ix2 (i 0)) (col_hd_lo (i 1)).symm)
    exact (congrArg _ ei).trans (ptA m c t h (i 0) (hd (i 1)) (lo (i 1)))
  · have ei : i = ix2 (i 0) (col (hd (i 1)) (lo (i 1))) := (eq_ix2 i).trans (congrArg (ix2 (i 0)) (col_hd_lo (i 1)).symm)
    exact ((congrArg _ ei).trans (ptB m c t h (i 0) (hd (i 1)) (lo (i 1)))).trans
      (congrArg (fun q => (outsAt0 m c (t.val - 1) (Nat.lt_of_le_of_lt (Nat.sub_le _ _) t.isLt)).2.2.2.2 q + _) ei.symm)
  · refine (zero_add _).trans (Eq.trans ?_ (sum_tok fun k => term (V m c main_arg0) (V m c main_arg1) (V m c main_arg2) (V m c main_arg3) (V m c main_arg4) (V m c main_arg5) (hd (y 1)) (lo (y 1)) k))
    refine Finset.sum_congr rfl fun s _ => ?_
    have r1 : tile ⟨8 * (t.val / 8) + s.val, Pipeline.run_point_lt_of_flush t hr s⟩ = s := Fin.ext (by
      have := t_lt t
      show 8 * (t.val / 8) + s.val = s.val
      omega)
    rw [r1]
    rfl

end Cert.Kernel21Ideal.Row

namespace Cert.Proof

open Idealize.ShloMosaic Idealize.SL.Sem

/-- The kernel leaves the gradients in the branches and in the biases. -/
theorem row21 : Cert.algebraic_Kernel21Ideal_Reference21Ideal := by
  intro m g m' g' _ hag
  refine ⟨fun c => Cert.Kernel21Ideal.Row.gated (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) 0,
    fun c => Cert.Kernel21Ideal.Row.gated (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) 1,
    fun c => Cert.Kernel21Ideal.Row.gated (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) 2,
    fun c => Cert.Kernel21Ideal.Row.grad (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)), ?_, ?_⟩
  · refine (θ_run Cert.Kernel21Ideal.defs _ _).mono (fun r h c => ?_) (Cert.Kernel21Ideal.Value.run_blocks (F := Ideal) m g)
    obtain ⟨h8, h9, h10, -, h12, h⟩ := h c
    rw [Cert.Kernel21Ideal.Row.arr8, Cert.Kernel21Ideal.Gen.V_main_arg0, Cert.Kernel21Ideal.Gen.V_main_arg4, Cert.Kernel21Ideal.Gen.V_main_arg5] at h8
    rw [Cert.Kernel21Ideal.Row.arr9, Cert.Kernel21Ideal.Gen.V_main_arg0, Cert.Kernel21Ideal.Gen.V_main_arg4, Cert.Kernel21Ideal.Gen.V_main_arg5] at h9
    rw [Cert.Kernel21Ideal.Row.arr10, Cert.Kernel21Ideal.Gen.V_main_arg0, Cert.Kernel21Ideal.Gen.V_main_arg4, Cert.Kernel21Ideal.Gen.V_main_arg5] at h10
    rw [Cert.Kernel21Ideal.Row.arr12, Cert.Kernel21Ideal.Gen.V_main_arg0, Cert.Kernel21Ideal.Gen.V_main_arg1, Cert.Kernel21Ideal.Gen.V_main_arg2, Cert.Kernel21Ideal.Gen.V_main_arg3, Cert.Kernel21Ideal.Gen.V_main_arg4, Cert.Kernel21Ideal.Gen.V_main_arg5] at h12
    exact ⟨h8, h9, h10, h12, h⟩
  · refine (θ_run Cert.Reference21Ideal.defs _ _).mono (fun r h c => ?_) (Cert.Reference21Ideal.Value.run (F := Ideal) m' g')
    obtain ⟨h0, h1, h2, h3, h⟩ := h c
    obtain ⟨e0, e1, e2, e3, e4, e5⟩ := hag c
    refine ⟨h0.trans ?_, h1.trans ?_, h2.trans ?_, h3.trans ?_, h⟩
    · funext j
      obtain ⟨a, b, rfl⟩ : ∃ (a : Fin 4352) (b : Fin 1024), j = ix2 a b := ⟨j 0, j 1, eq_ix2 j⟩
      unfold Cert.Kernel21Ideal.Row.gated Cert.Kernel21Ideal.Row.gate
      pointwise
      simp only [e0, e4, e5]
      refine (mul_comm (G := EReal) _ _).trans (congrArg₂ (fun u v : EReal => u * v) rfl ?_)
      exact congrArg₂ Cert.Kernel21Ideal.Row.gate (congrArg (m ((c.tc : Thread Cert.Kernel21Ideal.nD Cert.Kernel21Ideal.τ).loc Cert.Kernel21Ideal.main_arg4)) (congrArg (ix2 a) (Fin.ext (by show 9216 + b.val = 9216 + (1024 * 0 + b.val); omega))))
        (congrArg (m ((c.tc : Thread Cert.Kernel21Ideal.nD Cert.Kernel21Ideal.τ).loc Cert.Kernel21Ideal.main_arg5)) (congrArg ix1 (Fin.ext (by show b.val = 1024 * 0 + b.val; omega))))
    · funext j
      obtain ⟨a, b, rfl⟩ : ∃ (a : Fin 4352) (b : Fin 1024), j = ix2 a b := ⟨j 0, j 1, eq_ix2 j⟩
      unfold Cert.Kernel21Ideal.Row.gated Cert.Kernel21Ideal.Row.gate
      pointwise
      simp only [e0, e4, e5]
      exact mul_comm _ _
    · funext j
      obtain ⟨a, b, rfl⟩ : ∃ (a : Fin 4352) (b : Fin 1024), j = ix2 a b := ⟨j 0, j 1, eq_ix2 j⟩
      unfold Cert.Kernel21Ideal.Row.gated Cert.Kernel21Ideal.Row.gate
      pointwise
      simp only [e0, e4, e5]
      exact mul_comm _ _
    · funext j
      obtain ⟨a, b, rfl⟩ : ∃ (a : Fin 8) (b : Fin 3072), j = ix2 a b := ⟨j 0, j 1, eq_ix2 j⟩
      obtain ⟨q, d, rfl⟩ : ∃ (q : Fin 3) (d : Fin 1024), b = Cert.Kernel21Ideal.Row.col q d := ⟨_, _, (Cert.Kernel21Ideal.Row.col_hd_lo b).symm⟩
      refine Eq.trans ?_ (Cert.Kernel21Ideal.Row.grad_col _ _ _ _ _ _ a q d).symm
      unfold Cert.Kernel21Ideal.Row.term Cert.Kernel21Ideal.Row.slope Cert.Kernel21Ideal.Row.gate
      pointwise
      rw [Fin.sum_univ_one]
      refine Finset.sum_congr rfl fun k _ => ?_
      simp only [e0, e1, e2, e3, e4, e5]
      have hb := Cert.Kernel21Ideal.Row.beside (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) q d k (by show 1024 * q.val + d.val - 1024 - 1024 < 1024; omega)
      refine congrArg₂ (fun u v : EReal => u * v) (Eq.trans ?_ hb) rfl
      split_ifs <;> rfl

end Cert.Proof

end
-- ==== Proof.Row22.lean ====
/- The loss's gradient and its sum of squares. The rows of the context get no gradient; the others get the error over 1024, which
   the reference has as half over 1024, times twice the error. The squares are summed tile after tile of 256 rows. -/
module

public import proofs.«01_k».proof.Defs
public import proofs.«01_k».proof.Proof.Words
public import proofs.«01_k».proof.Proof.Gen.Kernel22Ideal.Value
public import proofs.«01_k».proof.Proof.Gen.Reference22Ideal.Run
public import Idealize.ShloMosaic.Lib.StableHlo.RunRead
public import Idealize.ShloMosaic.Lib.Pipeline.ValueKit
public import Idealize.ShloMosaic.Lib.Pipeline.ReadBack
public import Idealize.ShloMosaic.PureOps.Ideal.Laws
public import Idealize.ShloMosaic.Lib.KernelVsHost

@[expose] public section

set_option maxRecDepth 16384

noncomputable section

namespace Cert.Kernel22Ideal.Row

open Idealize.ShloMosaic Idealize.ShloMosaic.TcCoe Cert.Kernel22Ideal.Gen
open Idealize.ShloMosaic.Pipeline (Dat Cfg Window)

theorem word_1024 : Ideal.ofBits .f32 0x44800000#32 = ((1024 : ℝ) : EReal) := by
  simp [Ideal.ofBits, Ideal.ieee]
  rw [← EReal.coe_mul]
  norm_num

theorem word_half : Ideal.ofBits .f32 0x3F000000#32 = ((1 / 2 : ℝ) : EReal) := by
  simp [Ideal.ofBits, Ideal.ieee]
  rw [← EReal.coe_mul]
  norm_num

/-- Half over 1024, times twice the error, is the error over 1024. -/
theorem half_twice (e : EReal) : Ideal.div (Ideal.ofBits .f32 0x3F000000#32) (Ideal.ofBits .f32 0x44800000#32) * (Ideal.ofBits .f32 0x40000000#32 * e)
    = Ideal.div e (Ideal.ofBits .f32 0x44800000#32) := by
  rw [word_half, word_1024, Cert.Soft.word_two, Cert.Soft.div_real _ _ (by norm_num), Ideal.div_coe (by norm_num), ← mul_assoc, ← EReal.coe_mul, mul_comm]
  norm_num

section Cases
variable (c : Dev nD) (i : grid0.Coords) (arg1 : Memref sig .tc .vmem S256x1024 .f32) (harg1 : arg1.IsWhole) (arg2 : Memref sig .tc .vmem S256x1024 .f32) (harg2 : arg2.IsWhole)
  (arg3 : Memref sig .tc .vmem S256x1024 .f32) (harg3 : arg3.IsWhole) (arg4 : Memref sig .tc .vmem S8x128 .f32) (harg4 : arg4.IsWhole)
  (x0 x1 : Vec Ideal S256x1024 .f32) (acc : Vec Ideal S8x128 .f32)

theorem oA2 (h0 : cond0_0 i) (h1 : cond0_1 i) (h2 : ¬cond0_2 i) (a : Fin 256) (b : Fin 1024) : out0_A_2 c i arg1 harg1 arg2 harg2 arg3 harg3 arg4 harg4 h0 h1 h2 x0 x1 (ix2 a b) = 0 := by
  frame_out
  unfold k0_pay2
  pointwise
theorem oA3 (h0 : cond0_0 i) (h1 : cond0_1 i) (h2 : ¬cond0_2 i) (a : Fin 8) (b : Fin 128) : out0_A_3 c i arg1 harg1 arg2 harg2 arg3 harg3 arg4 harg4 h0 h1 h2 x0 x1 (ix2 a b) = 0 := by
  frame_out
  unfold k0_pay1
  pointwise
theorem oB2 (h0 : ¬cond0_0 i) (h1 : ¬cond0_1 i) (h2 : cond0_2 i) (a : Fin 256) (b : Fin 1024) : out0_B_2 c i arg1 harg1 arg2 harg2 arg3 harg3 arg4 harg4 h0 h1 h2 x0 x1 acc (ix2 a b)
    = Ideal.div (x0 (ix2 a b) - x1 (ix2 a b)) (Ideal.ofBits .f32 0x44800000#32) := by
  frame_out
  unfold k0_pay4 k0_pay3
  pointwise
theorem oB3 (h0 : ¬cond0_0 i) (h1 : ¬cond0_1 i) (h2 : cond0_2 i) (a : Fin 8) (b : Fin 128) : out0_B_3 c i arg1 harg1 arg2 harg2 arg3 harg3 arg4 harg4 h0 h1 h2 x0 x1 acc (ix2 a b)
    = acc (ix2 a b) + ∑ k : Fin 256, ∑ d : Fin 1024, (x0 (ix2 k d) - x1 (ix2 k d)) * (x0 (ix2 k d) - x1 (ix2 k d)) := by
  frame_out
  unfold k0_pay5 k0_pay3
  pointwise
end Cases

theorem idx_all : ∀ t : Fin grid0.N, win0_0.index t = ![t.val, 0] ∧ win0_1.index t = ![t.val - 1, 0] ∧ win0_2.index t = ![t.val, 0]
    ∧ win0_3.index t = ![0, 0] := by
  decide +kernel

theorem t_lt (t : Fin cfg0.N) : t.val < 17 := t.isLt

/-- Row `a` of tile `s` of the sequence. -/
def row (s : Fin 17) (a : Fin 256) : Fin 4352 := ⟨256 * s.val + a.val, by omega⟩
/-- Row `a` of tile `s` of the targets, in the sequence and in the targets. -/
def late (r : Fin 4096) : Fin 4352 := ⟨256 + r.val, by omega⟩
def tok (s : Fin 16) (a : Fin 256) : Fin 4096 := ⟨256 * s.val + a.val, by omega⟩
def tile (t : Fin cfg0.N) : Fin 17 := ⟨t.val, t_lt t⟩

section Results
variable (y : Vec Ideal S4352x1024 .f32) (z : Vec Ideal S4096x1024 .f32)

/-- The error of one entry. -/
def err (r : Fin 4096) (d : Fin 1024) : EReal := y (ix2 (late r) d) - z (ix2 r d)

/-- The gradient: none in the context, the error over 1024 after it. -/
def grad : Vec Ideal S4352x1024 .f32 := fun j =>
  if h : (j 0).val < 256 then 0 else Ideal.div (err y z ⟨(j 0).val - 256, by have := (j 0).isLt; dsimp [S4352x1024] at this; omega⟩ (j 1)) (Ideal.ofBits .f32 0x44800000#32)

/-- One tile's part in the sum of squares; the context's is zero. -/
def part (s : Fin 17) : EReal := Fin.cases 0 (fun s => ∑ k : Fin 256, ∑ d : Fin 1024, err y z (tok s k) d * err y z (tok s k) d) s
/-- The sum of squares, in every entry. -/
def squares : Vec Ideal S8x128 .f32 := fun _ => ∑ r : Fin 4096, ∑ d : Fin 1024, err y z r d * err y z r d

theorem sum_tok {M : Type} [AddCommMonoid M] (f : Fin 4096 → M) : ∑ s : Fin 16, ∑ k : Fin 256, f (tok s k) = ∑ k, f k := by
  rw [← Fintype.sum_prod_type']
  refine Fintype.sum_equiv (finProdFinEquiv (m := 16) (n := 256)) (fun x => f (tok x.1 x.2)) f fun x => congrArg f (Fin.ext ?_)
  exact Nat.add_comm _ _

theorem sum_part : ∑ s : Fin 17, part y z s = ∑ r : Fin 4096, ∑ d : Fin 1024, err y z r d * err y z r d := by
  rw [Fin.sum_univ_succ]
  exact (zero_add _).trans (sum_tok fun r => ∑ d : Fin 1024, err y z r d * err y z r d)
end Results

variable (m : (ℓ : Loc nD τ sig) → Buf (Elt Ideal) ℓ) (c : Dev nD)

theorem blk0 (t : Fin cfg0.N) (a : Fin 256) (b : Fin 1024) : iblk m c 0 t (ix2 a b) = V m c main_arg0 (ix2 (row (tile t) a) b) := by
  obtain ⟨e, -⟩ := idx_all t
  blk_ext [iblk, row, tile, e]
/-- The targets' block is one tile behind. -/
theorem blk1 (t : Fin cfg0.N) (a : Fin 256) (b : Fin 1024) : iblk m c 1 t (ix2 a b)
    = V m c main_arg1 (ix2 ⟨256 * (t.val - 1) + a.val, by have := t_lt t; omega⟩ b) := by
  obtain ⟨-, e, -⟩ := idx_all t
  blk_ext [iblk, e]

theorem not_first (t : Fin cfg0.N) (h : ¬t.val % 17 = 0) : 1 ≤ t.val := by omega
theorem first (t : Fin cfg0.N) (h : t.val % 17 = 0) : ¬1 ≤ t.val := by
  have := t_lt t
  omega

/-- The error of an entry of a later point's blocks. -/
theorem err_blk (t : Fin cfg0.N) (s : Fin 16) (hs : t.val = s.val + 1) (k : Fin 256) (d : Fin 1024) :
    @HSub.hSub EReal EReal EReal _ (iblk m c 0 t (ix2 k d)) (iblk m c 1 t (ix2 k d)) = err (V m c main_arg0) (V m c main_arg1) (tok s k) d := by
  have ea : row (tile t) k = late (tok s k) := Fin.ext (by show 256 * t.val + k.val = 256 + (256 * s.val + k.val); omega)
  have eb : (⟨256 * (t.val - 1) + k.val, by have := t_lt t; omega⟩ : Fin 4096) = tok s k := Fin.ext (by show 256 * (t.val - 1) + k.val = 256 * s.val + k.val; omega)
  refine congrArg₂ (fun u v : EReal => u - v) ((blk0 m c t k d).trans ?_) ((blk1 m c t k d).trans ?_)
  · rw [ea]
  · rw [eb]

/-- A grid point's block of the gradient. -/
theorem left2 (t : Fin cfg0.N) (a : Fin 256) (b : Fin 1024) :
    (outsAt0 m c t.val t.isLt).1 (ix2 a b) = grad (V m c main_arg0) (V m c main_arg1) (ix2 (row (tile t) a) b) := by
  by_cases h : t.val % 17 = 0
  · rw [outsAt0_A m c t h h (first t h)]
    dsimp only
    rw [oA2]
    have := t_lt t
    unfold grad
    refine Eq.trans ?_ (dif_pos (show 256 * t.val + a.val < 256 by omega)).symm
    rfl
  · rw [outsAt0_B m c t h h (not_first t h)]
    dsimp only
    rw [oB2]
    have h' := not_first t h
    have ht := t_lt t
    unfold grad
    refine Eq.trans ?_ (dif_neg (show ¬256 * t.val + a.val < 256 by omega)).symm
    refine congrArg (fun e => Ideal.div e (Ideal.ofBits .f32 0x44800000#32)) ((err_blk m c t ⟨t.val - 1, by omega⟩ (by show t.val = t.val - 1 + 1; omega) a b).trans ?_)
    exact congrArg (fun r => err (V m c main_arg0) (V m c main_arg1) r b) (Fin.ext (by show 256 * (t.val - 1) + a.val = 256 * t.val + a.val - 256; omega))

/-- What the sum holds after the first point, -/
theorem ptA (t : Fin cfg0.N) (h : t.val % 17 = 0) (s : Fin 8) (d : Fin 128) :
    (outsAt0 m c t.val t.isLt).2 (ix2 s d) = 0 + part (V m c main_arg0) (V m c main_arg1) (tile t) := by
  rw [outsAt0_A m c t h h (first t h)]
  dsimp only
  rw [oA3]
  have e : tile t = 0 := Fin.ext (by have := t_lt t; show t.val = 0; omega)
  rw [e]
  exact (zero_add _).symm
/-- and after a later one. -/
theorem ptB (t : Fin cfg0.N) (h : ¬t.val % 17 = 0) (s : Fin 8) (d : Fin 128) :
    (outsAt0 m c t.val t.isLt).2 (ix2 s d) = (outsAt0 m c (t.val - 1) (Nat.lt_of_le_of_lt (Nat.sub_le _ _) t.isLt)).2 (ix2 s d)
      + part (V m c main_arg0) (V m c main_arg1) (tile t) := by
  rw [outsAt0_B m c t h h (not_first t h)]
  dsimp only
  rw [oB3]
  have h' := not_first t h
  have ht := t_lt t
  have e : tile t = Fin.succ ⟨t.val - 1, by omega⟩ := Fin.ext (by show t.val = t.val - 1 + 1; omega)
  rw [e]
  show _ = _ + ∑ k : Fin 256, ∑ d : Fin 1024, err (V m c main_arg0) (V m c main_arg1) (tok ⟨t.val - 1, by omega⟩ k) d * err (V m c main_arg0) (V m c main_arg1) (tok ⟨t.val - 1, by omega⟩ k) d
  refine congrArg (_ + ·) (Finset.sum_congr rfl fun k _ => Finset.sum_congr rfl fun d _ => ?_)
  have q := err_blk m c t ⟨t.val - 1, by omega⟩ (by show t.val = t.val - 1 + 1; omega) k d
  exact congrArg₂ (fun u v : EReal => u * v) q q

/-- The gradient as the kernel leaves it. -/
theorem arr2 : (dats m 0 c).arrAt 2 cfg0.N = grad (V m c main_arg0) (V m c main_arg1) := by
  refine (dats m 0 c).arrAt_eq_of_covers 2 _ (by decide +kernel) fun t hf y => ?_
  obtain ⟨-, -, e, -⟩ := idx_all t
  blk_simp
  rw [after0_2]
  have e0 : ((win0_2.blk t).view.emb y 0 : Fin 4352) = row (tile t) (y 0) := by
    refine Fin.ext ?_
    blk_simp [e]
    exact congrArg (· + _) (Nat.mul_comm _ _)
  have e1 : ((win0_2.blk t).view.emb y 1 : Fin 1024) = y 1 := by
    refine Fin.ext ?_
    blk_simp [e]
  have ey : (win0_2.blk t).view.emb y = (ix2 (row (tile t) (y 0)) (y 1)) := (eq_ix2 _).trans (by rw [e0, e1]; rfl)
  rw [ey]
  exact (congrArg _ (eq_ix2 y)).trans (left2 m c t (y 0) (y 1))

/-- The sum of squares as the kernel leaves it. -/
theorem arr3 : (dats m 0 c).arrAt 3 cfg0.N = squares (V m c main_arg0) (V m c main_arg1) := by
  refine (dats m 0 c).arrAt_eq_of_covers 3 _ (by decide +kernel) fun t hf y => ?_
  have hr : t.val % 17 = 17 - 1 := (flush0_3 t).mp hf
  blk_simp
  rw [after0_3]
  unfold squares
  refine (Pipeline.eq_sum_fin_of_reset_step_apply_of_flush (N := cfg0.N) (fun n h => (outsAt0 m c n h).2) 17 0
    (fun t _ => part (V m c main_arg0) (V m c main_arg1) (tile t))
    (fun t h i => ?_) (fun t h i => ?_) t hr y).trans ?_
  · exact (congrArg _ (eq_ix2 i)).trans (ptA m c t h (i 0) (i 1))
  · exact ((congrArg _ (eq_ix2 i)).trans (ptB m c t h (i 0) (i 1))).trans
      (congrArg (fun q => (outsAt0 m c (t.val - 1) (Nat.lt_of_le_of_lt (Nat.sub_le _ _) t.isLt)).2 q + _) (eq_ix2 i).symm)
  · refine (zero_add _).trans (Eq.trans ?_ (sum_part (V m c main_arg0) (V m c main_arg1)))
    refine Finset.sum_congr rfl fun s _ => ?_
    have r1 : tile ⟨17 * (t.val / 17) + s.val, Pipeline.run_point_lt_of_flush t hr s⟩ = s := Fin.ext (by
      have := t_lt t
      show 17 * (t.val / 17) + s.val = s.val
      omega)
    rw [r1]

end Cert.Kernel22Ideal.Row

namespace Cert.Proof

open Idealize.ShloMosaic Idealize.SL.Sem

/-- The kernel leaves the gradient and the sum of squares. -/
theorem row22 : Cert.algebraic_Kernel22Ideal_Reference22Ideal := by
  intro m g m' g' _ hag
  refine ⟨fun c => Cert.Kernel22Ideal.Row.grad (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)),
    fun c => Cert.Kernel22Ideal.Row.squares (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)), ?_, ?_⟩
  · refine (θ_run Cert.Kernel22Ideal.defs _ _).mono (fun r h c => ?_) (Cert.Kernel22Ideal.Value.run_blocks (F := Ideal) m g)
    obtain ⟨h2, h3, h⟩ := h c
    rw [Cert.Kernel22Ideal.Row.arr2, Cert.Kernel22Ideal.Gen.V_main_arg0, Cert.Kernel22Ideal.Gen.V_main_arg1] at h2
    rw [Cert.Kernel22Ideal.Row.arr3, Cert.Kernel22Ideal.Gen.V_main_arg0, Cert.Kernel22Ideal.Gen.V_main_arg1] at h3
    exact ⟨h2, h3, h⟩
  · refine (θ_run Cert.Reference22Ideal.defs _ _).mono (fun r h c => ?_) (Cert.Reference22Ideal.Value.run (F := Ideal) m' g')
    obtain ⟨h0, h1, h⟩ := h c
    obtain ⟨e0, e1⟩ := hag c
    refine ⟨h0.trans ?_, h1.trans ?_, h⟩
    · funext j
      obtain ⟨a, b, rfl⟩ : ∃ (a : Fin 4352) (b : Fin 1024), j = ix2 a b := ⟨j 0, j 1, eq_ix2 j⟩
      rw [e0, e1]
      by_cases h : a.val < 256
      · refine Eq.trans ?_ (dif_pos h).symm
        refine (pad_apply_of_not_inside _ _ _ _ _ _ _ _ (0 : Fin 2) ?_).trans ?_
        · rintro ⟨hl, -⟩
          exact Nat.not_le_of_lt h hl
        · pointwise
      · refine Eq.trans ?_ (dif_neg h).symm
        refine (pad_apply_of_inside _ _ _ _ _ _ _ _ (ix2 (⟨a.val - 256, by omega⟩ : Fin 4096) b) ?_).trans ?_
        · intro k
          fin_cases k
          · show a.val = 256 + (a.val - 256) * 1
            omega
          · show b.val = 0 + b.val * 1
            omega
        · pointwise
          exact Cert.Kernel22Ideal.Row.half_twice _
    · funext j
      obtain ⟨a, b, rfl⟩ : ∃ (a : Fin 8) (b : Fin 128), j = ix2 a b := ⟨j 0, j 1, eq_ix2 j⟩
      rw [e0, e1]
      pointwise
      rfl

end Cert.Proof

end
-- ==== Proof.Row23.lean ====
/- The sigmoid linear unit of the conditioning rows and its slope. The kernel has the slope as `σ * (1 + x * (1 - σ))`, the reference
   by the rule for a product, `1 * σ + x * 1 * (σ * (1 - σ))`: the same at every extended real. -/
module

public import proofs.«01_k».proof.Defs
public import proofs.«01_k».proof.Proof.Gen.Kernel23Ideal.Value
public import proofs.«01_k».proof.Proof.Gen.Reference23Ideal.Run
public import Idealize.ShloMosaic.Lib.StableHlo.RunRead
public import Idealize.ShloMosaic.Lib.Pipeline.ValueKit
public import Idealize.ShloMosaic.Lib.Pipeline.ReadBack
public import Idealize.ShloMosaic.PureOps.Ideal.Laws

@[expose] public section

set_option maxRecDepth 16384

noncomputable section

namespace Cert.Kernel23Ideal.Row

open Idealize.ShloMosaic Idealize.ShloMosaic.TcCoe Cert.Kernel23Ideal.Gen

/-- The sigmoid. -/
def sg (x : EReal) : EReal := Ideal.div 1 (1 + Ideal.exp (-x))

theorem sg_real (x : ℝ) : sg x = ((1 / (1 + Real.exp (-x)) : ℝ) : EReal) := by
  have h : (1 + Real.exp (-x)) ≠ 0 := (by positivity : (0 : ℝ) < 1 + Real.exp (-x)).ne'
  have e : (1 : EReal) + Ideal.exp (-(x : EReal)) = ((1 + Real.exp (-x) : ℝ) : EReal) := by
    rw [← EReal.coe_neg, Ideal.exp_coe]
    rfl
  unfold sg
  rw [e, Ideal.div_coe h, one_mul]

theorem sg_top : sg ⊤ = 1 := by
  have h : Ideal.exp (-(⊤ : EReal)) = 0 := rfl
  unfold sg
  rw [h, add_zero]
  simp [Ideal.div]

theorem sg_bot : sg ⊥ = 0 := by
  have h : (1 : EReal) + Ideal.exp (-(⊥ : EReal)) = ⊤ := rfl
  unfold sg
  rw [h]
  simp [Ideal.div]

/-- The two forms of the slope agree. -/
theorem slope_eq (x : EReal) : sg x + x * (sg x * (1 - sg x)) = sg x * (1 + x * (1 - sg x)) := by
  have z : (1 : EReal) - 1 = 0 := by
    rw [← EReal.coe_one, ← EReal.coe_sub, sub_self]
    rfl
  induction x with
  | bot => simp [sg_bot]
  | top => simp [sg_top, z]
  | coe x =>
    rw [sg_real]
    generalize (1 / (1 + Real.exp (-x)) : ℝ) = s
    rw [← EReal.coe_one, ← EReal.coe_sub]
    simp only [← EReal.coe_mul, ← EReal.coe_add]
    exact congrArg _ (by ring)

end Cert.Kernel23Ideal.Row

namespace Cert.Proof

open Idealize.ShloMosaic Idealize.SL.Sem

/-- The kernel leaves the unit and its slope. -/
theorem row23 : Cert.algebraic_Kernel23Ideal_Reference23Ideal := by
  intro m g m' g' _ hag
  refine ⟨fun c => Cert.Kernel23Ideal.Value.G1 (F := Ideal) (m ((c.tc : Thread Cert.Kernel23Ideal.nD Cert.Kernel23Ideal.τ).loc Cert.Kernel23Ideal.main_arg0)),
    fun c => Cert.Kernel23Ideal.Value.G2 (F := Ideal) (m ((c.tc : Thread Cert.Kernel23Ideal.nD Cert.Kernel23Ideal.τ).loc Cert.Kernel23Ideal.main_arg0)), ?_, ?_⟩
  · exact Cert.Kernel23Ideal.Value.run (F := Ideal) m g
  · refine (θ_run Cert.Reference23Ideal.defs _ _).mono (fun r h c => ?_) (Cert.Reference23Ideal.Value.run (F := Ideal) m' g')
    refine ⟨(h c).1.trans ?_, (h c).2.1.trans ?_, (h c).2.2⟩
    · funext j
      obtain ⟨a, b, rfl⟩ : ∃ (a : Fin 8) (b : Fin 1024), j = ix2 a b := ⟨j 0, j 1, eq_ix2 j⟩
      rw [hag c]
      pointwise
      simp only [zero_sub]
    · funext j
      obtain ⟨a, b, rfl⟩ : ∃ (a : Fin 8) (b : Fin 1024), j = ix2 a b := ⟨j 0, j 1, eq_ix2 j⟩
      rw [hag c]
      pointwise
      simp only [zero_sub]
      exact Cert.Kernel23Ideal.Row.slope_eq _

end Cert.Proof

end
-- ==== Proof.Row24.lean ====
/- The gradient of the context before its sigmoid linear unit: the sum of two parts times the slope. -/
module

public import proofs.«01_k».proof.Defs
public import proofs.«01_k».proof.Proof.Gen.Kernel24Ideal.Value
public import proofs.«01_k».proof.Proof.Gen.Reference24Ideal.Run
public import Idealize.ShloMosaic.Lib.StableHlo.RunRead
public import Idealize.ShloMosaic.Lib.Pipeline.ValueKit
public import Idealize.ShloMosaic.Lib.Pipeline.ReadBack
public import Idealize.ShloMosaic.PureOps.Ideal.Laws

@[expose] public section

set_option maxRecDepth 16384

noncomputable section

namespace Cert.Proof

open Idealize.ShloMosaic Idealize.SL.Sem

/-- The kernel leaves the sum of the two parts times the slope. -/
theorem row24 : Cert.algebraic_Kernel24Ideal_Reference24Ideal := by
  intro m g m' g' _ hag
  refine ⟨fun c => Cert.Kernel24Ideal.Value.G3 (F := Ideal) (m ((c.tc : Thread Cert.Kernel24Ideal.nD Cert.Kernel24Ideal.τ).loc Cert.Kernel24Ideal.main_arg0))
    (m ((c.tc : Thread Cert.Kernel24Ideal.nD Cert.Kernel24Ideal.τ).loc Cert.Kernel24Ideal.main_arg1))
    (m ((c.tc : Thread Cert.Kernel24Ideal.nD Cert.Kernel24Ideal.τ).loc Cert.Kernel24Ideal.main_arg2)), ?_, ?_⟩
  · exact Cert.Kernel24Ideal.Value.run (F := Ideal) m g
  · refine (θ_run Cert.Reference24Ideal.defs _ _).mono (fun r h c => ?_) (Cert.Reference24Ideal.Value.run (F := Ideal) m' g')
    refine ⟨(h c).1.trans ?_, (h c).2⟩
    rw [(hag c).1, (hag c).2.1, (hag c).2.2]
    rfl

end Cert.Proof

end
-- ==== Proof.Row25.lean ====
/- The sum of two devices' parts of a gradient. -/
module

public import proofs.«01_k».proof.Defs
public import proofs.«01_k».proof.Proof.Gen.Kernel25Ideal.Value
public import proofs.«01_k».proof.Proof.Gen.Reference25Ideal.Run
public import Idealize.ShloMosaic.Lib.StableHlo.RunRead
public import Idealize.ShloMosaic.Lib.Pipeline.ValueKit
public import Idealize.ShloMosaic.Lib.Pipeline.ReadBack
public import Idealize.ShloMosaic.PureOps.Ideal.Laws

@[expose] public section

set_option maxRecDepth 16384

noncomputable section

namespace Cert.Proof

open Idealize.ShloMosaic Idealize.SL.Sem

/-- The kernel leaves the sum of the two parts. -/
theorem row25 : Cert.algebraic_Kernel25Ideal_Reference25Ideal := by
  intro m g m' g' _ hag
  refine ⟨fun c => Cert.Kernel25Ideal.Value.G2 (F := Ideal) (m ((c.tc : Thread Cert.Kernel25Ideal.nD Cert.Kernel25Ideal.τ).loc Cert.Kernel25Ideal.main_arg0))
    (m ((c.tc : Thread Cert.Kernel25Ideal.nD Cert.Kernel25Ideal.τ).loc Cert.Kernel25Ideal.main_arg1)), ?_, ?_⟩
  · exact Cert.Kernel25Ideal.Value.run (F := Ideal) m g
  · refine (θ_run Cert.Reference25Ideal.defs _ _).mono (fun r h c => ?_) (Cert.Reference25Ideal.Value.run (F := Ideal) m' g')
    refine ⟨(h c).1.trans ?_, (h c).2⟩
    rw [(hag c).1, (hag c).2]
    rfl

end Cert.Proof

end
-- ==== Proof.Row26.lean ====
/- The gradient of the convolution's branch in what the convolution gives: the gradient of the branch times its two gates. -/
module

public import proofs.«01_k».proof.Defs
public import proofs.«01_k».proof.Proof.Gen.Kernel26Ideal.Value
public import proofs.«01_k».proof.Proof.Gen.Reference26Ideal.Run
public import Idealize.ShloMosaic.Lib.StableHlo.RunRead
public import Idealize.ShloMosaic.Lib.Pipeline.ValueKit
public import Idealize.ShloMosaic.Lib.Pipeline.ReadBack
public import Idealize.ShloMosaic.PureOps.Ideal.Laws

@[expose] public section

set_option maxRecDepth 16384

noncomputable section

namespace Cert.Kernel26Ideal.Row

open Idealize.ShloMosaic Idealize.ShloMosaic.TcCoe Cert.Kernel26Ideal.Gen
open Idealize.ShloMosaic.Pipeline (Dat Cfg Window)

/-- The sigmoid linear unit. -/
def silu (p : EReal) : EReal := p * Ideal.div 1 (1 + Ideal.exp (-p))

theorem pay7_apply (x0 x1 x2 : Vec Ideal S544x1024 .bf16) (a : Fin 544) (b : Fin 1024) :
    k0_pay7 x0 x1 x2 (ix2 a b) = x0 (ix2 a b) * x1 (ix2 a b) * silu (x2 (ix2 a b)) := by
  unfold k0_pay7 k0_pay6 k0_pay5 k0_pay3 k0_pay2 k0_pay1 silu
  pointwise
  simp only [zero_sub]

section
variable (c : Dev nD) (i : grid0.Coords)
  (arg1 : Memref sig .tc .vmem S544x1024 .bf16) (harg1 : arg1.IsWhole)
  (arg2 : Memref sig .tc .vmem S544x1024 .bf16) (harg2 : arg2.IsWhole)
  (arg3 : Memref sig .tc .vmem S544x1024 .bf16) (harg3 : arg3.IsWhole)
  (arg4 : Memref sig .tc .vmem S544x1024 .bf16) (harg4 : arg4.IsWhole)
  (arg6 : Memref sig .tc .vmem S544x1024 .f32) (harg6 : arg6.IsWhole)
  (arg7 : Memref sig .tc .vmem S544x2048 .bf16) (harg7 : arg7.IsWhole)
  (x0 x1 x2 x3 : Vec Ideal S544x1024 .bf16)

theorem o4 (a : Fin 544) (b : Fin 1024) : out0_A_4 c i arg1 harg1 arg2 harg2 arg3 harg3 arg4 harg4 arg6 harg6 arg7 harg7 x0 x1 x2 x3 (ix2 a b)
    = x0 (ix2 a b) * x1 (ix2 a b) * silu (x2 (ix2 a b)) := by
  frame_out
  rw [pay7_apply]
end

/-- The result, entry by entry. -/
def res (x : Vec Ideal S4352x1024 .bf16) (p : Vec Ideal S4352x13312 .bf16) : Vec Ideal S4352x1024 .f32 :=
  fun j => x (ix2 (j 0) (j 1)) * p (ix2 (j 0) ⟨(j 1).val, by have := (j 1).isLt; dsimp [S4352x1024] at this; omega⟩)
    * silu (p (ix2 (j 0) ⟨1024 + (j 1).val, by have := (j 1).isLt; dsimp [S4352x1024] at this; omega⟩))

theorem idx_all : ∀ t : Fin grid0.N, win0_0.index t = ![t.val, 0] ∧ win0_1.index t = ![t.val, 0] ∧ win0_2.index t = ![t.val, 1]
    ∧ win0_4.index t = ![t.val, 0] := by
  decide +kernel

theorem t_lt (t : Fin cfg0.N) : t.val < 8 := t.isLt

/-- Row `a` of grid point `t`'s tile. -/
def row (t : Fin cfg0.N) (a : Fin 544) : Fin 4352 := ⟨544 * t.val + a.val, by have := t_lt t; omega⟩

variable (m : (ℓ : Loc nD τ sig) → Buf (Elt Ideal) ℓ) (c : Dev nD)

theorem blk0 (t : Fin cfg0.N) (a : Fin 544) (b : Fin 1024) : iblk m c 0 t (ix2 a b) = V m c main_arg0 (ix2 (row t a) b) := by
  obtain ⟨e, -⟩ := idx_all t
  blk_ext [iblk, row, e]
theorem blk1 (t : Fin cfg0.N) (a : Fin 544) (b : Fin 1024) : iblk m c 1 t (ix2 a b) = V m c main_arg1 (ix2 (row t a) ⟨b.val, by omega⟩) := by
  obtain ⟨-, e, -⟩ := idx_all t
  blk_ext [iblk, row, e]
theorem blk2 (t : Fin cfg0.N) (a : Fin 544) (b : Fin 1024) : iblk m c 2 t (ix2 a b) = V m c main_arg1 (ix2 (row t a) ⟨1024 + b.val, by omega⟩) := by
  obtain ⟨-, -, e, -⟩ := idx_all t
  blk_ext [iblk, row, e]

/-- A grid point's block of the result. -/
theorem left (t : Fin cfg0.N) (a : Fin 544) (b : Fin 1024) : (outsAt0 m c t).1 (ix2 a b) = res (V m c main_arg0) (V m c main_arg1) (ix2 (row t a) b) := by
  unfold outsAt0
  dsimp only
  rw [o4, blk0, blk1, blk2]
  rfl

/-- The result as the kernel leaves it. -/
theorem arr : (dats m 0 c).arrAt 4 cfg0.N = res (V m c main_arg0) (V m c main_arg1) := by
  refine (dats m 0 c).arrAt_eq_of_covers 4 _ (by decide +kernel) fun t hf y => ?_
  obtain ⟨-, -, -, e⟩ := idx_all t
  blk_simp
  rw [after0_4]
  have e0 : ((win0_4.blk t).view.emb y 0 : Fin 4352) = row t (y 0) := by
    refine Fin.ext ?_
    blk_simp [e]
    exact congrArg (· + _) (Nat.mul_comm _ _)
  have e1 : ((win0_4.blk t).view.emb y 1 : Fin 1024) = y 1 := by
    refine Fin.ext ?_
    blk_simp [e]
  have ey : (win0_4.blk t).view.emb y = (ix2 (row t (y 0)) (y 1)) := (eq_ix2 _).trans (by rw [e0, e1]; rfl)
  rw [ey]
  exact (congrArg _ (eq_ix2 y)).trans (left m c t (y 0) (y 1))

end Cert.Kernel26Ideal.Row

namespace Cert.Proof

open Idealize.ShloMosaic Idealize.SL.Sem

/-- The kernel leaves the gradient of the branch times its two gates. -/
theorem row26 : Cert.algebraic_Kernel26Ideal_Reference26Ideal := by
  intro m g m' g' _ hag
  refine ⟨fun c => Cert.Kernel26Ideal.Row.res (m ((c.tc : Thread Cert.Kernel26Ideal.nD Cert.Kernel26Ideal.τ).loc Cert.Kernel26Ideal.main_arg0))
    (m ((c.tc : Thread Cert.Kernel26Ideal.nD Cert.Kernel26Ideal.τ).loc Cert.Kernel26Ideal.main_arg1)), ?_, ?_⟩
  · refine (θ_run Cert.Kernel26Ideal.defs _ _).mono (fun r h c => ?_) (Cert.Kernel26Ideal.Value.run_blocks (F := Ideal) m g)
    refine ⟨(h c).1.trans ?_, (h c).2.2⟩
    rw [Cert.Kernel26Ideal.Row.arr, Cert.Kernel26Ideal.Gen.V_main_arg0, Cert.Kernel26Ideal.Gen.V_main_arg1]
  · refine (θ_run Cert.Reference26Ideal.defs _ _).mono (fun r h c => ?_) (Cert.Reference26Ideal.Value.run (F := Ideal) m' g')
    refine ⟨(h c).1.trans ?_, (h c).2⟩
    obtain ⟨e0, e1, -, -⟩ := hag c
    funext j
    obtain ⟨a, b, rfl⟩ : ∃ (a : Fin 4352) (b : Fin 1024), j = ix2 a b := ⟨j 0, j 1, eq_ix2 j⟩
    unfold Cert.Kernel26Ideal.Row.res Cert.Kernel26Ideal.Row.silu
    pointwise
    simp only [e0, e1]
    refine Eq.trans (mul_left_comm (G := EReal) _ _ _) ?_
    exact (mul_assoc (G := EReal) _ _ _).symm

end Cert.Proof

end
-- ==== Proof.lean ====
/- The claims about the attention's two kernels, the ten products, the two normalisations, the gates and their gradient, the branches'
   outputs, the loss, the conditioning's two calls, the convolution's branch, a sum of two parts and four of the optimiser's steps:
   each and its reference run to their ends and leave their arguments as they were, and what the kernel leaves is what the reference
   leaves. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Values
public import proofs.«01_k».proof.Proof.Mm2
public import proofs.«01_k».proof.Proof.Mm3
public import proofs.«01_k».proof.Proof.Mm4
public import proofs.«01_k».proof.Proof.Mm5
public import proofs.«01_k».proof.Proof.Mm6
public import proofs.«01_k».proof.Proof.Mm7
public import proofs.«01_k».proof.Proof.Mm8
public import proofs.«01_k».proof.Proof.Fwd
public import proofs.«01_k».proof.Proof.Step10
public import proofs.«01_k».proof.Proof.Step11
public import proofs.«01_k».proof.Proof.Step12
public import proofs.«01_k».proof.Proof.Step13
public import proofs.«01_k».proof.Proof.Mm14
public import proofs.«01_k».proof.Proof.Mm15
public import proofs.«01_k».proof.Proof.Mm16
public import proofs.«01_k».proof.Proof.Row17
public import proofs.«01_k».proof.Proof.Row18
public import proofs.«01_k».proof.Proof.Row19
public import proofs.«01_k».proof.Proof.Row20
public import proofs.«01_k».proof.Proof.Row21
public import proofs.«01_k».proof.Proof.Row22
public import proofs.«01_k».proof.Proof.Row23
public import proofs.«01_k».proof.Proof.Row24
public import proofs.«01_k».proof.Proof.Row25
public import proofs.«01_k».proof.Proof.Row26
public import Idealize.ShloMosaic.Adequacy
public import Idealize.ShloMosaic.Init

@[expose] public section

noncomputable section

namespace Cert.Proof

open Idealize.ShloMosaic Idealize.SL.Sem

/-- The kernel runs to its end, leaves its arguments as they were and every counter at zero, at the machine's words. -/
theorem frame_kernel : Cert.quiescent_Kernel := fun m ρ _ => Cert.Kernel.Gen.frame m ρ

/-- The kernel runs to its end at the extended reals. -/
theorem frame_ideal : Cert.quiescent_KernelIdeal := fun m ρ _ => Cert.KernelIdeal.Gen.frame m ρ

/-- The reference runs to its end; it declares no counter. -/
theorem frame_reference : Cert.quiescent_ReferenceIdeal := fun m ρ _ =>
  (θ_run Cert.ReferenceIdeal.defs _ _).mono (fun r h => ⟨fun c => (h c).2.2.2,
    Idealize.ShloMosaic.sem_eq_zero_of_no_sems (by decide) r.2⟩)
    (Cert.ReferenceIdeal.Value.run (F := Ideal) m ρ)

/-- On finite arguments the kernel leaves the attention's gradients: of the scaled queries, of the keys (in the units of base
    two) and of the values. -/
theorem gradients [Cert.Pre_finite.Facts] : Cert.algebraic_KernelIdeal_ReferenceIdeal_pre_finite := by
  intro m g m' g' hpre hag
  have hv := fun c : Dev Cert.KernelIdeal.nD =>
    have hr := Cert.Pre_finite.real_args _ _ _ _ (hpre c)
    Cert.Attn.values m m' c (hag c).1 (hag c).2.1 (hag c).2.2.1 (hag c).2.2.2 hr.1 hr.2.1 hr.2.2.1 hr.2.2.2
  refine ⟨fun c => Cert.ReferenceIdeal.Value.res_main_v141 (F := Ideal) m' c, fun c => Cert.ReferenceIdeal.Value.res_main_v144 (F := Ideal) m' c,
    fun c => Cert.ReferenceIdeal.Value.res_main_v137 (F := Ideal) m' c, ?_, Cert.ReferenceIdeal.Value.run (F := Ideal) m' g'⟩
  refine (θ_run Cert.KernelIdeal.defs _ _).mono (fun r h c => ?_) (Cert.KernelIdeal.Value.run_blocks (F := Ideal) m g)
  obtain ⟨h6, h7, h8, hargs⟩ := h c
  exact ⟨h6.trans (hv c).1, h7.trans (hv c).2.1, h8.trans (hv c).2.2, hargs⟩

/-- The reference of the projection's gradient in its input runs to its end. -/
theorem frame_reference2 : Cert.quiescent_Reference2Ideal := fun m ρ _ =>
  (θ_run Cert.Reference2Ideal.defs _ _).mono (fun r h => ⟨fun c => (h c).2,
    Idealize.ShloMosaic.sem_eq_zero_of_no_sems (by decide) r.2⟩)
    (Cert.Reference2Ideal.Value.run (F := Ideal) m ρ)

/-- The reference of the projection's gradient in its weights runs to its end. -/
theorem frame_reference3 : Cert.quiescent_Reference3Ideal := fun m ρ _ =>
  (θ_run Cert.Reference3Ideal.defs _ _).mono (fun r h => ⟨fun c => (h c).2,
    Idealize.ShloMosaic.sem_eq_zero_of_no_sems (by decide) r.2⟩)
    (Cert.Reference3Ideal.Value.run (F := Ideal) m ρ)

/-- The reference of a square product's gradient in its argument runs to its end. -/
theorem frame_reference4 : Cert.quiescent_Reference4Ideal := fun m ρ _ =>
  (θ_run Cert.Reference4Ideal.defs _ _).mono (fun r h => ⟨fun c => (h c).2,
    Idealize.ShloMosaic.sem_eq_zero_of_no_sems (by decide) r.2⟩)
    (Cert.Reference4Ideal.Value.run (F := Ideal) m ρ)

/-- The reference of a square product's gradient in its weights runs to its end. -/
theorem frame_reference5 : Cert.quiescent_Reference5Ideal := fun m ρ _ =>
  (θ_run Cert.Reference5Ideal.defs _ _).mono (fun r h => ⟨fun c => (h c).2,
    Idealize.ShloMosaic.sem_eq_zero_of_no_sems (by decide) r.2⟩)
    (Cert.Reference5Ideal.Value.run (F := Ideal) m ρ)

/-- The reference of the forward projection runs to its end. -/
theorem frame_reference6 : Cert.quiescent_Reference6Ideal := fun m ρ _ =>
  (θ_run Cert.Reference6Ideal.defs _ _).mono (fun r h => ⟨fun c => (h c).2,
    Idealize.ShloMosaic.sem_eq_zero_of_no_sems (by decide) r.2⟩)
    (Cert.Reference6Ideal.Value.run (F := Ideal) m ρ)

/-- The reference of the forward square product, rounded runs to its end. -/
theorem frame_reference7 : Cert.quiescent_Reference7Ideal := fun m ρ _ =>
  (θ_run Cert.Reference7Ideal.defs _ _).mono (fun r h => ⟨fun c => (h c).2,
    Idealize.ShloMosaic.sem_eq_zero_of_no_sems (by decide) r.2⟩)
    (Cert.Reference7Ideal.Value.run (F := Ideal) m ρ)

/-- The reference of the forward square product in single precision runs to its end. -/
theorem frame_reference8 : Cert.quiescent_Reference8Ideal := fun m ρ _ =>
  (θ_run Cert.Reference8Ideal.defs _ _).mono (fun r h => ⟨fun c => (h c).2,
    Idealize.ShloMosaic.sem_eq_zero_of_no_sems (by decide) r.2⟩)
    (Cert.Reference8Ideal.Value.run (F := Ideal) m ρ)

/-- The reference of the attention's forward call runs to its end. -/
theorem frame_reference9 : Cert.quiescent_Reference9Ideal := fun m ρ _ =>
  (θ_run Cert.Reference9Ideal.defs _ _).mono (fun r h => ⟨fun c => (h c).2.2,
    Idealize.ShloMosaic.sem_eq_zero_of_no_sems (by decide) r.2⟩)
    (Cert.Reference9Ideal.Value.run (F := Ideal) m ρ)

/-- The reference of the step on the input projection's weights, first layer, runs to its end. -/
theorem frame_reference10 : Cert.quiescent_Reference10Ideal := fun m ρ _ =>
  (θ_run Cert.Reference10Ideal.defs _ _).mono (fun r h => ⟨fun c => (h c).2.2.2.2,
    Idealize.ShloMosaic.sem_eq_zero_of_no_sems (by decide) r.2⟩)
    (Cert.Reference10Ideal.Value.run (F := Ideal) m ρ)

/-- The reference of the step on the input projection's weights, second layer, runs to its end. -/
theorem frame_reference11 : Cert.quiescent_Reference11Ideal := fun m ρ _ =>
  (θ_run Cert.Reference11Ideal.defs _ _).mono (fun r h => ⟨fun c => (h c).2.2.2.2,
    Idealize.ShloMosaic.sem_eq_zero_of_no_sems (by decide) r.2⟩)
    (Cert.Reference11Ideal.Value.run (F := Ideal) m ρ)

/-- The reference of the step on a square product's weights runs to its end. -/
theorem frame_reference12 : Cert.quiescent_Reference12Ideal := fun m ρ _ =>
  (θ_run Cert.Reference12Ideal.defs _ _).mono (fun r h => ⟨fun c => (h c).2.2.2.2,
    Idealize.ShloMosaic.sem_eq_zero_of_no_sems (by decide) r.2⟩)
    (Cert.Reference12Ideal.Value.run (F := Ideal) m ρ)

/-- The reference of the step on the adaptive modulation's weights runs to its end. -/
theorem frame_reference13 : Cert.quiescent_Reference13Ideal := fun m ρ _ =>
  (θ_run Cert.Reference13Ideal.defs _ _).mono (fun r h => ⟨fun c => (h c).2.2.2.2,
    Idealize.ShloMosaic.sem_eq_zero_of_no_sems (by decide) r.2⟩)
    (Cert.Reference13Ideal.Value.run (F := Ideal) m ρ)

/-- The reference of the gradient of the adaptive modulation in its weights runs to its end. -/
theorem frame_reference14 : Cert.quiescent_Reference14Ideal := fun m ρ _ =>
  (θ_run Cert.Reference14Ideal.defs _ _).mono (fun r h => ⟨fun c => (h c).2,
    Idealize.ShloMosaic.sem_eq_zero_of_no_sems (by decide) r.2⟩)
    (Cert.Reference14Ideal.Value.run (F := Ideal) m ρ)

/-- The reference of the adaptive modulation runs to its end. -/
theorem frame_reference15 : Cert.quiescent_Reference15Ideal := fun m ρ _ =>
  (θ_run Cert.Reference15Ideal.defs _ _).mono (fun r h => ⟨fun c => (h c).2,
    Idealize.ShloMosaic.sem_eq_zero_of_no_sems (by decide) r.2⟩)
    (Cert.Reference15Ideal.Value.run (F := Ideal) m ρ)

/-- The reference of the gradient of the adaptive modulation in its argument runs to its end. -/
theorem frame_reference16 : Cert.quiescent_Reference16Ideal := fun m ρ _ =>
  (θ_run Cert.Reference16Ideal.defs _ _).mono (fun r h => ⟨fun c => (h c).2,
    Idealize.ShloMosaic.sem_eq_zero_of_no_sems (by decide) r.2⟩)
    (Cert.Reference16Ideal.Value.run (F := Ideal) m ρ)

/-- The reference of the normalisation before a layer runs to its end. -/
theorem frame_reference17 : Cert.quiescent_Reference17Ideal := fun m ρ _ =>
  (θ_run Cert.Reference17Ideal.defs _ _).mono (fun r h => ⟨fun c => (h c).2,
    Idealize.ShloMosaic.sem_eq_zero_of_no_sems (by decide) r.2⟩)
    (Cert.Reference17Ideal.Value.run (F := Ideal) m ρ)

/-- The reference of the normalisation after a layer runs to its end. -/
theorem frame_reference18 : Cert.quiescent_Reference18Ideal := fun m ρ _ =>
  (θ_run Cert.Reference18Ideal.defs _ _).mono (fun r h => ⟨fun c => (h c).2,
    Idealize.ShloMosaic.sem_eq_zero_of_no_sems (by decide) r.2⟩)
    (Cert.Reference18Ideal.Value.run (F := Ideal) m ρ)

/-- The reference of the gates of the three branches runs to its end. -/
theorem frame_reference19 : Cert.quiescent_Reference19Ideal := fun m ρ _ =>
  (θ_run Cert.Reference19Ideal.defs _ _).mono (fun r h => ⟨fun c => (h c).2,
    Idealize.ShloMosaic.sem_eq_zero_of_no_sems (by decide) r.2⟩)
    (Cert.Reference19Ideal.Value.run (F := Ideal) m ρ)

/-- The reference of the outputs of the two branches runs to its end. -/
theorem frame_reference20 : Cert.quiescent_Reference20Ideal := fun m ρ _ =>
  (θ_run Cert.Reference20Ideal.defs _ _).mono (fun r h => ⟨fun c => (h c).2.2,
    Idealize.ShloMosaic.sem_eq_zero_of_no_sems (by decide) r.2⟩)
    (Cert.Reference20Ideal.Value.run (F := Ideal) m ρ)

/-- The reference of the gradient of the gates of the three branches runs to its end. -/
theorem frame_reference21 : Cert.quiescent_Reference21Ideal := fun m ρ _ =>
  (θ_run Cert.Reference21Ideal.defs _ _).mono (fun r h => ⟨fun c => (h c).2.2.2.2,
    Idealize.ShloMosaic.sem_eq_zero_of_no_sems (by decide) r.2⟩)
    (Cert.Reference21Ideal.Value.run (F := Ideal) m ρ)

/-- The reference of the loss's gradient runs to its end. -/
theorem frame_reference22 : Cert.quiescent_Reference22Ideal := fun m ρ _ =>
  (θ_run Cert.Reference22Ideal.defs _ _).mono (fun r h => ⟨fun c => (h c).2.2,
    Idealize.ShloMosaic.sem_eq_zero_of_no_sems (by decide) r.2⟩)
    (Cert.Reference22Ideal.Value.run (F := Ideal) m ρ)

/-- The reference of the sigmoid linear unit of the conditioning runs to its end. -/
theorem frame_reference23 : Cert.quiescent_Reference23Ideal := fun m ρ _ =>
  (θ_run Cert.Reference23Ideal.defs _ _).mono (fun r h => ⟨fun c => (h c).2.2,
    Idealize.ShloMosaic.sem_eq_zero_of_no_sems (by decide) r.2⟩)
    (Cert.Reference23Ideal.Value.run (F := Ideal) m ρ)

/-- The reference of the gradient of the conditioning runs to its end. -/
theorem frame_reference24 : Cert.quiescent_Reference24Ideal := fun m ρ _ =>
  (θ_run Cert.Reference24Ideal.defs _ _).mono (fun r h => ⟨fun c => (h c).2,
    Idealize.ShloMosaic.sem_eq_zero_of_no_sems (by decide) r.2⟩)
    (Cert.Reference24Ideal.Value.run (F := Ideal) m ρ)

/-- The reference of the sum of two parts runs to its end. -/
theorem frame_reference25 : Cert.quiescent_Reference25Ideal := fun m ρ _ =>
  (θ_run Cert.Reference25Ideal.defs _ _).mono (fun r h => ⟨fun c => (h c).2,
    Idealize.ShloMosaic.sem_eq_zero_of_no_sems (by decide) r.2⟩)
    (Cert.Reference25Ideal.Value.run (F := Ideal) m ρ)

/-- The reference of the gradient of the convolution in its branch runs to its end. -/
theorem frame_reference26 : Cert.quiescent_Reference26Ideal := fun m ρ _ =>
  (θ_run Cert.Reference26Ideal.defs _ _).mono (fun r h => ⟨fun c => (h c).2,
    Idealize.ShloMosaic.sem_eq_zero_of_no_sems (by decide) r.2⟩)
    (Cert.Reference26Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Pre_finite.facts, Cert.Pre_finite9.facts,
    frame_kernel, frame_ideal, fun m ρ _ => frame_ideal m ρ trivial, frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, fun m ρ _ => Cert.Kernel9Ideal.Gen.frame m ρ,
    frame_reference9, fun m ρ _ => frame_reference9 m ρ trivial,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ, frame_reference14,
    fun m ρ _ => Cert.Kernel15.Gen.frame m ρ, fun m ρ _ => Cert.Kernel15Ideal.Gen.frame m ρ, frame_reference15,
    fun m ρ _ => Cert.Kernel16.Gen.frame m ρ, fun m ρ _ => Cert.Kernel16Ideal.Gen.frame m ρ, frame_reference16,
    fun m ρ _ => Cert.Kernel17.Gen.frame m ρ, fun m ρ _ => Cert.Kernel17Ideal.Gen.frame m ρ, frame_reference17,
    fun m ρ _ => Cert.Kernel18.Gen.frame m ρ, fun m ρ _ => Cert.Kernel18Ideal.Gen.frame m ρ, frame_reference18,
    fun m ρ _ => Cert.Kernel19.Gen.frame m ρ, fun m ρ _ => Cert.Kernel19Ideal.Gen.frame m ρ, frame_reference19,
    fun m ρ _ => Cert.Kernel20.Gen.frame m ρ, fun m ρ _ => Cert.Kernel20Ideal.Gen.frame m ρ, frame_reference20,
    fun m ρ _ => Cert.Kernel21.Gen.frame m ρ, fun m ρ _ => Cert.Kernel21Ideal.Gen.frame m ρ, frame_reference21,
    fun m ρ _ => Cert.Kernel22.Gen.frame m ρ, fun m ρ _ => Cert.Kernel22Ideal.Gen.frame m ρ, frame_reference22,
    fun m ρ _ => Cert.Kernel23.Gen.frame m ρ, fun m ρ _ => Cert.Kernel23Ideal.Gen.frame m ρ, frame_reference23,
    fun m ρ _ => Cert.Kernel24.Gen.frame m ρ, fun m ρ _ => Cert.Kernel24Ideal.Gen.frame m ρ, frame_reference24,
    fun m ρ _ => Cert.Kernel25.Gen.frame m ρ, fun m ρ _ => Cert.Kernel25Ideal.Gen.frame m ρ, frame_reference25,
    fun m ρ _ => Cert.Kernel26.Gen.frame m ρ, fun m ρ _ => Cert.Kernel26Ideal.Gen.frame m ρ, frame_reference26,
    trivial, (letI := Cert.Pre_finite.facts; gradients),
    trivial, product2,
    trivial, product3,
    trivial, product4,
    trivial, product5,
    trivial, product6,
    trivial, product7,
    trivial, product8,
    IdealRules.named_const.statement Cert.Kernel9Ideal.κ "log2e" .f32 0x3FB8AA3B#32 (((Real.log 2)⁻¹ : ℝ) : EReal) rfl,
    (letI := Cert.Pre_finite9.facts; attention),
    trivial, adam10,
    trivial, adam11,
    trivial, adam12,
    trivial, adam13,
    trivial, product14,
    trivial, product15,
    trivial, product16,
    trivial, row17,
    trivial, row18,
    trivial, row19,
    trivial, row20,
    trivial, row21,
    trivial, row22,
    trivial, row23,
    trivial, row24,
    trivial, row25,
    trivial, row26⟩

end Cert.Proof

end
